-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6)
      ∧ r.2.mem ((c.tc : Thread Cert.Kernel24.nD Cert.Kernel24.τ).loc Cert.Kernel24.main_arg7) = m ((c.tc : Thread Cert.Kernel24.nD Cert.Kernel24.τ).loc Cert.Kernel24.main_arg7))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
      ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_v47_8) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_v15) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v5_0)) (v1 : (c : Dev Cert.Kernel12Ideal.nD) → Buf (Elt Ideal) ((c.tc : Thread Cert.Kernel12Ideal.nD Cert.Kernel12Ideal.τ).loc Cert.Kernel12Ideal.main_v5_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5_0) = v0 c
          ∧ r.2.mem ((c.tc : Thread Cert.Kernel12Ideal.nD Cert.Kernel12Ideal.τ).loc Cert.Kernel12Ideal.main_v5_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_v13) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v12) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v13) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v5_0)) (v1 : (c : Dev Cert.Kernel23Ideal.nD) → Buf (Elt Ideal) ((c.tc : Thread Cert.Kernel23Ideal.nD Cert.Kernel23Ideal.τ).loc Cert.Kernel23Ideal.main_v5_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v5_0) = v0 c
          ∧ r.2.mem ((c.tc : Thread Cert.Kernel23Ideal.nD Cert.Kernel23Ideal.τ).loc Cert.Kernel23Ideal.main_v5_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_v8) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)
      ∧ m' ((c.tc : Thread Cert.Reference24Ideal.nD Cert.Reference24Ideal.τ).loc Cert.Reference24Ideal.main_arg7) = m ((c.tc : Thread Cert.Kernel24Ideal.nD Cert.Kernel24Ideal.τ).loc Cert.Kernel24Ideal.main_arg7)) →
    ∃ (v0 : (c : Dev Cert.Kernel24Ideal.nD) → Buf (Elt Ideal) ((c.tc : Thread Cert.Kernel24Ideal.nD Cert.Kernel24Ideal.τ).loc Cert.Kernel24Ideal.main_v10_0)) (v1 : (c : Dev Cert.Kernel24Ideal.nD) → Buf (Elt Ideal) ((c.tc : Thread Cert.Kernel24Ideal.nD Cert.Kernel24Ideal.τ).loc Cert.Kernel24Ideal.main_v10_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v10_0) = v0 c
          ∧ r.2.mem ((c.tc : Thread Cert.Kernel24Ideal.nD Cert.Kernel24Ideal.τ).loc Cert.Kernel24Ideal.main_v10_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
          ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v80) = v0 c
          ∧ r.2.mem ((c.tc : Thread Cert.Reference24Ideal.nD Cert.Reference24Ideal.τ).loc Cert.Reference24Ideal.main_v60) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6)
          ∧ r.2.mem ((c.tc : Thread Cert.Reference24Ideal.nD Cert.Reference24Ideal.τ).loc Cert.Reference24Ideal.main_arg7) = m' ((c.tc : Thread Cert.Reference24Ideal.nD Cert.Reference24Ideal.τ).loc Cert.Reference24Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Kernel.lean ====
abbrev S8320x2048 : Shape := ⟨2, ![8320, 2048]⟩
abbrev S2048 : Shape := ⟨1, ![2048]⟩
abbrev S1x2048 : Shape := ⟨2, ![1, 2048]⟩
abbrev S8192x2048 : Shape := ⟨2, ![8192, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  let c128_i32 : BitVec 32 := 128#32
  let v1 : BitVec 32 := Scalar.addi v0 c128_i32
  v1
def cc0_transform_0 (i : grid0.Coords) : Fin 2 → Nat :=
  let arg0 : BitVec 32 := BitVec.ofNat 32 (i 0).val
  let c1024_i32 : BitVec 32 := 1024#32
  let v0 : BitVec 32 := Scalar.muli arg0 c1024_i32
  let c128_i32 : BitVec 32 := 128#32
  let v1 : BitVec 32 := Scalar.addi v0 c128_i32
  let v2 : BitVec 32 := v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8320x2048 : Shape := ⟨2, ![8320, 2048]⟩
abbrev S2048 : Shape := ⟨1, ![2048]⟩
abbrev S_ : Shape := ⟨0, ![]⟩
abbrev S8320 : Shape := ⟨1, ![8320]⟩
abbrev S8320x1 : Shape := ⟨2, ![8320, 1]⟩
abbrev S1x2048 : Shape := ⟨2, ![1, 2048]⟩
abbrev S8192x2048 : Shape := ⟨2, ![8192, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S8320x2048, .f32⟩
  | .hbm, ⟨3, _⟩ => ⟨S_, .f32⟩
  | .hbm, ⟨4, _⟩ => ⟨S8320, .f32⟩
  | .hbm, ⟨5, _⟩ => ⟨S8320x1, .f32⟩
  | .hbm, ⟨6, _⟩ => ⟨S_, .f32⟩
  | .hbm, ⟨7, _⟩ => ⟨S8320x1, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S8320x1, .f32⟩
  | .hbm, ⟨13, _⟩ => ⟨S8320x2048, .f32⟩
  | .hbm, ⟨14, _⟩ => ⟨S8320x2048, .f32⟩
  | .hbm, ⟨15, _⟩ => ⟨S1x2048, .f32⟩
  | .hbm, ⟨16, _⟩ => ⟨S8320x2048, .f32⟩
  | .hbm, ⟨17, _⟩ => ⟨S8320x2048, .f32⟩
  | .hbm, ⟨18, _⟩ => ⟨S8192x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel2.lean ====
abbrev S8320x6144 : Shape := ⟨2, ![8320, 6144]⟩
abbrev S8320x64 : Shape := ⟨2, ![8320, 64]⟩
abbrev S8x128x128 : Shape := ⟨3, ![8, 128, 128]⟩
abbrev S128x8 : Shape := ⟨2, ![128, 8]⟩
abbrev S1x8x128x256 : Shape := ⟨4, ![1, 8, 128, 256]⟩
abbrev S2048 : Shape := ⟨1, ![2048]⟩
abbrev S8320x128 : Shape := ⟨2, ![8320, 128]⟩
abbrev S128x8x128 : Shape := ⟨3, ![128, 8, 128]⟩
abbrev S128x1024 : Shape := ⟨2, ![128, 1024]⟩
abbrev S1x2048 : Shape := ⟨2, ![1, 2048]⟩
abbrev S8320x2048 : Shape := ⟨2, ![8320, 2048]⟩
abbrev S128x2048 : Shape := ⟨2, ![128, 2048]⟩
abbrev S128x128 : Shape := ⟨2, ![128, 128]⟩
abbrev S8x128x256 : Shape := ⟨3, ![8, 128, 256]⟩
abbrev S128x256 : Shape := ⟨2, ![128, 256]⟩
abbrev S1x128x128 : Shape := ⟨3, ![1, 128, 128]⟩
abbrev S1x128x256 : Shape := ⟨3, ![1, 128, 256]⟩
abbrev S128 : Shape := ⟨1, ![128]⟩
abbrev S128x1 : Shape := ⟨2, ![128, 1]⟩
abbrev S1x256 : Shape := ⟨2, ![1, 256]⟩

abbrev nBuf : Space → Nat
  | .hbm => 18
  | .vmem => 21
  | .smem => 0
  | _ => 0

abbrev bufTy : (tb : Table) → Fin (tcTables nBuf tb) → BufTy
  | .hbm, ⟨0, _⟩ => ⟨S8320x6144, .f32⟩
  | .hbm, ⟨1, _⟩ => ⟨S8320x64, .f32⟩
  | .hbm, ⟨2, _⟩ => ⟨S8320x64, .f32⟩
  | .hbm, ⟨3, _⟩ => ⟨S8x128x128, .f32⟩
  | .hbm, ⟨4, _⟩ => ⟨S128x8, .f32⟩
  | .hbm, ⟨5, _⟩ => ⟨S128x8, .f32⟩
  | .hbm, ⟨6, _⟩ => ⟨S1x8x128x256, .f32⟩
  | .hbm, ⟨7, _⟩ => ⟨S2048, .f32⟩
  | .hbm, ⟨8, _⟩ => ⟨S8320x128, .f32⟩
  | .hbm, ⟨9, _⟩ => ⟨S8320x64, .f32⟩
  | .hbm, ⟨10, _⟩ => ⟨S8320x128, .f32⟩
  | .hbm, ⟨11, _⟩ => ⟨S128x8x128, .f32⟩
  | .hbm, ⟨12, _⟩ => ⟨S128x1024, .f32⟩
  | .hbm, ⟨13, _⟩ => ⟨S128x8x128, .f32⟩
  | .hbm, ⟨14, _⟩ => ⟨S128x1024, .f32⟩
  | .hbm, ⟨15, _⟩ => ⟨S1x2048, .f32⟩
  | .hbm, ⟨16, _⟩ => ⟨S8320x2048, .bf16⟩
  | .hbm, ⟨17, _⟩ => ⟨S1x8x128x256, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S8x128x128, .f32⟩
  | .local _ .vmem, ⟨13, _⟩ => ⟨S128x1024, .f32⟩
  | .local _ .vmem, ⟨14, _⟩ => ⟨S128x1024, .f32⟩
  | .local _ .vmem, ⟨15, _⟩ => ⟨S1x2048, .f32⟩
  | .local _ .vmem, ⟨16, _⟩ => ⟨S1x8x128x256, .f32⟩
  | .local _ .vmem, ⟨17, _⟩ => ⟨S128x2048, .bf16⟩
  | .local _ .vmem, ⟨18, _⟩ => ⟨S128x2048, .bf16⟩
  | .local _ .vmem, ⟨19, _⟩ => ⟨S1x8x128x256, .f32⟩
  | .local _ .vmem, ⟨20, _⟩ => ⟨S8x128x256, .f32⟩
  | _, _ => ⟨S8320x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨2, ![1, 65], ![false, false]⟩

def k0_cond2 (i : grid0.Coords) : BitVec 1 :=
  let arg1 : BitVec 32 := BitVec.ofNat 32 (i 1).val
  let c64_i32_296 : BitVec 32 := 64#32
  let v567 : BitVec 1 := Scalar.cmpi .eq arg1 c64_i32_296
  let v568 : BitVec 32 := Scalar.extui v567
  let c0_i32_297 : BitVec 32 := 0#32
  let v569 : BitVec 1 := Scalar.cmpi .ne v568 c0_i32_297
  v569

def cc0_transform_0 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x8x128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x8x128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]
-- ==== Reference2Ideal.lean ====
abbrev S8320x6144 : Shape := ⟨2, ![8320, 6144]⟩
abbrev S8320x64 : Shape := ⟨2, ![8320, 64]⟩
abbrev S8x128x128 : Shape := ⟨3, ![8, 128, 128]⟩
abbrev S128x8 : Shape := ⟨2, ![128, 8]⟩
abbrev S1x8x128x256 : Shape := ⟨4, ![1, 8, 128, 256]⟩
abbrev S2048 : Shape := ⟨1, ![2048]⟩
abbrev S8 : Shape := ⟨1, ![8]⟩
abbrev S1x8320x6144 : Shape := ⟨3, ![1, 8320, 6144]⟩
abbrev S1x8320x1024 : Shape := ⟨3, ![1, 8320, 1024]⟩
abbrev S1x8320x2048 : Shape := ⟨3, ![1, 8320, 2048]⟩
abbrev S1x8320x8x128 : Shape := ⟨4, ![1, 8320, 8, 128]⟩
abbrev S1x8320x1x64 : Shape := ⟨4, ![1, 8320, 1, 64]⟩
abbrev S1x8320x8x64 : Shape := ⟨4, ![1, 8320, 8, 64]⟩
abbrev S_ : Shape := ⟨0, ![]⟩
abbrev S1x8320x8x256 : Shape := ⟨4, ![1, 8320, 8, 256]⟩
abbrev S1x65x128x8x128 : Shape := ⟨5, ![1, 65, 128, 8, 128]⟩
abbrev S65x1x128x8x128 : Shape := ⟨5, ![65, 1, 128, 8, 128]⟩
abbrev S1x65x128x8x256 : Shape := ⟨5, ![1, 65, 128, 8, 256]⟩
abbrev S65x1x128x8x256 : Shape := ⟨5, ![65, 1, 128, 8, 256]⟩
abbrev S1x1x128x8x128 : Shape := ⟨5, ![1, 1, 128, 8, 128]⟩
abbrev S1x128x8x128 : Shape := ⟨4, ![1, 128, 8, 128]⟩
abbrev S1x1x128x8x256 : Shape := ⟨5, ![1, 1, 128, 8, 256]⟩
abbrev S1x128x8x256 : Shape := ⟨4, ![1, 128, 8, 256]⟩
abbrev S1x8x128x128 : Shape := ⟨4, ![1, 8, 128, 128]⟩
abbrev S1x8x256x128 : Shape := ⟨4, ![1, 8, 256, 128]⟩
abbrev S1x128x8x1 : Shape := ⟨4, ![1, 128, 8, 1]⟩
abbrev S1x8x1x1 : Shape := ⟨4, ![1, 8, 1, 1]⟩
abbrev S1x8320x8 : Shape := ⟨3, ![1, 8320, 8]⟩
abbrev S1x8320x8x1 : Shape := ⟨4, ![1, 8320, 8, 1]⟩
abbrev S8x256 : Shape := ⟨2, ![8, 256]⟩
abbrev S1x1x8x256 : Shape := ⟨4, ![1, 1, 8, 256]⟩
abbrev S8320x2048 : Shape := ⟨2, ![8320, 2048]⟩

abbrev nBuf : Space → Nat
  | .hbm => 148
  | .vmem => 0
  | .smem => 0
  | _ => 0

abbrev hbmTy0_0 (i : Nat) : BufTy := match i % 128 with
  | 0 => ⟨S8320x6144, .f32⟩
  | 1 => ⟨S8320x64, .f32⟩
  | 2 => ⟨S8320x64, .f32⟩
  | 3 => ⟨S8x128x128, .f32⟩
  | 4 => ⟨S128x8, .f32⟩
  | 5 => ⟨S128x8, .f32⟩
  | 6 => ⟨S1x8x128x256, .f32⟩
  | 7 => ⟨S2048, .f32⟩
  | 8 => ⟨S8, .f32⟩
  | 9 => ⟨S1x8320x6144, .f32⟩
  | 10 => ⟨S1x8320x1024, .f32⟩
  | 11 => ⟨S1x8320x1024, .f32⟩
  | 12 => ⟨S1x8320x2048, .f32⟩
  | 13 => ⟨S1x8320x2048, .f32⟩
  | 14 => ⟨S1x8320x8x128, .f32⟩
  | 15 => ⟨S1x8320x1x64, .f32⟩
  | 16 => ⟨S1x8320x1x64, .f32⟩
  | 17 => ⟨S1x8320x8x64, .f32⟩
  | 18 => ⟨S1x8320x8x64, .f32⟩
  | 19 => ⟨S1x8320x8x64, .f32⟩
  | 20 => ⟨S1x8320x8x64, .f32⟩
  | 21 => ⟨S1x8320x8x64, .f32⟩
  | 22 => ⟨S1x8320x8x64, .f32⟩
  | 23 => ⟨S1x8320x8x64, .f32⟩
  | 24 => ⟨S1x8320x8x64, .f32⟩
  | 25 => ⟨S1x8320x8x64, .f32⟩
  | 26 => ⟨S1x8320x8x64, .f32⟩
  | 27 => ⟨S1x8320x8x64, .f32⟩
  | 28 => ⟨S1x8320x8x64, .f32⟩
  | 29 => ⟨S1x8320x8x128, .f32⟩
  | 30 => ⟨S_, .f32⟩
  | 31 => ⟨S1x8320x8x128, .f32⟩
  | 32 => ⟨S1x8320x8x128, .f32⟩
  | 33 => ⟨S1x8320x8x128, .f32⟩
  | 34 => ⟨S1x8320x1x64, .f32⟩
  | 35 => ⟨S1x8320x1x64, .f32⟩
  | 36 => ⟨S1x8320x8x64, .f32⟩
  | 37 => ⟨S1x8320x8x64, .f32⟩
  | 38 => ⟨S1x8320x8x64, .f32⟩
  | 39 => ⟨S1x8320x8x64, .f32⟩
  | 40 => ⟨S1x8320x8x64, .f32⟩
  | 41 => ⟨S1x8320x8x64, .f32⟩
  | 42 => ⟨S1x8320x8x64, .f32⟩
  | 43 => ⟨S1x8320x8x64, .f32⟩
  | 44 => ⟨S1x8320x8x64, .f32⟩
  | 45 => ⟨S1x8320x8x64, .f32⟩
  | 46 => ⟨S1x8320x8x64, .f32⟩
  | 47 => ⟨S1x8320x8x64, .f32⟩
  | 48 => ⟨S1x8320x8x128, .f32⟩
  | 49 => ⟨S1x8320x8x256, .f32⟩
  | 50 => ⟨S1x65x128x8x128, .f32⟩
  | 51 => ⟨S65x1x128x8x128, .f32⟩
  | 52 => ⟨S1x65x128x8x128, .f32⟩
  | 53 => ⟨S65x1x128x8x128, .f32⟩
  | 54 => ⟨S1x65x128x8x256, .f32⟩
  | 55 => ⟨S65x1x128x8x256, .f32⟩
  | 56 => ⟨S_, .f32⟩
  | 57 => ⟨S65x1x128x8x256, .f32⟩
  | 58 => ⟨S_, .i32⟩
  | 59 => ⟨S65x1x128x8x128, .f32⟩
  | 60 => ⟨S65x1x128x8x128, .f32⟩
  | 61 => ⟨S65x1x128x8x256, .f32⟩
  | 62 => ⟨S8x128x128, .f32⟩
  | 63 => ⟨S128x8, .f32⟩
  | 64 => ⟨S8, .f32⟩
  | 65 => ⟨S128x8, .f32⟩
  | 66 => ⟨S_, .i32⟩
  | 67 => ⟨S1x8x128x256, .f32⟩
  | 68 => ⟨S65x1x128x8x256, .f32⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S1x1x128x8x128, .f32⟩
  | 76 => ⟨S1x128x8x128, .f32⟩
  | 77 => ⟨S_, .i32⟩
  | 78 => ⟨S_, .i32⟩
  | 79 => ⟨S_, .i32⟩
  | 80 => ⟨S_, .i32⟩
  | 81 => ⟨S1x1x128x8x128, .f32⟩
  | 82 => ⟨S1x128x8x128, .f32⟩
  | 83 => ⟨S_, .i32⟩
  | 84 => ⟨S_, .i32⟩
  | 85 => ⟨S_, .i32⟩
  | 86 => ⟨S_, .i32⟩
  | 87 => ⟨S1x1x128x8x256, .f32⟩
  | 88 => ⟨S1x128x8x256, .f32⟩
  | 89 => ⟨S1x8x128x128, .f32⟩
  | 90 => ⟨S1x8x128x128, .f32⟩
  | 91 => ⟨S1x8x128x128, .f32⟩
  | 92 => ⟨S1x8x256x128, .f32⟩
  | 93 => ⟨S1x128x8x256, .f32⟩
  | 94 => ⟨S1x128x8x1, .f32⟩
  | 95 => ⟨S1x128x8x128, .f32⟩
  | 96 => ⟨S1x128x8x128, .f32⟩
  | 97 => ⟨S1x8x256x128, .f32⟩
  | 98 => ⟨S1x128x8x256, .f32⟩
  | 99 => ⟨S1x8x1x1, .f32⟩
  | 100 => ⟨S1x8x128x256, .f32⟩
  | 101 => ⟨S1x8x128x256, .f32⟩
  | 102 => ⟨S1x128x8x1, .f32⟩
  | 103 => ⟨S1x128x8x128, .f32⟩
  | 104 => ⟨S1x128x8x128, .f32⟩
  | 105 => ⟨S1x8x128x256, .f32⟩
  | 106 => ⟨S1x8x128x256, .f32⟩
  | 107 => ⟨S1x128x8x256, .f32⟩
  | 108 => ⟨S1x1x128x8x256, .f32⟩
  | 109 => ⟨S_, .i32⟩
  | 110 => ⟨S_, .i32⟩
  | 111 => ⟨S_, .i32⟩
  | 112 => ⟨S_, .i32⟩
  | 113 => ⟨S65x1x128x8x256, .f32⟩
  | 114 => ⟨S_, .i32⟩
  | 115 => ⟨S_, .i32⟩
  | 116 => ⟨S1x65x128x8x256, .f32⟩
  | 117 => ⟨S1x8320x8x256, .f32⟩
  | 118 => ⟨S1x8320x8x256, .f32⟩
  | 119 => ⟨S_, .f32⟩
  | 120 => ⟨S1x8320x8, .f32⟩
  | 121 => ⟨S1x8320x8x1, .f32⟩
  | 122 => ⟨S_, .f32⟩
  | 123 => ⟨S1x8320x8x1, .f32⟩
  | 124 => ⟨S1x8320x8x1, .f32⟩
  | 125 => ⟨S_, .f32⟩
  | 126 => ⟨S1x8320x8x1, .f32⟩
  | 127 => ⟨S1x8320x8x1, .f32⟩
  | _ => ⟨S8320x6144, .f32⟩

abbrev hbmTy0_1 (i : Nat) : BufTy := match i % 128 with
  | 0 => ⟨S1x8320x8x1, .f32⟩
  | 1 => ⟨S1x8320x8x256, .f32⟩
  | 2 => ⟨S1x8320x8x256, .f32⟩
  | 3 => ⟨S8x256, .f32⟩
  | 4 => ⟨S1x1x8x256, .f32⟩
  | 5 => ⟨S1x8320x8x256, .f32⟩
  | 6 => ⟨S1x8320x8x256, .f32⟩
  | 7 => ⟨S1x8320x2048, .f32⟩
  | 8 => ⟨S1x8320x2048, .f32⟩
  | 9 => ⟨S_, .f32⟩
  | 10 => ⟨S1x8320x2048, .f32⟩
  | 11 => ⟨S1x8320x2048, .f32⟩
  | 12 => ⟨S_, .f32⟩
  | 13 => ⟨S1x8320x2048, .f32⟩
  | 14 => ⟨S1x8320x2048, .f32⟩
  | 15 => ⟨S1x8320x2048, .f32⟩
  | 16 => ⟨S1x8320x2048, .f32⟩
  | 17 => ⟨S1x8320x2048, .f32⟩
  | 18 => ⟨S8320x2048, .f32⟩
  | 19 => ⟨S8320x2048, .bf16⟩
  | _ => ⟨S8320x6144, .f32⟩

abbrev hbmTy (i : Nat) : BufTy := match i / 128 with
  | 0 => hbmTy0_0 i
  | 1 => hbmTy0_1 i
  | _ => ⟨S8320x6144, .f32⟩

abbrev bufTy : (tb : Table) → Fin (tcTables nBuf tb) → BufTy
  | .hbm, ⟨i, _⟩ => hbmTy i
  | _, _ => ⟨S8320x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_1 : Ref sig .tc := ⟨.hbm, 56, rfl⟩
abbrev main_v46 : Ref sig .tc := ⟨.hbm, 57, rfl⟩
abbrev main_c : Ref sig .tc := ⟨.hbm, 58, rfl⟩
abbrev main_v47_0 : Ref sig .tc := ⟨.hbm, 59, rfl⟩
abbrev main_v47_1 : Ref sig .tc := ⟨.hbm, 60, rfl⟩
abbrev main_v47_2 : Ref sig .tc := ⟨.hbm, 61, rfl⟩
abbrev main_v47_3 : Ref sig .tc := ⟨.hbm, 62, rfl⟩
abbrev main_v47_4 : Ref sig .tc := ⟨.hbm, 63, rfl⟩
abbrev main_v47_5 : Ref sig .tc := ⟨.hbm, 64, rfl⟩
abbrev main_v47_6 : Ref sig .tc := ⟨.hbm, 65, rfl⟩
abbrev main_v47_7 : Ref sig .tc := ⟨.hbm, 66, rfl⟩
abbrev main_v47_8 : Ref sig .tc := ⟨.hbm, 67, rfl⟩
abbrev main_v47_9 : Ref sig .tc := ⟨.hbm, 68, rfl⟩
abbrev main_while0c_c_14 : Ref sig .tc := ⟨.hbm, 69, rfl⟩
abbrev main_while0c_v69 : Ref sig .tc := ⟨.hbm, 70, rfl⟩
abbrev main_while0b_call0_c : Ref sig .tc := ⟨.hbm, 71, rfl⟩
abbrev main_while0b_call0_c_0 : Ref sig .tc := ⟨.hbm, 72, rfl⟩
abbrev main_while0b_call0_c_1 : Ref sig .tc := ⟨.hbm, 73, rfl⟩
abbrev main_while0b_call0_c_2 : Ref sig .tc := ⟨.hbm, 74, rfl⟩
abbrev main_while0b_call0_v0 : Ref sig .tc := ⟨.hbm, 75, rfl⟩
abbrev main_while0b_v69 : Ref sig .tc := ⟨.hbm, 76, rfl⟩
abbrev main_while0b_call1_c : Ref sig .tc := ⟨.hbm, 77, rfl⟩
abbrev main_while0b_call1_c_0 : Ref sig .tc := ⟨.hbm, 78, rfl⟩
abbrev main_while0b_call1_c_1 : Ref sig .tc := ⟨.hbm, 79, rfl⟩
abbrev main_while0b_call1_c_2 : Ref sig .tc := ⟨.hbm, 80, rfl⟩
abbrev main_while0b_call1_v0 : Ref sig .tc := ⟨.hbm, 81, rfl⟩
abbrev main_while0b_v70 : Ref sig .tc := ⟨.hbm, 82, rfl⟩
abbrev main_while0b_call2_c : Ref sig .tc := ⟨.hbm, 83, rfl⟩
abbrev main_while0b_call2_c_0 : Ref sig .tc := ⟨.hbm, 84, rfl⟩
abbrev main_while0b_call2_c_1 : Ref sig .tc := ⟨.hbm, 85, rfl⟩
abbrev main_while0b_call2_c_2 : Ref sig .tc := ⟨.hbm, 86, rfl⟩
abbrev main_while0b_call2_v0 : Ref sig .tc := ⟨.hbm, 87, rfl⟩
abbrev main_while0b_v71 : Ref sig .tc := ⟨.hbm, 88, rfl⟩
abbrev main_while0b_v72 : Ref sig .tc := ⟨.hbm, 89, rfl⟩
abbrev main_while0b_v73 : Ref sig .tc := ⟨.hbm, 90, rfl⟩
abbrev main_while0b_v74 : Ref sig .tc := ⟨.hbm, 91, rfl⟩
abbrev main_while0b_v75 : Ref sig .tc := ⟨.hbm, 92, rfl⟩
abbrev main_while0b_v76 : Ref sig .tc := ⟨.hbm, 93, rfl⟩
abbrev main_while0b_v77 : Ref sig .tc := ⟨.hbm, 94, rfl⟩
abbrev main_while0b_v78 : Ref sig .tc := ⟨.hbm, 95, rfl⟩
abbrev main_while0b_v79 : Ref sig .tc := ⟨.hbm, 96, rfl⟩
abbrev main_while0b_v80 : Ref sig .tc := ⟨.hbm, 97, rfl⟩
abbrev main_while0b_v81 : Ref sig .tc := ⟨.hbm, 98, rfl⟩
abbrev main_while0b_v82 : Ref sig .tc := ⟨.hbm, 99, rfl⟩
abbrev main_while0b_v83 : Ref sig .tc := ⟨.hbm, 100, rfl⟩
abbrev main_while0b_v84 : Ref sig .tc := ⟨.hbm, 101, rfl⟩
abbrev main_while0b_v85 : Ref sig .tc := ⟨.hbm, 102, rfl⟩
abbrev main_while0b_v86 : Ref sig .tc := ⟨.hbm, 103, rfl⟩
abbrev main_while0b_v87 : Ref sig .tc := ⟨.hbm, 104, rfl⟩
abbrev main_while0b_v88 : Ref sig .tc := ⟨.hbm, 105, rfl⟩
abbrev main_while0b_v89 : Ref sig .tc := ⟨.hbm, 106, rfl⟩
abbrev main_while0b_v90 : Ref sig .tc := ⟨.hbm, 107, rfl⟩
abbrev main_while0b_call3_v0 : Ref sig .tc := ⟨.hbm, 108, rfl⟩
abbrev main_while0b_call3_c : Ref sig .tc := ⟨.hbm, 109, rfl⟩
abbrev main_while0b_call3_c_0 : Ref sig .tc := ⟨.hbm, 110, rfl⟩
abbrev main_while0b_call3_c_1 : Ref sig .tc := ⟨.hbm, 111, rfl⟩
abbrev main_while0b_call3_c_2 : Ref sig .tc := ⟨.hbm, 112, rfl⟩
abbrev main_while0b_v91 : Ref sig .tc := ⟨.hbm, 113, rfl⟩
abbrev main_while0b_c_14 : Ref sig .tc := ⟨.hbm, 114, rfl⟩
abbrev main_while0b_v92 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_cst_2 : Ref sig .tc := ⟨.hbm, 119, rfl⟩
abbrev main_v51 : Ref sig .tc := ⟨.hbm, 120, rfl⟩
abbrev main_v52 : Ref sig .tc := ⟨.hbm, 121, rfl⟩
abbrev main_cst_3 : Ref sig .tc := ⟨.hbm, 122, rfl⟩
abbrev main_v53 : Ref sig .tc := ⟨.hbm, 123, rfl⟩
abbrev main_v54 : Ref sig .tc := ⟨.hbm, 124, rfl⟩
abbrev main_cst_4 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_call4_v0 : Ref sig .tc := ⟨.hbm, 135, rfl⟩
abbrev main_call4_v1 : Ref sig .tc := ⟨.hbm, 136, rfl⟩
abbrev main_call4_cst : Ref sig .tc := ⟨.hbm, 137, rfl⟩
abbrev main_call4_v2 : Ref sig .tc := ⟨.hbm, 138, rfl⟩
abbrev main_call4_v3 : Ref sig .tc := ⟨.hbm, 139, rfl⟩
abbrev main_call4_cst_0 : Ref sig .tc := ⟨.hbm, 140, rfl⟩
abbrev main_call4_v4 : Ref sig .tc := ⟨.hbm, 141, rfl⟩
abbrev main_call4_v5 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩

abbrev nD : Nat := 1
abbrev τ : Topo := Topo.v7x

variable {F : FTy → Type} [FloatOps F]

abbrev main_while0_count : Scf.Loop 32 := ⟨0#32, 65#32, 1#32⟩
-- ==== Kernel3.lean ====
abbrev S8320x2048 : Shape := ⟨2, ![8320, 2048]⟩
abbrev S2048x4096 : Shape := ⟨2, ![2048, 4096]⟩
abbrev S8320x4096 : Shape := ⟨2, ![8320, 4096]⟩
abbrev S1664x2048 : Shape := ⟨2, ![1664, 2048]⟩
abbrev S2048x1024 : Shape := ⟨2, ![2048, 1024]⟩
abbrev S1664x1024 : Shape := ⟨2, ![1664, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x4096, .bf16⟩
  | .hbm, ⟨2, _⟩ => ⟨S8320x4096, .f32⟩
  | .local _ .vmem, ⟨0, _⟩ => ⟨S1664x2048, .bf16⟩
  | .local _ .vmem, ⟨1, _⟩ => ⟨S1664x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1664x1024, .f32⟩
  | .local _ .vmem, ⟨5, _⟩ => ⟨S1664x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel3Ideal.lean ====
abbrev S8320x2048 : Shape := ⟨2, ![8320, 2048]⟩
abbrev S2048x4096 : Shape := ⟨2, ![2048, 4096]⟩
abbrev S8320x4096 : Shape := ⟨2, ![8320, 4096]⟩
abbrev S1664x2048 : Shape := ⟨2, ![1664, 2048]⟩
abbrev S2048x1024 : Shape := ⟨2, ![2048, 1024]⟩
abbrev S1664x1024 : Shape := ⟨2, ![1664, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x4096, .bf16⟩
  | .hbm, ⟨2, _⟩ => ⟨S8320x4096, .f32⟩
  | .local _ .vmem, ⟨0, _⟩ => ⟨S1664x2048, .bf16⟩
  | .local _ .vmem, ⟨1, _⟩ => ⟨S1664x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1664x1024, .f32⟩
  | .local _ .vmem, ⟨5, _⟩ => ⟨S1664x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8320x2048 : Shape := ⟨2, ![8320, 2048]⟩
abbrev S2048x4096 : Shape := ⟨2, ![2048, 4096]⟩
abbrev S8320x4096 : Shape := ⟨2, ![8320, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x4096, .bf16⟩
  | .hbm, ⟨2, _⟩ => ⟨S8320x2048, .f32⟩
  | .hbm, ⟨3, _⟩ => ⟨S2048x4096, .f32⟩
  | .hbm, ⟨4, _⟩ => ⟨S8320x4096, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S8320x2048 : Shape := ⟨2, ![8320, 2048]⟩
abbrev S2048x3328 : Shape := ⟨2, ![2048, 3328]⟩
abbrev S8320x3328 : Shape := ⟨2, ![8320, 3328]⟩
abbrev S832x2048 : Shape := ⟨2, ![832, 2048]⟩
abbrev S2048x1664 : Shape := ⟨2, ![2048, 1664]⟩
abbrev S832x1664 : Shape := ⟨2, ![832, 1664]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x3328, .bf16⟩
  | .hbm, ⟨2, _⟩ => ⟨S8320x3328, .f32⟩
  | .local _ .vmem, ⟨0, _⟩ => ⟨S832x2048, .bf16⟩
  | .local _ .vmem, ⟨1, _⟩ => ⟨S832x2048, .bf16⟩
  | .local _ .vmem, ⟨2, _⟩ => ⟨S2048x1664, .bf16⟩
  | .local _ .vmem, ⟨3, _⟩ => ⟨S2048x1664, .bf16⟩
  | .local _ .vmem, ⟨4, _⟩ => ⟨S832x1664, .f32⟩
  | .local _ .vmem, ⟨5, _⟩ => ⟨S832x1664, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S832x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S832x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel4Ideal.lean ====
abbrev S8320x2048 : Shape := ⟨2, ![8320, 2048]⟩
abbrev S2048x3328 : Shape := ⟨2, ![2048, 3328]⟩
abbrev S8320x3328 : Shape := ⟨2, ![8320, 3328]⟩
abbrev S832x2048 : Shape := ⟨2, ![832, 2048]⟩
abbrev S2048x1664 : Shape := ⟨2, ![2048, 1664]⟩
abbrev S832x1664 : Shape := ⟨2, ![832, 1664]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x3328, .bf16⟩
  | .hbm, ⟨2, _⟩ => ⟨S8320x3328, .f32⟩
  | .local _ .vmem, ⟨0, _⟩ => ⟨S832x2048, .bf16⟩
  | .local _ .vmem, ⟨1, _⟩ => ⟨S832x2048, .bf16⟩
  | .local _ .vmem, ⟨2, _⟩ => ⟨S2048x1664, .bf16⟩
  | .local _ .vmem, ⟨3, _⟩ => ⟨S2048x1664, .bf16⟩
  | .local _ .vmem, ⟨4, _⟩ => ⟨S832x1664, .f32⟩
  | .local _ .vmem, ⟨5, _⟩ => ⟨S832x1664, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S832x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S832x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8320x2048 : Shape := ⟨2, ![8320, 2048]⟩
abbrev S2048x3328 : Shape := ⟨2, ![2048, 3328]⟩
abbrev S8320x3328 : Shape := ⟨2, ![8320, 3328]⟩

abbrev nBuf : Space → Nat
  | .hbm => 5
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x3328, .bf16⟩
  | .hbm, ⟨2, _⟩ => ⟨S8320x2048, .f32⟩
  | .hbm, ⟨3, _⟩ => ⟨S2048x3328, .f32⟩
  | .hbm, ⟨4, _⟩ => ⟨S8320x3328, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S8320x2048 : Shape := ⟨2, ![8320, 2048]⟩
abbrev S2048x1024 : Shape := ⟨2, ![2048, 1024]⟩
abbrev S8320x1024 : Shape := ⟨2, ![8320, 1024]⟩
abbrev S1664x2048 : Shape := ⟨2, ![1664, 2048]⟩
abbrev S1664x1024 : Shape := ⟨2, ![1664, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x2048, .bf16⟩
  | .hbm, ⟨1, _⟩ => ⟨S2048x1024, .bf16⟩
  | .hbm, ⟨2, _⟩ => ⟨S8320x1024, .f32⟩
  | .local _ .vmem, ⟨0, _⟩ => ⟨S1664x2048, .bf16⟩
  | .local _ .vmem, ⟨1, _⟩ => ⟨S1664x2048, .bf16⟩
  | .local _ .vmem, ⟨2, _⟩ => ⟨S2048x1024, .bf16⟩
  | .local _ .vmem, ⟨3, _⟩ => ⟨S1664x1024, .f32⟩
  | .local _ .vmem, ⟨4, _⟩ => ⟨S1664x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![5, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel5Ideal.lean ====
abbrev S8320x2048 : Shape := ⟨2, ![8320, 2048]⟩
abbrev S2048x1024 : Shape := ⟨2, ![2048, 1024]⟩
abbrev S8320x1024 : Shape := ⟨2, ![8320, 1024]⟩
abbrev S1664x2048 : Shape := ⟨2, ![1664, 2048]⟩
abbrev S1664x1024 : Shape := ⟨2, ![1664, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x2048, .bf16⟩
  | .hbm, ⟨1, _⟩ => ⟨S2048x1024, .bf16⟩
  | .hbm, ⟨2, _⟩ => ⟨S8320x1024, .f32⟩
  | .local _ .vmem, ⟨0, _⟩ => ⟨S1664x2048, .bf16⟩
  | .local _ .vmem, ⟨1, _⟩ => ⟨S1664x2048, .bf16⟩
  | .local _ .vmem, ⟨2, _⟩ => ⟨S2048x1024, .bf16⟩
  | .local _ .vmem, ⟨3, _⟩ => ⟨S1664x1024, .f32⟩
  | .local _ .vmem, ⟨4, _⟩ => ⟨S1664x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![5, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8320x2048 : Shape := ⟨2, ![8320, 2048]⟩
abbrev S2048x1024 : Shape := ⟨2, ![2048, 1024]⟩
abbrev S8320x1024 : Shape := ⟨2, ![8320, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x1024, .bf16⟩
  | .hbm, ⟨2, _⟩ => ⟨S8320x2048, .f32⟩
  | .hbm, ⟨3, _⟩ => ⟨S2048x1024, .f32⟩
  | .hbm, ⟨4, _⟩ => ⟨S8320x1024, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S8320x2048 : Shape := ⟨2, ![8320, 2048]⟩
abbrev S2048x6144 : Shape := ⟨2, ![2048, 6144]⟩
abbrev S8320x6144 : Shape := ⟨2, ![8320, 6144]⟩
abbrev S1664x2048 : Shape := ⟨2, ![1664, 2048]⟩
abbrev S2048x1024 : Shape := ⟨2, ![2048, 1024]⟩
abbrev S1664x1024 : Shape := ⟨2, ![1664, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x6144, .bf16⟩
  | .hbm, ⟨2, _⟩ => ⟨S8320x6144, .f32⟩
  | .local _ .vmem, ⟨0, _⟩ => ⟨S1664x2048, .bf16⟩
  | .local _ .vmem, ⟨1, _⟩ => ⟨S1664x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1664x1024, .f32⟩
  | .local _ .vmem, ⟨5, _⟩ => ⟨S1664x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel6Ideal.lean ====
abbrev S8320x2048 : Shape := ⟨2, ![8320, 2048]⟩
abbrev S2048x6144 : Shape := ⟨2, ![2048, 6144]⟩
abbrev S8320x6144 : Shape := ⟨2, ![8320, 6144]⟩
abbrev S1664x2048 : Shape := ⟨2, ![1664, 2048]⟩
abbrev S2048x1024 : Shape := ⟨2, ![2048, 1024]⟩
abbrev S1664x1024 : Shape := ⟨2, ![1664, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x6144, .bf16⟩
  | .hbm, ⟨2, _⟩ => ⟨S8320x6144, .f32⟩
  | .local _ .vmem, ⟨0, _⟩ => ⟨S1664x2048, .bf16⟩
  | .local _ .vmem, ⟨1, _⟩ => ⟨S1664x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1664x1024, .f32⟩
  | .local _ .vmem, ⟨5, _⟩ => ⟨S1664x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8320x2048 : Shape := ⟨2, ![8320, 2048]⟩
abbrev S2048x6144 : Shape := ⟨2, ![2048, 6144]⟩
abbrev S8320x6144 : Shape := ⟨2, ![8320, 6144]⟩

abbrev nBuf : Space → Nat
  | .hbm => 5
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x6144, .bf16⟩
  | .hbm, ⟨2, _⟩ => ⟨S8320x2048, .f32⟩
  | .hbm, ⟨3, _⟩ => ⟨S2048x6144, .f32⟩
  | .hbm, ⟨4, _⟩ => ⟨S8320x6144, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S8320x1024 : Shape := ⟨2, ![8320, 1024]⟩
abbrev S2048x2048 : Shape := ⟨2, ![2048, 2048]⟩
abbrev S8320x2048 : Shape := ⟨2, ![8320, 2048]⟩
abbrev S1664x1024 : Shape := ⟨2, ![1664, 1024]⟩
abbrev S2048x512 : Shape := ⟨2, ![2048, 512]⟩
abbrev S1664x512 : Shape := ⟨2, ![1664, 512]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S2048x2048, .bf16⟩
  | .hbm, ⟨3, _⟩ => ⟨S8320x2048, .f32⟩
  | .hbm, ⟨4, _⟩ => ⟨S8320x2048, .f32⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S2048x512, .bf16⟩
  | .local _ .vmem, ⟨5, _⟩ => ⟨S2048x512, .bf16⟩
  | .local _ .vmem, ⟨6, _⟩ => ⟨S1664x512, .f32⟩
  | .local _ .vmem, ⟨7, _⟩ => ⟨S1664x512, .f32⟩
  | .local _ .vmem, ⟨8, _⟩ => ⟨S1664x512, .f32⟩
  | .local _ .vmem, ⟨9, _⟩ => ⟨S1664x512, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![5, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1664x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1664x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel7Ideal.lean ====
abbrev S8320x1024 : Shape := ⟨2, ![8320, 1024]⟩
abbrev S2048x2048 : Shape := ⟨2, ![2048, 2048]⟩
abbrev S8320x2048 : Shape := ⟨2, ![8320, 2048]⟩
abbrev S1664x1024 : Shape := ⟨2, ![1664, 1024]⟩
abbrev S2048x512 : Shape := ⟨2, ![2048, 512]⟩
abbrev S1664x512 : Shape := ⟨2, ![1664, 512]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S2048x2048, .bf16⟩
  | .hbm, ⟨3, _⟩ => ⟨S8320x2048, .f32⟩
  | .hbm, ⟨4, _⟩ => ⟨S8320x2048, .f32⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S2048x512, .bf16⟩
  | .local _ .vmem, ⟨5, _⟩ => ⟨S2048x512, .bf16⟩
  | .local _ .vmem, ⟨6, _⟩ => ⟨S1664x512, .f32⟩
  | .local _ .vmem, ⟨7, _⟩ => ⟨S1664x512, .f32⟩
  | .local _ .vmem, ⟨8, _⟩ => ⟨S1664x512, .f32⟩
  | .local _ .vmem, ⟨9, _⟩ => ⟨S1664x512, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![5, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1664x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1664x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S8320x1024 : Shape := ⟨2, ![8320, 1024]⟩
abbrev S2048x2048 : Shape := ⟨2, ![2048, 2048]⟩
abbrev S8320x2048 : Shape := ⟨2, ![8320, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S2048x2048, .bf16⟩
  | .hbm, ⟨3, _⟩ => ⟨S8320x2048, .f32⟩
  | .hbm, ⟨4, _⟩ => ⟨S8320x2048, .bf16⟩
  | .hbm, ⟨5, _⟩ => ⟨S8320x2048, .f32⟩
  | .hbm, ⟨6, _⟩ => ⟨S2048x2048, .f32⟩
  | .hbm, ⟨7, _⟩ => ⟨S8320x2048, .f32⟩
  | .hbm, ⟨8, _⟩ => ⟨S8320x2048, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel8.lean ====
abbrev S8320x2048 : Shape := ⟨2, ![8320, 2048]⟩
abbrev S2048x2048 : Shape := ⟨2, ![2048, 2048]⟩
abbrev S1664x2048 : Shape := ⟨2, ![1664, 2048]⟩
abbrev S2048x512 : Shape := ⟨2, ![2048, 512]⟩
abbrev S1664x512 : Shape := ⟨2, ![1664, 512]⟩

abbrev nBuf : Space → Nat
  | .hbm => 4
  | .vmem => 8
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .bf16⟩
  | .hbm, ⟨2, _⟩ => ⟨S8320x2048, .f32⟩
  | .hbm, ⟨3, _⟩ => ⟨S8320x2048, .f32⟩
  | .local _ .vmem, ⟨0, _⟩ => ⟨S1664x2048, .bf16⟩
  | .local _ .vmem, ⟨1, _⟩ => ⟨S1664x2048, .bf16⟩
  | .local _ .vmem, ⟨2, _⟩ => ⟨S2048x512, .bf16⟩
  | .local _ .vmem, ⟨3, _⟩ => ⟨S2048x512, .bf16⟩
  | .local _ .vmem, ⟨4, _⟩ => ⟨S1664x512, .f32⟩
  | .local _ .vmem, ⟨5, _⟩ => ⟨S1664x512, .f32⟩
  | .local _ .vmem, ⟨6, _⟩ => ⟨S1664x512, .f32⟩
  | .local _ .vmem, ⟨7, _⟩ => ⟨S1664x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![5, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1664x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel8Ideal.lean ====
abbrev S8320x2048 : Shape := ⟨2, ![8320, 2048]⟩
abbrev S2048x2048 : Shape := ⟨2, ![2048, 2048]⟩
abbrev S1664x2048 : Shape := ⟨2, ![1664, 2048]⟩
abbrev S2048x512 : Shape := ⟨2, ![2048, 512]⟩
abbrev S1664x512 : Shape := ⟨2, ![1664, 512]⟩

abbrev nBuf : Space → Nat
  | .hbm => 4
  | .vmem => 8
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .bf16⟩
  | .hbm, ⟨2, _⟩ => ⟨S8320x2048, .f32⟩
  | .hbm, ⟨3, _⟩ => ⟨S8320x2048, .f32⟩
  | .local _ .vmem, ⟨0, _⟩ => ⟨S1664x2048, .bf16⟩
  | .local _ .vmem, ⟨1, _⟩ => ⟨S1664x2048, .bf16⟩
  | .local _ .vmem, ⟨2, _⟩ => ⟨S2048x512, .bf16⟩
  | .local _ .vmem, ⟨3, _⟩ => ⟨S2048x512, .bf16⟩
  | .local _ .vmem, ⟨4, _⟩ => ⟨S1664x512, .f32⟩
  | .local _ .vmem, ⟨5, _⟩ => ⟨S1664x512, .f32⟩
  | .local _ .vmem, ⟨6, _⟩ => ⟨S1664x512, .f32⟩
  | .local _ .vmem, ⟨7, _⟩ => ⟨S1664x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![5, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1664x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8320x2048 : Shape := ⟨2, ![8320, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .bf16⟩
  | .hbm, ⟨2, _⟩ => ⟨S8320x2048, .f32⟩
  | .hbm, ⟨3, _⟩ => ⟨S8320x2048, .f32⟩
  | .hbm, ⟨4, _⟩ => ⟨S2048x2048, .f32⟩
  | .hbm, ⟨5, _⟩ => ⟨S8320x2048, .f32⟩
  | .hbm, ⟨6, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8320x4096 : Shape := ⟨2, ![8320, 4096]⟩
abbrev S8208x1024 : Shape := ⟨2, ![8208, 1024]⟩
abbrev S1368x1024 : Shape := ⟨2, ![1368, 1024]⟩

abbrev nBuf : Space → Nat
  | .hbm => 3
  | .vmem => 8
  | .smem => 0
  | _ => 0

abbrev bufTy : (tb : Table) → Fin (tcTables nBuf tb) → BufTy
  | .hbm, ⟨0, _⟩ => ⟨S8320x4096, .f32⟩
  | .hbm, ⟨1, _⟩ => ⟨S8208x1024, .f32⟩
  | .hbm, ⟨2, _⟩ => ⟨S8208x1024, .f32⟩
  | .local _ .vmem, ⟨0, _⟩ => ⟨S1368x1024, .f32⟩
  | .local _ .vmem, ⟨1, _⟩ => ⟨S1368x1024, .f32⟩
  | .local _ .vmem, ⟨2, _⟩ => ⟨S1368x1024, .f32⟩
  | .local _ .vmem, ⟨3, _⟩ => ⟨S1368x1024, .f32⟩
  | .local _ .vmem, ⟨4, _⟩ => ⟨S1368x1024, .f32⟩
  | .local _ .vmem, ⟨5, _⟩ => ⟨S1368x1024, .f32⟩
  | .local _ .vmem, ⟨6, _⟩ => ⟨S1368x1024, .f32⟩
  | .local _ .vmem, ⟨7, _⟩ => ⟨S1368x1024, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![6], ![false]⟩

def k0_mult1 (i : grid0.Coords) : BitVec 32 :=
  let c112_i32 : BitVec 32 := 112#32
  let arg0 : BitVec 32 := BitVec.ofNat 32 (i 0).val
  let c1368_i32 : BitVec 32 := 1368#32
  let v0 : BitVec 32 := Scalar.muli arg0 c1368_i32
  let v1 : BitVec 32 := Scalar.addi c112_i32 v0
  v1
def k0_mult2 (i : grid0.Coords) : BitVec 32 :=
  let c112_i32 : BitVec 32 := 112#32
  let arg0 : BitVec 32 := BitVec.ofNat 32 (i 0).val
  let c1368_i32 : BitVec 32 := 1368#32
  let v0 : BitVec 32 := Scalar.muli arg0 c1368_i32
  let v1 : BitVec 32 := Scalar.addi c112_i32 v0
  v1
def cc0_transform_0 (i : grid0.Coords) : Fin 2 → Nat :=
  let arg0 : BitVec 32 := BitVec.ofNat 32 (i 0).val
  let c1368_i32 : BitVec 32 := 1368#32
  let v0 : BitVec 32 := Scalar.muli arg0 c1368_i32
  let c112_i32 : BitVec 32 := 112#32
  let v1 : BitVec 32 := Scalar.addi c112_i32 v0
  let v2 : BitVec 32 := v1
  let c2048_i32 : BitVec 32 := 2048#32
  let c0_i32 : BitVec 32 := 0#32
  ![v2.toNat, c2048_i32.toNat]

def cc0_transform_1 (i : grid0.Coords) : Fin 2 → Nat :=
  let arg0 : BitVec 32 := BitVec.ofNat 32 (i 0).val
  let c1368_i32 : BitVec 32 := 1368#32
  let v0 : BitVec 32 := Scalar.muli arg0 c1368_i32
  let c112_i32 : BitVec 32 := 112#32
  let v1 : BitVec 32 := Scalar.addi c112_i32 v0
  let v2 : BitVec 32 := v1
  let c3072_i32 : BitVec 32 := 3072#32
  let c0_i32 : BitVec 32 := 0#32
  ![v2.toNat, c3072_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1368x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1368x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1368x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1368x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S8320x4096 : Shape := ⟨2, ![8320, 4096]⟩
abbrev S8208x4096 : Shape := ⟨2, ![8208, 4096]⟩
abbrev S8208x1024 : Shape := ⟨2, ![8208, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S8208x4096, .f32⟩
  | .hbm, ⟨2, _⟩ => ⟨S8208x1024, .f32⟩
  | .hbm, ⟨3, _⟩ => ⟨S8208x1024, .f32⟩
  | .hbm, ⟨4, _⟩ => ⟨S8208x1024, .f32⟩
  | .hbm, ⟨5, _⟩ => ⟨S8208x1024, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]
-- ==== Kernel10.lean ====
abbrev S16x2048 : Shape := ⟨2, ![16, 2048]⟩
abbrev S8192x2048 : Shape := ⟨2, ![8192, 2048]⟩
abbrev S2048 : Shape := ⟨1, ![2048]⟩
abbrev S_ : Shape := ⟨0, ![]⟩
abbrev S112x2048 : Shape := ⟨2, ![112, 2048]⟩
abbrev S128x2048 : Shape := ⟨2, ![128, 2048]⟩
abbrev S1x2048 : Shape := ⟨2, ![1, 2048]⟩
abbrev S8320x2048 : Shape := ⟨2, ![8320, 2048]⟩
abbrev S640x2048 : Shape := ⟨2, ![640, 2048]⟩
abbrev S512x2048 : Shape := ⟨2, ![512, 2048]⟩
abbrev S640 : Shape := ⟨1, ![640]⟩
abbrev S640x1 : Shape := ⟨2, ![640, 1]⟩

abbrev nBuf : Space → Nat
  | .hbm => 9
  | .vmem => 8
  | .smem => 0
  | _ => 0

abbrev bufTy : (tb : Table) → Fin (tcTables nBuf tb) → BufTy
  | .hbm, ⟨0, _⟩ => ⟨S16x2048, .f32⟩
  | .hbm, ⟨1, _⟩ => ⟨S8192x2048, .f32⟩
  | .hbm, ⟨2, _⟩ => ⟨S2048, .f32⟩
  | .hbm, ⟨3, _⟩ => ⟨S_, .f32⟩
  | .hbm, ⟨4, _⟩ => ⟨S112x2048, .f32⟩
  | .hbm, ⟨5, _⟩ => ⟨S128x2048, .f32⟩
  | .hbm, ⟨6, _⟩ => ⟨S1x2048, .f32⟩
  | .hbm, ⟨7, _⟩ => ⟨S8320x2048, .f32⟩
  | .hbm, ⟨8, _⟩ => ⟨S8320x2048, .bf16⟩
  | .local _ .vmem, ⟨0, _⟩ => ⟨S128x2048, .f32⟩
  | .local _ .vmem, ⟨1, _⟩ => ⟨S640x2048, .f32⟩
  | .local _ .vmem, ⟨2, _⟩ => ⟨S640x2048, .f32⟩
  | .local _ .vmem, ⟨3, _⟩ => ⟨S1x2048, .f32⟩
  | .local _ .vmem, ⟨4, _⟩ => ⟨S640x2048, .f32⟩
  | .local _ .vmem, ⟨5, _⟩ => ⟨S640x2048, .f32⟩
  | .local _ .vmem, ⟨6, _⟩ => ⟨S640x2048, .bf16⟩
  | .local _ .vmem, ⟨7, _⟩ => ⟨S640x2048, .bf16⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![13], ![false]⟩

def k0_mult1 (i : grid0.Coords) : BitVec 32 :=
  let arg0 : BitVec 32 := BitVec.ofNat 32 (i 0).val
  let c640_i32 : BitVec 32 := 640#32
  let v0 : BitVec 32 := Scalar.muli arg0 c640_i32
  let c128_i32 : BitVec 32 := 128#32
  let v1 : BitVec 32 := Scalar.subi v0 c128_i32
  let c0_i32 : BitVec 32 := 0#32
  let v2 : BitVec 32 := Scalar.maxsi v1 c0_i32
  v2
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c640_i32 : BitVec 32 := 640#32
  let v0 : BitVec 32 := Scalar.muli arg0 c640_i32
  let c128_i32 : BitVec 32 := 128#32
  let v1 : BitVec 32 := Scalar.subi v0 c128_i32
  let c0_i32 : BitVec 32 := 0#32
  let v2 : BitVec 32 := Scalar.maxsi v1 c0_i32
  let v3 : BitVec 32 := v2
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S640x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S16x2048 : Shape := ⟨2, ![16, 2048]⟩
abbrev S8192x2048 : Shape := ⟨2, ![8192, 2048]⟩
abbrev S2048 : Shape := ⟨1, ![2048]⟩
abbrev S_ : Shape := ⟨0, ![]⟩
abbrev S112x2048 : Shape := ⟨2, ![112, 2048]⟩
abbrev S8320x2048 : Shape := ⟨2, ![8320, 2048]⟩
abbrev S8320 : Shape := ⟨1, ![8320]⟩
abbrev S8320x1 : Shape := ⟨2, ![8320, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S8192x2048, .f32⟩
  | .hbm, ⟨2, _⟩ => ⟨S2048, .f32⟩
  | .hbm, ⟨3, _⟩ => ⟨S_, .f32⟩
  | .hbm, ⟨4, _⟩ => ⟨S112x2048, .f32⟩
  | .hbm, ⟨5, _⟩ => ⟨S8320x2048, .f32⟩
  | .hbm, ⟨6, _⟩ => ⟨S8320x2048, .f32⟩
  | .hbm, ⟨7, _⟩ => ⟨S_, .f32⟩
  | .hbm, ⟨8, _⟩ => ⟨S8320, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S8320x1, .f32⟩
  | .hbm, ⟨17, _⟩ => ⟨S8320x2048, .f32⟩
  | .hbm, ⟨18, _⟩ => ⟨S8320x2048, .f32⟩
  | .hbm, ⟨19, _⟩ => ⟨S1x2048, .f32⟩
  | .hbm, ⟨20, _⟩ => ⟨S8320x2048, .f32⟩
  | .hbm, ⟨21, _⟩ => ⟨S8320x2048, .f32⟩
  | .hbm, ⟨22, _⟩ => ⟨S8320x2048, .bf16⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel11.lean ====
abbrev S8320x2048 : Shape := ⟨2, ![8320, 2048]⟩
abbrev S2048 : Shape := ⟨1, ![2048]⟩
abbrev S1x2048 : Shape := ⟨2, ![1, 2048]⟩
abbrev S1664x2048 : Shape := ⟨2, ![1664, 2048]⟩
abbrev S1664 : Shape := ⟨1, ![1664]⟩
abbrev S1664x1 : Shape := ⟨2, ![1664, 1]⟩

abbrev nBuf : Space → Nat
  | .hbm => 4
  | .vmem => 5
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S1x2048, .f32⟩
  | .hbm, ⟨3, _⟩ => ⟨S8320x2048, .bf16⟩
  | .local _ .vmem, ⟨0, _⟩ => ⟨S1664x2048, .f32⟩
  | .local _ .vmem, ⟨1, _⟩ => ⟨S1664x2048, .f32⟩
  | .local _ .vmem, ⟨2, _⟩ => ⟨S1x2048, .f32⟩
  | .local _ .vmem, ⟨3, _⟩ => ⟨S1664x2048, .bf16⟩
  | .local _ .vmem, ⟨4, _⟩ => ⟨S1664x2048, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def k0_mult1 (i : grid0.Coords) : BitVec 32 :=
  let arg0 : BitVec 32 := BitVec.ofNat 32 (i 0).val
  let c1664_i32 : BitVec 32 := 1664#32
  let v0 : BitVec 32 := Scalar.muli arg0 c1664_i32
  let c0_i32 : BitVec 32 := 0#32
  let v1 : BitVec 32 := Scalar.addi v0 c0_i32
  v1
def cc0_transform_0 (i : grid0.Coords) : Fin 2 → Nat :=
  let arg0 : BitVec 32 := BitVec.ofNat 32 (i 0).val
  let c1664_i32 : BitVec 32 := 1664#32
  let v0 : BitVec 32 := Scalar.muli arg0 c1664_i32
  let c0_i32 : BitVec 32 := 0#32
  let v1 : BitVec 32 := Scalar.addi v0 c0_i32
  let v2 : BitVec 32 := v1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1664x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1664x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S8320x2048 : Shape := ⟨2, ![8320, 2048]⟩
abbrev S2048 : Shape := ⟨1, ![2048]⟩
abbrev S_ : Shape := ⟨0, ![]⟩
abbrev S8320 : Shape := ⟨1, ![8320]⟩
abbrev S8320x1 : Shape := ⟨2, ![8320, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S8320x2048, .f32⟩
  | .hbm, ⟨3, _⟩ => ⟨S_, .f32⟩
  | .hbm, ⟨4, _⟩ => ⟨S8320, .f32⟩
  | .hbm, ⟨5, _⟩ => ⟨S8320x1, .f32⟩
  | .hbm, ⟨6, _⟩ => ⟨S_, .f32⟩
  | .hbm, ⟨7, _⟩ => ⟨S8320x1, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S8320x1, .f32⟩
  | .hbm, ⟨13, _⟩ => ⟨S8320x2048, .f32⟩
  | .hbm, ⟨14, _⟩ => ⟨S8320x2048, .f32⟩
  | .hbm, ⟨15, _⟩ => ⟨S1x2048, .f32⟩
  | .hbm, ⟨16, _⟩ => ⟨S8320x2048, .f32⟩
  | .hbm, ⟨17, _⟩ => ⟨S8320x2048, .f32⟩
  | .hbm, ⟨18, _⟩ => ⟨S8320x2048, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel12.lean ====
abbrev S8320x3328 : Shape := ⟨2, ![8320, 3328]⟩
abbrev S8 : Shape := ⟨1, ![8]⟩
abbrev S_ : Shape := ⟨0, ![]⟩
abbrev S1x128 : Shape := ⟨2, ![1, 128]⟩
abbrev S1 : Shape := ⟨1, ![1]⟩
abbrev S2 : Shape := ⟨1, ![2]⟩
abbrev S8320x128 : Shape := ⟨2, ![8320, 128]⟩
abbrev S8x8320 : Shape := ⟨2, ![8, 8320]⟩
abbrev S640x128 : Shape := ⟨2, ![640, 128]⟩
abbrev S8x640 : Shape := ⟨2, ![8, 640]⟩
abbrev S640x640 : Shape := ⟨2, ![640, 640]⟩
abbrev S128x640 : Shape := ⟨2, ![128, 640]⟩

abbrev nBuf : Space → Nat
  | .hbm => 12
  | .vmem => 8
  | .smem => 0
  | _ => 0

abbrev bufTy : (tb : Table) → Fin (tcTables nBuf tb) → BufTy
  | .hbm, ⟨0, _⟩ => ⟨S8320x3328, .f32⟩
  | .hbm, ⟨1, _⟩ => ⟨S8, .f32⟩
  | .hbm, ⟨2, _⟩ => ⟨S_, .f32⟩
  | .hbm, ⟨3, _⟩ => ⟨S1x128, .f32⟩
  | .hbm, ⟨4, _⟩ => ⟨S_, .i32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S2, .i32⟩
  | .hbm, ⟨9, _⟩ => ⟨S1x128, .f32⟩
  | .hbm, ⟨10, _⟩ => ⟨S8320x128, .f32⟩
  | .hbm, ⟨11, _⟩ => ⟨S8x8320, .f32⟩
  | .local _ .vmem, ⟨0, _⟩ => ⟨S640x128, .f32⟩
  | .local _ .vmem, ⟨1, _⟩ => ⟨S640x128, .f32⟩
  | .local _ .vmem, ⟨2, _⟩ => ⟨S1x128, .f32⟩
  | .local _ .vmem, ⟨3, _⟩ => ⟨S640x128, .f32⟩
  | .local _ .vmem, ⟨4, _⟩ => ⟨S640x128, .f32⟩
  | .local _ .vmem, ⟨5, _⟩ => ⟨S8x640, .f32⟩
  | .local _ .vmem, ⟨6, _⟩ => ⟨S8x640, .f32⟩
  | .local _ .vmem, ⟨7, _⟩ => ⟨S1x128, .f32⟩
  | _, _ => ⟨S8320x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c25_i32 : BitVec 32 := 25#32
  let c0_i32 : BitVec 32 := 0#32
  ![arg0.toNat, c25_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S640x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S8320x3328 : Shape := ⟨2, ![8320, 3328]⟩
abbrev S8 : Shape := ⟨1, ![8]⟩
abbrev S8320x128 : Shape := ⟨2, ![8320, 128]⟩
abbrev S_ : Shape := ⟨0, ![]⟩
abbrev S128 : Shape := ⟨1, ![128]⟩
abbrev S1x128 : Shape := ⟨2, ![1, 128]⟩
abbrev S8320x8 : Shape := ⟨2, ![8320, 8]⟩
abbrev S8320 : Shape := ⟨1, ![8320]⟩
abbrev S1x8320 : Shape := ⟨2, ![1, 8320]⟩
abbrev S8x8320 : Shape := ⟨2, ![8, 8320]⟩

abbrev nBuf : Space → Nat
  | .hbm => 40
  | .vmem => 0
  | .smem => 0
  | _ => 0

abbrev bufTy : (tb : Table) → Fin (tcTables nBuf tb) → BufTy
  | .hbm, ⟨0, _⟩ => ⟨S8320x3328, .f32⟩
  | .hbm, ⟨1, _⟩ => ⟨S8, .f32⟩
  | .hbm, ⟨2, _⟩ => ⟨S8320x128, .f32⟩
  | .hbm, ⟨3, _⟩ => ⟨S_, .i32⟩
  | .hbm, ⟨4, _⟩ => ⟨S_, .f32⟩
  | .hbm, ⟨5, _⟩ => ⟨S128, .f32⟩
  | .hbm, ⟨6, _⟩ => ⟨S1x128, .f32⟩
  | .hbm, ⟨7, _⟩ => ⟨S8320x128, .f32⟩
  | .hbm, ⟨8, _⟩ => ⟨S8320x128, .f32⟩
  | .hbm, ⟨9, _⟩ => ⟨S8320x128, .f32⟩
  | .hbm, ⟨10, _⟩ => ⟨S_, .f32⟩
  | .hbm, ⟨11, _⟩ => ⟨S8320x128, .f32⟩
  | .hbm, ⟨12, _⟩ => ⟨S8320x128, .f32⟩
  | .hbm, ⟨13, _⟩ => ⟨S8320x128, .f32⟩
  | .hbm, ⟨14, _⟩ => ⟨S8320x128, .f32⟩
  | .hbm, ⟨15, _⟩ => ⟨S8320x128, .i1⟩
  | .hbm, ⟨16, _⟩ => ⟨S8320x128, .f32⟩
  | .hbm, ⟨17, _⟩ => ⟨S8320x128, .f32⟩
  | .hbm, ⟨18, _⟩ => ⟨S8320x128, .f32⟩
  | .hbm, ⟨19, _⟩ => ⟨S8320x128, .f32⟩
  | .hbm, ⟨20, _⟩ => ⟨S8320x128, .f32⟩
  | .hbm, ⟨21, _⟩ => ⟨S8320x128, .f32⟩
  | .hbm, ⟨22, _⟩ => ⟨S8320x128, .f32⟩
  | .hbm, ⟨23, _⟩ => ⟨S8320x128, .f32⟩
  | .hbm, ⟨24, _⟩ => ⟨S8320x128, .f32⟩
  | .hbm, ⟨25, _⟩ => ⟨S8320x8, .f32⟩
  | .hbm, ⟨26, _⟩ => ⟨S_, .f32⟩
  | .hbm, ⟨27, _⟩ => ⟨S_, .f32⟩
  | .hbm, ⟨28, _⟩ => ⟨S8320x8, .f32⟩
  | .hbm, ⟨29, _⟩ => ⟨S8320, .i32⟩
  | .hbm, ⟨30, _⟩ => ⟨S1x8320, .i32⟩
  | .hbm, ⟨31, _⟩ => ⟨S_, .i32⟩
  | .hbm, ⟨32, _⟩ => ⟨S1x8320, .i32⟩
  | .hbm, ⟨33, _⟩ => ⟨S1x8320, .i1⟩
  | .hbm, ⟨34, _⟩ => ⟨S8x8320, .f32⟩
  | .hbm, ⟨35, _⟩ => ⟨S_, .f32⟩
  | .hbm, ⟨36, _⟩ => ⟨S_, .f32⟩
  | .hbm, ⟨37, _⟩ => ⟨S8x8320, .i1⟩
  | .hbm, ⟨38, _⟩ => ⟨S8x8320, .f32⟩
  | .hbm, ⟨39, _⟩ => ⟨S8x8320, .f32⟩
  | _, _ => ⟨S8320x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call1_v0 : Ref sig .tc := ⟨.hbm, 9, rfl⟩
abbrev main_call1_call0_cst : Ref sig .tc := ⟨.hbm, 10, rfl⟩
abbrev main_call1_call0_v0 : Ref sig .tc := ⟨.hbm, 11, rfl⟩
abbrev main_call1_call0_v1 : Ref sig .tc := ⟨.hbm, 12, rfl⟩
abbrev main_call1_call0_v2 : Ref sig .tc := ⟨.hbm, 13, rfl⟩
abbrev main_call1_call0_v3 : Ref sig .tc := ⟨.hbm, 14, rfl⟩
abbrev main_call1_call0_v4 : Ref sig .tc := ⟨.hbm, 15, rfl⟩
abbrev main_call1_call0_v5 : Ref sig .tc := ⟨.hbm, 16, rfl⟩
abbrev main_call1_call0_v6 : Ref sig .tc := ⟨.hbm, 17, rfl⟩
abbrev main_call1_call0_v7 : Ref sig .tc := ⟨.hbm, 18, rfl⟩
abbrev main_call1_call0_v8 : Ref sig .tc := ⟨.hbm, 19, rfl⟩
abbrev main_call1_call0_v9 : Ref sig .tc := ⟨.hbm, 20, rfl⟩
abbrev main_call1_call0_v10 : Ref sig .tc := ⟨.hbm, 21, rfl⟩
abbrev main_call1_call0_v11 : Ref sig .tc := ⟨.hbm, 22, rfl⟩
abbrev main_call1_v1 : Ref sig .tc := ⟨.hbm, 23, rfl⟩
abbrev main_v5 : Ref sig .tc := ⟨.hbm, 24, rfl⟩
abbrev main_v6 : Ref sig .tc := ⟨.hbm, 25, rfl⟩
abbrev main_call2_call0_cst : Ref sig .tc := ⟨.hbm, 26, rfl⟩
abbrev main_call2_call0_v0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_c_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_v13 : Ref sig .tc := ⟨.hbm, 39, rfl⟩

abbrev nD : Nat := 1
abbrev τ : Topo := Topo.v7x

variable {F : FTy → Type} [FloatOps F]
-- ==== Kernel13.lean ====
abbrev S2048x2048 : Shape := ⟨2, ![2048, 2048]⟩
abbrev S256x2048 : Shape := ⟨2, ![256, 2048]⟩

abbrev nBuf : Space → Nat
  | .hbm => 2
  | .vmem => 4
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def cc0_transform_0 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Kernel13Ideal.lean ====
abbrev S2048x2048 : Shape := ⟨2, ![2048, 2048]⟩
abbrev S256x2048 : Shape := ⟨2, ![256, 2048]⟩

abbrev nBuf : Space → Nat
  | .hbm => 2
  | .vmem => 4
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def cc0_transform_0 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference13Ideal.lean ====
abbrev S2048x2048 : Shape := ⟨2, ![2048, 2048]⟩

abbrev nBuf : Space → Nat
  | .hbm => 2
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Kernel14.lean ====
abbrev S2048x6144 : Shape := ⟨2, ![2048, 6144]⟩
abbrev S256x6144 : Shape := ⟨2, ![256, 6144]⟩

abbrev nBuf : Space → Nat
  | .hbm => 2
  | .vmem => 4
  | .smem => 0
  | _ => 0

abbrev bufTy : (tb : Table) → Fin (tcTables nBuf tb) → BufTy
  | .hbm, ⟨0, _⟩ => ⟨S2048x6144, .f32⟩
  | .hbm, ⟨1, _⟩ => ⟨S2048x6144, .bf16⟩
  | .local _ .vmem, ⟨0, _⟩ => ⟨S256x6144, .f32⟩
  | .local _ .vmem, ⟨1, _⟩ => ⟨S256x6144, .f32⟩
  | .local _ .vmem, ⟨2, _⟩ => ⟨S256x6144, .bf16⟩
  | .local _ .vmem, ⟨3, _⟩ => ⟨S256x6144, .bf16⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def cc0_transform_0 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference14Ideal.lean ====
abbrev S2048x6144 : Shape := ⟨2, ![2048, 6144]⟩

abbrev nBuf : Space → Nat
  | .hbm => 2
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S2048x6144, .bf16⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Kernel15.lean ====
abbrev S512x2048 : Shape := ⟨2, ![512, 2048]⟩
abbrev S2048x4096 : Shape := ⟨2, ![2048, 4096]⟩
abbrev S512x4096 : Shape := ⟨2, ![512, 4096]⟩
abbrev S2048x1024 : Shape := ⟨2, ![2048, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S512x2048, .bf16⟩
  | .hbm, ⟨1, _⟩ => ⟨S2048x4096, .bf16⟩
  | .hbm, ⟨2, _⟩ => ⟨S512x4096, .f32⟩
  | .local _ .vmem, ⟨0, _⟩ => ⟨S512x2048, .bf16⟩
  | .local _ .vmem, ⟨1, _⟩ => ⟨S2048x1024, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S512x2048 : Shape := ⟨2, ![512, 2048]⟩
abbrev S2048x4096 : Shape := ⟨2, ![2048, 4096]⟩
abbrev S512x4096 : Shape := ⟨2, ![512, 4096]⟩

abbrev nBuf : Space → Nat
  | .hbm => 5
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S2048x4096, .bf16⟩
  | .hbm, ⟨2, _⟩ => ⟨S512x2048, .f32⟩
  | .hbm, ⟨3, _⟩ => ⟨S2048x4096, .f32⟩
  | .hbm, ⟨4, _⟩ => ⟨S512x4096, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S512x2048 : Shape := ⟨2, ![512, 2048]⟩
abbrev S2048x3328 : Shape := ⟨2, ![2048, 3328]⟩
abbrev S512x3328 : Shape := ⟨2, ![512, 3328]⟩
abbrev S2048x1664 : Shape := ⟨2, ![2048, 1664]⟩
abbrev S512x1664 : Shape := ⟨2, ![512, 1664]⟩

abbrev nBuf : Space → Nat
  | .hbm => 3
  | .vmem => 5
  | .smem => 0
  | _ => 0

abbrev bufTy : (tb : Table) → Fin (tcTables nBuf tb) → BufTy
  | .hbm, ⟨0, _⟩ => ⟨S512x2048, .bf16⟩
  | .hbm, ⟨1, _⟩ => ⟨S2048x3328, .bf16⟩
  | .hbm, ⟨2, _⟩ => ⟨S512x3328, .f32⟩
  | .local _ .vmem, ⟨0, _⟩ => ⟨S512x2048, .bf16⟩
  | .local _ .vmem, ⟨1, _⟩ => ⟨S2048x1664, .bf16⟩
  | .local _ .vmem, ⟨2, _⟩ => ⟨S2048x1664, .bf16⟩
  | .local _ .vmem, ⟨3, _⟩ => ⟨S512x1664, .f32⟩
  | .local _ .vmem, ⟨4, _⟩ => ⟨S512x1664, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S512x2048 : Shape := ⟨2, ![512, 2048]⟩
abbrev S2048x3328 : Shape := ⟨2, ![2048, 3328]⟩
abbrev S512x3328 : Shape := ⟨2, ![512, 3328]⟩

abbrev nBuf : Space → Nat
  | .hbm => 5
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S2048x3328, .bf16⟩
  | .hbm, ⟨2, _⟩ => ⟨S512x2048, .f32⟩
  | .hbm, ⟨3, _⟩ => ⟨S2048x3328, .f32⟩
  | .hbm, ⟨4, _⟩ => ⟨S512x3328, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S512x2048, .bf16⟩
  | .hbm, ⟨1, _⟩ => ⟨S2048x1024, .bf16⟩
  | .hbm, ⟨2, _⟩ => ⟨S512x1024, .f32⟩
  | .local _ .vmem, ⟨0, _⟩ => ⟨S512x2048, .bf16⟩
  | .local _ .vmem, ⟨1, _⟩ => ⟨S2048x1024, .bf16⟩
  | .local _ .vmem, ⟨2, _⟩ => ⟨S512x1024, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference17Ideal.lean ====
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S2048x1024, .bf16⟩
  | .hbm, ⟨2, _⟩ => ⟨S512x2048, .f32⟩
  | .hbm, ⟨3, _⟩ => ⟨S2048x1024, .f32⟩
  | .hbm, ⟨4, _⟩ => ⟨S512x1024, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S512x2048 : Shape := ⟨2, ![512, 2048]⟩
abbrev S2048x6144 : Shape := ⟨2, ![2048, 6144]⟩
abbrev S512x6144 : Shape := ⟨2, ![512, 6144]⟩
abbrev S2048x1024 : Shape := ⟨2, ![2048, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S512x2048, .bf16⟩
  | .hbm, ⟨1, _⟩ => ⟨S2048x6144, .bf16⟩
  | .hbm, ⟨2, _⟩ => ⟨S512x6144, .f32⟩
  | .local _ .vmem, ⟨0, _⟩ => ⟨S512x2048, .bf16⟩
  | .local _ .vmem, ⟨1, _⟩ => ⟨S2048x1024, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S512x2048 : Shape := ⟨2, ![512, 2048]⟩
abbrev S2048x6144 : Shape := ⟨2, ![2048, 6144]⟩
abbrev S512x6144 : Shape := ⟨2, ![512, 6144]⟩

abbrev nBuf : Space → Nat
  | .hbm => 5
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S2048x6144, .bf16⟩
  | .hbm, ⟨2, _⟩ => ⟨S512x2048, .f32⟩
  | .hbm, ⟨3, _⟩ => ⟨S2048x6144, .f32⟩
  | .hbm, ⟨4, _⟩ => ⟨S512x6144, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel19.lean ====
abbrev S512x1024 : Shape := ⟨2, ![512, 1024]⟩
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S512x1024, .bf16⟩
  | .hbm, ⟨1, _⟩ => ⟨S512x1024, .bf16⟩
  | .hbm, ⟨2, _⟩ => ⟨S2048x2048, .bf16⟩
  | .hbm, ⟨3, _⟩ => ⟨S512x2048, .f32⟩
  | .hbm, ⟨4, _⟩ => ⟨S512x2048, .f32⟩
  | .local _ .vmem, ⟨0, _⟩ => ⟨S512x1024, .bf16⟩
  | .local _ .vmem, ⟨1, _⟩ => ⟨S512x1024, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference19Ideal.lean ====
abbrev S512x1024 : Shape := ⟨2, ![512, 1024]⟩
abbrev S2048x2048 : Shape := ⟨2, ![2048, 2048]⟩
abbrev S512x2048 : Shape := ⟨2, ![512, 2048]⟩

abbrev nBuf : Space → Nat
  | .hbm => 9
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x1024, .bf16⟩
  | .hbm, ⟨2, _⟩ => ⟨S2048x2048, .bf16⟩
  | .hbm, ⟨3, _⟩ => ⟨S512x2048, .f32⟩
  | .hbm, ⟨4, _⟩ => ⟨S512x2048, .bf16⟩
  | .hbm, ⟨5, _⟩ => ⟨S512x2048, .f32⟩
  | .hbm, ⟨6, _⟩ => ⟨S2048x2048, .f32⟩
  | .hbm, ⟨7, _⟩ => ⟨S512x2048, .f32⟩
  | .hbm, ⟨8, _⟩ => ⟨S512x2048, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel20.lean ====
abbrev S512x2048 : Shape := ⟨2, ![512, 2048]⟩
abbrev S2048x2048 : Shape := ⟨2, ![2048, 2048]⟩
abbrev S2048x512 : Shape := ⟨2, ![2048, 512]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S512x2048, .bf16⟩
  | .hbm, ⟨1, _⟩ => ⟨S2048x2048, .bf16⟩
  | .hbm, ⟨2, _⟩ => ⟨S512x2048, .f32⟩
  | .hbm, ⟨3, _⟩ => ⟨S512x2048, .f32⟩
  | .local _ .vmem, ⟨0, _⟩ => ⟨S512x2048, .bf16⟩
  | .local _ .vmem, ⟨1, _⟩ => ⟨S2048x512, .bf16⟩
  | .local _ .vmem, ⟨2, _⟩ => ⟨S2048x512, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference20Ideal.lean ====
abbrev S512x2048 : Shape := ⟨2, ![512, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S2048x2048, .bf16⟩
  | .hbm, ⟨2, _⟩ => ⟨S512x2048, .f32⟩
  | .hbm, ⟨3, _⟩ => ⟨S512x2048, .f32⟩
  | .hbm, ⟨4, _⟩ => ⟨S2048x2048, .f32⟩
  | .hbm, ⟨5, _⟩ => ⟨S512x2048, .f32⟩
  | .hbm, ⟨6, _⟩ => ⟨S512x2048, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel21.lean ====
abbrev S512x2048 : Shape := ⟨2, ![512, 2048]⟩
abbrev S2048 : Shape := ⟨1, ![2048]⟩
abbrev S1x2048 : Shape := ⟨2, ![1, 2048]⟩
abbrev S512 : Shape := ⟨1, ![512]⟩
abbrev S512x1 : Shape := ⟨2, ![512, 1]⟩

abbrev nBuf : Space → Nat
  | .hbm => 4
  | .vmem => 3
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S1x2048, .f32⟩
  | .hbm, ⟨3, _⟩ => ⟨S512x2048, .f32⟩
  | .local _ .vmem, ⟨0, _⟩ => ⟨S512x2048, .f32⟩
  | .local _ .vmem, ⟨1, _⟩ => ⟨S1x2048, .f32⟩
  | .local _ .vmem, ⟨2, _⟩ => ⟨S512x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def k0_mult1 (i : grid0.Coords) : BitVec 32 :=
  let arg0 : BitVec 32 := BitVec.ofNat 32 (i 0).val
  let c512_i32 : BitVec 32 := 512#32
  let v0 : BitVec 32 := Scalar.muli arg0 c512_i32
  let c0_i32 : BitVec 32 := 0#32
  let v1 : BitVec 32 := Scalar.addi v0 c0_i32
  v1
def cc0_transform_0 (i : grid0.Coords) : Fin 2 → Nat :=
  let arg0 : BitVec 32 := BitVec.ofNat 32 (i 0).val
  let c512_i32 : BitVec 32 := 512#32
  let v0 : BitVec 32 := Scalar.muli arg0 c512_i32
  let c0_i32 : BitVec 32 := 0#32
  let v1 : BitVec 32 := Scalar.addi v0 c0_i32
  let v2 : BitVec 32 := v1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference21Ideal.lean ====
abbrev S512x2048 : Shape := ⟨2, ![512, 2048]⟩
abbrev S2048 : Shape := ⟨1, ![2048]⟩
abbrev S_ : Shape := ⟨0, ![]⟩
abbrev S512 : Shape := ⟨1, ![512]⟩
abbrev S512x1 : Shape := ⟨2, ![512, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S512x2048, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S512x2048, .f32⟩
  | .hbm, ⟨14, _⟩ => ⟨S512x2048, .f32⟩
  | .hbm, ⟨15, _⟩ => ⟨S1x2048, .f32⟩
  | .hbm, ⟨16, _⟩ => ⟨S512x2048, .f32⟩
  | .hbm, ⟨17, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel22.lean ====
abbrev S512x2048 : Shape := ⟨2, ![512, 2048]⟩
abbrev S2048 : Shape := ⟨1, ![2048]⟩
abbrev S1x2048 : Shape := ⟨2, ![1, 2048]⟩
abbrev S512 : Shape := ⟨1, ![512]⟩
abbrev S512x1 : Shape := ⟨2, ![512, 1]⟩

abbrev nBuf : Space → Nat
  | .hbm => 4
  | .vmem => 3
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S1x2048, .f32⟩
  | .hbm, ⟨3, _⟩ => ⟨S512x2048, .bf16⟩
  | .local _ .vmem, ⟨0, _⟩ => ⟨S512x2048, .f32⟩
  | .local _ .vmem, ⟨1, _⟩ => ⟨S1x2048, .f32⟩
  | .local _ .vmem, ⟨2, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def k0_mult1 (i : grid0.Coords) : BitVec 32 :=
  let arg0 : BitVec 32 := BitVec.ofNat 32 (i 0).val
  let c512_i32 : BitVec 32 := 512#32
  let v0 : BitVec 32 := Scalar.muli arg0 c512_i32
  let c0_i32 : BitVec 32 := 0#32
  let v1 : BitVec 32 := Scalar.addi v0 c0_i32
  v1
def cc0_transform_0 (i : grid0.Coords) : Fin 2 → Nat :=
  let arg0 : BitVec 32 := BitVec.ofNat 32 (i 0).val
  let c512_i32 : BitVec 32 := 512#32
  let v0 : BitVec 32 := Scalar.muli arg0 c512_i32
  let c0_i32 : BitVec 32 := 0#32
  let v1 : BitVec 32 := Scalar.addi v0 c0_i32
  let v2 : BitVec 32 := v1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference22Ideal.lean ====
abbrev S512x2048 : Shape := ⟨2, ![512, 2048]⟩
abbrev S2048 : Shape := ⟨1, ![2048]⟩
abbrev S_ : Shape := ⟨0, ![]⟩
abbrev S512 : Shape := ⟨1, ![512]⟩
abbrev S512x1 : Shape := ⟨2, ![512, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S512x2048, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S512x2048, .f32⟩
  | .hbm, ⟨14, _⟩ => ⟨S512x2048, .f32⟩
  | .hbm, ⟨15, _⟩ => ⟨S1x2048, .f32⟩
  | .hbm, ⟨16, _⟩ => ⟨S512x2048, .f32⟩
  | .hbm, ⟨17, _⟩ => ⟨S512x2048, .f32⟩
  | .hbm, ⟨18, _⟩ => ⟨S512x2048, .bf16⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel23.lean ====
abbrev S512x3328 : Shape := ⟨2, ![512, 3328]⟩
abbrev S8 : Shape := ⟨1, ![8]⟩
abbrev S_ : Shape := ⟨0, ![]⟩
abbrev S1x128 : Shape := ⟨2, ![1, 128]⟩
abbrev S1 : Shape := ⟨1, ![1]⟩
abbrev S2 : Shape := ⟨1, ![2]⟩
abbrev S512x128 : Shape := ⟨2, ![512, 128]⟩
abbrev S8x512 : Shape := ⟨2, ![8, 512]⟩
abbrev S128x128 : Shape := ⟨2, ![128, 128]⟩
abbrev S8x128 : Shape := ⟨2, ![8, 128]⟩

abbrev nBuf : Space → Nat
  | .hbm => 12
  | .vmem => 8
  | .smem => 0
  | _ => 0

abbrev bufTy : (tb : Table) → Fin (tcTables nBuf tb) → BufTy
  | .hbm, ⟨0, _⟩ => ⟨S512x3328, .f32⟩
  | .hbm, ⟨1, _⟩ => ⟨S8, .f32⟩
  | .hbm, ⟨2, _⟩ => ⟨S_, .f32⟩
  | .hbm, ⟨3, _⟩ => ⟨S1x128, .f32⟩
  | .hbm, ⟨4, _⟩ => ⟨S_, .i32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S2, .i32⟩
  | .hbm, ⟨9, _⟩ => ⟨S1x128, .f32⟩
  | .hbm, ⟨10, _⟩ => ⟨S512x128, .f32⟩
  | .hbm, ⟨11, _⟩ => ⟨S8x512, .f32⟩
  | .local _ .vmem, ⟨0, _⟩ => ⟨S128x128, .f32⟩
  | .local _ .vmem, ⟨1, _⟩ => ⟨S128x128, .f32⟩
  | .local _ .vmem, ⟨2, _⟩ => ⟨S1x128, .f32⟩
  | .local _ .vmem, ⟨3, _⟩ => ⟨S128x128, .f32⟩
  | .local _ .vmem, ⟨4, _⟩ => ⟨S128x128, .f32⟩
  | .local _ .vmem, ⟨5, _⟩ => ⟨S8x128, .f32⟩
  | .local _ .vmem, ⟨6, _⟩ => ⟨S8x128, .f32⟩
  | .local _ .vmem, ⟨7, _⟩ => ⟨S1x128, .f32⟩
  | _, _ => ⟨S512x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c25_i32 : BitVec 32 := 25#32
  let c0_i32 : BitVec 32 := 0#32
  ![arg0.toNat, c25_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference23Ideal.lean ====
abbrev S512x3328 : Shape := ⟨2, ![512, 3328]⟩
abbrev S8 : Shape := ⟨1, ![8]⟩
abbrev S512x128 : Shape := ⟨2, ![512, 128]⟩
abbrev S_ : Shape := ⟨0, ![]⟩
abbrev S128 : Shape := ⟨1, ![128]⟩
abbrev S1x128 : Shape := ⟨2, ![1, 128]⟩
abbrev S512x8 : Shape := ⟨2, ![512, 8]⟩
abbrev S8x512 : Shape := ⟨2, ![8, 512]⟩

abbrev nBuf : Space → Nat
  | .hbm => 30
  | .vmem => 0
  | .smem => 0
  | _ => 0

abbrev bufTy : (tb : Table) → Fin (tcTables nBuf tb) → BufTy
  | .hbm, ⟨0, _⟩ => ⟨S512x3328, .f32⟩
  | .hbm, ⟨1, _⟩ => ⟨S8, .f32⟩
  | .hbm, ⟨2, _⟩ => ⟨S512x128, .f32⟩
  | .hbm, ⟨3, _⟩ => ⟨S_, .i32⟩
  | .hbm, ⟨4, _⟩ => ⟨S_, .f32⟩
  | .hbm, ⟨5, _⟩ => ⟨S128, .f32⟩
  | .hbm, ⟨6, _⟩ => ⟨S1x128, .f32⟩
  | .hbm, ⟨7, _⟩ => ⟨S512x128, .f32⟩
  | .hbm, ⟨8, _⟩ => ⟨S512x128, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S512x128, .i1⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S512x128, .f32⟩
  | .hbm, ⟨20, _⟩ => ⟨S512x128, .f32⟩
  | .hbm, ⟨21, _⟩ => ⟨S512x128, .f32⟩
  | .hbm, ⟨22, _⟩ => ⟨S512x128, .f32⟩
  | .hbm, ⟨23, _⟩ => ⟨S512x128, .f32⟩
  | .hbm, ⟨24, _⟩ => ⟨S512x128, .f32⟩
  | .hbm, ⟨25, _⟩ => ⟨S512x8, .f32⟩
  | .hbm, ⟨26, _⟩ => ⟨S_, .f32⟩
  | .hbm, ⟨27, _⟩ => ⟨S_, .f32⟩
  | .hbm, ⟨28, _⟩ => ⟨S512x8, .f32⟩
  | .hbm, ⟨29, _⟩ => ⟨S8x512, .f32⟩
  | _, _ => ⟨S512x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call1_v0 : Ref sig .tc := ⟨.hbm, 9, rfl⟩
abbrev main_call1_call0_cst : Ref sig .tc := ⟨.hbm, 10, rfl⟩
abbrev main_call1_call0_v0 : Ref sig .tc := ⟨.hbm, 11, rfl⟩
abbrev main_call1_call0_v1 : Ref sig .tc := ⟨.hbm, 12, rfl⟩
abbrev main_call1_call0_v2 : Ref sig .tc := ⟨.hbm, 13, rfl⟩
abbrev main_call1_call0_v3 : Ref sig .tc := ⟨.hbm, 14, rfl⟩
abbrev main_call1_call0_v4 : Ref sig .tc := ⟨.hbm, 15, rfl⟩
abbrev main_call1_call0_v5 : Ref sig .tc := ⟨.hbm, 16, rfl⟩
abbrev main_call1_call0_v6 : Ref sig .tc := ⟨.hbm, 17, rfl⟩
abbrev main_call1_call0_v7 : Ref sig .tc := ⟨.hbm, 18, rfl⟩
abbrev main_call1_call0_v8 : Ref sig .tc := ⟨.hbm, 19, rfl⟩
abbrev main_call1_call0_v9 : Ref sig .tc := ⟨.hbm, 20, rfl⟩
abbrev main_call1_call0_v10 : Ref sig .tc := ⟨.hbm, 21, rfl⟩
abbrev main_call1_call0_v11 : Ref sig .tc := ⟨.hbm, 22, rfl⟩
abbrev main_call1_v1 : Ref sig .tc := ⟨.hbm, 23, rfl⟩
abbrev main_v5 : Ref sig .tc := ⟨.hbm, 24, rfl⟩
abbrev main_v6 : Ref sig .tc := ⟨.hbm, 25, rfl⟩
abbrev main_call2_call0_cst : Ref sig .tc := ⟨.hbm, 26, rfl⟩
abbrev main_call2_call0_v0 : Ref sig .tc := ⟨.hbm, 27, rfl⟩
abbrev main_v7 : Ref sig .tc := ⟨.hbm, 28, rfl⟩
abbrev main_v8 : Ref sig .tc := ⟨.hbm, 29, rfl⟩

abbrev nD : Nat := 1
abbrev τ : Topo := Topo.v7x

variable {F : FTy → Type} [FloatOps F]
-- ==== Kernel24.lean ====
abbrev S512x6144 : Shape := ⟨2, ![512, 6144]⟩
abbrev S16x64 : Shape := ⟨2, ![16, 64]⟩
abbrev S8x16x4 : Shape := ⟨3, ![8, 16, 4]⟩
abbrev S16x8 : Shape := ⟨2, ![16, 8]⟩
abbrev S4x8 : Shape := ⟨2, ![4, 8]⟩
abbrev S32x8x128x256 : Shape := ⟨4, ![32, 8, 128, 256]⟩
abbrev S2048 : Shape := ⟨1, ![2048]⟩
abbrev S16x128 : Shape := ⟨2, ![16, 128]⟩
abbrev S_ : Shape := ⟨0, ![]⟩
abbrev S8x16x128 : Shape := ⟨3, ![8, 16, 128]⟩
abbrev S128x8 : Shape := ⟨2, ![128, 8]⟩
abbrev S16x8x128 : Shape := ⟨3, ![16, 8, 128]⟩
abbrev S16x1024 : Shape := ⟨2, ![16, 1024]⟩
abbrev S128x8x128 : Shape := ⟨3, ![128, 8, 128]⟩
abbrev S128x1024 : Shape := ⟨2, ![128, 1024]⟩
abbrev S1x2048 : Shape := ⟨2, ![1, 2048]⟩
abbrev S512x2048 : Shape := ⟨2, ![512, 2048]⟩
abbrev S16x2048 : Shape := ⟨2, ![16, 2048]⟩
abbrev S1x8x128x256 : Shape := ⟨4, ![1, 8, 128, 256]⟩
abbrev S8x128x256 : Shape := ⟨3, ![8, 128, 256]⟩
abbrev S112x128 : Shape := ⟨2, ![112, 128]⟩
abbrev S128x128 : Shape := ⟨2, ![128, 128]⟩
abbrev S16x256 : Shape := ⟨2, ![16, 256]⟩
abbrev S112x256 : Shape := ⟨2, ![112, 256]⟩
abbrev S128x256 : Shape := ⟨2, ![128, 256]⟩
abbrev S1x16x128 : Shape := ⟨3, ![1, 16, 128]⟩
abbrev S1x128x256 : Shape := ⟨3, ![1, 128, 256]⟩
abbrev S16 : Shape := ⟨1, ![16]⟩
abbrev S16x1 : Shape := ⟨2, ![16, 1]⟩
abbrev S1x256 : Shape := ⟨2, ![1, 256]⟩

abbrev nBuf : Space → Nat
  | .hbm => 24
  | .vmem => 21
  | .smem => 0
  | _ => 0

abbrev bufTy : (tb : Table) → Fin (tcTables nBuf tb) → BufTy
  | .hbm, ⟨0, _⟩ => ⟨S512x6144, .f32⟩
  | .hbm, ⟨1, _⟩ => ⟨S16x64, .f32⟩
  | .hbm, ⟨2, _⟩ => ⟨S16x64, .f32⟩
  | .hbm, ⟨3, _⟩ => ⟨S8x16x4, .f32⟩
  | .hbm, ⟨4, _⟩ => ⟨S16x8, .f32⟩
  | .hbm, ⟨5, _⟩ => ⟨S4x8, .f32⟩
  | .hbm, ⟨6, _⟩ => ⟨S32x8x128x256, .f32⟩
  | .hbm, ⟨7, _⟩ => ⟨S2048, .f32⟩
  | .hbm, ⟨8, _⟩ => ⟨S16x128, .f32⟩
  | .hbm, ⟨9, _⟩ => ⟨S16x64, .f32⟩
  | .hbm, ⟨10, _⟩ => ⟨S16x128, .f32⟩
  | .hbm, ⟨11, _⟩ => ⟨S_, .i32⟩
  | .hbm, ⟨12, _⟩ => ⟨S_, .f32⟩
  | .hbm, ⟨13, _⟩ => ⟨S8x16x128, .f32⟩
  | .hbm, ⟨14, _⟩ => ⟨S_, .i32⟩
  | .hbm, ⟨15, _⟩ => ⟨S_, .f32⟩
  | .hbm, ⟨16, _⟩ => ⟨S128x8, .f32⟩
  | .hbm, ⟨17, _⟩ => ⟨S16x8x128, .f32⟩
  | .hbm, ⟨18, _⟩ => ⟨S16x1024, .f32⟩
  | .hbm, ⟨19, _⟩ => ⟨S128x8x128, .f32⟩
  | .hbm, ⟨20, _⟩ => ⟨S128x1024, .f32⟩
  | .hbm, ⟨21, _⟩ => ⟨S1x2048, .f32⟩
  | .hbm, ⟨22, _⟩ => ⟨S512x2048, .bf16⟩
  | .hbm, ⟨23, _⟩ => ⟨S32x8x128x256, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x2048, .f32⟩
  | .local _ .vmem, ⟨5, _⟩ => ⟨S16x2048, .f32⟩
  | .local _ .vmem, ⟨6, _⟩ => ⟨S16x2048, .f32⟩
  | .local _ .vmem, ⟨7, _⟩ => ⟨S16x2048, .f32⟩
  | .local _ .vmem, ⟨8, _⟩ => ⟨S16x128, .f32⟩
  | .local _ .vmem, ⟨9, _⟩ => ⟨S16x128, .f32⟩
  | .local _ .vmem, ⟨10, _⟩ => ⟨S8x16x128, .f32⟩
  | .local _ .vmem, ⟨11, _⟩ => ⟨S16x1024, .f32⟩
  | .local _ .vmem, ⟨12, _⟩ => ⟨S128x1024, .f32⟩
  | .local _ .vmem, ⟨13, _⟩ => ⟨S1x2048, .f32⟩
  | .local _ .vmem, ⟨14, _⟩ => ⟨S1x8x128x256, .f32⟩
  | .local _ .vmem, ⟨15, _⟩ => ⟨S1x8x128x256, .f32⟩
  | .local _ .vmem, ⟨16, _⟩ => ⟨S16x2048, .bf16⟩
  | .local _ .vmem, ⟨17, _⟩ => ⟨S16x2048, .bf16⟩
  | .local _ .vmem, ⟨18, _⟩ => ⟨S1x8x128x256, .f32⟩
  | .local _ .vmem, ⟨19, _⟩ => ⟨S1x8x128x256, .f32⟩
  | .local _ .vmem, ⟨20, _⟩ => ⟨S8x128x256, .f32⟩
  | _, _ => ⟨S512x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_c_0 : Ref sig .tc := ⟨.hbm, 14, rfl⟩
abbrev main_call1_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_312 : BitVec 32 := 0#32
  let v599 : BitVec 1 := Scalar.cmpi .eq arg1 c0_i32_312
  let v600 : BitVec 32 := Scalar.extui v599
  let c0_i32_313 : BitVec 32 := 0#32
  let v601 : BitVec 1 := Scalar.cmpi .ne v600 c0_i32_313
  v601

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S8x16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x8x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S16x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference24Ideal.lean ====
abbrev S512x6144 : Shape := ⟨2, ![512, 6144]⟩
abbrev S16x64 : Shape := ⟨2, ![16, 64]⟩
abbrev S8x16x4 : Shape := ⟨3, ![8, 16, 4]⟩
abbrev S16x8 : Shape := ⟨2, ![16, 8]⟩
abbrev S4x8 : Shape := ⟨2, ![4, 8]⟩
abbrev S32x8x128x256 : Shape := ⟨4, ![32, 8, 128, 256]⟩
abbrev S2048 : Shape := ⟨1, ![2048]⟩
abbrev S8 : Shape := ⟨1, ![8]⟩
abbrev S32x16x6144 : Shape := ⟨3, ![32, 16, 6144]⟩
abbrev S32x16x1024 : Shape := ⟨3, ![32, 16, 1024]⟩
abbrev S32x16x2048 : Shape := ⟨3, ![32, 16, 2048]⟩
abbrev S32x16x8x128 : Shape := ⟨4, ![32, 16, 8, 128]⟩
abbrev S1x16x1x64 : Shape := ⟨4, ![1, 16, 1, 64]⟩
abbrev S32x16x8x64 : Shape := ⟨4, ![32, 16, 8, 64]⟩
abbrev S_ : Shape := ⟨0, ![]⟩
abbrev S32x4x8x128 : Shape := ⟨4, ![32, 4, 8, 128]⟩
abbrev S32x16x8x256 : Shape := ⟨4, ![32, 16, 8, 256]⟩
abbrev S32x4x8x256 : Shape := ⟨4, ![32, 4, 8, 256]⟩
abbrev S32x8x16x4 : Shape := ⟨4, ![32, 8, 16, 4]⟩
abbrev S1x8x16x4 : Shape := ⟨4, ![1, 8, 16, 4]⟩
abbrev S32x8x256x16 : Shape := ⟨4, ![32, 8, 256, 16]⟩
abbrev S1x16x8x1 : Shape := ⟨4, ![1, 16, 8, 1]⟩
abbrev S1x8x1x1 : Shape := ⟨4, ![1, 8, 1, 1]⟩
abbrev S1x4x8x1 : Shape := ⟨4, ![1, 4, 8, 1]⟩
abbrev S32x16x8 : Shape := ⟨3, ![32, 16, 8]⟩
abbrev S32x16x8x1 : Shape := ⟨4, ![32, 16, 8, 1]⟩
abbrev S8x256 : Shape := ⟨2, ![8, 256]⟩
abbrev S1x1x8x256 : Shape := ⟨4, ![1, 1, 8, 256]⟩
abbrev S512x2048 : Shape := ⟨2, ![512, 2048]⟩

abbrev nBuf : Space → Nat
  | .hbm => 102
  | .vmem => 0
  | .smem => 0
  | _ => 0

abbrev bufTy : (tb : Table) → Fin (tcTables nBuf tb) → BufTy
  | .hbm, ⟨0, _⟩ => ⟨S512x6144, .f32⟩
  | .hbm, ⟨1, _⟩ => ⟨S16x64, .f32⟩
  | .hbm, ⟨2, _⟩ => ⟨S16x64, .f32⟩
  | .hbm, ⟨3, _⟩ => ⟨S8x16x4, .f32⟩
  | .hbm, ⟨4, _⟩ => ⟨S16x8, .f32⟩
  | .hbm, ⟨5, _⟩ => ⟨S4x8, .f32⟩
  | .hbm, ⟨6, _⟩ => ⟨S32x8x128x256, .f32⟩
  | .hbm, ⟨7, _⟩ => ⟨S2048, .f32⟩
  | .hbm, ⟨8, _⟩ => ⟨S8, .f32⟩
  | .hbm, ⟨9, _⟩ => ⟨S32x16x6144, .f32⟩
  | .hbm, ⟨10, _⟩ => ⟨S32x16x1024, .f32⟩
  | .hbm, ⟨11, _⟩ => ⟨S32x16x1024, .f32⟩
  | .hbm, ⟨12, _⟩ => ⟨S32x16x2048, .f32⟩
  | .hbm, ⟨13, _⟩ => ⟨S32x16x2048, .f32⟩
  | .hbm, ⟨14, _⟩ => ⟨S32x16x8x128, .f32⟩
  | .hbm, ⟨15, _⟩ => ⟨S1x16x1x64, .f32⟩
  | .hbm, ⟨16, _⟩ => ⟨S1x16x1x64, .f32⟩
  | .hbm, ⟨17, _⟩ => ⟨S32x16x8x64, .f32⟩
  | .hbm, ⟨18, _⟩ => ⟨S32x16x8x64, .f32⟩
  | .hbm, ⟨19, _⟩ => ⟨S32x16x8x64, .f32⟩
  | .hbm, ⟨20, _⟩ => ⟨S32x16x8x64, .f32⟩
  | .hbm, ⟨21, _⟩ => ⟨S32x16x8x64, .f32⟩
  | .hbm, ⟨22, _⟩ => ⟨S32x16x8x64, .f32⟩
  | .hbm, ⟨23, _⟩ => ⟨S32x16x8x64, .f32⟩
  | .hbm, ⟨24, _⟩ => ⟨S32x16x8x64, .f32⟩
  | .hbm, ⟨25, _⟩ => ⟨S32x16x8x64, .f32⟩
  | .hbm, ⟨26, _⟩ => ⟨S32x16x8x64, .f32⟩
  | .hbm, ⟨27, _⟩ => ⟨S32x16x8x64, .f32⟩
  | .hbm, ⟨28, _⟩ => ⟨S32x16x8x64, .f32⟩
  | .hbm, ⟨29, _⟩ => ⟨S32x16x8x128, .f32⟩
  | .hbm, ⟨30, _⟩ => ⟨S_, .f32⟩
  | .hbm, ⟨31, _⟩ => ⟨S32x16x8x128, .f32⟩
  | .hbm, ⟨32, _⟩ => ⟨S32x16x8x128, .f32⟩
  | .hbm, ⟨33, _⟩ => ⟨S32x16x8x128, .f32⟩
  | .hbm, ⟨34, _⟩ => ⟨S1x16x1x64, .f32⟩
  | .hbm, ⟨35, _⟩ => ⟨S1x16x1x64, .f32⟩
  | .hbm, ⟨36, _⟩ => ⟨S32x16x8x64, .f32⟩
  | .hbm, ⟨37, _⟩ => ⟨S32x16x8x64, .f32⟩
  | .hbm, ⟨38, _⟩ => ⟨S32x16x8x64, .f32⟩
  | .hbm, ⟨39, _⟩ => ⟨S32x16x8x64, .f32⟩
  | .hbm, ⟨40, _⟩ => ⟨S32x16x8x64, .f32⟩
  | .hbm, ⟨41, _⟩ => ⟨S32x16x8x64, .f32⟩
  | .hbm, ⟨42, _⟩ => ⟨S32x16x8x64, .f32⟩
  | .hbm, ⟨43, _⟩ => ⟨S32x16x8x64, .f32⟩
  | .hbm, ⟨44, _⟩ => ⟨S32x16x8x64, .f32⟩
  | .hbm, ⟨45, _⟩ => ⟨S32x16x8x64, .f32⟩
  | .hbm, ⟨46, _⟩ => ⟨S32x16x8x64, .f32⟩
  | .hbm, ⟨47, _⟩ => ⟨S32x16x8x64, .f32⟩
  | .hbm, ⟨48, _⟩ => ⟨S32x16x8x128, .f32⟩
  | .hbm, ⟨49, _⟩ => ⟨S32x4x8x128, .f32⟩
  | .hbm, ⟨50, _⟩ => ⟨S32x16x8x256, .f32⟩
  | .hbm, ⟨51, _⟩ => ⟨S32x4x8x256, .f32⟩
  | .hbm, ⟨52, _⟩ => ⟨S32x8x16x4, .f32⟩
  | .hbm, ⟨53, _⟩ => ⟨S1x8x16x4, .f32⟩
  | .hbm, ⟨54, _⟩ => ⟨S32x8x16x4, .f32⟩
  | .hbm, ⟨55, _⟩ => ⟨S32x8x16x4, .f32⟩
  | .hbm, ⟨56, _⟩ => ⟨S32x8x256x16, .f32⟩
  | .hbm, ⟨57, _⟩ => ⟨S32x16x8x256, .f32⟩
  | .hbm, ⟨58, _⟩ => ⟨S1x16x8x1, .f32⟩
  | .hbm, ⟨59, _⟩ => ⟨S32x16x8x128, .f32⟩
  | .hbm, ⟨60, _⟩ => ⟨S32x16x8x128, .f32⟩
  | .hbm, ⟨61, _⟩ => ⟨S32x8x256x16, .f32⟩
  | .hbm, ⟨62, _⟩ => ⟨S32x16x8x256, .f32⟩
  | .hbm, ⟨63, _⟩ => ⟨S1x8x1x1, .f32⟩
  | .hbm, ⟨64, _⟩ => ⟨S32x8x128x256, .f32⟩
  | .hbm, ⟨65, _⟩ => ⟨S32x8x128x256, .f32⟩
  | .hbm, ⟨66, _⟩ => ⟨S1x4x8x1, .f32⟩
  | .hbm, ⟨67, _⟩ => ⟨S32x4x8x128, .f32⟩
  | .hbm, ⟨68, _⟩ => ⟨S32x4x8x128, .f32⟩
  | .hbm, ⟨69, _⟩ => ⟨S32x8x128x256, .f32⟩
  | .hbm, ⟨70, _⟩ => ⟨S32x8x128x256, .f32⟩
  | .hbm, ⟨71, _⟩ => ⟨S32x16x8x256, .f32⟩
  | .hbm, ⟨72, _⟩ => ⟨S32x16x8x256, .f32⟩
  | .hbm, ⟨73, _⟩ => ⟨S_, .f32⟩
  | .hbm, ⟨74, _⟩ => ⟨S32x16x8, .f32⟩
  | .hbm, ⟨75, _⟩ => ⟨S32x16x8x1, .f32⟩
  | .hbm, ⟨76, _⟩ => ⟨S_, .f32⟩
  | .hbm, ⟨77, _⟩ => ⟨S32x16x8x1, .f32⟩
  | .hbm, ⟨78, _⟩ => ⟨S32x16x8x1, .f32⟩
  | .hbm, ⟨79, _⟩ => ⟨S_, .f32⟩
  | .hbm, ⟨80, _⟩ => ⟨S32x16x8x1, .f32⟩
  | .hbm, ⟨81, _⟩ => ⟨S32x16x8x1, .f32⟩
  | .hbm, ⟨82, _⟩ => ⟨S32x16x8x1, .f32⟩
  | .hbm, ⟨83, _⟩ => ⟨S32x16x8x256, .f32⟩
  | .hbm, ⟨84, _⟩ => ⟨S32x16x8x256, .f32⟩
  | .hbm, ⟨85, _⟩ => ⟨S8x256, .f32⟩
  | .hbm, ⟨86, _⟩ => ⟨S1x1x8x256, .f32⟩
  | .hbm, ⟨87, _⟩ => ⟨S32x16x8x256, .f32⟩
  | .hbm, ⟨88, _⟩ => ⟨S32x16x8x256, .f32⟩
  | .hbm, ⟨89, _⟩ => ⟨S32x16x2048, .f32⟩
  | .hbm, ⟨90, _⟩ => ⟨S32x16x2048, .f32⟩
  | .hbm, ⟨91, _⟩ => ⟨S_, .f32⟩
  | .hbm, ⟨92, _⟩ => ⟨S32x16x2048, .f32⟩
  | .hbm, ⟨93, _⟩ => ⟨S32x16x2048, .f32⟩
  | .hbm, ⟨94, _⟩ => ⟨S_, .f32⟩
  | .hbm, ⟨95, _⟩ => ⟨S32x16x2048, .f32⟩
  | .hbm, ⟨96, _⟩ => ⟨S32x16x2048, .f32⟩
  | .hbm, ⟨97, _⟩ => ⟨S32x16x2048, .f32⟩
  | .hbm, ⟨98, _⟩ => ⟨S32x16x2048, .f32⟩
  | .hbm, ⟨99, _⟩ => ⟨S32x16x2048, .f32⟩
  | .hbm, ⟨100, _⟩ => ⟨S512x2048, .f32⟩
  | .hbm, ⟨101, _⟩ => ⟨S512x2048, .bf16⟩
  | _, _ => ⟨S512x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_1 : Ref sig .tc := ⟨.hbm, 73, rfl⟩
abbrev main_v63 : Ref sig .tc := ⟨.hbm, 74, rfl⟩
abbrev main_v64 : Ref sig .tc := ⟨.hbm, 75, rfl⟩
abbrev main_cst_2 : Ref sig .tc := ⟨.hbm, 76, rfl⟩
abbrev main_v65 : Ref sig .tc := ⟨.hbm, 77, rfl⟩
abbrev main_v66 : Ref sig .tc := ⟨.hbm, 78, rfl⟩
abbrev main_cst_3 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_call0_v0 : Ref sig .tc := ⟨.hbm, 89, rfl⟩
abbrev main_call0_v1 : Ref sig .tc := ⟨.hbm, 90, rfl⟩
abbrev main_call0_cst : Ref sig .tc := ⟨.hbm, 91, rfl⟩
abbrev main_call0_v2 : Ref sig .tc := ⟨.hbm, 92, rfl⟩
abbrev main_call0_v3 : Ref sig .tc := ⟨.hbm, 93, rfl⟩
abbrev main_call0_cst_0 : Ref sig .tc := ⟨.hbm, 94, rfl⟩
abbrev main_call0_v4 : Ref sig .tc := ⟨.hbm, 95, rfl⟩
abbrev main_call0_v5 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩

abbrev nD : Nat := 1
abbrev τ : Topo := Topo.v7x

variable {F : FTy → Type} [FloatOps F]
-- ==== Proof.NormValue.lean ====
/- The final row normalisation: what the kernel's grid leaves in its result array, at the ideal instance. Point `t` reads rows
   `1024 t + 128 … ` of the layer's output (the first 128 rows are dropped), normalises each row by its root mean square and
   scales it by the gains. The eight blocks tile the result, so the whole array is one function of the two arguments, which is
   the reference's. -/
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.RowNorm

/-- An element `x` of a row of 2048 whose squares sum to `q`, divided by the row's root mean square, times its gain `g`. -/
def normOf (q : EReal) (x g : Ideal .f32) : Ideal .f32 :=
  FloatOps.mulf (F := Ideal) (FloatOps.mulf (F := Ideal) x (FloatOps.rsqrt (F := Ideal) (FloatOps.addf (F := Ideal) (FloatOps.divf (F := Ideal)
    q (Scalar.ofBits (F := Ideal) .f32 0x45000000#32)) (Scalar.ofBits (F := Ideal) .f32 0x358637BD#32)))) g

/-- One element `x` of a row of 2048 after the normalisation. -/
abbrev normAt (row : Fin 2048 → EReal) (x g : Ideal .f32) : Ideal .f32 := normOf (∑ k : Fin 2048, row k * row k) x g

end Cert.RowNorm

namespace Cert.ReferenceIdeal.RefValue

open Cert.ReferenceIdeal Cert.ReferenceIdeal.Gen Cert.RowNorm Cert.ReferenceIdeal.Read

/-- The reference's result at an index: row `128 + r` of the input, normalised. -/
theorem ref_apply (x : (⟨S8320x2048, .f32⟩ : BufTy).Contents (Elt Ideal)) (g : (⟨S2048, .f32⟩ : BufTy).Contents (Elt Ideal)) (i : S8192x2048.Idx) :
    val_main_v13 (F := Ideal) x g i
      = normAt (fun k => x (idx_main_v1 (idx_main_v2 (idx_main_v8 (idx_main_v13 i))) k)) (x (idx_main_v13 i)) (g (idx_main_v10 (idx_main_v11 (idx_main_v13 i)))) := by
  rw [val_main_v13_apply, val_main_v12_apply, val_main_v9_apply, val_main_v8_apply, val_main_v7_apply, val_main_v6_apply, val_main_v4_apply,
    val_main_v2_apply, val_main_v1_apply, val_main_v3_apply, val_main_v5_apply, val_main_v11_apply, val_main_v10_apply,
    val_main_cst_apply, val_main_cst_0_apply, val_main_cst_1_apply]
  unfold normAt normOf
  simp only [val_main_v0_apply, Ideal.hostDivf_def, Ideal.divf_def, Ideal.mulf_def, Ideal.addf_def, Ideal.hostUnary_rsqrt_def, Ideal.rsqrt_def, Ideal.ofBits_def, Ideal.ofBits_zero_f32, zero_add]

end Cert.ReferenceIdeal.RefValue

namespace Cert.KernelIdeal.NormValue

open Cert.KernelIdeal Cert.KernelIdeal.Gen Cert.RowNorm

variable (m : (ℓ : Loc nD τ sig) → Buf (Elt Ideal) ℓ) (ρ : Dev nD → PrngReg)

/-- The whole result array: the reference's function of the two arguments. -/
abbrev G (c : Dev nD) : Buf (Elt Ideal) ((c : Thread nD τ).loc main_v1) :=
  Cert.ReferenceIdeal.Read.val_main_v13 (F := Ideal) (m ((c : Thread nD τ).loc main_arg0)) (m ((c : Thread nD τ).loc main_arg1))

theorem hz : (![0, 0] : Fin 2 → Nat) = fun _ => 0 := funext fun a => by fin_cases a <;> rfl

/-- Where the three windows' blocks begin at point `t`. -/
theorem off0 : ∀ t : Fin cfg0.N, (win0_0.rect t).off 0 = 1024 * t.val + 128 ∧ (win0_0.rect t).off 1 = 0 :=
  (by decide +kernel : ∀ t : Fin grid0.N, (win0_0.rect t).off 0 = 1024 * t.val + 128 ∧ (win0_0.rect t).off 1 = 0)
theorem off1 : ∀ t : Fin cfg0.N, (win0_1.rect t).off 0 = 0 ∧ (win0_1.rect t).off 1 = 0 :=
  (by decide +kernel : ∀ t : Fin grid0.N, (win0_1.rect t).off 0 = 0 ∧ (win0_1.rect t).off 1 = 0)
theorem off2 : ∀ t : Fin cfg0.N, (win0_2.rect t).off 0 = 1024 * t.val ∧ (win0_2.rect t).off 1 = 0 :=
  (by decide +kernel : ∀ t : Fin grid0.N, (win0_2.rect t).off 0 = 1024 * t.val ∧ (win0_2.rect t).off 1 = 0)

/-- Window 0's block at point `t`, element by element. -/
theorem iblk0_apply (c : Dev nD) (t : Fin cfg0.N) (j : S1024x2048.Idx) (i : S8320x2048.Idx)
    (h0 : (i 0).val = 1024 * t.val + 128 + (j 0).val) (h1 : (i 1).val = (j 1).val) :
    (iblk m c 0 t : Vec Ideal S1024x2048 .f32) j = m ((c : Thread nD τ).loc main_arg0) i := by
  unfold iblk
  rw [View.read_apply]
  show V m c main_arg0 _ = _
  rw [V_main_arg0]
  congr 1
  funext a
  apply Fin.ext
  match a with
  | ⟨0, _⟩ => show (win0_0.rect t).off 0 + 1 * (j 0).val = (i 0).val; rw [(off0 t).1]; omega
  | ⟨1, _⟩ => show (win0_0.rect t).off 1 + 1 * (j 1).val = (i 1).val; rw [(off0 t).2]; omega

/-- The gains as the region finds them: the argument as one row. -/
theorem V_v0 (c : Dev nD) (j : S1x2048.Idx) (i : S2048.Idx) (h : (i 0).val = (j 1).val) :
    (V m c main_v0 : Vec Ideal S1x2048 .f32) j = m ((c : Thread nD τ).loc main_arg1) i := by
  have e : (V m c main_v0 : Vec Ideal S1x2048 .f32) = shapeCast S1x2048 (m ((c : Thread nD τ).loc main_arg1) : Vec Ideal S2048 .f32) shapeCasts_S2048_S1x2048 := by
    unfold V hostOps0
    after_results
    rfl
  rw [e]
  refine shapeCast_apply _ _ j i ?_
  rw [Shape.rowMajor_val_one, Shape.rowMajor_val_two]
  have := (j 0).isLt
  show (i 0).val = (j 0).val * 2048 + (j 1).val
  have h0 : (j 0).val < 1 := (j 0).isLt
  omega

theorem iblk1_apply (c : Dev nD) (t : Fin cfg0.N) (j : S1x2048.Idx) (i : S2048.Idx) (h : (i 0).val = (j 1).val) :
    (iblk m c 1 t : Vec Ideal S1x2048 .f32) j = m ((c : Thread nD τ).loc main_arg1) i := by
  unfold iblk
  rw [View.read_apply]
  refine V_v0 m c _ i ?_
  show (i 0).val = (win0_1.rect t).off 1 + 1 * (j 1).val
  rw [(off1 t).2]; omega

/-- A row's sum is the sum over its 2048 columns. -/
theorem rowSum (src : FVec Ideal S1024x2048 .f32) (h : S1024x2048.Reduces [1] S1024) (hφ : FKind.Formats .f32)
    (hacc : 0x00000000#32 = FKind.add.neutral .f32 hφ) (r : S1024.Idx) :
    multiReduction .add [1] S1024 src 0x00000000#32 h hφ hacc r
      = ∑ k : Fin 2048, src (fun a => match a with | ⟨0, _⟩ => r 0 | ⟨1, _⟩ => k) := by
  refine (Ideal.multiReduction_add_single src _ h hφ hacc r).trans (Finset.sum_congr rfl fun k _ => congrArg src ?_)
  funext a
  apply Fin.ext
  match a with
  | ⟨0, _⟩ => rfl
  | ⟨1, _⟩ => rfl

/-- The body's payload at an index: that row, normalised. -/
theorem pay_apply (x0 : Vec Ideal S1024x2048 .f32) (x1 : Vec Ideal S1x2048 .f32) (j : S1024x2048.Idx) :
    out0_2 x0 x1 j = normAt (fun k => x0 (fun a => match a with | ⟨0, _⟩ => j 0 | ⟨1, _⟩ => k)) (x0 j)
      (x1 (fun a => match a with | ⟨0, _⟩ => ⟨0, Nat.one_pos⟩ | ⟨1, _⟩ => j 1)) := by
  unfold out0_2
  rw [View.ld_unit_zero hz, View.ld_unit_zero hz, Value.canon2_eq]
  rw [show Value.E2 x0 x1 j = normOf (multiReduction (F := Ideal) .add [1] S1024 (mulf x0 x0) 0x00000000#32 reduces_S1024x2048_S1024 (.inl rfl) rfl (Value.ix2_1 j))
    (x0 (Value.ix2_0 j)) (x1 (Value.ix2_2 j)) from rfl]
  rw [show Value.ix2_0 j = j from funext fun a => match a with | ⟨0, _⟩ => rfl | ⟨1, _⟩ => rfl]
  exact congrArg (fun q => normOf q _ _) (rowSum (mulf x0 x0) _ _ _ _)

/-- What point `t` writes back is block `t` of the reference's array. -/
theorem flushed_eq (c : Dev nD) (t : Fin cfg0.N) :
    (dats m 0 c).flushed 2 t = ((cfg0.win 2).blk t).view.read (Elt Ideal) (G m c) := by
  rw [Value.flushed2]
  funext j
  rw [View.read_apply]
  show out0_2 (iblk m c 0 t) (iblk m c 1 t) j = G m c ((win0_2.rect t).idx j)
  have hj0 : (j 0).val < 1024 := (j 0).isLt
  have e0 : (((win0_2.rect t).idx j) 0).val = 1024 * t.val + (j 0).val := by
    show (win0_2.rect t).off 0 + 1 * (j 0).val = _; rw [(off2 t).1]; omega
  have e1 : (((win0_2.rect t).idx j) 1).val = (j 1).val := by
    show (win0_2.rect t).off 1 + 1 * (j 1).val = _; rw [(off2 t).2]; omega
  rw [pay_apply]
  unfold G
  rw [Cert.ReferenceIdeal.RefValue.ref_apply]
  congr 1
  · funext k
    refine iblk0_apply m c t _ _ ?_ rfl
    show 128 + (((win0_2.rect t).idx j) 0).val = 1024 * t.val + 128 + (j 0).val
    omega
  · refine iblk0_apply m c t _ _ ?_ e1
    show 128 + (((win0_2.rect t).idx j) 0).val = 1024 * t.val + 128 + (j 0).val
    omega
  · exact iblk1_apply m c t _ _ e1

/-- The result's blocks tile its array: row `r` is in block `r / 1024`. -/
theorem cover (i : S8192x2048.Idx) : ∃ t : Fin cfg0.N, (cfg0.win 2).flush t = true ∧ i ∈ ((cfg0.win 2).blk t).view.set := by
  have h0 : (i 0 : Nat) < 8192 := (i 0).isLt
  have h1 : (i 1 : Nat) < 2048 := (i 1).isLt
  have hN : cfg0.N = 8 := N_0
  let t : Fin cfg0.N := ⟨(i 0).val / 1024, by omega⟩
  refine ⟨t, flush0_2 _, ?_⟩
  show i ∈ ((View.whole main_v1).slice (win0_2.rect t)).set
  rw [View.set_slice_whole, Rect.mem_set_unit]
  intro a
  match a with
  | ⟨0, _⟩ =>
    show (win0_2.rect t).off 0 ≤ (i 0 : Nat) ∧ (i 0 : Nat) < (win0_2.rect t).off 0 + 1024
    rw [(off2 _).1, show t.val = (i 0).val / 1024 from rfl]; omega
  | ⟨1, _⟩ =>
    show (win0_2.rect t).off 1 ≤ (i 1 : Nat) ∧ (i 1 : Nat) < (win0_2.rect t).off 1 + 2048
    rw [(off2 _).2]; omega

/-- So the result array ends at the reference's function of the arguments. -/
theorem final (c : Dev nD) : (dats m 0 c).arrAt 2 cfg0.N = G m c :=
  (dats m 0 c).arrAt_eq_of_cover 2 (G m c) (fun t _ => flushed_eq m c t) cover

end Cert.KernelIdeal.NormValue

namespace Cert.Proof.NormClaims

theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem algebraic : Cert.algebraic_KernelIdeal_ReferenceIdeal := by
  intro m ρ m' ρ' _ hag
  refine ⟨fun c => Cert.KernelIdeal.NormValue.G m c, ?_, ?_⟩
  · exact (θ_run Cert.KernelIdeal.defs _ _).mono (fun _ h c => ⟨(h c).1.trans (Cert.KernelIdeal.NormValue.final m c), (h c).2⟩)
      (Cert.KernelIdeal.Value.run_blocks (F := Ideal) m ρ)
  · refine (θ_run Cert.ReferenceIdeal.defs _ _).mono (fun _ h c => ⟨((h c).1.trans (Cert.ReferenceIdeal.Read.val_main_v13_eq _ _)).trans ?_, (h c).2⟩)
      (Cert.ReferenceIdeal.Value.run (F := Ideal) m' ρ')
    show _ = Cert.KernelIdeal.NormValue.G m c
    unfold Cert.KernelIdeal.NormValue.G
    rw [(hag c).1, (hag c).2]

end Cert.Proof.NormClaims

end
-- ==== Proof.RetPay.lean ====
module
public import proofs.«01_k».proof.Defs
public import proofs.«01_k».proof.Proof.Gen.Kernel2Ideal.Value
@[expose] public section
set_option maxRecDepth 16384
noncomputable section
open Idealize.ShloMosaic Idealize.ShloMosaic.TcCoe Idealize.SL.Sem
namespace Cert.Kernel2Ideal.RetValue
open Cert.Kernel2Ideal Cert.Kernel2Ideal.Gen Idealize.ShloMosaic.Tactic
variable {F : FTy → Type} [FloatOps F]

/-! What one chunk of the retention kernel leaves, head by head.

Every head of the chunk runs the same arithmetic on its own columns: the rotated and scaled query, the rotated key,
the two products with the values and with the state carried in, the state's update, the normalised and gated output.
The definitions below say that arithmetic once. -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The rotation of one head's columns: `x·cos + roll(x)·sin`. -/
def turn (cs sn x : Vec F S128x128 .f32) : FVec F S128x128 .f32 :=
  addf (mulf x (shapeCast S128x128 cs shapeCasts_S128x128_S128x128))
    (mulf (dynamicRotate 1 64#32 none x rotates_S128x128_d1) (shapeCast S128x128 sn shapeCasts_S128x128_S128x128))

/-- The rotated query, scaled. -/
def query (cs sn q : Vec F S128x128 .f32) : FVec F S128x128 .f32 :=
  mulf (turn cs sn q) (broadcast S128x128 (Scalar.ofBits .f32 0x3DB504F3#32))

/-- The chunk's own product: the decayed scores times the values. -/
def inner (qr kr : FVec F S128x128 .f32) (v : Vec F S128x256 .f32) (d : Vec F S1x128x128 .f32) : FVec F S128x256 .f32 :=
  matmul dot_S128x128_S128x256_S128x256_1_0_0_1_n_n none
    (truncf .bf16 (mulf (matmul dot_S128x128_S128x128_S128x128_1_1_0_0_n_n none (truncf .bf16 qr bitsLt_bf16_f32) (truncf .bf16 kr bitsLt_bf16_f32)
      (constant S128x128 .f32 0x00000000#32)) (shapeCast S128x128 d shapeCasts_S1x128x128_S128x128)) bitsLt_bf16_f32)
    (truncf .bf16 v bitsLt_bf16_f32) (constant S128x256 .f32 0x00000000#32)

/-- The product with the state carried in. -/
def cross (qr : FVec F S128x128 .f32) (qd : Vec F S128x128 .f32) (s : FVec F S128x256 .f32) : FVec F S128x256 .f32 :=
  matmul dot_S128x128_S128x256_S128x256_1_0_0_1_n_n none
    (truncf .bf16 (mulf qr (shapeCast S128x128 qd shapeCasts_S128x128_S128x128)) bitsLt_bf16_f32)
    (truncf .bf16 s bitsLt_bf16_f32) (constant S128x256 .f32 0x00000000#32)

/-- One head's rows, normalised by their root mean square and scaled by the gain. -/
def normed (o : FVec F S128x256 .f32) (gain : Vec F S1x256 .f32) : FVec F S128x256 .f32 :=
  mulf (mulf o (broadcastTo S128x256 (rsqrt (addf (divf (shapeCast S128x1
      (multiReduction .add [1] S128 (mulf o o) 0x00000000#32 reduces_S128x256_S128 (.inl rfl) rfl) shapeCasts_S128_S128x1)
      (broadcast S128x1 (Scalar.ofBits .f32 0x43800000#32))) (broadcast S128x1 (Scalar.ofBits .f32 0x358637BD#32)))) broadcasts_S128x1_S128x256))
    (broadcastTo S128x256 (shapeCast S1x256 gain shapeCasts_S1x256_S1x256) broadcasts_S1x256_S128x256)

/-- The gate: `g / (1 + exp (0 − g))`, as `g` times the quotient. -/
def gated (g : Vec F S128x256 .f32) (n : FVec F S128x256 .f32) : FVec F S128x256 .bf16 :=
  truncf .bf16 (mulf (mulf g (divf (broadcast S128x256 (Scalar.ofBits .f32 0x3F800000#32))
    (addf (broadcast S128x256 (Scalar.ofBits .f32 0x3F800000#32)) (exp (subf (broadcast S128x256 (Scalar.ofBits .f32 0x00000000#32)) g))))) n) bitsLt_bf16_f32

/-- One head's output rows. -/
def headOut (cs sn q k : Vec F S128x128 .f32) (v g : Vec F S128x256 .f32) (d : Vec F S1x128x128 .f32) (qd : Vec F S128x128 .f32)
    (gain : Vec F S1x256 .f32) (s : Vec F S1x128x256 .f32) : FVec F S128x256 .bf16 :=
  gated g (normed (addf (inner (query cs sn q) (turn cs sn k) v d) (cross (query cs sn q) qd (shapeCast S128x256 s shapeCasts_S1x128x256_S128x256))) gain)

/-- One head's state after the chunk. -/
def headState (cd : BitVec 32) (cs sn k : Vec F S128x128 .f32) (v : Vec F S128x256 .f32) (kd : Vec F S128x128 .f32) (s : Vec F S1x128x256 .f32) :
    FVec F S1x128x256 .f32 :=
  shapeCast S1x128x256 (addf (mulf (shapeCast S128x256 s shapeCasts_S1x128x256_S128x256) (broadcast S128x256 (Scalar.ofBits .f32 cd)))
    (matmul dot_S128x128_S128x256_S128x256_1_0_0_1_n_n none
      (truncf .bf16 (transpose S128x128 [1, 0] (mulf (turn cs sn k) (shapeCast S128x128 kd shapeCasts_S128x128_S128x128)) transposes_S128x128_p1_0_S128x128) bitsLt_bf16_f32)
      (truncf .bf16 v bitsLt_bf16_f32) (constant S128x256 .f32 0x00000000#32))) shapeCasts_S128x256_S1x128x256

/-- The chunk's output, as the eight blocks of columns the heads store. -/
def outPieces (x0 x1 : Vec F S128x1024 .f32) (x2 x3 : Vec F S128x2048 .f32) (x4 x5 : Vec F S128x128 .f32) (x6 : Vec F S8x128x128 .f32)
    (x7 : Vec F S128x1024 .f32) (x9 : Vec F S1x2048 .f32) (s : Vec F S8x128x256 .f32) : List (View.Piece (Elt F) S128x2048 .bf16) :=
  [⟨Rect.unit ![0, 1792] ![128, 256] inb_S128x2048_S128x256_0_1792, headOut x4 x5 (View.ld x0 (Rect.unit ![0, 896] ![128, 128] inb_S128x1024_S128x128_0_896)) (View.ld x1 (Rect.unit ![0, 896] ![128, 128] inb_S128x1024_S128x128_0_896)) (View.ld x2 (Rect.unit ![0, 1792] ![128, 256] inb_S128x2048_S128x256_0_1792)) (View.ld x3 (Rect.unit ![0, 1792] ![128, 256] inb_S128x2048_S128x256_0_1792)) (View.ld x6 (Rect.unit ![7, 0, 0] ![1, 128, 128] inb_S8x128x128_S1x128x128_7_0_0)) (View.ld x7 (Rect.unit ![0, 896] ![128, 128] inb_S128x1024_S128x128_0_896)) (View.ld x9 (Rect.unit ![0, 1792] ![1, 256] inb_S1x2048_S1x256_0_1792)) (View.ld s (Rect.unit ![7, 0, 0] ![1, 128, 256] inb_S8x128x256_S1x128x256_7_0_0))⟩,
   ⟨Rect.unit ![0, 1536] ![128, 256] inb_S128x2048_S128x256_0_1536, headOut x4 x5 (View.ld x0 (Rect.unit ![0, 768] ![128, 128] inb_S128x1024_S128x128_0_768)) (View.ld x1 (Rect.unit ![0, 768] ![128, 128] inb_S128x1024_S128x128_0_768)) (View.ld x2 (Rect.unit ![0, 1536] ![128, 256] inb_S128x2048_S128x256_0_1536)) (View.ld x3 (Rect.unit ![0, 1536] ![128, 256] inb_S128x2048_S128x256_0_1536)) (View.ld x6 (Rect.unit ![6, 0, 0] ![1, 128, 128] inb_S8x128x128_S1x128x128_6_0_0)) (View.ld x7 (Rect.unit ![0, 768] ![128, 128] inb_S128x1024_S128x128_0_768)) (View.ld x9 (Rect.unit ![0, 1536] ![1, 256] inb_S1x2048_S1x256_0_1536)) (View.ld s (Rect.unit ![6, 0, 0] ![1, 128, 256] inb_S8x128x256_S1x128x256_6_0_0))⟩,
   ⟨Rect.unit ![0, 1280] ![128, 256] inb_S128x2048_S128x256_0_1280, headOut x4 x5 (View.ld x0 (Rect.unit ![0, 640] ![128, 128] inb_S128x1024_S128x128_0_640)) (View.ld x1 (Rect.unit ![0, 640] ![128, 128] inb_S128x1024_S128x128_0_640)) (View.ld x2 (Rect.unit ![0, 1280] ![128, 256] inb_S128x2048_S128x256_0_1280)) (View.ld x3 (Rect.unit ![0, 1280] ![128, 256] inb_S128x2048_S128x256_0_1280)) (View.ld x6 (Rect.unit ![5, 0, 0] ![1, 128, 128] inb_S8x128x128_S1x128x128_5_0_0)) (View.ld x7 (Rect.unit ![0, 640] ![128, 128] inb_S128x1024_S128x128_0_640)) (View.ld x9 (Rect.unit ![0, 1280] ![1, 256] inb_S1x2048_S1x256_0_1280)) (View.ld s (Rect.unit ![5, 0, 0] ![1, 128, 256] inb_S8x128x256_S1x128x256_5_0_0))⟩,
   ⟨Rect.unit ![0, 1024] ![128, 256] inb_S128x2048_S128x256_0_1024, headOut x4 x5 (View.ld x0 (Rect.unit ![0, 512] ![128, 128] inb_S128x1024_S128x128_0_512)) (View.ld x1 (Rect.unit ![0, 512] ![128, 128] inb_S128x1024_S128x128_0_512)) (View.ld x2 (Rect.unit ![0, 1024] ![128, 256] inb_S128x2048_S128x256_0_1024)) (View.ld x3 (Rect.unit ![0, 1024] ![128, 256] inb_S128x2048_S128x256_0_1024)) (View.ld x6 (Rect.unit ![4, 0, 0] ![1, 128, 128] inb_S8x128x128_S1x128x128_4_0_0)) (View.ld x7 (Rect.unit ![0, 512] ![128, 128] inb_S128x1024_S128x128_0_512)) (View.ld x9 (Rect.unit ![0, 1024] ![1, 256] inb_S1x2048_S1x256_0_1024)) (View.ld s (Rect.unit ![4, 0, 0] ![1, 128, 256] inb_S8x128x256_S1x128x256_4_0_0))⟩,
   ⟨Rect.unit ![0, 768] ![128, 256] inb_S128x2048_S128x256_0_768, headOut x4 x5 (View.ld x0 (Rect.unit ![0, 384] ![128, 128] inb_S128x1024_S128x128_0_384)) (View.ld x1 (Rect.unit ![0, 384] ![128, 128] inb_S128x1024_S128x128_0_384)) (View.ld x2 (Rect.unit ![0, 768] ![128, 256] inb_S128x2048_S128x256_0_768)) (View.ld x3 (Rect.unit ![0, 768] ![128, 256] inb_S128x2048_S128x256_0_768)) (View.ld x6 (Rect.unit ![3, 0, 0] ![1, 128, 128] inb_S8x128x128_S1x128x128_3_0_0)) (View.ld x7 (Rect.unit ![0, 384] ![128, 128] inb_S128x1024_S128x128_0_384)) (View.ld x9 (Rect.unit ![0, 768] ![1, 256] inb_S1x2048_S1x256_0_768)) (View.ld s (Rect.unit ![3, 0, 0] ![1, 128, 256] inb_S8x128x256_S1x128x256_3_0_0))⟩,
   ⟨Rect.unit ![0, 512] ![128, 256] inb_S128x2048_S128x256_0_512, headOut x4 x5 (View.ld x0 (Rect.unit ![0, 256] ![128, 128] inb_S128x1024_S128x128_0_256)) (View.ld x1 (Rect.unit ![0, 256] ![128, 128] inb_S128x1024_S128x128_0_256)) (View.ld x2 (Rect.unit ![0, 512] ![128, 256] inb_S128x2048_S128x256_0_512)) (View.ld x3 (Rect.unit ![0, 512] ![128, 256] inb_S128x2048_S128x256_0_512)) (View.ld x6 (Rect.unit ![2, 0, 0] ![1, 128, 128] inb_S8x128x128_S1x128x128_2_0_0)) (View.ld x7 (Rect.unit ![0, 256] ![128, 128] inb_S128x1024_S128x128_0_256)) (View.ld x9 (Rect.unit ![0, 512] ![1, 256] inb_S1x2048_S1x256_0_512)) (View.ld s (Rect.unit ![2, 0, 0] ![1, 128, 256] inb_S8x128x256_S1x128x256_2_0_0))⟩,
   ⟨Rect.unit ![0, 256] ![128, 256] inb_S128x2048_S128x256_0_256, headOut x4 x5 (View.ld x0 (Rect.unit ![0, 128] ![128, 128] inb_S128x1024_S128x128_0_128)) (View.ld x1 (Rect.unit ![0, 128] ![128, 128] inb_S128x1024_S128x128_0_128)) (View.ld x2 (Rect.unit ![0, 256] ![128, 256] inb_S128x2048_S128x256_0_256)) (View.ld x3 (Rect.unit ![0, 256] ![128, 256] inb_S128x2048_S128x256_0_256)) (View.ld x6 (Rect.unit ![1, 0, 0] ![1, 128, 128] inb_S8x128x128_S1x128x128_1_0_0)) (View.ld x7 (Rect.unit ![0, 128] ![128, 128] inb_S128x1024_S128x128_0_128)) (View.ld x9 (Rect.unit ![0, 256] ![1, 256] inb_S1x2048_S1x256_0_256)) (View.ld s (Rect.unit ![1, 0, 0] ![1, 128, 256] inb_S8x128x256_S1x128x256_1_0_0))⟩,
   ⟨Rect.unit ![0, 0] ![128, 256] inb_S128x2048_S128x256_0_0, headOut x4 x5 (View.ld x0 (Rect.unit ![0, 0] ![128, 128] inb_S128x1024_S128x128_0_0)) (View.ld x1 (Rect.unit ![0, 0] ![128, 128] inb_S128x1024_S128x128_0_0)) (View.ld x2 (Rect.unit ![0, 0] ![128, 256] inb_S128x2048_S128x256_0_0)) (View.ld x3 (Rect.unit ![0, 0] ![128, 256] inb_S128x2048_S128x256_0_0)) (View.ld x6 (Rect.unit ![0, 0, 0] ![1, 128, 128] inb_S8x128x128_S1x128x128_0_0_0)) (View.ld x7 (Rect.unit ![0, 0] ![128, 128] inb_S128x1024_S128x128_0_0)) (View.ld x9 (Rect.unit ![0, 0] ![1, 256] inb_S1x2048_S1x256_0_0)) (View.ld s (Rect.unit ![0, 0, 0] ![1, 128, 256] inb_S8x128x256_S1x128x256_0_0_0))⟩]

/-- The state after the chunk, as the eight blocks the heads store. -/
def statePieces (x1 : Vec F S128x1024 .f32) (x2 : Vec F S128x2048 .f32) (x4 x5 : Vec F S128x128 .f32)
    (x8 : Vec F S128x1024 .f32) (s : Vec F S8x128x256 .f32) : List (View.Piece (Elt F) S8x128x256 .f32) :=
  [⟨Rect.unit ![7, 0, 0] ![1, 128, 256] inb_S8x128x256_S1x128x256_7_0_0, headState 0x3F781F6D#32 x4 x5 (View.ld x1 (Rect.unit ![0, 896] ![128, 128] inb_S128x1024_S128x128_0_896)) (View.ld x2 (Rect.unit ![0, 1792] ![128, 256] inb_S128x2048_S128x256_0_1792)) (View.ld x8 (Rect.unit ![0, 896] ![128, 128] inb_S128x1024_S128x128_0_896)) (View.ld s (Rect.unit ![7, 0, 0] ![1, 128, 256] inb_S8x128x256_S1x128x256_7_0_0))⟩,
   ⟨Rect.unit ![6, 0, 0] ![1, 128, 256] inb_S8x128x256_S1x128x256_6_0_0, headState 0x3F707C6F#32 x4 x5 (View.ld x1 (Rect.unit ![0, 768] ![128, 128] inb_S128x1024_S128x128_0_768)) (View.ld x2 (Rect.unit ![0, 1536] ![128, 256] inb_S128x2048_S128x256_0_1536)) (View.ld x8 (Rect.unit ![0, 768] ![128, 128] inb_S128x1024_S128x128_0_768)) (View.ld s (Rect.unit ![6, 0, 0] ![1, 128, 256] inb_S8x128x256_S1x128x256_6_0_0))⟩,
   ⟨Rect.unit ![5, 0, 0] ![1, 128, 256] inb_S8x128x256_S1x128x256_5_0_0, headState 0x3F61E7C9#32 x4 x5 (View.ld x1 (Rect.unit ![0, 640] ![128, 128] inb_S128x1024_S128x128_0_640)) (View.ld x2 (Rect.unit ![0, 1280] ![128, 256] inb_S128x2048_S128x256_0_1280)) (View.ld x8 (Rect.unit ![0, 640] ![128, 128] inb_S128x1024_S128x128_0_640)) (View.ld s (Rect.unit ![5, 0, 0] ![1, 128, 256] inb_S8x128x256_S1x128x256_5_0_0))⟩,
   ⟨Rect.unit ![4, 0, 0] ![1, 128, 256] inb_S8x128x256_S1x128x256_4_0_0, headState 0x3F475303#32 x4 x5 (View.ld x1 (Rect.unit ![0, 512] ![128, 128] inb_S128x1024_S128x128_0_512)) (View.ld x2 (Rect.unit ![0, 1024] ![128, 256] inb_S128x2048_S128x256_0_1024)) (View.ld x8 (Rect.unit ![0, 512] ![128, 128] inb_S128x1024_S128x128_0_512)) (View.ld s (Rect.unit ![4, 0, 0] ![1, 128, 256] inb_S8x128x256_S1x128x256_4_0_0))⟩,
   ⟨Rect.unit ![3, 0, 0] ![1, 128, 256] inb_S8x128x256_S1x128x256_3_0_0, headState 0x3F1B1EB1#32 x4 x5 (View.ld x1 (Rect.unit ![0, 384] ![128, 128] inb_S128x1024_S128x128_0_384)) (View.ld x2 (Rect.unit ![0, 768] ![128, 256] inb_S128x2048_S128x256_0_768)) (View.ld x8 (Rect.unit ![0, 384] ![128, 128] inb_S128x1024_S128x128_0_384)) (View.ld s (Rect.unit ![3, 0, 0] ![1, 128, 256] inb_S8x128x256_S1x128x256_3_0_0))⟩,
   ⟨Rect.unit ![2, 0, 0] ![1, 128, 256] inb_S8x128x256_S1x128x256_2_0_0, headState 0x3EBB9DB9#32 x4 x5 (View.ld x1 (Rect.unit ![0, 256] ![128, 128] inb_S128x1024_S128x128_0_256)) (View.ld x2 (Rect.unit ![0, 512] ![128, 256] inb_S128x2048_S128x256_0_512)) (View.ld x8 (Rect.unit ![0, 256] ![128, 128] inb_S128x1024_S128x128_0_256)) (View.ld s (Rect.unit ![2, 0, 0] ![1, 128, 256] inb_S8x128x256_S1x128x256_2_0_0))⟩,
   ⟨Rect.unit ![1, 0, 0] ![1, 128, 256] inb_S8x128x256_S1x128x256_1_0_0, headState 0x3E08698E#32 x4 x5 (View.ld x1 (Rect.unit ![0, 128] ![128, 128] inb_S128x1024_S128x128_0_128)) (View.ld x2 (Rect.unit ![0, 256] ![128, 256] inb_S128x2048_S128x256_0_256)) (View.ld x8 (Rect.unit ![0, 128] ![128, 128] inb_S128x1024_S128x128_0_128)) (View.ld s (Rect.unit ![1, 0, 0] ![1, 128, 256] inb_S8x128x256_S1x128x256_1_0_0))⟩,
   ⟨Rect.unit ![0, 0, 0] ![1, 128, 256] inb_S8x128x256_S1x128x256_0_0_0, headState 0x3C8CC36A#32 x4 x5 (View.ld x1 (Rect.unit ![0, 0] ![128, 128] inb_S128x1024_S128x128_0_0)) (View.ld x2 (Rect.unit ![0, 0] ![128, 256] inb_S128x2048_S128x256_0_0)) (View.ld x8 (Rect.unit ![0, 0] ![128, 128] inb_S128x1024_S128x128_0_0)) (View.ld s (Rect.unit ![0, 0, 0] ![1, 128, 256] inb_S8x128x256_S1x128x256_0_0_0))⟩]

theorem out0_B_11_eq (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S8x128x128 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S1x2048 .f32) (harg11 : arg11.IsWhole) (arg12 : Memref sig .tc .vmem S1x8x128x256 .f32) (harg12 : arg12.IsWhole) (arg13 : Memref sig .tc .vmem S128x2048 .bf16) (harg13 : arg13.IsWhole) (arg14 : Memref sig .tc .vmem S1x8x128x256 .f32) (harg14 : arg14.IsWhole) (arg15 : Memref sig .tc .vmem S8x128x256 .f32) (harg15 : arg15.IsWhole) (hc0 : ¬cond0_0 i) (hc1 : ¬cond0_1 i)
    (x0 : Vec F S128x1024 .f32) (x1 : Vec F S128x1024 .f32) (x2 : Vec F S128x2048 .f32) (x3 : Vec F S128x2048 .f32) (x4 : Vec F S128x128 .f32) (x5 : Vec F S128x128 .f32) (x6 : Vec F S8x128x128 .f32) (x7 : Vec F S128x1024 .f32) (x8 : Vec F S128x1024 .f32) (x9 : Vec F S1x2048 .f32) (x10 : Vec F S1x8x128x256 .f32) (xs0 : Vec F S8x128x256 .f32)  : out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 = View.canon (outPieces x0 x1 x2 x3 x4 x5 x6 x7 x9 xs0) := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S128x128) hz2]
  rfl

theorem sout0_B_0_eq (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S8x128x128 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S1x2048 .f32) (harg11 : arg11.IsWhole) (arg12 : Memref sig .tc .vmem S1x8x128x256 .f32) (harg12 : arg12.IsWhole) (arg13 : Memref sig .tc .vmem S128x2048 .bf16) (harg13 : arg13.IsWhole) (arg14 : Memref sig .tc .vmem S1x8x128x256 .f32) (harg14 : arg14.IsWhole) (arg15 : Memref sig .tc .vmem S8x128x256 .f32) (harg15 : arg15.IsWhole) (hc0 : ¬cond0_0 i) (hc1 : ¬cond0_1 i)
    (x0 : Vec F S128x1024 .f32) (x1 : Vec F S128x1024 .f32) (x2 : Vec F S128x2048 .f32) (x3 : Vec F S128x2048 .f32) (x4 : Vec F S128x128 .f32) (x5 : Vec F S128x128 .f32) (x6 : Vec F S8x128x128 .f32) (x7 : Vec F S128x1024 .f32) (x8 : Vec F S128x1024 .f32) (x9 : Vec F S1x2048 .f32) (x10 : Vec F S1x8x128x256 .f32) (xs0 : Vec F S8x128x256 .f32)  : sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 = View.canon (statePieces x1 x2 x4 x5 x8 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S128x128) hz2]
  rfl

theorem out0_C_11_eq (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S8x128x128 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S1x2048 .f32) (harg11 : arg11.IsWhole) (arg12 : Memref sig .tc .vmem S1x8x128x256 .f32) (harg12 : arg12.IsWhole) (arg13 : Memref sig .tc .vmem S128x2048 .bf16) (harg13 : arg13.IsWhole) (arg14 : Memref sig .tc .vmem S1x8x128x256 .f32) (harg14 : arg14.IsWhole) (arg15 : Memref sig .tc .vmem S8x128x256 .f32) (harg15 : arg15.IsWhole) (hc0 : ¬cond0_0 i) (hc1 : cond0_1 i)
    (x0 : Vec F S128x1024 .f32) (x1 : Vec F S128x1024 .f32) (x2 : Vec F S128x2048 .f32) (x3 : Vec F S128x2048 .f32) (x4 : Vec F S128x128 .f32) (x5 : Vec F S128x128 .f32) (x6 : Vec F S8x128x128 .f32) (x7 : Vec F S128x1024 .f32) (x8 : Vec F S128x1024 .f32) (x9 : Vec F S1x2048 .f32) (x10 : Vec F S1x8x128x256 .f32) (xs0 : Vec F S8x128x256 .f32)  : out0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 = View.canon (outPieces x0 x1 x2 x3 x4 x5 x6 x7 x9 xs0) := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0)]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S128x128) hz2]
  rfl

theorem sout0_C_0_eq (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S8x128x128 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S1x2048 .f32) (harg11 : arg11.IsWhole) (arg12 : Memref sig .tc .vmem S1x8x128x256 .f32) (harg12 : arg12.IsWhole) (arg13 : Memref sig .tc .vmem S128x2048 .bf16) (harg13 : arg13.IsWhole) (arg14 : Memref sig .tc .vmem S1x8x128x256 .f32) (harg14 : arg14.IsWhole) (arg15 : Memref sig .tc .vmem S8x128x256 .f32) (harg15 : arg15.IsWhole) (hc0 : ¬cond0_0 i) (hc1 : cond0_1 i)
    (x0 : Vec F S128x1024 .f32) (x1 : Vec F S128x1024 .f32) (x2 : Vec F S128x2048 .f32) (x3 : Vec F S128x2048 .f32) (x4 : Vec F S128x128 .f32) (x5 : Vec F S128x128 .f32) (x6 : Vec F S8x128x128 .f32) (x7 : Vec F S128x1024 .f32) (x8 : Vec F S128x1024 .f32) (x9 : Vec F S1x2048 .f32) (x10 : Vec F S1x8x128x256 .f32) (xs0 : Vec F S8x128x256 .f32)  : sout0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 = View.canon (statePieces x1 x2 x4 x5 x8 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0)]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S128x128) hz2]
  rfl

/-- A load of one head's block of the state passes over a store to another head's block; -/
theorem readCov_skip (v : View sig .tc .vmem S8x128x256 .f32) {a b : ℕ} (hab : a ≠ b)
    (ha : ∀ x, (![a, 0, 0] : Fin 3 → ℕ) x + (![1, 128, 256] : Fin 3 → ℕ) x ≤ S8x128x256.size x)
    (hb : ∀ x, (![b, 0, 0] : Fin 3 → ℕ) x + (![1, 128, 256] : Fin 3 → ℕ) x ≤ S8x128x256.size x)
    (w : (Rect.unit (s := S8x128x256) ![a, 0, 0] ![1, 128, 256] ha).shape.Idx → Elt F .f32) (L : List (View.Piece (Elt F) S8x128x256 .f32)) :
    v.readCov (⟨Rect.unit ![a, 0, 0] ![1, 128, 256] ha, w⟩ :: L) (Rect.unit ![b, 0, 0] ![1, 128, 256] hb).toLoadRect
      = v.readCov L (Rect.unit ![b, 0, 0] ![1, 128, 256] hb).toLoadRect := by
  rw [View.readCov_eq_canon', View.readCov_eq_canon']
  funext x
  refine View.canon_cons_of_not_mem _ _ fun hm => hab ?_
  have hm' : (Rect.unit (s := S8x128x256) ![b, 0, 0] ![1, 128, 256] hb).idx x ∈ (Rect.unit (s := S8x128x256) ![a, 0, 0] ![1, 128, 256] ha).set := hm
  rw [Rect.mem_set_unit] at hm'
  have h1 := hm' (0 : Fin 3)
  clear hm hm'
  have hx : (((Rect.unit (s := S8x128x256) ![b, 0, 0] ![1, 128, 256] hb).idx x) (0 : Fin 3)).val = b + 1 * (x 0).val := rfl
  have h2 : (x (0 : Fin 3)).val < 1 := (x (0 : Fin 3)).isLt
  have h3 : (![a, 0, 0] : Fin 3 → ℕ) 0 = a := rfl
  have h4 : (![1, 128, 256] : Fin 3 → ℕ) 0 = 1 := rfl
  omega

/-- and over the one store of the whole state it reads that state's block. -/
theorem readCov_whole (v : View sig .tc .vmem S8x128x256 .f32) {b : ℕ}
    (h0 : ∀ x, (![0, 0, 0] : Fin 3 → ℕ) x + S8x128x256.size x ≤ S8x128x256.size x)
    (hb : ∀ x, (![b, 0, 0] : Fin 3 → ℕ) x + (![1, 128, 256] : Fin 3 → ℕ) x ≤ S8x128x256.size x) (X : Vec F S8x128x256 .f32) :
    v.readCov [(⟨Rect.unit ![0, 0, 0] S8x128x256.size h0, X⟩ : View.Piece (Elt F) S8x128x256 .f32)] (Rect.unit ![b, 0, 0] ![1, 128, 256] hb).toLoadRect
      = View.ld X (Rect.unit ![b, 0, 0] ![1, 128, 256] hb) := by
  rw [View.readCov_eq_canon', View.canon_unit_zero hz3]

set_option maxHeartbeats 1000000 in
theorem sout0_A_0_eq (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S8x128x128 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S1x2048 .f32) (harg11 : arg11.IsWhole) (arg12 : Memref sig .tc .vmem S1x8x128x256 .f32) (harg12 : arg12.IsWhole) (arg13 : Memref sig .tc .vmem S128x2048 .bf16) (harg13 : arg13.IsWhole) (arg14 : Memref sig .tc .vmem S1x8x128x256 .f32) (harg14 : arg14.IsWhole) (arg15 : Memref sig .tc .vmem S8x128x256 .f32) (harg15 : arg15.IsWhole) (hc0 : cond0_0 i) (hc1 : ¬cond0_1 i)
    (x0 : Vec F S128x1024 .f32) (x1 : Vec F S128x1024 .f32) (x2 : Vec F S128x2048 .f32) (x3 : Vec F S128x2048 .f32) (x4 : Vec F S128x128 .f32) (x5 : Vec F S128x128 .f32) (x6 : Vec F S8x128x128 .f32) (x7 : Vec F S128x1024 .f32) (x8 : Vec F S128x1024 .f32) (x9 : Vec F S1x2048 .f32) (x10 : Vec F S1x8x128x256 .f32)  : sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = View.canon (statePieces x1 x2 x4 x5 x8 (k0_pay2 x10) ++ [⟨Rect.unit ![0, 0, 0] S8x128x256.size inb_S8x128x256_S8x128x256_0_0_0, k0_pay2 x10⟩]) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S128x128) hz2]
  simp (discharger := decide) only [↓readCov_skip, readCov_whole arg15.view, View.ld_unit_zero (S := S1x8x128x256) hz4]
  rfl

set_option maxHeartbeats 1000000 in
theorem out0_A_11_eq (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S8x128x128 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S1x2048 .f32) (harg11 : arg11.IsWhole) (arg12 : Memref sig .tc .vmem S1x8x128x256 .f32) (harg12 : arg12.IsWhole) (arg13 : Memref sig .tc .vmem S128x2048 .bf16) (harg13 : arg13.IsWhole) (arg14 : Memref sig .tc .vmem S1x8x128x256 .f32) (harg14 : arg14.IsWhole) (arg15 : Memref sig .tc .vmem S8x128x256 .f32) (harg15 : arg15.IsWhole) (hc0 : cond0_0 i) (hc1 : ¬cond0_1 i)
    (x0 : Vec F S128x1024 .f32) (x1 : Vec F S128x1024 .f32) (x2 : Vec F S128x2048 .f32) (x3 : Vec F S128x2048 .f32) (x4 : Vec F S128x128 .f32) (x5 : Vec F S128x128 .f32) (x6 : Vec F S8x128x128 .f32) (x7 : Vec F S128x1024 .f32) (x8 : Vec F S128x1024 .f32) (x9 : Vec F S1x2048 .f32) (x10 : Vec F S1x8x128x256 .f32)  : out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = View.canon (outPieces x0 x1 x2 x3 x4 x5 x6 x7 x9 (k0_pay2 x10)) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S128x128) hz2]
  simp (discharger := decide) only [↓readCov_skip, readCov_whole arg15.view, View.ld_unit_zero (S := S1x8x128x256) hz4]
  rfl

set_option maxHeartbeats 1000000 in
theorem out0_C_12_eq (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S8x128x128 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S1x2048 .f32) (harg11 : arg11.IsWhole) (arg12 : Memref sig .tc .vmem S1x8x128x256 .f32) (harg12 : arg12.IsWhole) (arg13 : Memref sig .tc .vmem S128x2048 .bf16) (harg13 : arg13.IsWhole) (arg14 : Memref sig .tc .vmem S1x8x128x256 .f32) (harg14 : arg14.IsWhole) (arg15 : Memref sig .tc .vmem S8x128x256 .f32) (harg15 : arg15.IsWhole) (hc0 : ¬cond0_0 i) (hc1 : cond0_1 i)
    (x0 : Vec F S128x1024 .f32) (x1 : Vec F S128x1024 .f32) (x2 : Vec F S128x2048 .f32) (x3 : Vec F S128x2048 .f32) (x4 : Vec F S128x128 .f32) (x5 : Vec F S128x128 .f32) (x6 : Vec F S8x128x128 .f32) (x7 : Vec F S128x1024 .f32) (x8 : Vec F S128x1024 .f32) (x9 : Vec F S1x2048 .f32) (x10 : Vec F S1x8x128x256 .f32) (xs0 : Vec F S8x128x256 .f32)  : out0_C_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 = shapeCast S1x8x128x256 (View.canon (statePieces x1 x2 x4 x5 x8 xs0)) shapeCasts_S8x128x256_S1x8x128x256 := by
  unfold out0_C_12
  rw [View.read_writes_eq_canon _ _ _ (cover0_C_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0)]
  unfold kernelRun0_C
  dsimp only
  sl_unfold_words
  rw [View.canon_unit_zero hz4, View.readCov_eq_canon']
  unfold k0_pay1
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S128x128) hz2]
  refine congrArg (fun q => shapeCast S1x8x128x256 q shapeCasts_S8x128x256_S1x8x128x256) ?_
  exact View.ld_unit_zero (S := S8x128x256) hz3 inb_S8x128x256_S8x128x256_0_0_0 (View.canon (statePieces x1 x2 x4 x5 x8 xs0))

end Cert.Kernel2Ideal.RetValue
end
-- ==== Proof.RetModel.lean ====
module
public import Idealize.ShloMosaic.PureOps.Ideal
public import Idealize.ShloMosaic.Lib.Pointwise
@[expose] public section
noncomputable section
open Idealize.ShloMosaic
namespace Cert.Ret

/-! Chunked retention, written once over plain functions of indices.

The rows are split into 65 chunks of 128; a head owns 128 columns of the queries and of the keys and 256 columns of the
values and of the gates. The state carried from chunk to chunk is one 128×256 matrix per head. -/

/-- Row `a` of chunk `n`. -/
def row (n : ℕ) (a : Fin 128) : Fin 8320 := ⟨(128 * n + a.val) % 8320, Nat.mod_lt _ (by decide)⟩

theorem row_val {n : ℕ} (hn : n < 65) (a : Fin 128) : (row n a).val = 128 * n + a.val := by
  have := a.isLt
  show (128 * n + a.val) % 8320 = _
  omega

/-- Column `d` of head `h` among the queries (`o = 0`) or the keys (`o = 1`). -/
def colQK (o : Fin 2) (h : Fin 8) (d : Fin 128) : Fin 6144 := ⟨1024 * o.val + (128 * h.val + d.val), by omega⟩

/-- Column `e` of head `h` among the values (`o = 0`) or the gates (`o = 1`). -/
def colVG (o : Fin 2) (h : Fin 8) (e : Fin 256) : Fin 6144 := ⟨2048 + 2048 * o.val + (256 * h.val + e.val), by omega⟩

/-- Column `d` of head `h`, heads of 128 columns. -/
def col1 (h : Fin 8) (d : Fin 128) : Fin 1024 := ⟨128 * h.val + d.val, by omega⟩

/-- Column `e` of head `h`, heads of 256 columns. -/
def col2 (h : Fin 8) (e : Fin 256) : Fin 2048 := ⟨256 * h.val + e.val, by omega⟩

/-- The rotation of a row's head: the first half of the columns is `x₁·cos − x₂·sin`, the second `x₁·sin + x₂·cos`. -/
def rot (x : Fin 128 → EReal) (c s : Fin 64 → EReal) (d : Fin 128) : EReal :=
  if hd : d.val < 64 then
    x d * c ⟨d.val, hd⟩ - x ⟨d.val + 64, by omega⟩ * s ⟨d.val, hd⟩
  else
    x ⟨d.val - 64, by omega⟩ * s ⟨d.val - 64, by omega⟩ + x d * c ⟨d.val - 64, by omega⟩

/-- The same rotation with a cosine and a signed sine of full width, the partner column taken cyclically. -/
theorem rot_cyclic (x : Fin 128 → EReal) (c s : Fin 64 → EReal) (cw sw : Fin 128 → EReal)
    (hc : ∀ d, cw d = c ⟨d.val % 64, by omega⟩)
    (hs : ∀ d, sw d = if d.val < 64 then - s ⟨d.val % 64, by omega⟩ else s ⟨d.val % 64, by omega⟩) (d : Fin 128) :
    x d * cw d + x ⟨(d.val + 128 - 64) % 128, by omega⟩ * sw d = rot x c s d := by
  unfold rot
  rw [hc, hs]
  by_cases hd : d.val < 64
  · rw [if_pos hd, dif_pos hd, sub_eq_add_neg, mul_neg]
    have e1 : (⟨d.val % 64, by omega⟩ : Fin 64) = ⟨d.val, hd⟩ := Fin.ext (by show d.val % 64 = d.val; omega)
    have e2 : (⟨(d.val + 128 - 64) % 128, by omega⟩ : Fin 128) = ⟨d.val + 64, by omega⟩ :=
      Fin.ext (by show (d.val + 128 - 64) % 128 = d.val + 64; omega)
    rw [e1, e2]
  · rw [if_neg hd, dif_neg hd, add_comm]
    have e1 : (⟨d.val % 64, by omega⟩ : Fin 64) = ⟨d.val - 64, by omega⟩ :=
      Fin.ext (by show d.val % 64 = d.val - 64; omega)
    have e2 : (⟨(d.val + 128 - 64) % 128, by omega⟩ : Fin 128) = ⟨d.val - 64, by omega⟩ :=
      Fin.ext (by show (d.val + 128 - 64) % 128 = d.val - 64; omega)
    rw [e1, e2]

/-- One head of one chunk before the normalisation: its own decayed scores times the values, plus the decayed queries
times the state carried in. -/
def headSum (q k : Fin 128 → Fin 128 → EReal) (v : Fin 128 → Fin 256 → EReal) (D : Fin 128 → Fin 128 → EReal)
    (qd : Fin 128 → EReal) (S : Fin 128 → Fin 256 → EReal) (a : Fin 128) (e : Fin 256) : EReal :=
  (∑ b : Fin 128, (∑ d : Fin 128, q a d * k b d) * D a b * v b e) + ∑ d : Fin 128, q a d * qd a * S d e

/-- The head's update of the state. -/
def headStep (k : Fin 128 → Fin 128 → EReal) (v : Fin 128 → Fin 256 → EReal) (kd : Fin 128 → EReal) (cd : EReal)
    (S : Fin 128 → Fin 256 → EReal) (d : Fin 128) (e : Fin 256) : EReal :=
  S d e * cd + ∑ b : Fin 128, k b d * kd b * v b e

/-- The normalised and gated output of a row of a head. -/
def gate (o gain g : Fin 256 → EReal) (e : Fin 256) : EReal :=
  g e * Ideal.div 1 (1 + Ideal.exp (0 - g e)) *
    (o e * Ideal.rsqrt (Ideal.div (∑ x : Fin 256, o x * o x) (Ideal.ofBits .f32 0x43800000#32) + Ideal.ofBits .f32 0x358637BD#32) * gain e)

/-- The arrays retention takes. -/
structure Args where
  z : Fin 8320 → Fin 6144 → EReal
  cos : Fin 8320 → Fin 64 → EReal
  sin : Fin 8320 → Fin 64 → EReal
  dmask : Fin 8 → Fin 128 → Fin 128 → EReal
  qdec : Fin 128 → Fin 8 → EReal
  kdec : Fin 128 → Fin 8 → EReal
  s0 : Fin 8 → Fin 128 → Fin 256 → EReal
  gain : Fin 2048 → EReal

/-- The bits of the decay of a whole chunk, head by head. -/
def cdecBits : Fin 8 → BitVec 32 :=
  ![0x3C8CC36A#32, 0x3E08698E#32, 0x3EBB9DB9#32, 0x3F1B1EB1#32, 0x3F475303#32, 0x3F61E7C9#32, 0x3F707C6F#32, 0x3F781F6D#32]

namespace Args
variable (A : Args)

/-- The scaled, rotated queries. -/
def q (n : ℕ) (h : Fin 8) (a : Fin 128) (d : Fin 128) : EReal :=
  rot (fun d => A.z (row n a) (colQK 0 h d)) (A.cos (row n a)) (A.sin (row n a)) d * Ideal.ofBits .f32 0x3DB504F3#32

/-- The rotated keys. -/
def k (n : ℕ) (h : Fin 8) (a : Fin 128) (d : Fin 128) : EReal :=
  rot (fun d => A.z (row n a) (colQK 1 h d)) (A.cos (row n a)) (A.sin (row n a)) d

/-- The values. -/
def v (n : ℕ) (h : Fin 8) (a : Fin 128) (e : Fin 256) : EReal := A.z (row n a) (colVG 0 h e)

/-- The gates. -/
def g (n : ℕ) (h : Fin 8) (a : Fin 128) (e : Fin 256) : EReal := A.z (row n a) (colVG 1 h e)

/-- The state before chunk `n`. -/
def state : ℕ → Fin 8 → Fin 128 → Fin 256 → EReal
  | 0 => A.s0
  | n + 1 => fun h => headStep (A.k n h) (A.v n h) (fun b => A.kdec b h) (Ideal.ofBits .f32 (cdecBits h)) (state n h)

/-- A chunk's output before the normalisation. -/
def sum (n : ℕ) (h : Fin 8) : Fin 128 → Fin 256 → EReal :=
  headSum (A.q n h) (A.k n h) (A.v n h) (A.dmask h) (fun a => A.qdec a h) (A.state n h)

/-- A chunk's output. -/
def out (n : ℕ) (h : Fin 8) (a : Fin 128) (e : Fin 256) : EReal :=
  gate (A.sum n h a) (fun e => A.gain (col2 h e)) (A.g n h a) e

end Args
end Cert.Ret
end
-- ==== Proof.RetChunk.lean ====
module
public import proofs.«01_k».proof.Proof.RetPay
public import proofs.«01_k».proof.Proof.RetModel
public import Idealize.ShloMosaic.Lib.Pointwise
public import Idealize.ShloMosaic.Lib.Pipeline.CanonAppend
@[expose] public section
set_option maxRecDepth 16384
noncomputable section
open Idealize.ShloMosaic Idealize.ShloMosaic.TcCoe Idealize.SL.Sem
namespace Cert.Kernel2Ideal.RetValue
open Cert.Kernel2Ideal Cert.Kernel2Ideal.Gen Cert.Ret

/-! One chunk of the retention kernel over the extended reals, against the plain functions of `RetModel`. -/

variable (A : Args) (n : ℕ)

/-- The rotation of a head, from the wide cosine and the signed wide sine. -/
theorem turn_apply {cs sn x : Vec Ideal S128x128 .f32} {X : Fin 128 → Fin 128 → EReal} (hx : ∀ a d, x (ix2 a d) = X a d)
    (hc : ∀ a (d : Fin 128), cs (ix2 a d) = A.cos (row n a) ⟨d.val % 64, by omega⟩)
    (hs : ∀ a (d : Fin 128), sn (ix2 a d) = if d.val < 64 then - A.sin (row n a) ⟨d.val % 64, by omega⟩ else A.sin (row n a) ⟨d.val % 64, by omega⟩)
    (a d : Fin 128) : turn (F := Ideal) cs sn x (ix2 a d) = rot (X a) (A.cos (row n a)) (A.sin (row n a)) d := by
  pointwise [turn]
  rw [hx, hx]
  exact rot_cyclic (X a) _ _ (fun d => cs (ix2 a d)) (fun d => sn (ix2 a d)) (hc a) (hs a) d

/-- One head's output rows. -/
theorem headOut_apply {cs sn q k qd : Vec Ideal S128x128 .f32} {v g : Vec Ideal S128x256 .f32} {d : Vec Ideal S1x128x128 .f32}
    {gain : Vec Ideal S1x256 .f32} {s : Vec Ideal S1x128x256 .f32} (h : Fin 8)
    (hc : ∀ a (d : Fin 128), cs (ix2 a d) = A.cos (row n a) ⟨d.val % 64, by omega⟩)
    (hs : ∀ a (d : Fin 128), sn (ix2 a d) = if d.val < 64 then - A.sin (row n a) ⟨d.val % 64, by omega⟩ else A.sin (row n a) ⟨d.val % 64, by omega⟩)
    (hq : ∀ a d, q (ix2 a d) = A.z (row n a) (colQK 0 h d)) (hk : ∀ a d, k (ix2 a d) = A.z (row n a) (colQK 1 h d))
    (hv : ∀ a e, v (ix2 a e) = A.v n h a e) (hg : ∀ a e, g (ix2 a e) = A.g n h a e)
    (hd : ∀ a b, d (ix3 0 a b) = A.dmask h a b) (hqd : ∀ a d, qd (ix2 a d) = A.qdec a h)
    (hgain : ∀ e, gain (ix2 0 e) = A.gain (col2 h e)) (hst : ∀ d e, s (ix3 0 d e) = A.state n h d e)
    (a : Fin 128) (e : Fin 256) : headOut (F := Ideal) cs sn q k v g d qd gain s (ix2 a e) = A.out n h a e := by
  have hQ : ∀ a d, query (F := Ideal) cs sn q (ix2 a d) = A.q n h a d := fun a d => by
    pointwise [query]
    rw [turn_apply A n hq hc hs]; rfl
  have hK : ∀ a d, turn (F := Ideal) cs sn k (ix2 a d) = A.k n h a d := fun a d => turn_apply A n hk hc hs a d
  have hO : ∀ e, inner (F := Ideal) (query cs sn q) (turn cs sn k) v d (ix2 a e)
      + cross (F := Ideal) (query cs sn q) qd (shapeCast S128x256 s shapeCasts_S1x128x256_S128x256) (ix2 a e) = A.sum n h a e := fun e => by
    pointwise [inner, cross]
    simp only [hQ, hK, hv, hd, hqd, hst]; rfl
  pointwise [headOut, gated, normed]
  simp only [hO, hg, hgain]
  rfl

/-- One head's state after the chunk. -/
theorem headState_apply {cs sn k kd : Vec Ideal S128x128 .f32} {v : Vec Ideal S128x256 .f32} {s : Vec Ideal S1x128x256 .f32} (h : Fin 8)
    (hc : ∀ a (d : Fin 128), cs (ix2 a d) = A.cos (row n a) ⟨d.val % 64, by omega⟩)
    (hs : ∀ a (d : Fin 128), sn (ix2 a d) = if d.val < 64 then - A.sin (row n a) ⟨d.val % 64, by omega⟩ else A.sin (row n a) ⟨d.val % 64, by omega⟩)
    (hk : ∀ a d, k (ix2 a d) = A.z (row n a) (colQK 1 h d)) (hv : ∀ a e, v (ix2 a e) = A.v n h a e)
    (hkd : ∀ a d, kd (ix2 a d) = A.kdec a h) (hst : ∀ d e, s (ix3 0 d e) = A.state n h d e)
    (z : Fin 1) (d : Fin 128) (e : Fin 256) : headState (F := Ideal) (cdecBits h) cs sn k v kd s (ix3 z d e) = A.state (n + 1) h d e := by
  have hK : ∀ a d, turn (F := Ideal) cs sn k (ix2 a d) = A.k n h a d := fun a d => turn_apply A n hk hc hs a d
  pointwise [headState]
  simp only [hK, hv, hkd, hst]
  rfl

/-- A load of a block of columns, read at an index. -/
theorem ld_ix2 {e : EltTy} {R C r c o0 o1 : ℕ} (X : Vec Ideal ⟨2, ![R, C]⟩ e)
    (inb : ∀ x, (![o0, o1] : Fin 2 → ℕ) x + (![r, c] : Fin 2 → ℕ) x ≤ (⟨2, ![R, C]⟩ : Shape).size x)
    (a : Fin r) (d : Fin c) (a' : Fin R) (d' : Fin C) (h0 : a'.val = o0 + a.val) (h1 : d'.val = o1 + d.val) :
    View.ld X (Rect.unit (s := ⟨2, ![R, C]⟩) ![o0, o1] ![r, c] inb) (ix2 a d) = X (ix2 a' d') := by
  refine congrArg X (funext fun i => Fin.ext ?_)
  match i with
  | ⟨0, _⟩ => show o0 + 1 * a.val = a'.val; omega
  | ⟨1, _⟩ => show o1 + 1 * d.val = d'.val; omega

/-- A load of one matrix of a stack, read at an index. -/
theorem ld_ix3 {e : EltTy} {H R C o : ℕ} (X : Vec Ideal ⟨3, ![H, R, C]⟩ e)
    (inb : ∀ x, (![o, 0, 0] : Fin 3 → ℕ) x + (![1, R, C] : Fin 3 → ℕ) x ≤ (⟨3, ![H, R, C]⟩ : Shape).size x)
    (z : Fin 1) (a : Fin R) (d : Fin C) (h : Fin H) (h0 : h.val = o) :
    View.ld X (Rect.unit (s := ⟨3, ![H, R, C]⟩) ![o, 0, 0] ![1, R, C] inb) (ix3 z a d) = X (ix3 h a d) := by
  refine congrArg X (funext fun i => Fin.ext ?_)
  match i with
  | ⟨0, _⟩ => show o + 1 * z.val = h.val; omega
  | ⟨1, _⟩ => show 0 + 1 * a.val = a.val; omega
  | ⟨2, _⟩ => show 0 + 1 * d.val = d.val; omega

/-- The windows of chunk `n` hold its rows of the arrays. -/
structure Fed (x0 x1 : Vec Ideal S128x1024 .f32) (x2 x3 : Vec Ideal S128x2048 .f32) (x4 x5 : Vec Ideal S128x128 .f32) (x6 : Vec Ideal S8x128x128 .f32)
    (x7 x8 : Vec Ideal S128x1024 .f32) (x9 : Vec Ideal S1x2048 .f32) : Prop where
  q : ∀ a h d, x0 (ix2 a (col1 h d)) = A.z (row n a) (colQK 0 h d)
  k : ∀ a h d, x1 (ix2 a (col1 h d)) = A.z (row n a) (colQK 1 h d)
  v : ∀ a h e, x2 (ix2 a (col2 h e)) = A.z (row n a) (colVG 0 h e)
  g : ∀ a h e, x3 (ix2 a (col2 h e)) = A.z (row n a) (colVG 1 h e)
  cos : ∀ a (d : Fin 128), x4 (ix2 a d) = A.cos (row n a) ⟨d.val % 64, by omega⟩
  sin : ∀ a (d : Fin 128), x5 (ix2 a d) = if d.val < 64 then - A.sin (row n a) ⟨d.val % 64, by omega⟩ else A.sin (row n a) ⟨d.val % 64, by omega⟩
  dmask : ∀ h a b, x6 (ix3 h a b) = A.dmask h a b
  qdec : ∀ a h d, x7 (ix2 a (col1 h d)) = A.qdec a h
  kdec : ∀ a h d, x8 (ix2 a (col1 h d)) = A.kdec a h
  gain : ∀ e, x9 (ix2 0 e) = A.gain e

/-- The chunk's output block. -/
def outBlock : S128x2048.Idx → EReal := fun j =>
  A.out n ⟨(j 1).val / 256, by have : (j 1).val < 2048 := (j 1).isLt; omega⟩ (j 0) ⟨(j 1).val % 256, Nat.mod_lt _ (by decide)⟩

theorem outBlock_at (h : Fin 8) (j : S128x2048.Idx) (a : Fin 128) (e : Fin 256) (h0 : (j 0).val = a.val) (h1 : (j 1).val = 256 * h.val + e.val) :
    A.out n h a e = outBlock A n j := by
  unfold outBlock
  congr 1
  · exact Fin.ext (by show h.val = (j 1).val / 256; omega)
  · exact Fin.ext h0.symm
  · exact Fin.ext (by show e.val = (j 1).val % 256; omega)

/-- The state before chunk `n`, as an array. -/
def stateBlock : S8x128x256.Idx → EReal := fun j => A.state n (j 0) (j 1) (j 2)

theorem stateBlock_at (h : Fin 8) (j : S8x128x256.Idx) (d : Fin 128) (e : Fin 256) (h0 : (j 0).val = h.val) (h1 : (j 1).val = d.val)
    (h2 : (j 2).val = e.val) : A.state n h d e = stateBlock A n j := by
  unfold stateBlock
  congr 1
  · exact Fin.ext h0.symm
  · exact Fin.ext h1.symm
  · exact Fin.ext h2.symm

variable {A n} {x0 x1 : Vec Ideal S128x1024 .f32} {x2 x3 : Vec Ideal S128x2048 .f32} {x4 x5 : Vec Ideal S128x128 .f32} {x6 : Vec Ideal S8x128x128 .f32}
    {x7 x8 : Vec Ideal S128x1024 .f32} {x9 : Vec Ideal S1x2048 .f32} {s : Vec Ideal S8x128x256 .f32}

/-- One head's piece of the output. -/
theorem outPiece (H : Fed A n x0 x1 x2 x3 x4 x5 x6 x7 x8 x9) (hs : s = stateBlock A n) (h : Fin 8) {o1 o2 o3 : ℕ}
    (e1 : o1 = 128 * h.val) (e2 : o2 = 256 * h.val) (e3 : o3 = h.val)
    (b1 : ∀ x, (![0, o1] : Fin 2 → ℕ) x + (![128, 128] : Fin 2 → ℕ) x ≤ S128x1024.size x)
    (b2 : ∀ x, (![0, o2] : Fin 2 → ℕ) x + (![128, 256] : Fin 2 → ℕ) x ≤ S128x2048.size x)
    (b3 : ∀ x, (![0, o2] : Fin 2 → ℕ) x + (![1, 256] : Fin 2 → ℕ) x ≤ S1x2048.size x)
    (b4 : ∀ x, (![o3, 0, 0] : Fin 3 → ℕ) x + (![1, 128, 128] : Fin 3 → ℕ) x ≤ S8x128x128.size x)
    (b5 : ∀ x, (![o3, 0, 0] : Fin 3 → ℕ) x + (![1, 128, 256] : Fin 3 → ℕ) x ≤ S8x128x256.size x) (x : S128x256.Idx) :
    headOut (F := Ideal) x4 x5 (View.ld x0 (Rect.unit ![0, o1] ![128, 128] b1)) (View.ld x1 (Rect.unit ![0, o1] ![128, 128] b1))
      (View.ld x2 (Rect.unit ![0, o2] ![128, 256] b2)) (View.ld x3 (Rect.unit ![0, o2] ![128, 256] b2))
      (View.ld x6 (Rect.unit ![o3, 0, 0] ![1, 128, 128] b4)) (View.ld x7 (Rect.unit ![0, o1] ![128, 128] b1))
      (View.ld x9 (Rect.unit ![0, o2] ![1, 256] b3)) (View.ld s (Rect.unit ![o3, 0, 0] ![1, 128, 256] b5)) x
      = outBlock A n ((Rect.unit (s := S128x2048) ![0, o2] ![128, 256] b2).emb x) := by
  obtain ⟨a0, d0, rfl⟩ : ∃ (a0 : Fin 128) (d0 : Fin 256), x = ix2 a0 d0 := ⟨x 0, x 1, eq_ix2 x⟩
  have c1 : ∀ d : Fin 128, (col1 h d).val = o1 + d.val := fun d => by rw [e1]; rfl
  have c2 : ∀ e : Fin 256, (col2 h e).val = o2 + e.val := fun d => by rw [e2]; rfl
  have z0 : ∀ a : ℕ, a = 0 + a := fun a => (Nat.zero_add a).symm
  rw [headOut_apply A n h H.cos H.sin
    (fun a d => (ld_ix2 x0 b1 a d a (col1 h d) (z0 _) (c1 d)).trans (H.q a h d))
    (fun a d => (ld_ix2 x1 b1 a d a (col1 h d) (z0 _) (c1 d)).trans (H.k a h d))
    (fun a e => (ld_ix2 x2 b2 a e a (col2 h e) (z0 _) (c2 e)).trans (H.v a h e))
    (fun a e => (ld_ix2 x3 b2 a e a (col2 h e) (z0 _) (c2 e)).trans (H.g a h e))
    (fun a b => (ld_ix3 x6 b4 0 a b h e3.symm).trans (H.dmask h a b))
    (fun a d => (ld_ix2 x7 b1 a d a (col1 h d) (z0 _) (c1 d)).trans (H.qdec a h d))
    (fun e => (ld_ix2 x9 b3 0 e 0 (col2 h e) (z0 _) (c2 e)).trans (H.gain (col2 h e)))
    (fun d e => (ld_ix3 s b5 0 d e h e3.symm).trans (by rw [hs]; rfl))]
  refine outBlock_at A n h _ _ _ ?_ ?_
  · show 0 + 1 * a0.val = a0.val; omega
  · show o2 + 1 * d0.val = 256 * h.val + d0.val; omega

/-- One head's piece of the state. -/
theorem statePiece (H : Fed A n x0 x1 x2 x3 x4 x5 x6 x7 x8 x9) (hs : s = stateBlock A n) (h : Fin 8) {o1 o2 o3 : ℕ} {cd : BitVec 32}
    (e1 : o1 = 128 * h.val) (e2 : o2 = 256 * h.val) (e3 : o3 = h.val) (e4 : cd = cdecBits h)
    (b1 : ∀ x, (![0, o1] : Fin 2 → ℕ) x + (![128, 128] : Fin 2 → ℕ) x ≤ S128x1024.size x)
    (b2 : ∀ x, (![0, o2] : Fin 2 → ℕ) x + (![128, 256] : Fin 2 → ℕ) x ≤ S128x2048.size x)
    (b5 : ∀ x, (![o3, 0, 0] : Fin 3 → ℕ) x + (![1, 128, 256] : Fin 3 → ℕ) x ≤ S8x128x256.size x) (x : S1x128x256.Idx) :
    headState (F := Ideal) cd x4 x5 (View.ld x1 (Rect.unit ![0, o1] ![128, 128] b1))
      (View.ld x2 (Rect.unit ![0, o2] ![128, 256] b2)) (View.ld x8 (Rect.unit ![0, o1] ![128, 128] b1))
      (View.ld s (Rect.unit ![o3, 0, 0] ![1, 128, 256] b5)) x
      = stateBlock A (n + 1) ((Rect.unit (s := S8x128x256) ![o3, 0, 0] ![1, 128, 256] b5).emb x) := by
  obtain ⟨z0', a0, d0, rfl⟩ : ∃ (z0' : Fin 1) (a0 : Fin 128) (d0 : Fin 256), x = ix3 z0' a0 d0 := ⟨x 0, x 1, x 2, eq_ix3 x⟩
  have c1 : ∀ d : Fin 128, (col1 h d).val = o1 + d.val := fun d => by rw [e1]; rfl
  have c2 : ∀ e : Fin 256, (col2 h e).val = o2 + e.val := fun d => by rw [e2]; rfl
  have z0 : ∀ a : ℕ, a = 0 + a := fun a => (Nat.zero_add a).symm
  rw [e4, headState_apply A n h H.cos H.sin
    (fun a d => (ld_ix2 x1 b1 a d a (col1 h d) (z0 _) (c1 d)).trans (H.k a h d))
    (fun a e => (ld_ix2 x2 b2 a e a (col2 h e) (z0 _) (c2 e)).trans (H.v a h e))
    (fun a d => (ld_ix2 x8 b1 a d a (col1 h d) (z0 _) (c1 d)).trans (H.kdec a h d))
    (fun d e => (ld_ix3 s b5 0 d e h e3.symm).trans (by rw [hs]; rfl))]
  refine stateBlock_at A (n + 1) h _ _ _ ?_ ?_ ?_
  · show o3 + 1 * z0'.val = h.val; omega
  · show 0 + 1 * a0.val = a0.val; omega
  · show 0 + 1 * d0.val = d0.val; omega

theorem outPieces_at (H : Fed A n x0 x1 x2 x3 x4 x5 x6 x7 x8 x9) (hs : s = stateBlock A n) :
    ∀ p ∈ outPieces (F := Ideal) x0 x1 x2 x3 x4 x5 x6 x7 x9 s, ∀ x, p.2 x = outBlock A n (p.1.emb x) := by
  intro p hp x
  fin_cases hp
  · exact outPiece H hs 7 rfl rfl rfl _ _ _ _ _ x
  · exact outPiece H hs 6 rfl rfl rfl _ _ _ _ _ x
  · exact outPiece H hs 5 rfl rfl rfl _ _ _ _ _ x
  · exact outPiece H hs 4 rfl rfl rfl _ _ _ _ _ x
  · exact outPiece H hs 3 rfl rfl rfl _ _ _ _ _ x
  · exact outPiece H hs 2 rfl rfl rfl _ _ _ _ _ x
  · exact outPiece H hs 1 rfl rfl rfl _ _ _ _ _ x
  · exact outPiece H hs 0 rfl rfl rfl _ _ _ _ _ x

theorem statePieces_at (H : Fed A n x0 x1 x2 x3 x4 x5 x6 x7 x8 x9) (hs : s = stateBlock A n) :
    ∀ p ∈ statePieces (F := Ideal) x1 x2 x4 x5 x8 s, ∀ x, p.2 x = stateBlock A (n + 1) (p.1.emb x) := by
  intro p hp x
  fin_cases hp
  · exact statePiece H hs 7 rfl rfl rfl rfl _ _ _ x
  · exact statePiece H hs 6 rfl rfl rfl rfl _ _ _ x
  · exact statePiece H hs 5 rfl rfl rfl rfl _ _ _ x
  · exact statePiece H hs 4 rfl rfl rfl rfl _ _ _ x
  · exact statePiece H hs 3 rfl rfl rfl rfl _ _ _ x
  · exact statePiece H hs 2 rfl rfl rfl rfl _ _ _ x
  · exact statePiece H hs 1 rfl rfl rfl rfl _ _ _ x
  · exact statePiece H hs 0 rfl rfl rfl rfl _ _ _ x

/-- Every index of the output block is in one head's piece. -/
theorem outPieces_cover (y : S128x2048.Idx) : ∃ p ∈ outPieces (F := Ideal) x0 x1 x2 x3 x4 x5 x6 x7 x9 s, y ∈ p.1.set := by
  have h0 : (y 0).val < 128 := (y 0).isLt
  have h1 : (y 1).val < 2048 := (y 1).isLt
  have key : ∀ (o : ℕ) (b : ∀ x, (![0, o] : Fin 2 → ℕ) x + (![128, 256] : Fin 2 → ℕ) x ≤ S128x2048.size x), o ≤ (y 1).val → (y 1).val < o + 256 →
      y ∈ (Rect.unit (s := S128x2048) ![0, o] ![128, 256] b).set := fun o b l u => by
    rw [Rect.mem_set_unit]
    intro a
    match a with
    | ⟨0, _⟩ => exact ⟨Nat.zero_le _, by show (y 0).val < 0 + 128; omega⟩
    | ⟨1, _⟩ => exact ⟨l, u⟩
  unfold outPieces
  obtain h | h | h | h | h | h | h | h : (y 1).val / 256 = 7 ∨ (y 1).val / 256 = 6 ∨ (y 1).val / 256 = 5 ∨ (y 1).val / 256 = 4
      ∨ (y 1).val / 256 = 3 ∨ (y 1).val / 256 = 2 ∨ (y 1).val / 256 = 1 ∨ (y 1).val / 256 = 0 := by omega
  · exact ⟨_, List.mem_cons_self, key 1792 inb_S128x2048_S128x256_0_1792 (by omega) (by omega)⟩
  · exact ⟨_, (List.mem_cons_of_mem _ List.mem_cons_self), key 1536 inb_S128x2048_S128x256_0_1536 (by omega) (by omega)⟩
  · exact ⟨_, (List.mem_cons_of_mem _ (List.mem_cons_of_mem _ List.mem_cons_self)), key 1280 inb_S128x2048_S128x256_0_1280 (by omega) (by omega)⟩
  · exact ⟨_, (List.mem_cons_of_mem _ (List.mem_cons_of_mem _ (List.mem_cons_of_mem _ List.mem_cons_self))), key 1024 inb_S128x2048_S128x256_0_1024 (by omega) (by omega)⟩
  · exact ⟨_, (List.mem_cons_of_mem _ (List.mem_cons_of_mem _ (List.mem_cons_of_mem _ (List.mem_cons_of_mem _ List.mem_cons_self)))), key 768 inb_S128x2048_S128x256_0_768 (by omega) (by omega)⟩
  · exact ⟨_, (List.mem_cons_of_mem _ (List.mem_cons_of_mem _ (List.mem_cons_of_mem _ (List.mem_cons_of_mem _ (List.mem_cons_of_mem _ List.mem_cons_self))))), key 512 inb_S128x2048_S128x256_0_512 (by omega) (by omega)⟩
  · exact ⟨_, (List.mem_cons_of_mem _ (List.mem_cons_of_mem _ (List.mem_cons_of_mem _ (List.mem_cons_of_mem _ (List.mem_cons_of_mem _ (List.mem_cons_of_mem _ List.mem_cons_self)))))), key 256 inb_S128x2048_S128x256_0_256 (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), key 0 inb_S128x2048_S128x256_0_0 (by omega) (by omega)⟩

theorem statePieces_cover (y : S8x128x256.Idx) : ∃ p ∈ statePieces (F := Ideal) x1 x2 x4 x5 x8 s, y ∈ p.1.set := by
  have h0 : (y 0).val < 8 := (y 0).isLt
  have h1 : (y 1).val < 128 := (y 1).isLt
  have h2 : (y 2).val < 256 := (y 2).isLt
  have key : ∀ (o : ℕ) (b : ∀ x, (![o, 0, 0] : Fin 3 → ℕ) x + (![1, 128, 256] : Fin 3 → ℕ) x ≤ S8x128x256.size x), (y 0).val = o →
      y ∈ (Rect.unit (s := S8x128x256) ![o, 0, 0] ![1, 128, 256] b).set := fun o b l => by
    rw [Rect.mem_set_unit]
    intro a
    match a with
    | ⟨0, _⟩ => exact ⟨l.ge, by show (y 0).val < o + 1; omega⟩
    | ⟨1, _⟩ => exact ⟨Nat.zero_le _, by show (y 1).val < 0 + 128; omega⟩
    | ⟨2, _⟩ => exact ⟨Nat.zero_le _, by show (y 2).val < 0 + 256; omega⟩
  unfold statePieces
  obtain h | h | h | h | h | h | h | h : (y 0).val = 7 ∨ (y 0).val = 6 ∨ (y 0).val = 5 ∨ (y 0).val = 4
      ∨ (y 0).val = 3 ∨ (y 0).val = 2 ∨ (y 0).val = 1 ∨ (y 0).val = 0 := by omega
  · exact ⟨_, List.mem_cons_self, key 7 inb_S8x128x256_S1x128x256_7_0_0 h⟩
  · exact ⟨_, (List.mem_cons_of_mem _ List.mem_cons_self), key 6 inb_S8x128x256_S1x128x256_6_0_0 h⟩
  · exact ⟨_, (List.mem_cons_of_mem _ (List.mem_cons_of_mem _ List.mem_cons_self)), key 5 inb_S8x128x256_S1x128x256_5_0_0 h⟩
  · exact ⟨_, (List.mem_cons_of_mem _ (List.mem_cons_of_mem _ (List.mem_cons_of_mem _ List.mem_cons_self))), key 4 inb_S8x128x256_S1x128x256_4_0_0 h⟩
  · exact ⟨_, (List.mem_cons_of_mem _ (List.mem_cons_of_mem _ (List.mem_cons_of_mem _ (List.mem_cons_of_mem _ List.mem_cons_self)))), key 3 inb_S8x128x256_S1x128x256_3_0_0 h⟩
  · exact ⟨_, (List.mem_cons_of_mem _ (List.mem_cons_of_mem _ (List.mem_cons_of_mem _ (List.mem_cons_of_mem _ (List.mem_cons_of_mem _ List.mem_cons_self))))), key 2 inb_S8x128x256_S1x128x256_2_0_0 h⟩
  · exact ⟨_, (List.mem_cons_of_mem _ (List.mem_cons_of_mem _ (List.mem_cons_of_mem _ (List.mem_cons_of_mem _ (List.mem_cons_of_mem _ (List.mem_cons_of_mem _ List.mem_cons_self)))))), key 1 inb_S8x128x256_S1x128x256_1_0_0 h⟩
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), key 0 inb_S8x128x256_S1x128x256_0_0_0 h⟩

/-- The output block of a chunk. -/
theorem canon_out (H : Fed A n x0 x1 x2 x3 x4 x5 x6 x7 x8 x9) (hs : s = stateBlock A n) :
    View.canon (outPieces (F := Ideal) x0 x1 x2 x3 x4 x5 x6 x7 x9 s) = outBlock A n :=
  funext fun y => View.canon_apply_of_pieces (outBlock A n) _ (outPieces_at H hs) y (outPieces_cover y)

/-- The state after a chunk, whatever was stored before the heads' pieces. -/
theorem canon_state (H : Fed A n x0 x1 x2 x3 x4 x5 x6 x7 x8 x9) (hs : s = stateBlock A n) (L : List (View.Piece (Elt Ideal) S8x128x256 .f32)) :
    View.canon (statePieces (F := Ideal) x1 x2 x4 x5 x8 s ++ L) = stateBlock A (n + 1) :=
  funext fun y => View.canon_append_of_pieces (stateBlock A (n + 1)) L _ (statePieces_at H hs) y (statePieces_cover y)

end Cert.Kernel2Ideal.RetValue
end
-- ==== Proof.RetKernel.lean ====
module
public import proofs.«01_k».proof.Proof.RetChunk
public import Idealize.ShloMosaic.Lib.Pipeline.Value
@[expose] public section
set_option maxRecDepth 16384
noncomputable section
open Idealize.ShloMosaic Idealize.ShloMosaic.TcCoe Idealize.SL.Sem
namespace Cert.Kernel2Ideal.RetValue
open Cert.Kernel2Ideal Cert.Kernel2Ideal.Gen Cert.Kernel2Ideal.Value Cert.Ret

/-! What the retention kernel's grid leaves: point `n` is chunk `n`, its scratch holds the state after the chunk. -/

variable (m : (ℓ : Loc nD τ sig) → Buf (Elt Ideal) ℓ) (ρ : Dev nD → PrngReg)

/-- The arrays the program is launched with. -/
def args (c : Dev nD) : Args where
  z r k := (m ((c : Thread nD τ).loc main_arg0) : Vec Ideal S8320x6144 .f32) (ix2 r k)
  cos r d := (m ((c : Thread nD τ).loc main_arg1) : Vec Ideal S8320x64 .f32) (ix2 r d)
  sin r d := (m ((c : Thread nD τ).loc main_arg2) : Vec Ideal S8320x64 .f32) (ix2 r d)
  dmask h a b := (m ((c : Thread nD τ).loc main_arg3) : Vec Ideal S8x128x128 .f32) (ix3 h a b)
  qdec a h := (m ((c : Thread nD τ).loc main_arg4) : Vec Ideal S128x8 .f32) (ix2 a h)
  kdec a h := (m ((c : Thread nD τ).loc main_arg5) : Vec Ideal S128x8 .f32) (ix2 a h)
  s0 h d e := (m ((c : Thread nD τ).loc main_arg6) : Vec Ideal S1x8x128x256 .f32) (ix4 0 h d e)
  gain e := (m ((c : Thread nD τ).loc main_arg7) : Vec Ideal S2048 .f32) (ix1 e)

/-- Where the windows' blocks begin at a point. -/
theorem offs : ∀ t : Fin cfg0.N,
    ((win0_0.rect t).off 0 = 128 * t.val ∧ (win0_0.rect t).off 1 = 0) ∧ ((win0_1.rect t).off 0 = 128 * t.val ∧ (win0_1.rect t).off 1 = 1024)
    ∧ ((win0_2.rect t).off 0 = 128 * t.val ∧ (win0_2.rect t).off 1 = 2048) ∧ ((win0_3.rect t).off 0 = 128 * t.val ∧ (win0_3.rect t).off 1 = 4096)
    ∧ ((win0_4.rect t).off 0 = 128 * t.val ∧ (win0_4.rect t).off 1 = 0) ∧ ((win0_5.rect t).off 0 = 128 * t.val ∧ (win0_5.rect t).off 1 = 0) :=
  (by decide +kernel : ∀ t : Fin grid0.N,
    ((win0_0.rect t).off 0 = 128 * t.val ∧ (win0_0.rect t).off 1 = 0) ∧ ((win0_1.rect t).off 0 = 128 * t.val ∧ (win0_1.rect t).off 1 = 1024)
    ∧ ((win0_2.rect t).off 0 = 128 * t.val ∧ (win0_2.rect t).off 1 = 2048) ∧ ((win0_3.rect t).off 0 = 128 * t.val ∧ (win0_3.rect t).off 1 = 4096)
    ∧ ((win0_4.rect t).off 0 = 128 * t.val ∧ (win0_4.rect t).off 1 = 0) ∧ ((win0_5.rect t).off 0 = 128 * t.val ∧ (win0_5.rect t).off 1 = 0))
theorem offs' : ∀ t : Fin cfg0.N,
    (∀ a, (win0_6.rect t).off a = 0) ∧ (∀ a, (win0_7.rect t).off a = 0) ∧ (∀ a, (win0_8.rect t).off a = 0) ∧ (∀ a, (win0_9.rect t).off a = 0)
    ∧ (∀ a, (win0_10.rect t).off a = 0) :=
  (by decide +kernel : ∀ t : Fin grid0.N,
    (∀ a, (win0_6.rect t).off a = 0) ∧ (∀ a, (win0_7.rect t).off a = 0) ∧ (∀ a, (win0_8.rect t).off a = 0) ∧ (∀ a, (win0_9.rect t).off a = 0)
    ∧ (∀ a, (win0_10.rect t).off a = 0))

/-! The arrays prepared before the call. -/

theorem V_v0 (c : Dev nD) (r : Fin 8320) (d : Fin 128) :
    (V m c main_v0 : Vec Ideal S8320x128 .f32) (ix2 r d) = (args m c).cos r ⟨d.val % 64, by omega⟩ := by
  have e' : (V m c main_v0 : Vec Ideal S8320x128 .f32) = concatenate S8320x128 1
      [⟨S8320x64, (m ((c : Thread nD τ).loc main_arg1) : Vec Ideal S8320x64 .f32)⟩, ⟨S8320x64, (m ((c : Thread nD τ).loc main_arg1) : Vec Ideal S8320x64 .f32)⟩]
      concatenates_S8320x64_S8320x64_S8320x128_d1 := by
    unfold V hostOps0
    after_results
  rw [e']
  pointwise []
  split
  · exact congrArg ((args m c).cos r) (Fin.ext (by show d.val = d.val % 64; omega))
  · exact congrArg ((args m c).cos r) (Fin.ext (by show d.val - 64 = d.val % 64; omega))

theorem V_v2 (c : Dev nD) (r : Fin 8320) (d : Fin 128) :
    (V m c main_v2 : Vec Ideal S8320x128 .f32) (ix2 r d)
      = if d.val < 64 then - (args m c).sin r ⟨d.val % 64, by omega⟩ else (args m c).sin r ⟨d.val % 64, by omega⟩ := by
  have e' : (V m c main_v2 : Vec Ideal S8320x128 .f32) = concatenate (α := Ideal .f32) S8320x128 1
      [⟨S8320x64, Host.negf (F := Ideal) (φ := .f32) (m ((c : Thread nD τ).loc main_arg2) : Vec Ideal S8320x64 .f32)⟩, ⟨S8320x64, (m ((c : Thread nD τ).loc main_arg2) : Vec Ideal S8320x64 .f32)⟩]
      concatenates_S8320x64_S8320x64_S8320x128_d1 := by
    unfold V hostOps0
    after_results
  rw [e']
  pointwise []
  split
  · exact congrArg (fun x => - (args m c).sin r x) (Fin.ext (by show d.val = d.val % 64; omega))
  · exact congrArg ((args m c).sin r) (Fin.ext (by show d.val - 64 = d.val % 64; omega))

theorem V_v4 (c : Dev nD) (a : Fin 128) (h : Fin 8) (d : Fin 128) :
    (V m c main_v4 : Vec Ideal S128x1024 .f32) (ix2 a (col1 h d)) = (args m c).qdec a h := by
  have e' : (V m c main_v4 : Vec Ideal S128x1024 .f32) = shapeCast S128x1024 (broadcastInDim S128x8x128 ![0, 1] bcast_S128x8_S128x8x128_0_1
      (m ((c : Thread nD τ).loc main_arg4) : Vec Ideal S128x8 .f32)) shapeCasts_S128x8x128_S128x1024 := by
    unfold V hostOps0
    after_results
    rfl
  rw [e']
  pointwise []
  exact congrArg ((args m c).qdec a) (Fin.ext (by show (128 * h.val + d.val) / 128 = h.val; omega))

theorem V_v6 (c : Dev nD) (a : Fin 128) (h : Fin 8) (d : Fin 128) :
    (V m c main_v6 : Vec Ideal S128x1024 .f32) (ix2 a (col1 h d)) = (args m c).kdec a h := by
  have e' : (V m c main_v6 : Vec Ideal S128x1024 .f32) = shapeCast S128x1024 (broadcastInDim S128x8x128 ![0, 1] bcast_S128x8_S128x8x128_0_1
      (m ((c : Thread nD τ).loc main_arg5) : Vec Ideal S128x8 .f32)) shapeCasts_S128x8x128_S128x1024 := by
    unfold V hostOps0
    after_results
    rfl
  rw [e']
  pointwise []
  exact congrArg ((args m c).kdec a) (Fin.ext (by show (128 * h.val + d.val) / 128 = h.val; omega))

theorem V_v7 (c : Dev nD) (e : Fin 2048) :
    (V m c main_v7 : Vec Ideal S1x2048 .f32) (ix2 0 e) = (args m c).gain e := by
  have e' : (V m c main_v7 : Vec Ideal S1x2048 .f32) = shapeCast S1x2048 (m ((c : Thread nD τ).loc main_arg7) : Vec Ideal S2048 .f32) shapeCasts_S2048_S1x2048 := by
    unfold V hostOps0
    after_results
    rfl
  rw [e']
  pointwise []
  rfl

/-! The blocks of the windows. -/

theorem iblk0_at (c : Dev nD) (t : Fin cfg0.N) (a : Fin 128) (k : Fin 1024) (k' : Fin 6144) (hk : k'.val = 0 + k.val) :
    (iblk m c 0 t : Vec Ideal S128x1024 .f32) (ix2 a k) = (V m c main_arg0 : Vec Ideal S8320x6144 .f32) (ix2 (row t.val a) k') := by
  unfold iblk
  rw [View.read_apply]
  refine congrArg (V m c main_arg0 : Vec Ideal S8320x6144 .f32) (funext fun x => Fin.ext ?_)
  match x with
  | ⟨0, _⟩ => show (win0_0.rect t).off 0 + 1 * _ = _; rw [(offs t).1.1]; have hr := row_val (lt_of_lt_of_eq t.isLt N_0) a; show 128 * t.val + 1 * a.val = (row t.val a).val; omega
  | ⟨1, _⟩ => show (win0_0.rect t).off 1 + 1 * _ = _; rw [(offs t).1.2]; show 0 + 1 * k.val = k'.val; omega

theorem iblk1_at (c : Dev nD) (t : Fin cfg0.N) (a : Fin 128) (k : Fin 1024) (k' : Fin 6144) (hk : k'.val = 1024 + k.val) :
    (iblk m c 1 t : Vec Ideal S128x1024 .f32) (ix2 a k) = (V m c main_arg0 : Vec Ideal S8320x6144 .f32) (ix2 (row t.val a) k') := by
  unfold iblk
  rw [View.read_apply]
  refine congrArg (V m c main_arg0 : Vec Ideal S8320x6144 .f32) (funext fun x => Fin.ext ?_)
  match x with
  | ⟨0, _⟩ => show (win0_1.rect t).off 0 + 1 * _ = _; rw [(offs t).2.1.1]; have hr := row_val (lt_of_lt_of_eq t.isLt N_0) a; show 128 * t.val + 1 * a.val = (row t.val a).val; omega
  | ⟨1, _⟩ => show (win0_1.rect t).off 1 + 1 * _ = _; rw [(offs t).2.1.2]; show 1024 + 1 * k.val = k'.val; omega

theorem iblk2_at (c : Dev nD) (t : Fin cfg0.N) (a : Fin 128) (k : Fin 2048) (k' : Fin 6144) (hk : k'.val = 2048 + k.val) :
    (iblk m c 2 t : Vec Ideal S128x2048 .f32) (ix2 a k) = (V m c main_arg0 : Vec Ideal S8320x6144 .f32) (ix2 (row t.val a) k') := by
  unfold iblk
  rw [View.read_apply]
  refine congrArg (V m c main_arg0 : Vec Ideal S8320x6144 .f32) (funext fun x => Fin.ext ?_)
  match x with
  | ⟨0, _⟩ => show (win0_2.rect t).off 0 + 1 * _ = _; rw [(offs t).2.2.1.1]; have hr := row_val (lt_of_lt_of_eq t.isLt N_0) a; show 128 * t.val + 1 * a.val = (row t.val a).val; omega
  | ⟨1, _⟩ => show (win0_2.rect t).off 1 + 1 * _ = _; rw [(offs t).2.2.1.2]; show 2048 + 1 * k.val = k'.val; omega

theorem iblk3_at (c : Dev nD) (t : Fin cfg0.N) (a : Fin 128) (k : Fin 2048) (k' : Fin 6144) (hk : k'.val = 4096 + k.val) :
    (iblk m c 3 t : Vec Ideal S128x2048 .f32) (ix2 a k) = (V m c main_arg0 : Vec Ideal S8320x6144 .f32) (ix2 (row t.val a) k') := by
  unfold iblk
  rw [View.read_apply]
  refine congrArg (V m c main_arg0 : Vec Ideal S8320x6144 .f32) (funext fun x => Fin.ext ?_)
  match x with
  | ⟨0, _⟩ => show (win0_3.rect t).off 0 + 1 * _ = _; rw [(offs t).2.2.2.1.1]; have hr := row_val (lt_of_lt_of_eq t.isLt N_0) a; show 128 * t.val + 1 * a.val = (row t.val a).val; omega
  | ⟨1, _⟩ => show (win0_3.rect t).off 1 + 1 * _ = _; rw [(offs t).2.2.2.1.2]; show 4096 + 1 * k.val = k'.val; omega

theorem iblk4_at (c : Dev nD) (t : Fin cfg0.N) (a : Fin 128) (k : Fin 128) (k' : Fin 128) (hk : k'.val = 0 + k.val) :
    (iblk m c 4 t : Vec Ideal S128x128 .f32) (ix2 a k) = (V m c main_v0 : Vec Ideal S8320x128 .f32) (ix2 (row t.val a) k') := by
  unfold iblk
  rw [View.read_apply]
  refine congrArg (V m c main_v0 : Vec Ideal S8320x128 .f32) (funext fun x => Fin.ext ?_)
  match x with
  | ⟨0, _⟩ => show (win0_4.rect t).off 0 + 1 * _ = _; rw [(offs t).2.2.2.2.1.1]; have hr := row_val (lt_of_lt_of_eq t.isLt N_0) a; show 128 * t.val + 1 * a.val = (row t.val a).val; omega
  | ⟨1, _⟩ => show (win0_4.rect t).off 1 + 1 * _ = _; rw [(offs t).2.2.2.2.1.2]; show 0 + 1 * k.val = k'.val; omega

theorem iblk5_at (c : Dev nD) (t : Fin cfg0.N) (a : Fin 128) (k : Fin 128) (k' : Fin 128) (hk : k'.val = 0 + k.val) :
    (iblk m c 5 t : Vec Ideal S128x128 .f32) (ix2 a k) = (V m c main_v2 : Vec Ideal S8320x128 .f32) (ix2 (row t.val a) k') := by
  unfold iblk
  rw [View.read_apply]
  refine congrArg (V m c main_v2 : Vec Ideal S8320x128 .f32) (funext fun x => Fin.ext ?_)
  match x with
  | ⟨0, _⟩ => show (win0_5.rect t).off 0 + 1 * _ = _; rw [(offs t).2.2.2.2.2.1]; have hr := row_val (lt_of_lt_of_eq t.isLt N_0) a; show 128 * t.val + 1 * a.val = (row t.val a).val; omega
  | ⟨1, _⟩ => show (win0_5.rect t).off 1 + 1 * _ = _; rw [(offs t).2.2.2.2.2.2]; show 0 + 1 * k.val = k'.val; omega

theorem iblk6_at (c : Dev nD) (t : Fin cfg0.N) (h : Fin 8) (a b : Fin 128) :
    (iblk m c 6 t : Vec Ideal S8x128x128 .f32) (ix3 h a b) = (V m c main_arg3 : Vec Ideal S8x128x128 .f32) (ix3 h a b) := by
  unfold iblk
  rw [View.read_apply]
  refine congrArg (V m c main_arg3 : Vec Ideal S8x128x128 .f32) (funext fun x => Fin.ext ?_)
  match x with
  | ⟨0, _⟩ => show (win0_6.rect t).off 0 + 1 * _ = _; rw [(offs' t).1 0]; show 0 + 1 * h.val = h.val; omega
  | ⟨1, _⟩ => show (win0_6.rect t).off 1 + 1 * _ = _; rw [(offs' t).1 1]; show 0 + 1 * a.val = a.val; omega
  | ⟨2, _⟩ => show (win0_6.rect t).off 2 + 1 * _ = _; rw [(offs' t).1 2]; show 0 + 1 * b.val = b.val; omega

theorem iblk7_at (c : Dev nD) (t : Fin cfg0.N) (a : Fin 128) (k : Fin 1024) :
    (iblk m c 7 t : Vec Ideal S128x1024 .f32) (ix2 a k) = (V m c main_v4 : Vec Ideal S128x1024 .f32) (ix2 a k) := by
  unfold iblk
  rw [View.read_apply]
  refine congrArg (V m c main_v4 : Vec Ideal S128x1024 .f32) (funext fun x => Fin.ext ?_)
  match x with
  | ⟨0, _⟩ => show (win0_7.rect t).off 0 + 1 * _ = _; rw [(offs' t).2.1 0]; show 0 + 1 * a.val = a.val; omega
  | ⟨1, _⟩ => show (win0_7.rect t).off 1 + 1 * _ = _; rw [(offs' t).2.1 1]; show 0 + 1 * k.val = k.val; omega

theorem iblk8_at (c : Dev nD) (t : Fin cfg0.N) (a : Fin 128) (k : Fin 1024) :
    (iblk m c 8 t : Vec Ideal S128x1024 .f32) (ix2 a k) = (V m c main_v6 : Vec Ideal S128x1024 .f32) (ix2 a k) := by
  unfold iblk
  rw [View.read_apply]
  refine congrArg (V m c main_v6 : Vec Ideal S128x1024 .f32) (funext fun x => Fin.ext ?_)
  match x with
  | ⟨0, _⟩ => show (win0_8.rect t).off 0 + 1 * _ = _; rw [(offs' t).2.2.1 0]; show 0 + 1 * a.val = a.val; omega
  | ⟨1, _⟩ => show (win0_8.rect t).off 1 + 1 * _ = _; rw [(offs' t).2.2.1 1]; show 0 + 1 * k.val = k.val; omega

theorem iblk9_at (c : Dev nD) (t : Fin cfg0.N) (a : Fin 1) (k : Fin 2048) :
    (iblk m c 9 t : Vec Ideal S1x2048 .f32) (ix2 a k) = (V m c main_v7 : Vec Ideal S1x2048 .f32) (ix2 a k) := by
  unfold iblk
  rw [View.read_apply]
  refine congrArg (V m c main_v7 : Vec Ideal S1x2048 .f32) (funext fun x => Fin.ext ?_)
  match x with
  | ⟨0, _⟩ => show (win0_9.rect t).off 0 + 1 * _ = _; rw [(offs' t).2.2.2.1 0]; show 0 + 1 * a.val = a.val; omega
  | ⟨1, _⟩ => show (win0_9.rect t).off 1 + 1 * _ = _; rw [(offs' t).2.2.2.1 1]; show 0 + 1 * k.val = k.val; omega

theorem iblk10_at (c : Dev nD) (t : Fin cfg0.N) (z : Fin 1) (h : Fin 8) (d : Fin 128) (e : Fin 256) :
    (iblk m c 10 t : Vec Ideal S1x8x128x256 .f32) (ix4 z h d e) = (V m c main_arg6 : Vec Ideal S1x8x128x256 .f32) (ix4 z h d e) := by
  unfold iblk
  rw [View.read_apply]
  refine congrArg (V m c main_arg6 : Vec Ideal S1x8x128x256 .f32) (funext fun x => Fin.ext ?_)
  match x with
  | ⟨0, _⟩ => show (win0_10.rect t).off 0 + 1 * _ = _; rw [(offs' t).2.2.2.2 0]; show 0 + 1 * z.val = z.val; omega
  | ⟨1, _⟩ => show (win0_10.rect t).off 1 + 1 * _ = _; rw [(offs' t).2.2.2.2 1]; show 0 + 1 * h.val = h.val; omega
  | ⟨2, _⟩ => show (win0_10.rect t).off 2 + 1 * _ = _; rw [(offs' t).2.2.2.2 2]; show 0 + 1 * d.val = d.val; omega
  | ⟨3, _⟩ => show (win0_10.rect t).off 3 + 1 * _ = _; rw [(offs' t).2.2.2.2 3]; show 0 + 1 * e.val = e.val; omega

/-- Point `t`'s windows hold chunk `t`. -/
theorem fed (c : Dev nD) (t : Fin cfg0.N) :
    Fed (args m c) t.val (iblk m c 0 t) (iblk m c 1 t) (iblk m c 2 t) (iblk m c 3 t) (iblk m c 4 t) (iblk m c 5 t) (iblk m c 6 t)
      (iblk m c 7 t) (iblk m c 8 t) (iblk m c 9 t) where
  q a h d := (iblk0_at m c t a (col1 h d) (colQK 0 h d) (by show 1024 * 0 + (128 * h.val + d.val) = 0 + (128 * h.val + d.val); omega)).trans (by rw [V_main_arg0]; rfl)
  k a h d := (iblk1_at m c t a (col1 h d) (colQK 1 h d) (by show 1024 * 1 + (128 * h.val + d.val) = 1024 + (128 * h.val + d.val); omega)).trans (by rw [V_main_arg0]; rfl)
  v a h e := (iblk2_at m c t a (col2 h e) (colVG 0 h e) (by show 2048 + 2048 * 0 + (256 * h.val + e.val) = 2048 + (256 * h.val + e.val); omega)).trans (by rw [V_main_arg0]; rfl)
  g a h e := (iblk3_at m c t a (col2 h e) (colVG 1 h e) (by show 2048 + 2048 * 1 + (256 * h.val + e.val) = 4096 + (256 * h.val + e.val); omega)).trans (by rw [V_main_arg0]; rfl)
  cos a d := (iblk4_at m c t a d d (by omega)).trans (V_v0 m c _ d)
  sin a d := (iblk5_at m c t a d d (by omega)).trans (V_v2 m c _ d)
  dmask h a b := (iblk6_at m c t h a b).trans (by rw [V_main_arg3]; rfl)
  qdec a h d := (iblk7_at m c t a (col1 h d)).trans (V_v4 m c a h d)
  kdec a h d := (iblk8_at m c t a (col1 h d)).trans (V_v6 m c a h d)
  gain e := (iblk9_at m c t 0 e).trans (V_v7 m c e)

/-- The first point's initial store is the state handed in. -/
theorem entry (c : Dev nD) (t : Fin cfg0.N) : k0_pay2 (F := Ideal) (iblk m c 10 t) = stateBlock (args m c) 0 := by
  funext j
  obtain ⟨h, d, e, rfl⟩ : ∃ (h : Fin 8) (d : Fin 128) (e : Fin 256), j = ix3 h d e := ⟨j 0, j 1, j 2, eq_ix3 j⟩
  pointwise [k0_pay2]
  exact (iblk10_at m c t 0 h d e).trans (by rw [V_main_arg6]; rfl)

/-- After point `n`: the output block of chunk `n` and the state after it. -/
theorem outsAt_eq (c : Dev nD) : ∀ (n : ℕ) (hn : n < cfg0.N),
    (outsAt0 m c n hn).1 = outBlock (args m c) n ∧ (outsAt0 m c n hn).2.2 = stateBlock (args m c) (n + 1)
  | 0, hn => by
    have H := fed m c ⟨0, hn⟩
    have hs := entry m c ⟨0, hn⟩
    rw [outsAt0_A m c ⟨0, hn⟩ rfl (by decide : ¬ (0 % 65 = 64))]
    dsimp only
    rw [out0_A_11_eq, sout0_A_0_eq]
    exact ⟨canon_out H hs, canon_state H hs _⟩
  | n + 1, hn => by
    have H := fed m c ⟨n + 1, hn⟩
    have hs := (outsAt_eq c n (Nat.lt_of_succ_lt hn)).2
    have hN : n + 1 < 65 := lt_of_lt_of_eq hn N_0
    by_cases hl : (n + 1) % 65 = 64
    · rw [outsAt0_C m c ⟨n + 1, hn⟩ (by show ¬ ((n + 1) % 65 = 0); omega) hl]
      dsimp only
      rw [out0_C_11_eq, sout0_C_0_eq]
      exact ⟨canon_out H hs, (congrArg View.canon (List.append_nil _).symm).trans (canon_state H hs [])⟩
    · rw [outsAt0_B m c ⟨n + 1, hn⟩ (by show ¬ ((n + 1) % 65 = 0); omega) hl]
      dsimp only
      rw [out0_B_11_eq, sout0_B_0_eq]
      exact ⟨canon_out H hs, (congrArg View.canon (List.append_nil _).symm).trans (canon_state H hs [])⟩

/-- The output array: row `r` is a row of chunk `r / 128`. -/
theorem G11_apply (c : Dev nD) (i : S8320x2048.Idx) :
    (G11 m c : Vec Ideal S8320x2048 .bf16) i = outBlock (args m c) ((i 0).val / 128) (loc11Of i) := by
  have h0 : (i 0).val < 8320 := (i 0).isLt
  have h1 : (i 1).val < 2048 := (i 1).isLt
  have hp : pt11Of i = (i 0).val / 128 := by
    show 1 * ((i 0).val / 128 - 0) + 1 * ((i 1).val / 2048 - 0) = (i 0).val / 128
    omega
  have hN : pt11Of i < cfg0.N := by rw [hp]; exact lt_of_lt_of_eq (by omega : _ < 65) N_0.symm
  show G11 m c i = _
  unfold G11
  rw [dif_pos hN, ← outsAt0_sweep m c _ hN, (outsAt_eq m c _ hN).1, hp]

/-- The state array: the state after the last chunk. -/
theorem G12_apply (c : Dev nD) (z : Fin 1) (h : Fin 8) (d : Fin 128) (e : Fin 256) :
    (G12 m c : Vec Ideal S1x8x128x256 .f32) (ix4 z h d e) = (args m c).state 65 h d e := by
  have hN : 64 < cfg0.N := lt_of_lt_of_eq (by decide) N_0.symm
  have hs := (outsAt_eq m c 63 (Nat.lt_of_succ_lt hN)).2
  rw [G12_last, ← outsAt0_sweep m c 64 hN, outsAt0_C m c ⟨64, hN⟩ (by decide : ¬ (64 % 65 = 0)) (by decide : 64 % 65 = 64)]
  dsimp only
  rw [out0_C_12_eq, show View.canon (statePieces (F := Ideal) (iblk m c 1 ⟨64, hN⟩) (iblk m c 2 ⟨64, hN⟩) (iblk m c 4 ⟨64, hN⟩) (iblk m c 5 ⟨64, hN⟩)
      (iblk m c 8 ⟨64, hN⟩) (outsAt0 m c 63 (Nat.lt_of_succ_lt hN)).2.2) = stateBlock (args m c) 65 from
    (congrArg View.canon (List.append_nil _).symm).trans (canon_state (fed m c ⟨64, hN⟩) hs [])]
  pointwise []
  rfl

end Cert.Kernel2Ideal.RetValue
end
-- ==== Proof.RetRef.lean ====
module
public import proofs.«01_k».proof.Defs
public import proofs.«01_k».proof.Proof.RetModel
public import proofs.«01_k».proof.Proof.Gen.Reference2Ideal.Run
public import Idealize.ShloMosaic.Lib.Pointwise
public import Idealize.ShloMosaic.Lib.WordCmp
@[expose] public section
set_option maxRecDepth 16384
noncomputable section
open Idealize.ShloMosaic Idealize.ShloMosaic.TcCoe Idealize.SL.Sem Idealize.ShloMosaic.StableHlo
namespace Cert.Reference2Ideal.RetValue
open Cert.Reference2Ideal Cert.Reference2Ideal.Gen Cert.Reference2Ideal.Value Cert.Ret

variable (m : (ℓ : Loc nD τ sig) → Buf (Elt Ideal) ℓ) (ρ : Dev nD → PrngReg)

/-- The arrays the reference is launched with. -/
def args (c : Dev nD) : Args where
  z r k := (m ((c : Thread nD τ).loc main_arg0) : Vec Ideal S8320x6144 .f32) (ix2 r k)
  cos r d := (m ((c : Thread nD τ).loc main_arg1) : Vec Ideal S8320x64 .f32) (ix2 r d)
  sin r d := (m ((c : Thread nD τ).loc main_arg2) : Vec Ideal S8320x64 .f32) (ix2 r d)
  dmask h a b := (m ((c : Thread nD τ).loc main_arg3) : Vec Ideal S8x128x128 .f32) (ix3 h a b)
  qdec a h := (m ((c : Thread nD τ).loc main_arg4) : Vec Ideal S128x8 .f32) (ix2 a h)
  kdec a h := (m ((c : Thread nD τ).loc main_arg5) : Vec Ideal S128x8 .f32) (ix2 a h)
  s0 h d e := (m ((c : Thread nD τ).loc main_arg6) : Vec Ideal S1x8x128x256 .f32) (ix4 0 h d e)
  gain e := (m ((c : Thread nD τ).loc main_arg7) : Vec Ideal S2048 .f32) (ix1 e)

/-- The starts of a trip's slices: chunk `n`, everything else from the beginning. -/
abbrev starts (n : Vec Ideal S_ .i32) : Fin 5 → Int := fun k => BitVec.toInt
  ((![n, constantI S_ 32 0#32, constantI S_ 32 0#32, constantI S_ 32 0#32, constantI S_ 32 0#32] : Fin 5 → (⟨S_, .i32⟩ : BufTy).Contents (Elt Ideal)) k (Shape.Idx.first h_S_))

/-- A chunk's slice of the stacked queries or keys. -/
def chunk1 (x : FVec Ideal S65x1x128x8x128 .f32) (n : Vec Ideal S_ .i32) : FVec Ideal S1x128x8x128 .f32 :=
  shapeCast S1x128x8x128 (Host.dynamicSlice S1x1x128x8x128 x (starts n) sliceFits_S65x1x128x8x128_S1x1x128x8x128) shapeCasts_S1x1x128x8x128_S1x128x8x128

/-- A chunk's slice of the stacked values. -/
def chunk2 (x : FVec Ideal S65x1x128x8x256 .f32) (n : Vec Ideal S_ .i32) : FVec Ideal S1x128x8x256 .f32 :=
  shapeCast S1x128x8x256 (Host.dynamicSlice S1x1x128x8x256 x (starts n) sliceFits_S65x1x128x8x256_S1x1x128x8x256) shapeCasts_S1x1x128x8x256_S1x128x8x256

theorem v69_eq (V0 : Valuation τ sig (Elt Ideal)) :
    res_main_while0b_v69 V0 = chunk1 (V0 (Proc.devRef .tc main_v47_0)) (V0 (Proc.devRef .tc main_v47_7)) := rfl
theorem v70_eq (V0 : Valuation τ sig (Elt Ideal)) :
    res_main_while0b_v70 V0 = chunk1 (V0 (Proc.devRef .tc main_v47_1)) (V0 (Proc.devRef .tc main_v47_7)) := rfl
theorem v71_eq (V0 : Valuation τ sig (Elt Ideal)) :
    res_main_while0b_v71 V0 = chunk2 (V0 (Proc.devRef .tc main_v47_2)) (V0 (Proc.devRef .tc main_v47_7)) := rfl

/-- The trip counter's value as a slice's start. -/
theorem start_zero {n : ℕ} (hn : n < 65) (w : Vec Ideal S_ .i32) (hw : w = fun _ => Scf.iv 0#32 1#32 n) : starts w 0 = n := by
  subst hw
  show BitVec.toInt (Scf.iv 0#32 1#32 n) = n
  have : Scf.iv 0#32 1#32 n = BitVec.ofNat 32 n := by simp [Scf.iv]
  rw [this]
  exact WordCmp.toInt_ofNat_of_lt (by omega)

theorem clamp128 {n : ℕ} (hn : n < 65) (w : Vec Ideal S_ .i32) (hw : w = fun _ => Scf.iv 0#32 1#32 n) :
    Host.clampedStart S65x1x128x8x128 S1x1x128x8x128 rfl (starts w) 0 = n ∧ Host.clampedStart S65x1x128x8x128 S1x1x128x8x128 rfl (starts w) 1 = 0
    ∧ Host.clampedStart S65x1x128x8x128 S1x1x128x8x128 rfl (starts w) 2 = 0 ∧ Host.clampedStart S65x1x128x8x128 S1x1x128x8x128 rfl (starts w) 3 = 0
    ∧ Host.clampedStart S65x1x128x8x128 S1x1x128x8x128 rfl (starts w) 4 = 0 :=
  ⟨Host.clampedStart_of_le (s := S65x1x128x8x128) (t := S1x1x128x8x128) rfl (starts w) 0 n (start_zero hn w hw) (by show n + 1 ≤ 65; omega),
   Host.clampedStart_of_le (s := S65x1x128x8x128) (t := S1x1x128x8x128) rfl (starts w) 1 0 rfl (by decide),
   Host.clampedStart_of_le (s := S65x1x128x8x128) (t := S1x1x128x8x128) rfl (starts w) 2 0 rfl (by decide),
   Host.clampedStart_of_le (s := S65x1x128x8x128) (t := S1x1x128x8x128) rfl (starts w) 3 0 rfl (by decide),
   Host.clampedStart_of_le (s := S65x1x128x8x128) (t := S1x1x128x8x128) rfl (starts w) 4 0 rfl (by decide)⟩

theorem chunk1_apply {n : ℕ} (hn : n < 65) (w : Vec Ideal S_ .i32) (hw : w = fun _ => Scf.iv 0#32 1#32 n) (x : FVec Ideal S65x1x128x8x128 .f32)
    (z : Fin 1) (a : Fin 128) (h : Fin 8) (d : Fin 128) : chunk1 x w (ix4 z a h d) = x (ix5 ⟨n, hn⟩ 0 a h d) := by
  obtain ⟨k0, k1, k2, k3, k4⟩ := clamp128 hn w hw
  pointwise [chunk1]
  refine congrArg x (funext fun i => Fin.ext ?_)
  match i with
  | ⟨0, _⟩ => exact k0
  | ⟨1, _⟩ => exact k1
  | ⟨2, _⟩ => show Host.clampedStart S65x1x128x8x128 S1x1x128x8x128 rfl (starts w) 2 + a.val = a.val; omega
  | ⟨3, _⟩ => show Host.clampedStart S65x1x128x8x128 S1x1x128x8x128 rfl (starts w) 3 + h.val = h.val; omega
  | ⟨4, _⟩ => show Host.clampedStart S65x1x128x8x128 S1x1x128x8x128 rfl (starts w) 4 + d.val = d.val; omega

theorem clamp256 {n : ℕ} (hn : n < 65) (w : Vec Ideal S_ .i32) (hw : w = fun _ => Scf.iv 0#32 1#32 n) :
    Host.clampedStart S65x1x128x8x256 S1x1x128x8x256 rfl (starts w) 0 = n ∧ Host.clampedStart S65x1x128x8x256 S1x1x128x8x256 rfl (starts w) 1 = 0
    ∧ Host.clampedStart S65x1x128x8x256 S1x1x128x8x256 rfl (starts w) 2 = 0 ∧ Host.clampedStart S65x1x128x8x256 S1x1x128x8x256 rfl (starts w) 3 = 0
    ∧ Host.clampedStart S65x1x128x8x256 S1x1x128x8x256 rfl (starts w) 4 = 0 :=
  ⟨Host.clampedStart_of_le (s := S65x1x128x8x256) (t := S1x1x128x8x256) rfl (starts w) 0 n (start_zero hn w hw) (by show n + 1 ≤ 65; omega),
   Host.clampedStart_of_le (s := S65x1x128x8x256) (t := S1x1x128x8x256) rfl (starts w) 1 0 rfl (by decide),
   Host.clampedStart_of_le (s := S65x1x128x8x256) (t := S1x1x128x8x256) rfl (starts w) 2 0 rfl (by decide),
   Host.clampedStart_of_le (s := S65x1x128x8x256) (t := S1x1x128x8x256) rfl (starts w) 3 0 rfl (by decide),
   Host.clampedStart_of_le (s := S65x1x128x8x256) (t := S1x1x128x8x256) rfl (starts w) 4 0 rfl (by decide)⟩

theorem chunk2_apply {n : ℕ} (hn : n < 65) (w : Vec Ideal S_ .i32) (hw : w = fun _ => Scf.iv 0#32 1#32 n) (x : FVec Ideal S65x1x128x8x256 .f32)
    (z : Fin 1) (a : Fin 128) (h : Fin 8) (d : Fin 256) : chunk2 x w (ix4 z a h d) = x (ix5 ⟨n, hn⟩ 0 a h d) := by
  obtain ⟨k0, k1, k2, k3, k4⟩ := clamp256 hn w hw
  pointwise [chunk2]
  refine congrArg x (funext fun i => Fin.ext ?_)
  match i with
  | ⟨0, _⟩ => exact k0
  | ⟨1, _⟩ => exact k1
  | ⟨2, _⟩ => show Host.clampedStart S65x1x128x8x256 S1x1x128x8x256 rfl (starts w) 2 + a.val = a.val; omega
  | ⟨3, _⟩ => show Host.clampedStart S65x1x128x8x256 S1x1x128x8x256 rfl (starts w) 3 + h.val = h.val; omega
  | ⟨4, _⟩ => show Host.clampedStart S65x1x128x8x256 S1x1x128x8x256 rfl (starts w) 4 + d.val = d.val; omega

/-- A chunk's update of the state. -/
def stepState (k : FVec Ideal S1x128x8x128 .f32) (v : FVec Ideal S1x128x8x256 .f32) (cd : FVec Ideal S8 .f32) (kd : FVec Ideal S128x8 .f32)
    (s : FVec Ideal S1x8x128x256 .f32) : FVec Ideal S1x8x128x256 .f32 :=
  addf (mulf s (broadcastInDim S1x8x128x256 ![0, 1, 2, 3] bcast_S1x8x1x1_S1x8x128x256_0_1_2_3 (broadcastInDim S1x8x1x1 ![1] bcast_S8_S1x8x1x1_1 cd)))
    (Host.dotGeneral dot_S1x128x8x128_S1x128x8x256_S1x8x128x256_1_1_3_3_02_02 none
      (mulf k (broadcastInDim S1x128x8x128 ![0, 1, 2, 3] bcast_S1x128x8x1_S1x128x8x128_0_1_2_3 (broadcastInDim S1x128x8x1 ![1, 2] bcast_S128x8_S1x128x8x1_1_2 kd))) v)

/-- A chunk's output before the normalisation. -/
def stepOut (q k : FVec Ideal S1x128x8x128 .f32) (v : FVec Ideal S1x128x8x256 .f32) (D : FVec Ideal S8x128x128 .f32) (qd : FVec Ideal S128x8 .f32)
    (s : FVec Ideal S1x8x128x256 .f32) : FVec Ideal S1x128x8x256 .f32 :=
  addf (transpose S1x128x8x256 [0, 3, 1, 2] (Host.dotGeneral dot_S1x128x8x256_S1x8x128x128_S1x8x256x128_1_3_3_2_02_01 none v
      (mulf (Host.dotGeneral dot_S1x128x8x128_S1x128x8x128_S1x8x128x128_3_3_1_1_02_02 none q k)
        (broadcastInDim S1x8x128x128 ![1, 2, 3] bcast_S8x128x128_S1x8x128x128_1_2_3 D))) transposes_S1x8x256x128_S1x128x8x256_0_3_1_2)
    (transpose S1x128x8x256 [0, 3, 1, 2] (Host.dotGeneral dot_S1x8x128x256_S1x128x8x128_S1x8x256x128_2_3_3_1_01_02 none s
      (mulf q (broadcastInDim S1x128x8x128 ![0, 1, 2, 3] bcast_S1x128x8x1_S1x128x8x128_0_1_2_3 (broadcastInDim S1x128x8x1 ![1, 2] bcast_S128x8_S1x128x8x1_1_2 qd))))
      transposes_S1x8x256x128_S1x128x8x256_0_3_1_2)

/-- A chunk's output put into the stacked outputs. -/
def put (y : FVec Ideal S65x1x128x8x256 .f32) (o : FVec Ideal S1x128x8x256 .f32) (n : Vec Ideal S_ .i32) : FVec Ideal S65x1x128x8x256 .f32 :=
  Host.dynamicUpdateSlice y (broadcastInDim S1x1x128x8x256 ![1, 2, 3, 4] bcast_S1x128x8x256_S1x1x128x8x256_1_2_3_4 o) (starts n)
    updateFits_S65x1x128x8x256_S1x1x128x8x256

theorem step8_eq (V0 : Valuation τ sig (Elt Ideal)) : step_main_v47_8 V0
    = stepState (res_main_while0b_v70 V0) (res_main_while0b_v71 V0) (V0 (Proc.devRef .tc main_v47_5)) (V0 (Proc.devRef .tc main_v47_6)) (V0 (Proc.devRef .tc main_v47_8)) := rfl
theorem step9_eq (V0 : Valuation τ sig (Elt Ideal)) : step_main_v47_9 V0
    = put (V0 (Proc.devRef .tc main_v47_9)) (stepOut (res_main_while0b_v69 V0) (res_main_while0b_v70 V0) (res_main_while0b_v71 V0)
        (V0 (Proc.devRef .tc main_v47_3)) (V0 (Proc.devRef .tc main_v47_4)) (V0 (Proc.devRef .tc main_v47_8))) (V0 (Proc.devRef .tc main_v47_7)) := by
  unfold step_main_v47_9 put stepOut
  rfl

theorem stepState_apply (k : FVec Ideal S1x128x8x128 .f32) (v : FVec Ideal S1x128x8x256 .f32) (cd : FVec Ideal S8 .f32) (kd : FVec Ideal S128x8 .f32)
    (s : FVec Ideal S1x8x128x256 .f32) (h : Fin 8) (d : Fin 128) (e : Fin 256) : stepState k v cd kd s (ix4 0 h d e)
      = headStep (fun a d => k (ix4 0 a h d)) (fun a e => v (ix4 0 a h e)) (fun b => kd (ix2 b h)) (cd (ix1 h)) (fun d e => s (ix4 0 h d e)) d e := by
  pointwise [stepState]
  rfl

theorem stepOut_apply (q k : FVec Ideal S1x128x8x128 .f32) (v : FVec Ideal S1x128x8x256 .f32) (D : FVec Ideal S8x128x128 .f32) (qd : FVec Ideal S128x8 .f32)
    (s : FVec Ideal S1x8x128x256 .f32) (a : Fin 128) (h : Fin 8) (e : Fin 256) : stepOut q k v D qd s (ix4 0 a h e)
      = headSum (fun a d => q (ix4 0 a h d)) (fun a d => k (ix4 0 a h d)) (fun a e => v (ix4 0 a h e)) (fun a b => D (ix3 h a b)) (fun a => qd (ix2 a h))
          (fun d e => s (ix4 0 h d e)) a e := by
  pointwise [stepOut]
  exact congrArg₂ (· + ·) (Finset.sum_congr rfl fun b _ => mul_comm _ _) (Finset.sum_congr rfl fun d _ => mul_comm _ _)

theorem put_apply {n : ℕ} (hn : n < 65) (w : Vec Ideal S_ .i32) (hw : w = fun _ => Scf.iv 0#32 1#32 n) (y : FVec Ideal S65x1x128x8x256 .f32)
    (o : FVec Ideal S1x128x8x256 .f32) (j : Fin 65) (a : Fin 128) (h : Fin 8) (e : Fin 256) :
    put y o w (ix5 j 0 a h e) = if j.val = n then o (ix4 0 a h e) else y (ix5 j 0 a h e) := by
  obtain ⟨k0, k1, k2, k3, k4⟩ := clamp256 hn w hw
  pointwise [put]
  simp only [k0, k1, k2, k3, k4, Nat.sub_zero]
  by_cases hj : j.val = n
  · rw [dif_pos (by omega), if_pos hj]
  · rw [dif_neg (by omega), if_neg hj]

/-! The arrays the loop starts from. -/

/-- The rotation of the queries or the keys, heads apart. -/
def turned (x : FVec Ideal S1x8320x8x128 .f32) (cos sin : FVec Ideal S8320x64 .f32) : FVec Ideal S1x8320x8x128 .f32 :=
  concatenate (α := Ideal .f32) S1x8320x8x128 3
    [⟨S1x8320x8x64, subf (mulf (extractStridedSlice S1x8320x8x64 ![0, 0, 0, 0] x slices_S1x8320x8x128_S1x8320x8x64_0_0_0_0)
        (broadcastInDim S1x8320x8x64 ![0, 1, 2, 3] bcast_S1x8320x1x64_S1x8320x8x64_0_1_2_3 (broadcastInDim S1x8320x1x64 ![1, 3] bcast_S8320x64_S1x8320x1x64_1_3 cos)))
      (mulf (extractStridedSlice S1x8320x8x64 ![0, 0, 0, 64] x slices_S1x8320x8x128_S1x8320x8x64_0_0_0_64)
        (broadcastInDim S1x8320x8x64 ![0, 1, 2, 3] bcast_S1x8320x1x64_S1x8320x8x64_0_1_2_3 (broadcastInDim S1x8320x1x64 ![1, 3] bcast_S8320x64_S1x8320x1x64_1_3 sin)))⟩,
     ⟨S1x8320x8x64, addf (mulf (extractStridedSlice S1x8320x8x64 ![0, 0, 0, 0] x slices_S1x8320x8x128_S1x8320x8x64_0_0_0_0)
        (broadcastInDim S1x8320x8x64 ![0, 1, 2, 3] bcast_S1x8320x1x64_S1x8320x8x64_0_1_2_3 (broadcastInDim S1x8320x1x64 ![1, 3] bcast_S8320x64_S1x8320x1x64_1_3 sin)))
      (mulf (extractStridedSlice S1x8320x8x64 ![0, 0, 0, 64] x slices_S1x8320x8x128_S1x8320x8x64_0_0_0_64)
        (broadcastInDim S1x8320x8x64 ![0, 1, 2, 3] bcast_S1x8320x1x64_S1x8320x8x64_0_1_2_3 (broadcastInDim S1x8320x1x64 ![1, 3] bcast_S8320x64_S1x8320x1x64_1_3 cos)))⟩]
    concatenates_S1x8320x8x64_S1x8320x8x64_S1x8320x8x128_d3

/-- The arrays as one batch. -/
abbrev batch (z : FVec Ideal S8320x6144 .f32) : FVec Ideal S1x8320x6144 .f32 := broadcastInDim S1x8320x6144 ![1, 2] bcast_S8320x6144_S1x8320x6144_1_2 z

def stackQ (z : FVec Ideal S8320x6144 .f32) (cos sin : FVec Ideal S8320x64 .f32) : FVec Ideal S65x1x128x8x128 .f32 :=
  transpose S65x1x128x8x128 [1, 0, 2, 3, 4] (shapeCast S1x65x128x8x128 (mulf (turned (shapeCast S1x8320x8x128
    (extractStridedSlice S1x8320x1024 ![0, 0, 0] (batch z) slices_S1x8320x6144_S1x8320x1024_0_0_0) shapeCasts_S1x8320x1024_S1x8320x8x128) cos sin)
    (broadcastInDim S1x8320x8x128 ![] bcast_S_S1x8320x8x128 (constant S_ .f32 0x3DB504F3#32))) shapeCasts_S1x8320x8x128_S1x65x128x8x128)
    transposes_S1x65x128x8x128_S65x1x128x8x128_1_0_2_3_4

def stackK (z : FVec Ideal S8320x6144 .f32) (cos sin : FVec Ideal S8320x64 .f32) : FVec Ideal S65x1x128x8x128 .f32 :=
  transpose S65x1x128x8x128 [1, 0, 2, 3, 4] (shapeCast S1x65x128x8x128 (turned (shapeCast S1x8320x8x128
    (extractStridedSlice S1x8320x1024 ![0, 0, 1024] (batch z) slices_S1x8320x6144_S1x8320x1024_0_0_1024) shapeCasts_S1x8320x1024_S1x8320x8x128) cos sin)
    shapeCasts_S1x8320x8x128_S1x65x128x8x128) transposes_S1x65x128x8x128_S65x1x128x8x128_1_0_2_3_4

def stackV (z : FVec Ideal S8320x6144 .f32) : FVec Ideal S65x1x128x8x256 .f32 :=
  transpose S65x1x128x8x256 [1, 0, 2, 3, 4] (shapeCast S1x65x128x8x256 (shapeCast S1x8320x8x256
    (extractStridedSlice S1x8320x2048 ![0, 0, 2048] (batch z) slices_S1x8320x6144_S1x8320x2048_0_0_2048) shapeCasts_S1x8320x2048_S1x8320x8x256)
    shapeCasts_S1x8320x8x256_S1x65x128x8x256) transposes_S1x65x128x8x256_S65x1x128x8x256_1_0_2_3_4

theorem turned_apply (x : FVec Ideal S1x8320x8x128 .f32) (cos sin : FVec Ideal S8320x64 .f32) (r : Fin 8320) (h : Fin 8) (d : Fin 128) :
    turned x cos sin (ix4 0 r h d) = rot (fun d => x (ix4 0 r h d)) (fun d => cos (ix2 r d)) (fun d => sin (ix2 r d)) d := by
  pointwise [turned]
  unfold rot
  by_cases hd : d.val < 64
  · rw [dif_pos hd, dif_pos hd]
    have e : (⟨64 + d.val, by omega⟩ : Fin 128) = ⟨d.val + 64, by omega⟩ := Fin.ext (Nat.add_comm _ _)
    rw [e]
  · rw [dif_neg hd, dif_neg hd]
    have e : (⟨64 + (d.val - 64), by omega⟩ : Fin 128) = d := Fin.ext (by show 64 + (d.val - 64) = d.val; omega)
    rw [e]

/-- The queries (`o = 0`) or the keys (`o = 1`) of the batch, heads apart. -/
theorem heads_q (z : FVec Ideal S8320x6144 .f32) (r : Fin 8320) (h : Fin 8) (d : Fin 128) :
    (shapeCast S1x8320x8x128 (extractStridedSlice S1x8320x1024 ![0, 0, 0] (batch z) slices_S1x8320x6144_S1x8320x1024_0_0_0)
      shapeCasts_S1x8320x1024_S1x8320x8x128 : FVec Ideal S1x8320x8x128 .f32) (ix4 0 r h d) = z (ix2 r (colQK 0 h d)) := by
  pointwise []
  refine congrArg z (congrArg (ix2 r) (Fin.ext ?_))
  show h.val * 128 + d.val = 1024 * 0 + (128 * h.val + d.val)
  omega

theorem heads_k (z : FVec Ideal S8320x6144 .f32) (r : Fin 8320) (h : Fin 8) (d : Fin 128) :
    (shapeCast S1x8320x8x128 (extractStridedSlice S1x8320x1024 ![0, 0, 1024] (batch z) slices_S1x8320x6144_S1x8320x1024_0_0_1024)
      shapeCasts_S1x8320x1024_S1x8320x8x128 : FVec Ideal S1x8320x8x128 .f32) (ix4 0 r h d) = z (ix2 r (colQK 1 h d)) := by
  pointwise []
  refine congrArg z (congrArg (ix2 r) (Fin.ext ?_))
  show 1024 + (h.val * 128 + d.val) = 1024 * 1 + (128 * h.val + d.val)
  omega

theorem row_eq (n : Fin 65) (a : Fin 128) : (⟨n.val * 128 + a.val, by omega⟩ : Fin 8320) = row n.val a :=
  Fin.ext (by rw [row_val n.isLt]; show n.val * 128 + a.val = _; omega)

theorem stackQ_apply (z : FVec Ideal S8320x6144 .f32) (cos sin : FVec Ideal S8320x64 .f32) (n : Fin 65) (a : Fin 128) (h : Fin 8) (d : Fin 128) :
    stackQ z cos sin (ix5 n 0 a h d) = rot (fun d => z (ix2 (row n.val a) (colQK 0 h d))) (fun d => cos (ix2 (row n.val a) d))
      (fun d => sin (ix2 (row n.val a) d)) d * Ideal.ofBits .f32 0x3DB504F3#32 := by
  pointwise [stackQ]
  rw [row_eq, turned_apply]
  simp only [heads_q]

theorem stackK_apply (z : FVec Ideal S8320x6144 .f32) (cos sin : FVec Ideal S8320x64 .f32) (n : Fin 65) (a : Fin 128) (h : Fin 8) (d : Fin 128) :
    stackK z cos sin (ix5 n 0 a h d) = rot (fun d => z (ix2 (row n.val a) (colQK 1 h d))) (fun d => cos (ix2 (row n.val a) d))
      (fun d => sin (ix2 (row n.val a) d)) d := by
  pointwise [stackK]
  rw [row_eq, turned_apply]
  simp only [heads_k]

theorem stackV_apply (z : FVec Ideal S8320x6144 .f32) (n : Fin 65) (a : Fin 128) (h : Fin 8) (e : Fin 256) :
    stackV z (ix5 n 0 a h e) = z (ix2 (row n.val a) (colVG 0 h e)) := by
  pointwise [stackV]
  rw [row_eq]
  refine congrArg z (congrArg (ix2 _) (Fin.ext ?_))
  show 2048 + (h.val * 256 + e.val) = 2048 + 2048 * 0 + (256 * h.val + e.val)
  omega

set_option maxRecDepth 100000 in
theorem entry0 (c : Dev nD) : entryContents preI m c (Proc.devRef .tc main_v47_0)
    = stackQ (m ((c : Thread nD τ).loc main_arg0)) (m ((c : Thread nD τ).loc main_arg1)) (m ((c : Thread nD τ).loc main_arg2)) := by
  simp only [entryContents, afterL_cons, afterL_nil]
  after_reads_simp
  rfl
set_option maxRecDepth 100000 in
theorem entry1 (c : Dev nD) : entryContents preI m c (Proc.devRef .tc main_v47_1)
    = stackK (m ((c : Thread nD τ).loc main_arg0)) (m ((c : Thread nD τ).loc main_arg1)) (m ((c : Thread nD τ).loc main_arg2)) := by
  simp only [entryContents, afterL_cons, afterL_nil]
  after_reads_simp
  rfl
set_option maxRecDepth 100000 in
theorem entry2 (c : Dev nD) : entryContents preI m c (Proc.devRef .tc main_v47_2) = stackV (m ((c : Thread nD τ).loc main_arg0)) := by
  simp only [entryContents, afterL_cons, afterL_nil]
  after_reads_simp
  rfl

/-- The gates. -/
def gates (z : FVec Ideal S8320x6144 .f32) : FVec Ideal S1x8320x2048 .f32 :=
  extractStridedSlice S1x8320x2048 ![0, 0, 4096] (batch z) slices_S1x8320x6144_S1x8320x2048_0_0_4096

set_option maxRecDepth 100000 in
theorem entry3 (c : Dev nD) : entryContents preI m c (Proc.devRef .tc main_v47_3) = m ((c : Thread nD τ).loc main_arg3) := by
  simp only [entryContents, afterL_cons, afterL_nil]
  after_reads_simp
  rfl
set_option maxRecDepth 100000 in
theorem entry4 (c : Dev nD) : entryContents preI m c (Proc.devRef .tc main_v47_4) = m ((c : Thread nD τ).loc main_arg4) := by
  simp only [entryContents, afterL_cons, afterL_nil]
  after_reads_simp
  rfl
set_option maxRecDepth 100000 in
theorem entry6 (c : Dev nD) : entryContents preI m c (Proc.devRef .tc main_v47_6) = m ((c : Thread nD τ).loc main_arg5) := by
  simp only [entryContents, afterL_cons, afterL_nil]
  after_reads_simp
  rfl
set_option maxRecDepth 100000 in
theorem entry8 (c : Dev nD) : entryContents preI m c (Proc.devRef .tc main_v47_8) = m ((c : Thread nD τ).loc main_arg6) := by
  simp only [entryContents, afterL_cons, afterL_nil]
  after_reads_simp
  rfl
set_option maxRecDepth 100000 in
theorem entry5 (c : Dev nD) : entryContents preI m c (Proc.devRef .tc main_v47_5) = ((fun i => Ideal.ofBits .f32 (lit0 (S8.rowMajor i))) : FVec Ideal S8 .f32) := by
  simp only [entryContents, afterL_cons, afterL_nil]
  after_reads_simp
  rfl
set_option maxRecDepth 100000 in
theorem entryG (c : Dev nD) : entryContents preI m c (Proc.devRef .tc main_v4) = gates (m ((c : Thread nD τ).loc main_arg0)) := by
  simp only [entryContents, afterL_cons, afterL_nil]
  after_reads_simp
  rfl

/-! The loop: before trip `n` the stacked arrays are as they were, the state is the one before chunk `n`, and the first
`n` blocks of the stacked outputs are done. -/

structure Holds (A : Args) (n : ℕ) (V : Valuation τ sig (Elt Ideal)) : Prop where
  q : ∀ (i : Fin 65) a h d, (V (Proc.devRef .tc main_v47_0) : FVec Ideal S65x1x128x8x128 .f32) (ix5 i 0 a h d) = A.q i.val h a d
  k : ∀ (i : Fin 65) a h d, (V (Proc.devRef .tc main_v47_1) : FVec Ideal S65x1x128x8x128 .f32) (ix5 i 0 a h d) = A.k i.val h a d
  v : ∀ (i : Fin 65) a h e, (V (Proc.devRef .tc main_v47_2) : FVec Ideal S65x1x128x8x256 .f32) (ix5 i 0 a h e) = A.v i.val h a e
  dmask : ∀ h a b, (V (Proc.devRef .tc main_v47_3) : FVec Ideal S8x128x128 .f32) (ix3 h a b) = A.dmask h a b
  qdec : ∀ a h, (V (Proc.devRef .tc main_v47_4) : FVec Ideal S128x8 .f32) (ix2 a h) = A.qdec a h
  cdec : ∀ h, (V (Proc.devRef .tc main_v47_5) : FVec Ideal S8 .f32) (ix1 h) = Ideal.ofBits .f32 (cdecBits h)
  kdec : ∀ a h, (V (Proc.devRef .tc main_v47_6) : FVec Ideal S128x8 .f32) (ix2 a h) = A.kdec a h
  ctr : (V (Proc.devRef .tc main_v47_7) : Vec Ideal S_ .i32) = fun _ => Scf.iv 0#32 1#32 n
  state : ∀ h d e, (V (Proc.devRef .tc main_v47_8) : FVec Ideal S1x8x128x256 .f32) (ix4 0 h d e) = A.state n h d e
  sums : ∀ (i : Fin 65) a h e, i.val < n → (V (Proc.devRef .tc main_v47_9) : FVec Ideal S65x1x128x8x256 .f32) (ix5 i 0 a h e) = A.sum i.val h a e

theorem lit0_row (h : Fin 8) : lit0 (S8.rowMajor (ix1 h)) = cdecBits h := by
  revert h; decide +kernel

theorem holds_entry (c : Dev nD) : Holds (args m c) 0 (entryContents preI m c) where
  q i a h d := by rw [entry0]; exact stackQ_apply _ _ _ i a h d
  k i a h d := by rw [entry1]; exact stackK_apply _ _ _ i a h d
  v i a h e := by rw [entry2]; exact stackV_apply _ i a h e
  dmask h a b := by rw [entry3]; rfl
  qdec a h := by rw [entry4]; rfl
  cdec h := by rw [entry5]; exact congrArg (Ideal.ofBits .f32) (lit0_row h)
  kdec a h := by rw [entry6]; rfl
  ctr := (ctr_entry m c).trans (by rw [Scf.iv_zero])
  state h d e := by rw [entry8]; rfl
  sums i a h e hi := absurd hi (Nat.not_lt_zero _)

theorem Holds.of_agree {A : Args} {n : ℕ} {V V' : Valuation τ sig (Elt Ideal)} (hV : Holds A n V) (h : Agree V' V) : Holds A n V' where
  q := by rw [h main_v47_0 (by decide)]; exact hV.q
  k := by rw [h main_v47_1 (by decide)]; exact hV.k
  v := by rw [h main_v47_2 (by decide)]; exact hV.v
  dmask := by rw [h main_v47_3 (by decide)]; exact hV.dmask
  qdec := by rw [h main_v47_4 (by decide)]; exact hV.qdec
  cdec := by rw [h main_v47_5 (by decide)]; exact hV.cdec
  kdec := by rw [h main_v47_6 (by decide)]; exact hV.kdec
  ctr := by rw [h main_v47_7 (by decide)]; exact hV.ctr
  state := by rw [h main_v47_8 (by decide)]; exact hV.state
  sums := by rw [h main_v47_9 (by decide)]; exact hV.sums

theorem Holds.step {A : Args} {n : ℕ} (hn : n < 65) {V : Valuation τ sig (Elt Ideal)} (hV : Holds A n V) (hc : (STEP V (Proc.devRef .tc main_v47_7) : Vec Ideal S_ .i32) = fun _ => Scf.iv 0#32 1#32 (n + 1)) :
    Holds A (n + 1) (STEP V) where
  q := by rw [STEP_main_v47_0]; exact hV.q
  k := by rw [STEP_main_v47_1]; exact hV.k
  v := by rw [STEP_main_v47_2]; exact hV.v
  dmask := by rw [STEP_main_v47_3]; exact hV.dmask
  qdec := by rw [STEP_main_v47_4]; exact hV.qdec
  cdec := by rw [STEP_main_v47_5]; exact hV.cdec
  kdec := by rw [STEP_main_v47_6]; exact hV.kdec
  ctr := hc
  state h d e := by
    rw [STEP_main_v47_8, step8_eq, v70_eq, v71_eq, stepState_apply]
    simp only [chunk1_apply hn _ hV.ctr, chunk2_apply hn _ hV.ctr, hV.k, hV.v, hV.kdec, hV.cdec, hV.state]
    rfl
  sums i a h e hi := by
    rw [STEP_main_v47_9, step9_eq, put_apply hn _ hV.ctr]
    by_cases he : i.val = n
    · rw [if_pos he, v69_eq, v70_eq, v71_eq, stepOut_apply]
      simp only [chunk1_apply hn _ hV.ctr, chunk2_apply hn _ hV.ctr, hV.q, hV.k, hV.v, hV.dmask, hV.qdec, hV.state]
      subst he
      rfl
    · rw [if_neg he]
      exact hV.sums i a h e (by omega)

theorem holds_at (c : Dev nD) : ∀ n, n ≤ 65 → Holds (args m c) n (atK m n c)
  | 0, _ => holds_entry m c
  | n + 1, hn => by
    have hg := trip_agree (atK m n c)
    refine (Holds.step (by omega) (holds_at c n (by omega)) ?_).of_agree hg
    exact (hg main_v47_7 (by decide)).symm.trans (atK_ctr m c (n + 1))

/-! After the loop. -/

/-- The stacked outputs as rows of heads. -/
def rows (y : FVec Ideal S65x1x128x8x256 .f32) : FVec Ideal S1x8320x8x256 .f32 :=
  shapeCast S1x8320x8x256 (transpose S1x65x128x8x256 [1, 0, 2, 3, 4] y transposes_S65x1x128x8x256_S1x65x128x8x256_1_0_2_3_4) shapeCasts_S1x65x128x8x256_S1x8320x8x256

/-- The normalisation of every row of every head, and the gain. -/
def normed (o : FVec Ideal S1x8320x8x256 .f32) (gain : FVec Ideal S2048 .f32) : FVec Ideal S1x8320x8x256 .f32 :=
  mulf (mulf o (broadcastInDim S1x8320x8x256 ![0, 1, 2, 3] bcast_S1x8320x8x1_S1x8320x8x256_0_1_2_3 (Host.rsqrt (F := Ideal) (addf (Host.divf
      (broadcastInDim S1x8320x8x1 ![0, 1, 2] bcast_S1x8320x8_S1x8320x8x1_0_1_2 (Host.reduceAdd (mulf o o) (constant S_ .f32 0x00000000#32) reducesTo_S1x8320x8x256_S1x8320x8_d3 h_S_))
      (broadcastInDim S1x8320x8x1 ![] bcast_S_S1x8320x8x1 (constant S_ .f32 0x43800000#32)))
      (broadcastInDim S1x8320x8x1 ![] bcast_S_S1x8320x8x1 (constant S_ .f32 0x358637BD#32))))))
    (broadcastInDim S1x8320x8x256 ![0, 1, 2, 3] bcast_S1x1x8x256_S1x8320x8x256_0_1_2_3 (broadcastInDim S1x1x8x256 ![2, 3] bcast_S8x256_S1x1x8x256_2_3
      (shapeCast S8x256 gain shapeCasts_S2048_S8x256)))

/-- The gate's factor. -/
def silu (g : FVec Ideal S1x8320x2048 .f32) : FVec Ideal S1x8320x2048 .f32 :=
  mulf g (Host.divf (broadcastInDim S1x8320x2048 ![] bcast_S_S1x8320x2048 (constant S_ .f32 0x3F800000#32))
    (addf (broadcastInDim S1x8320x2048 ![] bcast_S_S1x8320x2048 (constant S_ .f32 0x3F800000#32)) (Host.exp (F := Ideal) (Host.negf (F := Ideal) (φ := .f32) g))))

/-- The result, row by row. -/
def finish (y : FVec Ideal S1x8320x8x256 .f32) (g : FVec Ideal S1x8320x2048 .f32) : FVec Ideal S8320x2048 .bf16 :=
  truncf .bf16 (shapeCast S8320x2048 (mulf g (shapeCast S1x8320x2048 y shapeCasts_S1x8320x8x256_S1x8320x2048)) shapeCasts_S1x8320x2048_S8320x2048) bitsLt_bf16_f32

set_option maxRecDepth 100000 in
theorem post_result (V : Valuation τ sig (Elt Ideal)) : afterL postI V (Proc.devRef .tc main_v68)
    = finish (normed (rows (V (Proc.devRef .tc main_v47_9))) (V (Proc.devRef .tc main_arg7))) (silu (V (Proc.devRef .tc main_v4))) := by
  simp only [afterL_cons, afterL_nil]
  after_reads_simp
  rfl

theorem rows_apply (y : FVec Ideal S65x1x128x8x256 .f32) (i : Fin 65) (a : Fin 128) (h : Fin 8) (e : Fin 256) :
    rows y (ix4 0 (row i.val a) h e) = y (ix5 i 0 a h e) := by
  pointwise [rows]
  have hr := row_val i.isLt a
  refine congrArg y ?_
  have e1 : (⟨(row i.val a).val / 128, by omega⟩ : Fin 65) = i := Fin.ext (by show (row i.val a).val / 128 = i.val; omega)
  have e2 : (⟨(row i.val a).val % 128, by omega⟩ : Fin 128) = a := Fin.ext (by show (row i.val a).val % 128 = a.val; omega)
  rw [e1, e2]

theorem normed_apply (o : FVec Ideal S1x8320x8x256 .f32) (gain : FVec Ideal S2048 .f32) (r : Fin 8320) (h : Fin 8) (e : Fin 256) :
    normed o gain (ix4 0 r h e) = o (ix4 0 r h e) * Ideal.rsqrt (Ideal.div (∑ x : Fin 256, o (ix4 0 r h x) * o (ix4 0 r h x)) (Ideal.ofBits .f32 0x43800000#32)
      + Ideal.ofBits .f32 0x358637BD#32) * gain (ix1 (col2 h e)) := by
  pointwise [normed]
  have e1 : (⟨h.val * 256 + e.val, by omega⟩ : Fin 2048) = col2 h e := Fin.ext (by show h.val * 256 + e.val = 256 * h.val + e.val; omega)
  rw [e1]

theorem silu_apply (g : FVec Ideal S1x8320x2048 .f32) (r : Fin 8320) (k : Fin 2048) :
    silu g (ix3 0 r k) = g (ix3 0 r k) * Ideal.div 1 (1 + Ideal.exp (0 - g (ix3 0 r k))) := by
  pointwise [silu]
  rw [zero_sub]

theorem finish_apply (y : FVec Ideal S1x8320x8x256 .f32) (g : FVec Ideal S1x8320x2048 .f32) (r : Fin 8320) (h : Fin 8) (e : Fin 256) :
    finish y g (ix2 r (col2 h e)) = g (ix3 0 r (col2 h e)) * y (ix4 0 r h e) := by
  pointwise [finish]
  have hv : (col2 h e).val = 256 * h.val + e.val := rfl
  have e1 : (⟨(col2 h e).val / 256, by omega⟩ : Fin 8) = h := Fin.ext (by show (col2 h e).val / 256 = h.val; omega)
  have e2 : (⟨(col2 h e).val % 256, by omega⟩ : Fin 256) = e := Fin.ext (by show (col2 h e).val % 256 = e.val; omega)
  rw [e1, e2]

theorem gates_apply (z : FVec Ideal S8320x6144 .f32) (r : Fin 8320) (h : Fin 8) (e : Fin 256) : gates z (ix3 0 r (col2 h e)) = z (ix2 r (colVG 1 h e)) := by
  pointwise [gates]
  refine congrArg z (congrArg (ix2 r) (Fin.ext ?_))
  show 4096 + (256 * h.val + e.val) = 2048 + 2048 * 1 + (256 * h.val + e.val)
  omega

/-- What the operations after the loop write. -/
abbrev post1W : List (Ref sig .tc) := [main_v48, main_v49, main_v50, main_cst_2, main_v51, main_v52, main_cst_3, main_v53, main_v54, main_cst_4, main_v55, main_v56,
  main_v57, main_v58, main_v59, main_v60, main_v61, main_v62, main_v63]
abbrev post2W : List (Ref sig .tc) := [main_call4_v0, main_call4_v1, main_call4_cst, main_call4_v2, main_call4_v3, main_call4_cst_0, main_call4_v4, main_call4_v5, main_v64]
abbrev post3W : List (Ref sig .tc) := [main_v65, main_v66, main_v67, main_v68]
theorem post1_writes : (hostOps0_1 : List (HloOp τ sig (Elt Ideal))).Forall fun op => op.writes ⊆ (post1W.map (Proc.devRef (τ := τ) .tc)).toFinset :=
  StableHlo.forall_writes_sub_of_map rfl
theorem post2_writes : (hostOps0_2 : List (HloOp τ sig (Elt Ideal))).Forall fun op => op.writes ⊆ (post2W.map (Proc.devRef (τ := τ) .tc)).toFinset :=
  StableHlo.forall_writes_sub_of_map rfl
theorem post3_writes : (hostOps0_3 : List (HloOp τ sig (Elt Ideal))).Forall fun op => op.writes ⊆ (post3W.map (Proc.devRef (τ := τ) .tc)).toFinset :=
  StableHlo.forall_writes_sub_of_map rfl

/-- The operations after the loop keep everything else. -/
theorem post_keep (V : Valuation τ sig (Elt Ideal)) (b : Ref sig .tc) (h1 : b ∉ post1W) (h2 : b ∉ post2W) (h3 : b ∉ post3W) :
    afterL postI V (Proc.devRef .tc b) = V (Proc.devRef .tc b) := by
  simp only [afterL_cons, afterL_nil]
  rw [after_of_writes_sub hostOps0_3 _ post3_writes h3, after_of_writes_sub hostOps0_2 _ post2_writes h2, after_of_writes_sub hostOps0_1 _ post1_writes h1]

/-- The loop keeps every buffer its operations do not write. -/
theorem loop_keep (c : Dev nD) (b : Ref sig .tc) (hc : b ∉ condOps_W) (h0 : b ∉ while0Ops0_W) (h1 : b ∉ while0Ops0_1_W) (h2 : b ∉ while0Ops0_2_W)
    (h3 : b ∉ while0Ops0_3_W) (h4 : b ∉ while0Ops0_4_W) (h5 : b ∉ while0Ops0_5_W) :
    ∀ n, atK m n c (Proc.devRef .tc b) = entryContents preI m c (Proc.devRef .tc b)
  | 0 => rfl
  | n + 1 => by
    rw [show atK m (n + 1) c = afterL bodyI (after condOps (atK m n c)) from rfl]
    simp only [afterL_cons, afterL_nil]
    rw [after_of_writes_sub while0Ops0_5 _ while0Ops0_5_writes h5, after_of_writes_sub while0Ops0_4 _ while0Ops0_4_writes h4,
      after_of_writes_sub while0Ops0_3 _ while0Ops0_3_writes h3, after_of_writes_sub while0Ops0_2 _ while0Ops0_2_writes h2,
      after_of_writes_sub while0Ops0_1 _ while0Ops0_1_writes h1, after_of_writes_sub while0Ops0 _ while0Ops0_writes h0,
      after_of_writes_sub condOps _ condOps_writes hc]
    exact loop_keep c b hc h0 h1 h2 h3 h4 h5 n

/-- What nothing writes from the start of the loop's last condition. -/
theorem cond_keep (V : Valuation τ sig (Elt Ideal)) (b : Ref sig .tc) (hc : b ∉ condOps_W) : after condOps V (Proc.devRef .tc b) = V (Proc.devRef .tc b) :=
  after_of_writes_sub condOps _ condOps_writes hc

theorem final_eq (c : Dev nD) : finalContents condOps preI bodyI postI 65 m c = afterL postI (after condOps (atK m 65 c)) := rfl

/-- An argument at the end of the run. -/
theorem arg_final (c : Dev nD) (b : Ref sig .tc) (he : b ∉ hostOps0_W) (hc : b ∉ condOps_W) (h0 : b ∉ while0Ops0_W) (h1 : b ∉ while0Ops0_1_W) (h2 : b ∉ while0Ops0_2_W)
    (h3 : b ∉ while0Ops0_3_W) (h4 : b ∉ while0Ops0_4_W) (h5 : b ∉ while0Ops0_5_W) (p1 : b ∉ post1W) (p2 : b ∉ post2W) (p3 : b ∉ post3W) :
    finalContents condOps preI bodyI postI 65 m c (Proc.devRef .tc b) = m ((c.tc : Thread nD τ).loc b) := by
  rw [final_eq, post_keep _ b p1 p2 p3, cond_keep _ b hc]
  refine (loop_keep m c b hc h0 h1 h2 h3 h4 h5 65).trans ?_
  simp only [entryContents, afterL_cons, afterL_nil]
  rw [after_of_writes_sub hostOps0 _ hostOps0_writes he]

/-- The state at the end. -/
theorem state_final (c : Dev nD) (h : Fin 8) (d : Fin 128) (e : Fin 256) :
    (finalContents condOps preI bodyI postI 65 m c (Proc.devRef .tc main_v47_8) : FVec Ideal S1x8x128x256 .f32) (ix4 0 h d e) = (args m c).state 65 h d e := by
  rw [final_eq, post_keep _ main_v47_8 (by decide) (by decide) (by decide), cond_keep _ main_v47_8 (by decide)]
  exact (holds_at m c 65 (le_refl _)).state h d e

/-- The output at the end. -/
theorem out_final (c : Dev nD) (i : Fin 65) (a : Fin 128) (h : Fin 8) (e : Fin 256) :
    (finalContents condOps preI bodyI postI 65 m c (Proc.devRef .tc main_v68) : FVec Ideal S8320x2048 .bf16) (ix2 (row i.val a) (col2 h e)) = (args m c).out i.val h a e := by
  rw [final_eq, post_result, finish_apply, silu_apply, normed_apply]
  simp only [rows_apply]
  rw [cond_keep _ main_v47_9 (by decide), cond_keep _ main_arg7 (by decide), cond_keep _ main_v4 (by decide)]
  have hs : ∀ x, (atK m 65 c (Proc.devRef .tc main_v47_9) : FVec Ideal S65x1x128x8x256 .f32) (ix5 i 0 a h x) = (args m c).sum i.val h a x :=
    fun x => (holds_at m c 65 (le_refl _)).sums i a h x i.isLt
  have h4 : atK m 65 c (Proc.devRef .tc main_v4) = gates (m ((c : Thread nD τ).loc main_arg0)) :=
    (loop_keep m c main_v4 (by decide) (by decide) (by decide) (by decide) (by decide) (by decide) (by decide) 65).trans (entryG m c)
  have h7 : atK m 65 c (Proc.devRef .tc main_arg7) = m ((c : Thread nD τ).loc main_arg7) := by
    refine (loop_keep m c main_arg7 (by decide) (by decide) (by decide) (by decide) (by decide) (by decide) (by decide) 65).trans ?_
    simp only [entryContents, afterL_cons, afterL_nil]
    rw [after_of_writes_sub hostOps0 _ hostOps0_writes (by decide)]
  rw [h4, h7, gates_apply]
  simp only [hs]
  rfl

end Cert.Reference2Ideal.RetValue
end
-- ==== Proof.RetClaims.lean ====
module
public import proofs.«01_k».proof.Defs
public import proofs.«01_k».proof.Proof.RetKernel
public import proofs.«01_k».proof.Proof.RetRef
@[expose] public section
set_option maxRecDepth 16384
noncomputable section
open Idealize.ShloMosaic Idealize.ShloMosaic.TcCoe Idealize.SL.Sem Idealize.ShloMosaic.StableHlo

namespace Cert.Reference2Ideal.RetValue
open Cert.Reference2Ideal Cert.Reference2Ideal.Gen Cert.Reference2Ideal.Value Cert.Ret
variable (m : (ℓ : Loc nD τ sig) → Buf (Elt Ideal) ℓ) (ρ : Dev nD → PrngReg)

/-- The reference's run: the two results at the loop's values, the arguments kept. -/
theorem run : θ_run (defs (F := Ideal)) (onTc (τ := τ) (main (F := Ideal))) ⟨m, fun _ => 0, ρ⟩ fun r => ∀ c : Dev nD,
      r.2.mem ((c.tc : Thread nD τ).loc main_v68) = finalContents condOps preI bodyI postI 65 m c (Proc.devRef .tc main_v68)
      ∧ r.2.mem ((c.tc : Thread nD τ).loc main_v47_8) = finalContents condOps preI bodyI postI 65 m c (Proc.devRef .tc main_v47_8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨h c main_v68 rfl, h c main_v47_8 rfl,
    (h c main_arg0 rfl).trans (arg_final m c main_arg0 (by decide) (by decide) (by decide) (by decide) (by decide) (by decide) (by decide) (by decide) (by decide) (by decide) (by decide)),
    (h c main_arg1 rfl).trans (arg_final m c main_arg1 (by decide) (by decide) (by decide) (by decide) (by decide) (by decide) (by decide) (by decide) (by decide) (by decide) (by decide)),
    (h c main_arg2 rfl).trans (arg_final m c main_arg2 (by decide) (by decide) (by decide) (by decide) (by decide) (by decide) (by decide) (by decide) (by decide) (by decide) (by decide)),
    (h c main_arg3 rfl).trans (arg_final m c main_arg3 (by decide) (by decide) (by decide) (by decide) (by decide) (by decide) (by decide) (by decide) (by decide) (by decide) (by decide)),
    (h c main_arg4 rfl).trans (arg_final m c main_arg4 (by decide) (by decide) (by decide) (by decide) (by decide) (by decide) (by decide) (by decide) (by decide) (by decide) (by decide)),
    (h c main_arg5 rfl).trans (arg_final m c main_arg5 (by decide) (by decide) (by decide) (by decide) (by decide) (by decide) (by decide) (by decide) (by decide) (by decide) (by decide)),
    (h c main_arg6 rfl).trans (arg_final m c main_arg6 (by decide) (by decide) (by decide) (by decide) (by decide) (by decide) (by decide) (by decide) (by decide) (by decide) (by decide)),
    (h c main_arg7 rfl).trans (arg_final m c main_arg7 (by decide) (by decide) (by decide) (by decide) (by decide) (by decide) (by decide) (by decide) (by decide) (by decide) (by decide))⟩) (run_fold (F := Ideal) m ρ)

end Cert.Reference2Ideal.RetValue

namespace Cert.Proof.RetClaims
open Cert.Ret

theorem frame_reference : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.RetValue.run m ρ)

theorem algebraic : Cert.algebraic_Kernel2Ideal_Reference2Ideal := by
  intro m ρ m' ρ' _ hag
  refine ⟨fun c => Cert.Kernel2Ideal.Value.G11 m c, fun c => Cert.Kernel2Ideal.Value.G12 m c, Cert.Kernel2Ideal.Value.run (F := Ideal) m ρ, ?_⟩
  have hargs : ∀ c, Cert.Reference2Ideal.RetValue.args m' c = Cert.Kernel2Ideal.RetValue.args m c := fun c => by
    obtain ⟨h0, h1, h2, h3, h4, h5, h6, h7⟩ := hag c
    unfold Cert.Reference2Ideal.RetValue.args Cert.Kernel2Ideal.RetValue.args
    rw [h0, h1, h2, h3, h4, h5, h6, h7]
  refine (θ_run Cert.Reference2Ideal.defs _ _).mono (fun _ h c => ⟨(h c).1.trans ?_, (h c).2.1.trans ?_, (h c).2.2⟩)
      (Cert.Reference2Ideal.RetValue.run m' ρ')
  · refine funext fun x => ?_
    obtain ⟨r, k, rfl⟩ : ∃ (r : Fin 8320) (k : Fin 2048), x = ix2 r k := ⟨x 0, x 1, eq_ix2 x⟩
    obtain ⟨i, a, rfl⟩ : ∃ (i : Fin 65) (a : Fin 128), r = row i.val a :=
      ⟨⟨r.val / 128, by omega⟩, ⟨r.val % 128, by omega⟩, Fin.ext (by rw [row_val (by show r.val / 128 < 65; omega)]; show r.val = 128 * (r.val / 128) + r.val % 128; omega)⟩
    obtain ⟨h, e, rfl⟩ : ∃ (h : Fin 8) (e : Fin 256), k = col2 h e :=
      ⟨⟨k.val / 256, by omega⟩, ⟨k.val % 256, by omega⟩, Fin.ext (by show k.val = 256 * (k.val / 256) + k.val % 256; omega)⟩
    refine (Cert.Reference2Ideal.RetValue.out_final m' c i a h e).trans ?_
    refine Eq.trans ?_ (Cert.Kernel2Ideal.RetValue.G11_apply m c _).symm
    rw [hargs]
    have hr := row_val i.isLt a
    have hq : ((ix2 (row i.val a) (col2 h e) : Cert.Kernel2Ideal.S8320x2048.Idx) 0).val / 128 = i.val := by
      show (row i.val a).val / 128 = i.val
      omega
    rw [hq]
    refine Cert.Kernel2Ideal.RetValue.outBlock_at _ _ h _ a e ?_ ?_
    · show (row i.val a).val % 128 = a.val
      omega
    · show (256 * h.val + e.val) % 2048 = 256 * h.val + e.val
      omega
  · refine funext fun x => ?_
    obtain ⟨z, h, d, e, rfl⟩ : ∃ (z : Fin 1) (h : Fin 8) (d : Fin 128) (e : Fin 256), x = ix4 z h d e := ⟨x 0, x 1, x 2, x 3, eq_ix4 x⟩
    obtain rfl : z = 0 := Subsingleton.elim _ _
    refine (Cert.Reference2Ideal.RetValue.state_final m' c h d e).trans ?_
    rw [hargs]
    exact (Cert.Kernel2Ideal.RetValue.G12_apply m c 0 h d e).symm

end Cert.Proof.RetClaims
end
-- ==== Proof.MmModel.lean ====
module
public import Idealize.ShloMosaic.PureOps.Ideal
public import Idealize.ShloMosaic.Lib.Pointwise
public import Idealize.ShloMosaic.Lib.Pipeline.Value
@[expose] public section
noncomputable section
open Idealize.ShloMosaic
namespace Cert.Mm

/-! Products of matrices: the plain sum, and how a block of a matrix is read. -/

/-- The product of two matrices. -/
def prod {M K N : ℕ} (x : (⟨2, ![M, K]⟩ : Shape).Idx → EReal) (w : (⟨2, ![K, N]⟩ : Shape).Idx → EReal) : (⟨2, ![M, N]⟩ : Shape).Idx → EReal :=
  fun i => ∑ k : Fin K, x (ix2 (i 0) k) * w (ix2 k (i 1))

theorem prod_apply {M K N : ℕ} (x : (⟨2, ![M, K]⟩ : Shape).Idx → EReal) (w : (⟨2, ![K, N]⟩ : Shape).Idx → EReal) (r : Fin M) (c : Fin N) :
    prod x w (ix2 r c) = ∑ k : Fin K, x (ix2 r k) * w (ix2 k c) := rfl

/-- An array's entry at an index given by its two coordinates' values. -/
theorem at_ix2 {M N : ℕ} {α : Type} (G : (⟨2, ![M, N]⟩ : Shape).Idx → α) (i : (⟨2, ![M, N]⟩ : Shape).Idx) (r : Fin M) (k : Fin N)
    (h0 : (i 0).val = r.val) (h1 : (i 1).val = k.val) : G i = G (ix2 r k) := by
  refine congrArg G (funext fun a => Fin.ext ?_)
  match a with
  | ⟨0, _⟩ => exact h0
  | ⟨1, _⟩ => exact h1

/-- A whole-buffer store's start. -/
theorem zero2 : (![0, 0] : Fin 2 → Nat) = fun _ => 0 := funext fun a => by fin_cases a <;> rfl

end Cert.Mm
end
-- ==== Proof.Mm3.lean ====
/- The projection to layer 0's queries, keys, values and first gate: point `t` of the grid of 5 by 4 leaves one block of 1664 rows and 1024 columns of
   the product. The blocks tile the result, so the whole array is the plain product. -/
module

public import proofs.«01_k».proof.Defs
public import proofs.«01_k».proof.Proof.MmModel
public import proofs.«01_k».proof.Proof.Gen.Kernel3Ideal.Value
public import proofs.«01_k».proof.Proof.Gen.Reference3Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel3Ideal.MmValue

open Cert.Kernel3Ideal Cert.Kernel3Ideal.Gen Cert.Mm

variable (m : (ℓ : Loc nD τ sig) → Buf (Elt Ideal) ℓ)

/-- The result as a function of the arguments. -/
def spec (x0 : S8320x2048.Idx → EReal) (w : S2048x4096.Idx → EReal) : S8320x4096.Idx → EReal := fun i =>
  prod x0 w i

/-- The whole result array. -/
abbrev G (c : Dev nD) : Buf (Elt Ideal) ((c : Thread nD τ).loc main_v0) :=
  spec (m ((c : Thread nD τ).loc main_arg0)) (m ((c : Thread nD τ).loc main_arg1))

/-! Where the windows' blocks begin at point `t`. -/

theorem off0 : ∀ t : Fin cfg0.N, (win0_0.rect t).off 0 = 1664 * (t.val / 4) ∧ (win0_0.rect t).off 1 = 0 :=
  (by decide +kernel : ∀ t : Fin grid0.N, (win0_0.rect t).off 0 = 1664 * (t.val / 4) ∧ (win0_0.rect t).off 1 = 0)
theorem off1 : ∀ t : Fin cfg0.N, (win0_1.rect t).off 0 = 0 ∧ (win0_1.rect t).off 1 = 1024 * (t.val % 4) :=
  (by decide +kernel : ∀ t : Fin grid0.N, (win0_1.rect t).off 0 = 0 ∧ (win0_1.rect t).off 1 = 1024 * (t.val % 4))
theorem off2 : ∀ t : Fin cfg0.N, (win0_2.rect t).off 0 = 1664 * (t.val / 4) ∧ (win0_2.rect t).off 1 = 1024 * (t.val % 4) :=
  (by decide +kernel : ∀ t : Fin grid0.N, (win0_2.rect t).off 0 = 1664 * (t.val / 4) ∧ (win0_2.rect t).off 1 = 1024 * (t.val % 4))

/-- Window 0's block at point `t`, element by element. -/
theorem iblk0_apply (c : Dev nD) (t : Fin cfg0.N) (a : Fin 1664) (b : Fin 2048) (r : Fin 8320) (k : Fin 2048) (h0 : r.val = 1664 * (t.val / 4) + a.val) (h1 : k.val = 0 + b.val) :
    (iblk m c 0 t : Vec Ideal S1664x2048 .bf16) (ix2 a b) = (m ((c : Thread nD τ).loc main_arg0) : Vec Ideal S8320x2048 .bf16) (ix2 r k) := by
  unfold iblk
  rw [View.read_apply]
  show V m c main_arg0 _ = _
  rw [V_main_arg0]
  refine at_ix2 (m ((c : Thread nD τ).loc main_arg0) : Vec Ideal S8320x2048 .bf16) _ r k ?_ ?_
  · show (win0_0.rect t).off 0 + 1 * a.val = r.val
    rw [(off0 t).1]; omega
  · show (win0_0.rect t).off 1 + 1 * b.val = k.val
    rw [(off0 t).2]; omega

/-- Window 1's block at point `t`, element by element. -/
theorem iblk1_apply (c : Dev nD) (t : Fin cfg0.N) (a : Fin 2048) (b : Fin 1024) (r : Fin 2048) (k : Fin 4096) (h0 : r.val = 0 + a.val) (h1 : k.val = 1024 * (t.val % 4) + b.val) :
    (iblk m c 1 t : Vec Ideal S2048x1024 .bf16) (ix2 a b) = (m ((c : Thread nD τ).loc main_arg1) : Vec Ideal S2048x4096 .bf16) (ix2 r k) := by
  unfold iblk
  rw [View.read_apply]
  show V m c main_arg1 _ = _
  rw [V_main_arg1]
  refine at_ix2 (m ((c : Thread nD τ).loc main_arg1) : Vec Ideal S2048x4096 .bf16) _ r k ?_ ?_
  · show (win0_1.rect t).off 0 + 1 * a.val = r.val
    rw [(off1 t).1]; omega
  · show (win0_1.rect t).off 1 + 1 * b.val = k.val
    rw [(off1 t).2]; omega

/-- The body's block at an index. -/
theorem out_apply (x0 : Vec Ideal S1664x2048 .bf16) (x1 : Vec Ideal S2048x1024 .bf16) (a : Fin 1664) (b : Fin 1024) :
    (out0_2 x0 x1 : Vec Ideal S1664x1024 .f32) (ix2 a b) = (∑ k : Fin 2048, x0 (ix2 a k) * x1 (ix2 k b)) := by
  unfold out0_2
  rw [View.canon_unit_zero zero2]
  rw [View.ld_unit_zero zero2, View.ld_unit_zero zero2]
  pointwise [k0_pay1]

/-- What point `t` writes back is its block of the result. -/
theorem flushed_eq (c : Dev nD) (t : Fin cfg0.N) :
    (dats m 0 c).flushed 2 t = ((cfg0.win 2).blk t).view.read (Elt Ideal) (G m c) := by
  rw [Value.flushed2]
  refine funext fun (j : S1664x1024.Idx) => ?_
  obtain ⟨a, b, rfl⟩ : ∃ (a : Fin 1664) (b : Fin 1024), j = ix2 a b := ⟨j 0, j 1, eq_ix2 j⟩
  rw [View.read_apply]
  have ht : t.val < 20 := lt_of_lt_of_eq t.isLt N_0
  have ha := a.isLt
  have hb := b.isLt
  have hr : 1664 * (t.val / 4) + a.val < 8320 := by omega
  have hk : 1024 * (t.val % 4) + b.val < 4096 := by omega
  show (out0_2 (iblk m c 0 t) (iblk m c 1 t) : Vec Ideal S1664x1024 .f32) (ix2 a b) = G m c ((win0_2.rect t).idx (ix2 a b))
  refine (out_apply _ _ a b).trans ?_
  refine Eq.trans ?_ (at_ix2 (G m c : S8320x4096.Idx → EReal) ((win0_2.rect t).idx (ix2 a b)) ⟨_, hr⟩ ⟨_, hk⟩ ?_ ?_).symm
  · refine Eq.trans ?_ (prod_apply _ _ ⟨_, hr⟩ ⟨_, hk⟩).symm
    exact Finset.sum_congr rfl fun k _ => congrArg₂ (· * ·) (iblk0_apply m c t a k ⟨_, hr⟩ k rfl (by omega)) (iblk1_apply m c t k b k ⟨_, hk⟩ (by omega) rfl)
  · show (win0_2.rect t).off 0 + 1 * a.val = 1664 * (t.val / 4) + a.val
    rw [(off2 t).1]; omega
  · show (win0_2.rect t).off 1 + 1 * b.val = 1024 * (t.val % 4) + b.val
    rw [(off2 t).2]; omega

/-- The blocks tile the result. -/
theorem cover (i : S8320x4096.Idx) : ∃ t : Fin cfg0.N, (cfg0.win 2).flush t = true ∧ i ∈ ((cfg0.win 2).blk t).view.set := by
  have h0 : (i 0 : Nat) < 8320 := (i 0).isLt
  have h1 : (i 1 : Nat) < 4096 := (i 1).isLt
  have hN : cfg0.N = 20 := N_0
  let t : Fin cfg0.N := ⟨4 * ((i 0).val / 1664) + (i 1).val / 1024, by omega⟩
  have hq : t.val / 4 = (i 0).val / 1664 := by show (4 * ((i 0).val / 1664) + (i 1).val / 1024) / 4 = _; omega
  have hm : t.val % 4 = (i 1).val / 1024 := by show (4 * ((i 0).val / 1664) + (i 1).val / 1024) % 4 = _; omega
  refine ⟨t, flush0_2 _, ?_⟩
  show i ∈ ((View.whole main_v0).slice (win0_2.rect t)).set
  rw [View.set_slice_whole, Rect.mem_set_unit]
  intro a
  match a with
  | ⟨0, _⟩ =>
    show (win0_2.rect t).off 0 ≤ (i 0 : Nat) ∧ (i 0 : Nat) < (win0_2.rect t).off 0 + 1664
    rw [(off2 _).1, hq]; omega
  | ⟨1, _⟩ =>
    show (win0_2.rect t).off 1 ≤ (i 1 : Nat) ∧ (i 1 : Nat) < (win0_2.rect t).off 1 + 1024
    rw [(off2 _).2, hm]; omega

theorem final (c : Dev nD) : (dats m 0 c).arrAt 2 cfg0.N = G m c :=
  (dats m 0 c).arrAt_eq_of_cover 2 (G m c) (fun t _ => flushed_eq m c t) cover

end Cert.Kernel3Ideal.MmValue

namespace Cert.Reference3Ideal.MmValue

open Cert.Reference3Ideal Cert.Reference3Ideal.Gen Cert.Mm

/-- The reference's term of its arguments. -/
def val (x0 : FVec Ideal S8320x2048 .bf16) (x1 : FVec Ideal S2048x4096 .bf16) : FVec Ideal S8320x4096 .f32 :=
  Host.dotGeneral dot_S8320x2048_S2048x4096_S8320x4096_1_0_0_1_n_n none (extf .f32 x0 bitsLt_bf16_f32) (extf .f32 x1 bitsLt_bf16_f32)

theorem val_eq (x0 : FVec Ideal S8320x2048 .bf16) (x1 : FVec Ideal S2048x4096 .bf16) : val x0 x1 = Cert.Kernel3Ideal.MmValue.spec x0 x1 := by
  refine funext fun i => ?_
  obtain ⟨r, k, rfl⟩ : ∃ (r : Fin 8320) (k : Fin 4096), i = ix2 r k := ⟨i 0, i 1, eq_ix2 i⟩
  show _ = (∑ j : Fin 2048, x0 (ix2 r j) * x1 (ix2 j k))
  pointwise [val]

end Cert.Reference3Ideal.MmValue

namespace Cert.Proof.MmClaims3

theorem frame_reference : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem algebraic : Cert.algebraic_Kernel3Ideal_Reference3Ideal := by
  intro m ρ m' ρ' _ hag
  refine ⟨fun c => Cert.Kernel3Ideal.MmValue.G m c, ?_, ?_⟩
  · exact (θ_run Cert.Kernel3Ideal.defs _ _).mono (fun _ h c => ⟨(h c).1.trans (Cert.Kernel3Ideal.MmValue.final m c), (h c).2⟩)
      (Cert.Kernel3Ideal.Value.run_blocks (F := Ideal) m ρ)
  · refine (θ_run Cert.Reference3Ideal.defs _ _).mono (fun _ h c => ⟨(h c).1.trans ?_, (h c).2⟩)
      (Cert.Reference3Ideal.Value.run (F := Ideal) m' ρ')
    obtain ⟨h0, h1⟩ := hag c
    rw [h0, h1]
    exact Cert.Reference3Ideal.MmValue.val_eq _ _

end Cert.Proof.MmClaims3

end
-- ==== Proof.Mm4.lean ====
/- The projection to layer 0's token-shifted columns and forget columns: point `t` of the grid of 10 by 2 leaves one block of 832 rows and 1664 columns of
   the product. The blocks tile the result, so the whole array is the plain product. -/
module

public import proofs.«01_k».proof.Defs
public import proofs.«01_k».proof.Proof.MmModel
public import proofs.«01_k».proof.Proof.Gen.Kernel4Ideal.Value
public import proofs.«01_k».proof.Proof.Gen.Reference4Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel4Ideal.MmValue

open Cert.Kernel4Ideal Cert.Kernel4Ideal.Gen Cert.Mm

variable (m : (ℓ : Loc nD τ sig) → Buf (Elt Ideal) ℓ)

/-- The result as a function of the arguments. -/
def spec (x0 : S8320x2048.Idx → EReal) (w : S2048x3328.Idx → EReal) : S8320x3328.Idx → EReal := fun i =>
  prod x0 w i

/-- The whole result array. -/
abbrev G (c : Dev nD) : Buf (Elt Ideal) ((c : Thread nD τ).loc main_v0) :=
  spec (m ((c : Thread nD τ).loc main_arg0)) (m ((c : Thread nD τ).loc main_arg1))

/-! Where the windows' blocks begin at point `t`. -/

theorem off0 : ∀ t : Fin cfg0.N, (win0_0.rect t).off 0 = 832 * (t.val / 2) ∧ (win0_0.rect t).off 1 = 0 :=
  (by decide +kernel : ∀ t : Fin grid0.N, (win0_0.rect t).off 0 = 832 * (t.val / 2) ∧ (win0_0.rect t).off 1 = 0)
theorem off1 : ∀ t : Fin cfg0.N, (win0_1.rect t).off 0 = 0 ∧ (win0_1.rect t).off 1 = 1664 * (t.val % 2) :=
  (by decide +kernel : ∀ t : Fin grid0.N, (win0_1.rect t).off 0 = 0 ∧ (win0_1.rect t).off 1 = 1664 * (t.val % 2))
theorem off2 : ∀ t : Fin cfg0.N, (win0_2.rect t).off 0 = 832 * (t.val / 2) ∧ (win0_2.rect t).off 1 = 1664 * (t.val % 2) :=
  (by decide +kernel : ∀ t : Fin grid0.N, (win0_2.rect t).off 0 = 832 * (t.val / 2) ∧ (win0_2.rect t).off 1 = 1664 * (t.val % 2))

/-- Window 0's block at point `t`, element by element. -/
theorem iblk0_apply (c : Dev nD) (t : Fin cfg0.N) (a : Fin 832) (b : Fin 2048) (r : Fin 8320) (k : Fin 2048) (h0 : r.val = 832 * (t.val / 2) + a.val) (h1 : k.val = 0 + b.val) :
    (iblk m c 0 t : Vec Ideal S832x2048 .bf16) (ix2 a b) = (m ((c : Thread nD τ).loc main_arg0) : Vec Ideal S8320x2048 .bf16) (ix2 r k) := by
  unfold iblk
  rw [View.read_apply]
  show V m c main_arg0 _ = _
  rw [V_main_arg0]
  refine at_ix2 (m ((c : Thread nD τ).loc main_arg0) : Vec Ideal S8320x2048 .bf16) _ r k ?_ ?_
  · show (win0_0.rect t).off 0 + 1 * a.val = r.val
    rw [(off0 t).1]; omega
  · show (win0_0.rect t).off 1 + 1 * b.val = k.val
    rw [(off0 t).2]; omega

/-- Window 1's block at point `t`, element by element. -/
theorem iblk1_apply (c : Dev nD) (t : Fin cfg0.N) (a : Fin 2048) (b : Fin 1664) (r : Fin 2048) (k : Fin 3328) (h0 : r.val = 0 + a.val) (h1 : k.val = 1664 * (t.val % 2) + b.val) :
    (iblk m c 1 t : Vec Ideal S2048x1664 .bf16) (ix2 a b) = (m ((c : Thread nD τ).loc main_arg1) : Vec Ideal S2048x3328 .bf16) (ix2 r k) := by
  unfold iblk
  rw [View.read_apply]
  show V m c main_arg1 _ = _
  rw [V_main_arg1]
  refine at_ix2 (m ((c : Thread nD τ).loc main_arg1) : Vec Ideal S2048x3328 .bf16) _ r k ?_ ?_
  · show (win0_1.rect t).off 0 + 1 * a.val = r.val
    rw [(off1 t).1]; omega
  · show (win0_1.rect t).off 1 + 1 * b.val = k.val
    rw [(off1 t).2]; omega

/-- The body's block at an index. -/
theorem out_apply (x0 : Vec Ideal S832x2048 .bf16) (x1 : Vec Ideal S2048x1664 .bf16) (a : Fin 832) (b : Fin 1664) :
    (out0_2 x0 x1 : Vec Ideal S832x1664 .f32) (ix2 a b) = (∑ k : Fin 2048, x0 (ix2 a k) * x1 (ix2 k b)) := by
  unfold out0_2
  rw [View.canon_unit_zero zero2]
  rw [View.ld_unit_zero zero2, View.ld_unit_zero zero2]
  pointwise [k0_pay1]

/-- What point `t` writes back is its block of the result. -/
theorem flushed_eq (c : Dev nD) (t : Fin cfg0.N) :
    (dats m 0 c).flushed 2 t = ((cfg0.win 2).blk t).view.read (Elt Ideal) (G m c) := by
  rw [Value.flushed2]
  refine funext fun (j : S832x1664.Idx) => ?_
  obtain ⟨a, b, rfl⟩ : ∃ (a : Fin 832) (b : Fin 1664), j = ix2 a b := ⟨j 0, j 1, eq_ix2 j⟩
  rw [View.read_apply]
  have ht : t.val < 20 := lt_of_lt_of_eq t.isLt N_0
  have ha := a.isLt
  have hb := b.isLt
  have hr : 832 * (t.val / 2) + a.val < 8320 := by omega
  have hk : 1664 * (t.val % 2) + b.val < 3328 := by omega
  show (out0_2 (iblk m c 0 t) (iblk m c 1 t) : Vec Ideal S832x1664 .f32) (ix2 a b) = G m c ((win0_2.rect t).idx (ix2 a b))
  refine (out_apply _ _ a b).trans ?_
  refine Eq.trans ?_ (at_ix2 (G m c : S8320x3328.Idx → EReal) ((win0_2.rect t).idx (ix2 a b)) ⟨_, hr⟩ ⟨_, hk⟩ ?_ ?_).symm
  · refine Eq.trans ?_ (prod_apply _ _ ⟨_, hr⟩ ⟨_, hk⟩).symm
    exact Finset.sum_congr rfl fun k _ => congrArg₂ (· * ·) (iblk0_apply m c t a k ⟨_, hr⟩ k rfl (by omega)) (iblk1_apply m c t k b k ⟨_, hk⟩ (by omega) rfl)
  · show (win0_2.rect t).off 0 + 1 * a.val = 832 * (t.val / 2) + a.val
    rw [(off2 t).1]; omega
  · show (win0_2.rect t).off 1 + 1 * b.val = 1664 * (t.val % 2) + b.val
    rw [(off2 t).2]; omega

/-- The blocks tile the result. -/
theorem cover (i : S8320x3328.Idx) : ∃ t : Fin cfg0.N, (cfg0.win 2).flush t = true ∧ i ∈ ((cfg0.win 2).blk t).view.set := by
  have h0 : (i 0 : Nat) < 8320 := (i 0).isLt
  have h1 : (i 1 : Nat) < 3328 := (i 1).isLt
  have hN : cfg0.N = 20 := N_0
  let t : Fin cfg0.N := ⟨2 * ((i 0).val / 832) + (i 1).val / 1664, by omega⟩
  have hq : t.val / 2 = (i 0).val / 832 := by show (2 * ((i 0).val / 832) + (i 1).val / 1664) / 2 = _; omega
  have hm : t.val % 2 = (i 1).val / 1664 := by show (2 * ((i 0).val / 832) + (i 1).val / 1664) % 2 = _; omega
  refine ⟨t, flush0_2 _, ?_⟩
  show i ∈ ((View.whole main_v0).slice (win0_2.rect t)).set
  rw [View.set_slice_whole, Rect.mem_set_unit]
  intro a
  match a with
  | ⟨0, _⟩ =>
    show (win0_2.rect t).off 0 ≤ (i 0 : Nat) ∧ (i 0 : Nat) < (win0_2.rect t).off 0 + 832
    rw [(off2 _).1, hq]; omega
  | ⟨1, _⟩ =>
    show (win0_2.rect t).off 1 ≤ (i 1 : Nat) ∧ (i 1 : Nat) < (win0_2.rect t).off 1 + 1664
    rw [(off2 _).2, hm]; omega

theorem final (c : Dev nD) : (dats m 0 c).arrAt 2 cfg0.N = G m c :=
  (dats m 0 c).arrAt_eq_of_cover 2 (G m c) (fun t _ => flushed_eq m c t) cover

end Cert.Kernel4Ideal.MmValue

namespace Cert.Reference4Ideal.MmValue

open Cert.Reference4Ideal Cert.Reference4Ideal.Gen Cert.Mm

/-- The reference's term of its arguments. -/
def val (x0 : FVec Ideal S8320x2048 .bf16) (x1 : FVec Ideal S2048x3328 .bf16) : FVec Ideal S8320x3328 .f32 :=
  Host.dotGeneral dot_S8320x2048_S2048x3328_S8320x3328_1_0_0_1_n_n none (extf .f32 x0 bitsLt_bf16_f32) (extf .f32 x1 bitsLt_bf16_f32)

theorem val_eq (x0 : FVec Ideal S8320x2048 .bf16) (x1 : FVec Ideal S2048x3328 .bf16) : val x0 x1 = Cert.Kernel4Ideal.MmValue.spec x0 x1 := by
  refine funext fun i => ?_
  obtain ⟨r, k, rfl⟩ : ∃ (r : Fin 8320) (k : Fin 3328), i = ix2 r k := ⟨i 0, i 1, eq_ix2 i⟩
  show _ = (∑ j : Fin 2048, x0 (ix2 r j) * x1 (ix2 j k))
  pointwise [val]

end Cert.Reference4Ideal.MmValue

namespace Cert.Proof.MmClaims4

theorem frame_reference : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem algebraic : Cert.algebraic_Kernel4Ideal_Reference4Ideal := by
  intro m ρ m' ρ' _ hag
  refine ⟨fun c => Cert.Kernel4Ideal.MmValue.G m c, ?_, ?_⟩
  · exact (θ_run Cert.Kernel4Ideal.defs _ _).mono (fun _ h c => ⟨(h c).1.trans (Cert.Kernel4Ideal.MmValue.final m c), (h c).2⟩)
      (Cert.Kernel4Ideal.Value.run_blocks (F := Ideal) m ρ)
  · refine (θ_run Cert.Reference4Ideal.defs _ _).mono (fun _ h c => ⟨(h c).1.trans ?_, (h c).2⟩)
      (Cert.Reference4Ideal.Value.run (F := Ideal) m' ρ')
    obtain ⟨h0, h1⟩ := hag c
    rw [h0, h1]
    exact Cert.Reference4Ideal.MmValue.val_eq _ _

end Cert.Proof.MmClaims4

end
-- ==== Proof.Mm5.lean ====
/- The projection to layer 0's second gate: point `t` of the grid of 5 by 1 leaves one block of 1664 rows and 1024 columns of
   the product. The blocks tile the result, so the whole array is the plain product. -/
module

public import proofs.«01_k».proof.Defs
public import proofs.«01_k».proof.Proof.MmModel
public import proofs.«01_k».proof.Proof.Gen.Kernel5Ideal.Value
public import proofs.«01_k».proof.Proof.Gen.Reference5Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel5Ideal.MmValue

open Cert.Kernel5Ideal Cert.Kernel5Ideal.Gen Cert.Mm

variable (m : (ℓ : Loc nD τ sig) → Buf (Elt Ideal) ℓ)

/-- The result as a function of the arguments. -/
def spec (x0 : S8320x2048.Idx → EReal) (w : S2048x1024.Idx → EReal) : S8320x1024.Idx → EReal := fun i =>
  prod x0 w i

/-- The whole result array. -/
abbrev G (c : Dev nD) : Buf (Elt Ideal) ((c : Thread nD τ).loc main_v0) :=
  spec (m ((c : Thread nD τ).loc main_arg0)) (m ((c : Thread nD τ).loc main_arg1))

/-! Where the windows' blocks begin at point `t`. -/

theorem off0 : ∀ t : Fin cfg0.N, (win0_0.rect t).off 0 = 1664 * (t.val / 1) ∧ (win0_0.rect t).off 1 = 0 :=
  (by decide +kernel : ∀ t : Fin grid0.N, (win0_0.rect t).off 0 = 1664 * (t.val / 1) ∧ (win0_0.rect t).off 1 = 0)
theorem off1 : ∀ t : Fin cfg0.N, (win0_1.rect t).off 0 = 0 ∧ (win0_1.rect t).off 1 = 1024 * (t.val % 1) :=
  (by decide +kernel : ∀ t : Fin grid0.N, (win0_1.rect t).off 0 = 0 ∧ (win0_1.rect t).off 1 = 1024 * (t.val % 1))
theorem off2 : ∀ t : Fin cfg0.N, (win0_2.rect t).off 0 = 1664 * (t.val / 1) ∧ (win0_2.rect t).off 1 = 1024 * (t.val % 1) :=
  (by decide +kernel : ∀ t : Fin grid0.N, (win0_2.rect t).off 0 = 1664 * (t.val / 1) ∧ (win0_2.rect t).off 1 = 1024 * (t.val % 1))

/-- Window 0's block at point `t`, element by element. -/
theorem iblk0_apply (c : Dev nD) (t : Fin cfg0.N) (a : Fin 1664) (b : Fin 2048) (r : Fin 8320) (k : Fin 2048) (h0 : r.val = 1664 * (t.val / 1) + a.val) (h1 : k.val = 0 + b.val) :
    (iblk m c 0 t : Vec Ideal S1664x2048 .bf16) (ix2 a b) = (m ((c : Thread nD τ).loc main_arg0) : Vec Ideal S8320x2048 .bf16) (ix2 r k) := by
  unfold iblk
  rw [View.read_apply]
  show V m c main_arg0 _ = _
  rw [V_main_arg0]
  refine at_ix2 (m ((c : Thread nD τ).loc main_arg0) : Vec Ideal S8320x2048 .bf16) _ r k ?_ ?_
  · show (win0_0.rect t).off 0 + 1 * a.val = r.val
    rw [(off0 t).1]; omega
  · show (win0_0.rect t).off 1 + 1 * b.val = k.val
    rw [(off0 t).2]; omega

/-- Window 1's block at point `t`, element by element. -/
theorem iblk1_apply (c : Dev nD) (t : Fin cfg0.N) (a : Fin 2048) (b : Fin 1024) (r : Fin 2048) (k : Fin 1024) (h0 : r.val = 0 + a.val) (h1 : k.val = 1024 * (t.val % 1) + b.val) :
    (iblk m c 1 t : Vec Ideal S2048x1024 .bf16) (ix2 a b) = (m ((c : Thread nD τ).loc main_arg1) : Vec Ideal S2048x1024 .bf16) (ix2 r k) := by
  unfold iblk
  rw [View.read_apply]
  show V m c main_arg1 _ = _
  rw [V_main_arg1]
  refine at_ix2 (m ((c : Thread nD τ).loc main_arg1) : Vec Ideal S2048x1024 .bf16) _ r k ?_ ?_
  · show (win0_1.rect t).off 0 + 1 * a.val = r.val
    rw [(off1 t).1]; omega
  · show (win0_1.rect t).off 1 + 1 * b.val = k.val
    rw [(off1 t).2]; omega

/-- The body's block at an index. -/
theorem out_apply (x0 : Vec Ideal S1664x2048 .bf16) (x1 : Vec Ideal S2048x1024 .bf16) (a : Fin 1664) (b : Fin 1024) :
    (out0_2 x0 x1 : Vec Ideal S1664x1024 .f32) (ix2 a b) = (∑ k : Fin 2048, x0 (ix2 a k) * x1 (ix2 k b)) := by
  unfold out0_2
  rw [View.canon_unit_zero zero2]
  rw [View.ld_unit_zero zero2, View.ld_unit_zero zero2]
  pointwise [k0_pay1]

/-- What point `t` writes back is its block of the result. -/
theorem flushed_eq (c : Dev nD) (t : Fin cfg0.N) :
    (dats m 0 c).flushed 2 t = ((cfg0.win 2).blk t).view.read (Elt Ideal) (G m c) := by
  rw [Value.flushed2]
  refine funext fun (j : S1664x1024.Idx) => ?_
  obtain ⟨a, b, rfl⟩ : ∃ (a : Fin 1664) (b : Fin 1024), j = ix2 a b := ⟨j 0, j 1, eq_ix2 j⟩
  rw [View.read_apply]
  have ht : t.val < 5 := lt_of_lt_of_eq t.isLt N_0
  have ha := a.isLt
  have hb := b.isLt
  have hr : 1664 * (t.val / 1) + a.val < 8320 := by omega
  have hk : 1024 * (t.val % 1) + b.val < 1024 := by omega
  show (out0_2 (iblk m c 0 t) (iblk m c 1 t) : Vec Ideal S1664x1024 .f32) (ix2 a b) = G m c ((win0_2.rect t).idx (ix2 a b))
  refine (out_apply _ _ a b).trans ?_
  refine Eq.trans ?_ (at_ix2 (G m c : S8320x1024.Idx → EReal) ((win0_2.rect t).idx (ix2 a b)) ⟨_, hr⟩ ⟨_, hk⟩ ?_ ?_).symm
  · refine Eq.trans ?_ (prod_apply _ _ ⟨_, hr⟩ ⟨_, hk⟩).symm
    exact Finset.sum_congr rfl fun k _ => congrArg₂ (· * ·) (iblk0_apply m c t a k ⟨_, hr⟩ k rfl (by omega)) (iblk1_apply m c t k b k ⟨_, hk⟩ (by omega) rfl)
  · show (win0_2.rect t).off 0 + 1 * a.val = 1664 * (t.val / 1) + a.val
    rw [(off2 t).1]; omega
  · show (win0_2.rect t).off 1 + 1 * b.val = 1024 * (t.val % 1) + b.val
    rw [(off2 t).2]; omega

/-- The blocks tile the result. -/
theorem cover (i : S8320x1024.Idx) : ∃ t : Fin cfg0.N, (cfg0.win 2).flush t = true ∧ i ∈ ((cfg0.win 2).blk t).view.set := by
  have h0 : (i 0 : Nat) < 8320 := (i 0).isLt
  have h1 : (i 1 : Nat) < 1024 := (i 1).isLt
  have hN : cfg0.N = 5 := N_0
  let t : Fin cfg0.N := ⟨1 * ((i 0).val / 1664) + (i 1).val / 1024, by omega⟩
  have hq : t.val / 1 = (i 0).val / 1664 := by show (1 * ((i 0).val / 1664) + (i 1).val / 1024) / 1 = _; omega
  have hm : t.val % 1 = (i 1).val / 1024 := by show (1 * ((i 0).val / 1664) + (i 1).val / 1024) % 1 = _; omega
  refine ⟨t, flush0_2 _, ?_⟩
  show i ∈ ((View.whole main_v0).slice (win0_2.rect t)).set
  rw [View.set_slice_whole, Rect.mem_set_unit]
  intro a
  match a with
  | ⟨0, _⟩ =>
    show (win0_2.rect t).off 0 ≤ (i 0 : Nat) ∧ (i 0 : Nat) < (win0_2.rect t).off 0 + 1664
    rw [(off2 _).1, hq]; omega
  | ⟨1, _⟩ =>
    show (win0_2.rect t).off 1 ≤ (i 1 : Nat) ∧ (i 1 : Nat) < (win0_2.rect t).off 1 + 1024
    rw [(off2 _).2, hm]; omega

theorem final (c : Dev nD) : (dats m 0 c).arrAt 2 cfg0.N = G m c :=
  (dats m 0 c).arrAt_eq_of_cover 2 (G m c) (fun t _ => flushed_eq m c t) cover

end Cert.Kernel5Ideal.MmValue

namespace Cert.Reference5Ideal.MmValue

open Cert.Reference5Ideal Cert.Reference5Ideal.Gen Cert.Mm

/-- The reference's term of its arguments. -/
def val (x0 : FVec Ideal S8320x2048 .bf16) (x1 : FVec Ideal S2048x1024 .bf16) : FVec Ideal S8320x1024 .f32 :=
  Host.dotGeneral dot_S8320x2048_S2048x1024_S8320x1024_1_0_0_1_n_n none (extf .f32 x0 bitsLt_bf16_f32) (extf .f32 x1 bitsLt_bf16_f32)

theorem val_eq (x0 : FVec Ideal S8320x2048 .bf16) (x1 : FVec Ideal S2048x1024 .bf16) : val x0 x1 = Cert.Kernel5Ideal.MmValue.spec x0 x1 := by
  refine funext fun i => ?_
  obtain ⟨r, k, rfl⟩ : ∃ (r : Fin 8320) (k : Fin 1024), i = ix2 r k := ⟨i 0, i 1, eq_ix2 i⟩
  show _ = (∑ j : Fin 2048, x0 (ix2 r j) * x1 (ix2 j k))
  pointwise [val]

end Cert.Reference5Ideal.MmValue

namespace Cert.Proof.MmClaims5

theorem frame_reference : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

theorem algebraic : Cert.algebraic_Kernel5Ideal_Reference5Ideal := by
  intro m ρ m' ρ' _ hag
  refine ⟨fun c => Cert.Kernel5Ideal.MmValue.G m c, ?_, ?_⟩
  · exact (θ_run Cert.Kernel5Ideal.defs _ _).mono (fun _ h c => ⟨(h c).1.trans (Cert.Kernel5Ideal.MmValue.final m c), (h c).2⟩)
      (Cert.Kernel5Ideal.Value.run_blocks (F := Ideal) m ρ)
  · refine (θ_run Cert.Reference5Ideal.defs _ _).mono (fun _ h c => ⟨(h c).1.trans ?_, (h c).2⟩)
      (Cert.Reference5Ideal.Value.run (F := Ideal) m' ρ')
    obtain ⟨h0, h1⟩ := hag c
    rw [h0, h1]
    exact Cert.Reference5Ideal.MmValue.val_eq _ _

end Cert.Proof.MmClaims5

end
-- ==== Proof.Mm6.lean ====
/- Layer 1's input projection: point `t` of the grid of 5 by 6 leaves one block of 1664 rows and 1024 columns of
   the product. The blocks tile the result, so the whole array is the plain product. -/
module

public import proofs.«01_k».proof.Defs
public import proofs.«01_k».proof.Proof.MmModel
public import proofs.«01_k».proof.Proof.Gen.Kernel6Ideal.Value
public import proofs.«01_k».proof.Proof.Gen.Reference6Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel6Ideal.MmValue

open Cert.Kernel6Ideal Cert.Kernel6Ideal.Gen Cert.Mm

variable (m : (ℓ : Loc nD τ sig) → Buf (Elt Ideal) ℓ)

/-- The result as a function of the arguments. -/
def spec (x0 : S8320x2048.Idx → EReal) (w : S2048x6144.Idx → EReal) : S8320x6144.Idx → EReal := fun i =>
  prod x0 w i

/-- The whole result array. -/
abbrev G (c : Dev nD) : Buf (Elt Ideal) ((c : Thread nD τ).loc main_v0) :=
  spec (m ((c : Thread nD τ).loc main_arg0)) (m ((c : Thread nD τ).loc main_arg1))

/-! Where the windows' blocks begin at point `t`. -/

theorem off0 : ∀ t : Fin cfg0.N, (win0_0.rect t).off 0 = 1664 * (t.val / 6) ∧ (win0_0.rect t).off 1 = 0 :=
  (by decide +kernel : ∀ t : Fin grid0.N, (win0_0.rect t).off 0 = 1664 * (t.val / 6) ∧ (win0_0.rect t).off 1 = 0)
theorem off1 : ∀ t : Fin cfg0.N, (win0_1.rect t).off 0 = 0 ∧ (win0_1.rect t).off 1 = 1024 * (t.val % 6) :=
  (by decide +kernel : ∀ t : Fin grid0.N, (win0_1.rect t).off 0 = 0 ∧ (win0_1.rect t).off 1 = 1024 * (t.val % 6))
theorem off2 : ∀ t : Fin cfg0.N, (win0_2.rect t).off 0 = 1664 * (t.val / 6) ∧ (win0_2.rect t).off 1 = 1024 * (t.val % 6) :=
  (by decide +kernel : ∀ t : Fin grid0.N, (win0_2.rect t).off 0 = 1664 * (t.val / 6) ∧ (win0_2.rect t).off 1 = 1024 * (t.val % 6))

/-- Window 0's block at point `t`, element by element. -/
theorem iblk0_apply (c : Dev nD) (t : Fin cfg0.N) (a : Fin 1664) (b : Fin 2048) (r : Fin 8320) (k : Fin 2048) (h0 : r.val = 1664 * (t.val / 6) + a.val) (h1 : k.val = 0 + b.val) :
    (iblk m c 0 t : Vec Ideal S1664x2048 .bf16) (ix2 a b) = (m ((c : Thread nD τ).loc main_arg0) : Vec Ideal S8320x2048 .bf16) (ix2 r k) := by
  unfold iblk
  rw [View.read_apply]
  show V m c main_arg0 _ = _
  rw [V_main_arg0]
  refine at_ix2 (m ((c : Thread nD τ).loc main_arg0) : Vec Ideal S8320x2048 .bf16) _ r k ?_ ?_
  · show (win0_0.rect t).off 0 + 1 * a.val = r.val
    rw [(off0 t).1]; omega
  · show (win0_0.rect t).off 1 + 1 * b.val = k.val
    rw [(off0 t).2]; omega

/-- Window 1's block at point `t`, element by element. -/
theorem iblk1_apply (c : Dev nD) (t : Fin cfg0.N) (a : Fin 2048) (b : Fin 1024) (r : Fin 2048) (k : Fin 6144) (h0 : r.val = 0 + a.val) (h1 : k.val = 1024 * (t.val % 6) + b.val) :
    (iblk m c 1 t : Vec Ideal S2048x1024 .bf16) (ix2 a b) = (m ((c : Thread nD τ).loc main_arg1) : Vec Ideal S2048x6144 .bf16) (ix2 r k) := by
  unfold iblk
  rw [View.read_apply]
  show V m c main_arg1 _ = _
  rw [V_main_arg1]
  refine at_ix2 (m ((c : Thread nD τ).loc main_arg1) : Vec Ideal S2048x6144 .bf16) _ r k ?_ ?_
  · show (win0_1.rect t).off 0 + 1 * a.val = r.val
    rw [(off1 t).1]; omega
  · show (win0_1.rect t).off 1 + 1 * b.val = k.val
    rw [(off1 t).2]; omega

/-- The body's block at an index. -/
theorem out_apply (x0 : Vec Ideal S1664x2048 .bf16) (x1 : Vec Ideal S2048x1024 .bf16) (a : Fin 1664) (b : Fin 1024) :
    (out0_2 x0 x1 : Vec Ideal S1664x1024 .f32) (ix2 a b) = (∑ k : Fin 2048, x0 (ix2 a k) * x1 (ix2 k b)) := by
  unfold out0_2
  rw [View.canon_unit_zero zero2]
  rw [View.ld_unit_zero zero2, View.ld_unit_zero zero2]
  pointwise [k0_pay1]

/-- What point `t` writes back is its block of the result. -/
theorem flushed_eq (c : Dev nD) (t : Fin cfg0.N) :
    (dats m 0 c).flushed 2 t = ((cfg0.win 2).blk t).view.read (Elt Ideal) (G m c) := by
  rw [Value.flushed2]
  refine funext fun (j : S1664x1024.Idx) => ?_
  obtain ⟨a, b, rfl⟩ : ∃ (a : Fin 1664) (b : Fin 1024), j = ix2 a b := ⟨j 0, j 1, eq_ix2 j⟩
  rw [View.read_apply]
  have ht : t.val < 30 := lt_of_lt_of_eq t.isLt N_0
  have ha := a.isLt
  have hb := b.isLt
  have hr : 1664 * (t.val / 6) + a.val < 8320 := by omega
  have hk : 1024 * (t.val % 6) + b.val < 6144 := by omega
  show (out0_2 (iblk m c 0 t) (iblk m c 1 t) : Vec Ideal S1664x1024 .f32) (ix2 a b) = G m c ((win0_2.rect t).idx (ix2 a b))
  refine (out_apply _ _ a b).trans ?_
  refine Eq.trans ?_ (at_ix2 (G m c : S8320x6144.Idx → EReal) ((win0_2.rect t).idx (ix2 a b)) ⟨_, hr⟩ ⟨_, hk⟩ ?_ ?_).symm
  · refine Eq.trans ?_ (prod_apply _ _ ⟨_, hr⟩ ⟨_, hk⟩).symm
    exact Finset.sum_congr rfl fun k _ => congrArg₂ (· * ·) (iblk0_apply m c t a k ⟨_, hr⟩ k rfl (by omega)) (iblk1_apply m c t k b k ⟨_, hk⟩ (by omega) rfl)
  · show (win0_2.rect t).off 0 + 1 * a.val = 1664 * (t.val / 6) + a.val
    rw [(off2 t).1]; omega
  · show (win0_2.rect t).off 1 + 1 * b.val = 1024 * (t.val % 6) + b.val
    rw [(off2 t).2]; omega

/-- The blocks tile the result. -/
theorem cover (i : S8320x6144.Idx) : ∃ t : Fin cfg0.N, (cfg0.win 2).flush t = true ∧ i ∈ ((cfg0.win 2).blk t).view.set := by
  have h0 : (i 0 : Nat) < 8320 := (i 0).isLt
  have h1 : (i 1 : Nat) < 6144 := (i 1).isLt
  have hN : cfg0.N = 30 := N_0
  let t : Fin cfg0.N := ⟨6 * ((i 0).val / 1664) + (i 1).val / 1024, by omega⟩
  have hq : t.val / 6 = (i 0).val / 1664 := by show (6 * ((i 0).val / 1664) + (i 1).val / 1024) / 6 = _; omega
  have hm : t.val % 6 = (i 1).val / 1024 := by show (6 * ((i 0).val / 1664) + (i 1).val / 1024) % 6 = _; omega
  refine ⟨t, flush0_2 _, ?_⟩
  show i ∈ ((View.whole main_v0).slice (win0_2.rect t)).set
  rw [View.set_slice_whole, Rect.mem_set_unit]
  intro a
  match a with
  | ⟨0, _⟩ =>
    show (win0_2.rect t).off 0 ≤ (i 0 : Nat) ∧ (i 0 : Nat) < (win0_2.rect t).off 0 + 1664
    rw [(off2 _).1, hq]; omega
  | ⟨1, _⟩ =>
    show (win0_2.rect t).off 1 ≤ (i 1 : Nat) ∧ (i 1 : Nat) < (win0_2.rect t).off 1 + 1024
    rw [(off2 _).2, hm]; omega

theorem final (c : Dev nD) : (dats m 0 c).arrAt 2 cfg0.N = G m c :=
  (dats m 0 c).arrAt_eq_of_cover 2 (G m c) (fun t _ => flushed_eq m c t) cover

end Cert.Kernel6Ideal.MmValue

namespace Cert.Reference6Ideal.MmValue

open Cert.Reference6Ideal Cert.Reference6Ideal.Gen Cert.Mm

/-- The reference's term of its arguments. -/
def val (x0 : FVec Ideal S8320x2048 .bf16) (x1 : FVec Ideal S2048x6144 .bf16) : FVec Ideal S8320x6144 .f32 :=
  Host.dotGeneral dot_S8320x2048_S2048x6144_S8320x6144_1_0_0_1_n_n none (extf .f32 x0 bitsLt_bf16_f32) (extf .f32 x1 bitsLt_bf16_f32)

theorem val_eq (x0 : FVec Ideal S8320x2048 .bf16) (x1 : FVec Ideal S2048x6144 .bf16) : val x0 x1 = Cert.Kernel6Ideal.MmValue.spec x0 x1 := by
  refine funext fun i => ?_
  obtain ⟨r, k, rfl⟩ : ∃ (r : Fin 8320) (k : Fin 6144), i = ix2 r k := ⟨i 0, i 1, eq_ix2 i⟩
  show _ = (∑ j : Fin 2048, x0 (ix2 r j) * x1 (ix2 j k))
  pointwise [val]

end Cert.Reference6Ideal.MmValue

namespace Cert.Proof.MmClaims6

theorem frame_reference : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

theorem algebraic : Cert.algebraic_Kernel6Ideal_Reference6Ideal := by
  intro m ρ m' ρ' _ hag
  refine ⟨fun c => Cert.Kernel6Ideal.MmValue.G m c, ?_, ?_⟩
  · exact (θ_run Cert.Kernel6Ideal.defs _ _).mono (fun _ h c => ⟨(h c).1.trans (Cert.Kernel6Ideal.MmValue.final m c), (h c).2⟩)
      (Cert.Kernel6Ideal.Value.run_blocks (F := Ideal) m ρ)
  · refine (θ_run Cert.Reference6Ideal.defs _ _).mono (fun _ h c => ⟨(h c).1.trans ?_, (h c).2⟩)
      (Cert.Reference6Ideal.Value.run (F := Ideal) m' ρ')
    obtain ⟨h0, h1⟩ := hag c
    rw [h0, h1]
    exact Cert.Reference6Ideal.MmValue.val_eq _ _

end Cert.Proof.MmClaims6

end
-- ==== Proof.Mm7.lean ====
/- Layer 0's output projection, of the two mixers' outputs side by side, added to the layer's input: point `t` of the grid of 5 by 4 leaves one block of 1664 rows and 512 columns of
   the product. The blocks tile the result, so the whole array is the plain product. -/
module

public import proofs.«01_k».proof.Defs
public import proofs.«01_k».proof.Proof.MmModel
public import proofs.«01_k».proof.Proof.Gen.Kernel7Ideal.Value
public import proofs.«01_k».proof.Proof.Gen.Reference7Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel7Ideal.MmValue

open Cert.Kernel7Ideal Cert.Kernel7Ideal.Gen Cert.Mm

variable (m : (ℓ : Loc nD τ sig) → Buf (Elt Ideal) ℓ)

/-- The result as a function of the arguments. -/
def spec (x0 : S8320x1024.Idx → EReal) (x1 : S8320x1024.Idx → EReal) (w : S2048x2048.Idx → EReal) (r : S8320x2048.Idx → EReal) : S8320x2048.Idx → EReal := fun i =>
  r i + ((∑ k : Fin 1024, x0 (ix2 (i 0) k) * w (ix2 ⟨k.val, by omega⟩ (i 1)))
    + ∑ k : Fin 1024, x1 (ix2 (i 0) k) * w (ix2 ⟨1024 + k.val, by omega⟩ (i 1)))

/-- The whole result array. -/
abbrev G (c : Dev nD) : Buf (Elt Ideal) ((c : Thread nD τ).loc main_v0) :=
  spec (m ((c : Thread nD τ).loc main_arg0)) (m ((c : Thread nD τ).loc main_arg1)) (m ((c : Thread nD τ).loc main_arg2)) (m ((c : Thread nD τ).loc main_arg3))

/-! Where the windows' blocks begin at point `t`. -/

theorem off0 : ∀ t : Fin cfg0.N, (win0_0.rect t).off 0 = 1664 * (t.val / 4) ∧ (win0_0.rect t).off 1 = 0 :=
  (by decide +kernel : ∀ t : Fin grid0.N, (win0_0.rect t).off 0 = 1664 * (t.val / 4) ∧ (win0_0.rect t).off 1 = 0)
theorem off1 : ∀ t : Fin cfg0.N, (win0_1.rect t).off 0 = 1664 * (t.val / 4) ∧ (win0_1.rect t).off 1 = 0 :=
  (by decide +kernel : ∀ t : Fin grid0.N, (win0_1.rect t).off 0 = 1664 * (t.val / 4) ∧ (win0_1.rect t).off 1 = 0)
theorem off2 : ∀ t : Fin cfg0.N, (win0_2.rect t).off 0 = 0 ∧ (win0_2.rect t).off 1 = 512 * (t.val % 4) :=
  (by decide +kernel : ∀ t : Fin grid0.N, (win0_2.rect t).off 0 = 0 ∧ (win0_2.rect t).off 1 = 512 * (t.val % 4))
theorem off3 : ∀ t : Fin cfg0.N, (win0_3.rect t).off 0 = 1664 * (t.val / 4) ∧ (win0_3.rect t).off 1 = 512 * (t.val % 4) :=
  (by decide +kernel : ∀ t : Fin grid0.N, (win0_3.rect t).off 0 = 1664 * (t.val / 4) ∧ (win0_3.rect t).off 1 = 512 * (t.val % 4))
theorem off4 : ∀ t : Fin cfg0.N, (win0_4.rect t).off 0 = 1664 * (t.val / 4) ∧ (win0_4.rect t).off 1 = 512 * (t.val % 4) :=
  (by decide +kernel : ∀ t : Fin grid0.N, (win0_4.rect t).off 0 = 1664 * (t.val / 4) ∧ (win0_4.rect t).off 1 = 512 * (t.val % 4))

/-- Window 0's block at point `t`, element by element. -/
theorem iblk0_apply (c : Dev nD) (t : Fin cfg0.N) (a : Fin 1664) (b : Fin 1024) (r : Fin 8320) (k : Fin 1024) (h0 : r.val = 1664 * (t.val / 4) + a.val) (h1 : k.val = 0 + b.val) :
    (iblk m c 0 t : Vec Ideal S1664x1024 .bf16) (ix2 a b) = (m ((c : Thread nD τ).loc main_arg0) : Vec Ideal S8320x1024 .bf16) (ix2 r k) := by
  unfold iblk
  rw [View.read_apply]
  show V m c main_arg0 _ = _
  rw [V_main_arg0]
  refine at_ix2 (m ((c : Thread nD τ).loc main_arg0) : Vec Ideal S8320x1024 .bf16) _ r k ?_ ?_
  · show (win0_0.rect t).off 0 + 1 * a.val = r.val
    rw [(off0 t).1]; omega
  · show (win0_0.rect t).off 1 + 1 * b.val = k.val
    rw [(off0 t).2]; omega

/-- Window 1's block at point `t`, element by element. -/
theorem iblk1_apply (c : Dev nD) (t : Fin cfg0.N) (a : Fin 1664) (b : Fin 1024) (r : Fin 8320) (k : Fin 1024) (h0 : r.val = 1664 * (t.val / 4) + a.val) (h1 : k.val = 0 + b.val) :
    (iblk m c 1 t : Vec Ideal S1664x1024 .bf16) (ix2 a b) = (m ((c : Thread nD τ).loc main_arg1) : Vec Ideal S8320x1024 .bf16) (ix2 r k) := by
  unfold iblk
  rw [View.read_apply]
  show V m c main_arg1 _ = _
  rw [V_main_arg1]
  refine at_ix2 (m ((c : Thread nD τ).loc main_arg1) : Vec Ideal S8320x1024 .bf16) _ r k ?_ ?_
  · show (win0_1.rect t).off 0 + 1 * a.val = r.val
    rw [(off1 t).1]; omega
  · show (win0_1.rect t).off 1 + 1 * b.val = k.val
    rw [(off1 t).2]; omega

/-- Window 2's block at point `t`, element by element. -/
theorem iblk2_apply (c : Dev nD) (t : Fin cfg0.N) (a : Fin 2048) (b : Fin 512) (r : Fin 2048) (k : Fin 2048) (h0 : r.val = 0 + a.val) (h1 : k.val = 512 * (t.val % 4) + b.val) :
    (iblk m c 2 t : Vec Ideal S2048x512 .bf16) (ix2 a b) = (m ((c : Thread nD τ).loc main_arg2) : Vec Ideal S2048x2048 .bf16) (ix2 r k) := by
  unfold iblk
  rw [View.read_apply]
  show V m c main_arg2 _ = _
  rw [V_main_arg2]
  refine at_ix2 (m ((c : Thread nD τ).loc main_arg2) : Vec Ideal S2048x2048 .bf16) _ r k ?_ ?_
  · show (win0_2.rect t).off 0 + 1 * a.val = r.val
    rw [(off2 t).1]; omega
  · show (win0_2.rect t).off 1 + 1 * b.val = k.val
    rw [(off2 t).2]; omega

/-- Window 3's block at point `t`, element by element. -/
theorem iblk3_apply (c : Dev nD) (t : Fin cfg0.N) (a : Fin 1664) (b : Fin 512) (r : Fin 8320) (k : Fin 2048) (h0 : r.val = 1664 * (t.val / 4) + a.val) (h1 : k.val = 512 * (t.val % 4) + b.val) :
    (iblk m c 3 t : Vec Ideal S1664x512 .f32) (ix2 a b) = (m ((c : Thread nD τ).loc main_arg3) : Vec Ideal S8320x2048 .f32) (ix2 r k) := by
  unfold iblk
  rw [View.read_apply]
  show V m c main_arg3 _ = _
  rw [V_main_arg3]
  refine at_ix2 (m ((c : Thread nD τ).loc main_arg3) : Vec Ideal S8320x2048 .f32) _ r k ?_ ?_
  · show (win0_3.rect t).off 0 + 1 * a.val = r.val
    rw [(off3 t).1]; omega
  · show (win0_3.rect t).off 1 + 1 * b.val = k.val
    rw [(off3 t).2]; omega

/-- The body's block at an index. -/
theorem out_apply (x0 : Vec Ideal S1664x1024 .bf16) (x1 : Vec Ideal S1664x1024 .bf16) (x2 : Vec Ideal S2048x512 .bf16) (x3 : Vec Ideal S1664x512 .f32) (a : Fin 1664) (b : Fin 512) :
    (out0_4 x0 x1 x2 x3 : Vec Ideal S1664x512 .f32) (ix2 a b) = x3 (ix2 a b) + ((∑ k : Fin 1024, x0 (ix2 a k) * x2 (ix2 ⟨k.val, by omega⟩ b)) + ∑ k : Fin 1024, x1 (ix2 a k) * x2 (ix2 ⟨1024 + k.val, by omega⟩ b)) := by
  unfold out0_4
  rw [View.canon_unit_zero zero2]
  rw [View.ld_unit_zero zero2, View.ld_unit_zero zero2, View.ld_unit_zero zero2]
  pointwise [k0_pay1]

/-- What point `t` writes back is its block of the result. -/
theorem flushed_eq (c : Dev nD) (t : Fin cfg0.N) :
    (dats m 0 c).flushed 4 t = ((cfg0.win 4).blk t).view.read (Elt Ideal) (G m c) := by
  rw [Value.flushed4]
  refine funext fun (j : S1664x512.Idx) => ?_
  obtain ⟨a, b, rfl⟩ : ∃ (a : Fin 1664) (b : Fin 512), j = ix2 a b := ⟨j 0, j 1, eq_ix2 j⟩
  rw [View.read_apply]
  have ht : t.val < 20 := lt_of_lt_of_eq t.isLt N_0
  have ha := a.isLt
  have hb := b.isLt
  have hr : 1664 * (t.val / 4) + a.val < 8320 := by omega
  have hk : 512 * (t.val % 4) + b.val < 2048 := by omega
  show (out0_4 (iblk m c 0 t) (iblk m c 1 t) (iblk m c 2 t) (iblk m c 3 t) : Vec Ideal S1664x512 .f32) (ix2 a b) = G m c ((win0_4.rect t).idx (ix2 a b))
  refine (out_apply _ _ _ _ a b).trans ?_
  refine Eq.trans ?_ (at_ix2 (G m c : S8320x2048.Idx → EReal) ((win0_4.rect t).idx (ix2 a b)) ⟨_, hr⟩ ⟨_, hk⟩ ?_ ?_).symm
  · show _ = _ + ((∑ k : Fin 1024, (_ : EReal)) + ∑ k : Fin 1024, (_ : EReal))
    exact congrArg₂ (· + ·) (iblk3_apply m c t a b ⟨_, hr⟩ ⟨_, hk⟩ rfl rfl)
      (congrArg₂ (· + ·)
        (Finset.sum_congr rfl fun k _ => congrArg₂ (· * ·) (iblk0_apply m c t a k ⟨_, hr⟩ k rfl (by omega)) (iblk2_apply m c t ⟨k.val, by omega⟩ b ⟨k.val, by omega⟩ ⟨_, hk⟩ (by omega) rfl))
        (Finset.sum_congr rfl fun k _ => congrArg₂ (· * ·) (iblk1_apply m c t a k ⟨_, hr⟩ k rfl (by omega)) (iblk2_apply m c t ⟨1024 + k.val, by omega⟩ b ⟨1024 + k.val, by omega⟩ ⟨_, hk⟩ (by omega) rfl)))
  · show (win0_4.rect t).off 0 + 1 * a.val = 1664 * (t.val / 4) + a.val
    rw [(off4 t).1]; omega
  · show (win0_4.rect t).off 1 + 1 * b.val = 512 * (t.val % 4) + b.val
    rw [(off4 t).2]; omega

/-- The blocks tile the result. -/
theorem cover (i : S8320x2048.Idx) : ∃ t : Fin cfg0.N, (cfg0.win 4).flush t = true ∧ i ∈ ((cfg0.win 4).blk t).view.set := by
  have h0 : (i 0 : Nat) < 8320 := (i 0).isLt
  have h1 : (i 1 : Nat) < 2048 := (i 1).isLt
  have hN : cfg0.N = 20 := N_0
  let t : Fin cfg0.N := ⟨4 * ((i 0).val / 1664) + (i 1).val / 512, by omega⟩
  have hq : t.val / 4 = (i 0).val / 1664 := by show (4 * ((i 0).val / 1664) + (i 1).val / 512) / 4 = _; omega
  have hm : t.val % 4 = (i 1).val / 512 := by show (4 * ((i 0).val / 1664) + (i 1).val / 512) % 4 = _; omega
  refine ⟨t, flush0_4 _, ?_⟩
  show i ∈ ((View.whole main_v0).slice (win0_4.rect t)).set
  rw [View.set_slice_whole, Rect.mem_set_unit]
  intro a
  match a with
  | ⟨0, _⟩ =>
    show (win0_4.rect t).off 0 ≤ (i 0 : Nat) ∧ (i 0 : Nat) < (win0_4.rect t).off 0 + 1664
    rw [(off4 _).1, hq]; omega
  | ⟨1, _⟩ =>
    show (win0_4.rect t).off 1 ≤ (i 1 : Nat) ∧ (i 1 : Nat) < (win0_4.rect t).off 1 + 512
    rw [(off4 _).2, hm]; omega

theorem final (c : Dev nD) : (dats m 0 c).arrAt 4 cfg0.N = G m c :=
  (dats m 0 c).arrAt_eq_of_cover 4 (G m c) (fun t _ => flushed_eq m c t) cover

end Cert.Kernel7Ideal.MmValue

namespace Cert.Reference7Ideal.MmValue

open Cert.Reference7Ideal Cert.Reference7Ideal.Gen Cert.Mm

/-- The reference's term of its arguments. -/
def val (x0 : FVec Ideal S8320x1024 .bf16) (x1 : FVec Ideal S8320x1024 .bf16) (x2 : FVec Ideal S2048x2048 .bf16) (x3 : FVec Ideal S8320x2048 .f32) : FVec Ideal S8320x2048 .f32 :=
  addf x3 (Host.dotGeneral dot_S8320x2048_S2048x2048_S8320x2048_1_0_0_1_n_n none (extf .f32 (concatenate (α := Ideal .bf16) S8320x2048 1 [⟨S8320x1024, x0⟩, ⟨S8320x1024, x1⟩] concatenates_S8320x1024_S8320x1024_S8320x2048_d1) bitsLt_bf16_f32) (extf .f32 x2 bitsLt_bf16_f32))

theorem val_eq (x0 : FVec Ideal S8320x1024 .bf16) (x1 : FVec Ideal S8320x1024 .bf16) (x2 : FVec Ideal S2048x2048 .bf16) (x3 : FVec Ideal S8320x2048 .f32) : val x0 x1 x2 x3 = Cert.Kernel7Ideal.MmValue.spec x0 x1 x2 x3 := by
  refine funext fun i => ?_
  obtain ⟨r, k, rfl⟩ : ∃ (r : Fin 8320) (k : Fin 2048), i = ix2 r k := ⟨i 0, i 1, eq_ix2 i⟩
  show _ = x3 (ix2 r k) + ((∑ j : Fin 1024, x0 (ix2 r j) * x2 (ix2 ⟨j.val, by omega⟩ k)) + ∑ j : Fin 1024, x1 (ix2 r j) * x2 (ix2 ⟨1024 + j.val, by omega⟩ k))
  pointwise [val]

end Cert.Reference7Ideal.MmValue

namespace Cert.Proof.MmClaims7

theorem frame_reference : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

theorem algebraic : Cert.algebraic_Kernel7Ideal_Reference7Ideal := by
  intro m ρ m' ρ' _ hag
  refine ⟨fun c => Cert.Kernel7Ideal.MmValue.G m c, ?_, ?_⟩
  · exact (θ_run Cert.Kernel7Ideal.defs _ _).mono (fun _ h c => ⟨(h c).1.trans (Cert.Kernel7Ideal.MmValue.final m c), (h c).2⟩)
      (Cert.Kernel7Ideal.Value.run_blocks (F := Ideal) m ρ)
  · refine (θ_run Cert.Reference7Ideal.defs _ _).mono (fun _ h c => ⟨(h c).1.trans ?_, (h c).2⟩)
      (Cert.Reference7Ideal.Value.run (F := Ideal) m' ρ')
    obtain ⟨h0, h1, h2, h3⟩ := hag c
    rw [h0, h1, h2, h3]
    exact Cert.Reference7Ideal.MmValue.val_eq _ _ _ _

end Cert.Proof.MmClaims7

end
-- ==== Proof.Mm8.lean ====
/- Layer 1's output projection, added to the layer's input: point `t` of the grid of 5 by 4 leaves one block of 1664 rows and 512 columns of
   the product. The blocks tile the result, so the whole array is the plain product. -/
module

public import proofs.«01_k».proof.Defs
public import proofs.«01_k».proof.Proof.MmModel
public import proofs.«01_k».proof.Proof.Gen.Kernel8Ideal.Value
public import proofs.«01_k».proof.Proof.Gen.Reference8Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel8Ideal.MmValue

open Cert.Kernel8Ideal Cert.Kernel8Ideal.Gen Cert.Mm

variable (m : (ℓ : Loc nD τ sig) → Buf (Elt Ideal) ℓ)

/-- The result as a function of the arguments. -/
def spec (x0 : S8320x2048.Idx → EReal) (w : S2048x2048.Idx → EReal) (r : S8320x2048.Idx → EReal) : S8320x2048.Idx → EReal := fun i =>
  r i + prod x0 w i

/-- The whole result array. -/
abbrev G (c : Dev nD) : Buf (Elt Ideal) ((c : Thread nD τ).loc main_v0) :=
  spec (m ((c : Thread nD τ).loc main_arg0)) (m ((c : Thread nD τ).loc main_arg1)) (m ((c : Thread nD τ).loc main_arg2))

/-! Where the windows' blocks begin at point `t`. -/

theorem off0 : ∀ t : Fin cfg0.N, (win0_0.rect t).off 0 = 1664 * (t.val / 4) ∧ (win0_0.rect t).off 1 = 0 :=
  (by decide +kernel : ∀ t : Fin grid0.N, (win0_0.rect t).off 0 = 1664 * (t.val / 4) ∧ (win0_0.rect t).off 1 = 0)
theorem off1 : ∀ t : Fin cfg0.N, (win0_1.rect t).off 0 = 0 ∧ (win0_1.rect t).off 1 = 512 * (t.val % 4) :=
  (by decide +kernel : ∀ t : Fin grid0.N, (win0_1.rect t).off 0 = 0 ∧ (win0_1.rect t).off 1 = 512 * (t.val % 4))
theorem off2 : ∀ t : Fin cfg0.N, (win0_2.rect t).off 0 = 1664 * (t.val / 4) ∧ (win0_2.rect t).off 1 = 512 * (t.val % 4) :=
  (by decide +kernel : ∀ t : Fin grid0.N, (win0_2.rect t).off 0 = 1664 * (t.val / 4) ∧ (win0_2.rect t).off 1 = 512 * (t.val % 4))
theorem off3 : ∀ t : Fin cfg0.N, (win0_3.rect t).off 0 = 1664 * (t.val / 4) ∧ (win0_3.rect t).off 1 = 512 * (t.val % 4) :=
  (by decide +kernel : ∀ t : Fin grid0.N, (win0_3.rect t).off 0 = 1664 * (t.val / 4) ∧ (win0_3.rect t).off 1 = 512 * (t.val % 4))

/-- Window 0's block at point `t`, element by element. -/
theorem iblk0_apply (c : Dev nD) (t : Fin cfg0.N) (a : Fin 1664) (b : Fin 2048) (r : Fin 8320) (k : Fin 2048) (h0 : r.val = 1664 * (t.val / 4) + a.val) (h1 : k.val = 0 + b.val) :
    (iblk m c 0 t : Vec Ideal S1664x2048 .bf16) (ix2 a b) = (m ((c : Thread nD τ).loc main_arg0) : Vec Ideal S8320x2048 .bf16) (ix2 r k) := by
  unfold iblk
  rw [View.read_apply]
  show V m c main_arg0 _ = _
  rw [V_main_arg0]
  refine at_ix2 (m ((c : Thread nD τ).loc main_arg0) : Vec Ideal S8320x2048 .bf16) _ r k ?_ ?_
  · show (win0_0.rect t).off 0 + 1 * a.val = r.val
    rw [(off0 t).1]; omega
  · show (win0_0.rect t).off 1 + 1 * b.val = k.val
    rw [(off0 t).2]; omega

/-- Window 1's block at point `t`, element by element. -/
theorem iblk1_apply (c : Dev nD) (t : Fin cfg0.N) (a : Fin 2048) (b : Fin 512) (r : Fin 2048) (k : Fin 2048) (h0 : r.val = 0 + a.val) (h1 : k.val = 512 * (t.val % 4) + b.val) :
    (iblk m c 1 t : Vec Ideal S2048x512 .bf16) (ix2 a b) = (m ((c : Thread nD τ).loc main_arg1) : Vec Ideal S2048x2048 .bf16) (ix2 r k) := by
  unfold iblk
  rw [View.read_apply]
  show V m c main_arg1 _ = _
  rw [V_main_arg1]
  refine at_ix2 (m ((c : Thread nD τ).loc main_arg1) : Vec Ideal S2048x2048 .bf16) _ r k ?_ ?_
  · show (win0_1.rect t).off 0 + 1 * a.val = r.val
    rw [(off1 t).1]; omega
  · show (win0_1.rect t).off 1 + 1 * b.val = k.val
    rw [(off1 t).2]; omega

/-- Window 2's block at point `t`, element by element. -/
theorem iblk2_apply (c : Dev nD) (t : Fin cfg0.N) (a : Fin 1664) (b : Fin 512) (r : Fin 8320) (k : Fin 2048) (h0 : r.val = 1664 * (t.val / 4) + a.val) (h1 : k.val = 512 * (t.val % 4) + b.val) :
    (iblk m c 2 t : Vec Ideal S1664x512 .f32) (ix2 a b) = (m ((c : Thread nD τ).loc main_arg2) : Vec Ideal S8320x2048 .f32) (ix2 r k) := by
  unfold iblk
  rw [View.read_apply]
  show V m c main_arg2 _ = _
  rw [V_main_arg2]
  refine at_ix2 (m ((c : Thread nD τ).loc main_arg2) : Vec Ideal S8320x2048 .f32) _ r k ?_ ?_
  · show (win0_2.rect t).off 0 + 1 * a.val = r.val
    rw [(off2 t).1]; omega
  · show (win0_2.rect t).off 1 + 1 * b.val = k.val
    rw [(off2 t).2]; omega

/-- The body's block at an index. -/
theorem out_apply (x0 : Vec Ideal S1664x2048 .bf16) (x1 : Vec Ideal S2048x512 .bf16) (x2 : Vec Ideal S1664x512 .f32) (a : Fin 1664) (b : Fin 512) :
    (out0_3 x0 x1 x2 : Vec Ideal S1664x512 .f32) (ix2 a b) = x2 (ix2 a b) + (∑ k : Fin 2048, x0 (ix2 a k) * x1 (ix2 k b)) := by
  unfold out0_3
  rw [View.canon_unit_zero zero2]
  rw [View.ld_unit_zero zero2, View.ld_unit_zero zero2, View.ld_unit_zero zero2]
  pointwise [k0_pay1]

/-- What point `t` writes back is its block of the result. -/
theorem flushed_eq (c : Dev nD) (t : Fin cfg0.N) :
    (dats m 0 c).flushed 3 t = ((cfg0.win 3).blk t).view.read (Elt Ideal) (G m c) := by
  rw [Value.flushed3]
  refine funext fun (j : S1664x512.Idx) => ?_
  obtain ⟨a, b, rfl⟩ : ∃ (a : Fin 1664) (b : Fin 512), j = ix2 a b := ⟨j 0, j 1, eq_ix2 j⟩
  rw [View.read_apply]
  have ht : t.val < 20 := lt_of_lt_of_eq t.isLt N_0
  have ha := a.isLt
  have hb := b.isLt
  have hr : 1664 * (t.val / 4) + a.val < 8320 := by omega
  have hk : 512 * (t.val % 4) + b.val < 2048 := by omega
  show (out0_3 (iblk m c 0 t) (iblk m c 1 t) (iblk m c 2 t) : Vec Ideal S1664x512 .f32) (ix2 a b) = G m c ((win0_3.rect t).idx (ix2 a b))
  refine (out_apply _ _ _ a b).trans ?_
  refine Eq.trans ?_ (at_ix2 (G m c : S8320x2048.Idx → EReal) ((win0_3.rect t).idx (ix2 a b)) ⟨_, hr⟩ ⟨_, hk⟩ ?_ ?_).symm
  · show _ = _ + ∑ k : Fin 2048, (_ : EReal)
    exact congrArg₂ (· + ·) (iblk2_apply m c t a b ⟨_, hr⟩ ⟨_, hk⟩ rfl rfl)
      (Finset.sum_congr rfl fun k _ => congrArg₂ (· * ·) (iblk0_apply m c t a k ⟨_, hr⟩ k rfl (by omega)) (iblk1_apply m c t k b k ⟨_, hk⟩ (by omega) rfl))
  · show (win0_3.rect t).off 0 + 1 * a.val = 1664 * (t.val / 4) + a.val
    rw [(off3 t).1]; omega
  · show (win0_3.rect t).off 1 + 1 * b.val = 512 * (t.val % 4) + b.val
    rw [(off3 t).2]; omega

/-- The blocks tile the result. -/
theorem cover (i : S8320x2048.Idx) : ∃ t : Fin cfg0.N, (cfg0.win 3).flush t = true ∧ i ∈ ((cfg0.win 3).blk t).view.set := by
  have h0 : (i 0 : Nat) < 8320 := (i 0).isLt
  have h1 : (i 1 : Nat) < 2048 := (i 1).isLt
  have hN : cfg0.N = 20 := N_0
  let t : Fin cfg0.N := ⟨4 * ((i 0).val / 1664) + (i 1).val / 512, by omega⟩
  have hq : t.val / 4 = (i 0).val / 1664 := by show (4 * ((i 0).val / 1664) + (i 1).val / 512) / 4 = _; omega
  have hm : t.val % 4 = (i 1).val / 512 := by show (4 * ((i 0).val / 1664) + (i 1).val / 512) % 4 = _; omega
  refine ⟨t, flush0_3 _, ?_⟩
  show i ∈ ((View.whole main_v0).slice (win0_3.rect t)).set
  rw [View.set_slice_whole, Rect.mem_set_unit]
  intro a
  match a with
  | ⟨0, _⟩ =>
    show (win0_3.rect t).off 0 ≤ (i 0 : Nat) ∧ (i 0 : Nat) < (win0_3.rect t).off 0 + 1664
    rw [(off3 _).1, hq]; omega
  | ⟨1, _⟩ =>
    show (win0_3.rect t).off 1 ≤ (i 1 : Nat) ∧ (i 1 : Nat) < (win0_3.rect t).off 1 + 512
    rw [(off3 _).2, hm]; omega

theorem final (c : Dev nD) : (dats m 0 c).arrAt 3 cfg0.N = G m c :=
  (dats m 0 c).arrAt_eq_of_cover 3 (G m c) (fun t _ => flushed_eq m c t) cover

end Cert.Kernel8Ideal.MmValue

namespace Cert.Reference8Ideal.MmValue

open Cert.Reference8Ideal Cert.Reference8Ideal.Gen Cert.Mm

/-- The reference's term of its arguments. -/
def val (x0 : FVec Ideal S8320x2048 .bf16) (x1 : FVec Ideal S2048x2048 .bf16) (x2 : FVec Ideal S8320x2048 .f32) : FVec Ideal S8320x2048 .f32 :=
  addf x2 (Host.dotGeneral dot_S8320x2048_S2048x2048_S8320x2048_1_0_0_1_n_n none (extf .f32 x0 bitsLt_bf16_f32) (extf .f32 x1 bitsLt_bf16_f32))

theorem val_eq (x0 : FVec Ideal S8320x2048 .bf16) (x1 : FVec Ideal S2048x2048 .bf16) (x2 : FVec Ideal S8320x2048 .f32) : val x0 x1 x2 = Cert.Kernel8Ideal.MmValue.spec x0 x1 x2 := by
  refine funext fun i => ?_
  obtain ⟨r, k, rfl⟩ : ∃ (r : Fin 8320) (k : Fin 2048), i = ix2 r k := ⟨i 0, i 1, eq_ix2 i⟩
  show _ = x2 (ix2 r k) + (∑ j : Fin 2048, x0 (ix2 r j) * x1 (ix2 j k))
  pointwise [val]

end Cert.Reference8Ideal.MmValue

namespace Cert.Proof.MmClaims8

theorem frame_reference : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

theorem algebraic : Cert.algebraic_Kernel8Ideal_Reference8Ideal := by
  intro m ρ m' ρ' _ hag
  refine ⟨fun c => Cert.Kernel8Ideal.MmValue.G m c, ?_, ?_⟩
  · exact (θ_run Cert.Kernel8Ideal.defs _ _).mono (fun _ h c => ⟨(h c).1.trans (Cert.Kernel8Ideal.MmValue.final m c), (h c).2⟩)
      (Cert.Kernel8Ideal.Value.run_blocks (F := Ideal) m ρ)
  · refine (θ_run Cert.Reference8Ideal.defs _ _).mono (fun _ h c => ⟨(h c).1.trans ?_, (h c).2⟩)
      (Cert.Reference8Ideal.Value.run (F := Ideal) m' ρ')
    obtain ⟨h0, h1, h2⟩ := hag c
    rw [h0, h1, h2]
    exact Cert.Reference8Ideal.MmValue.val_eq _ _ _

end Cert.Proof.MmClaims8

end
-- ==== Proof.Kv9.lean ====
/- The prompt's keys and values: two column blocks of the projected rows, from row 112 on. Point `t` copies rows `112 + 1368 t …`;
   the blocks tile the two results. -/
module

public import proofs.«01_k».proof.Defs
public import proofs.«01_k».proof.Proof.MmModel
public import proofs.«01_k».proof.Proof.Gen.Kernel9Ideal.Value
public import proofs.«01_k».proof.Proof.Gen.Reference9Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel9Ideal.KvValue

open Cert.Kernel9Ideal Cert.Kernel9Ideal.Gen Cert.Mm

variable (m : (ℓ : Loc nD τ sig) → Buf (Elt Ideal) ℓ)

/-- Rows from 112 on, columns from `k0` on. -/
def spec (z : S8320x4096.Idx → EReal) (k0 : ℕ) (h : k0 ≤ 3072) : S8208x1024.Idx → EReal := fun i =>
  z (ix2 ⟨112 + (i 0).val, by have h0 : (i 0).val < 8208 := (i 0).isLt; omega⟩ ⟨k0 + (i 1).val, by have h1 : (i 1).val < 1024 := (i 1).isLt; omega⟩)

/-- The keys. -/
abbrev G2 (c : Dev nD) : Buf (Elt Ideal) ((c : Thread nD τ).loc main_v0_0) := spec (m ((c : Thread nD τ).loc main_arg0)) 2048 (by omega)
/-- The values. -/
abbrev G3 (c : Dev nD) : Buf (Elt Ideal) ((c : Thread nD τ).loc main_v0_1) := spec (m ((c : Thread nD τ).loc main_arg0)) 3072 (by omega)

/-! Where the windows' blocks begin at point `t`. -/

theorem off0 : ∀ t : Fin cfg0.N, (win0_0.rect t).off 0 = 112 + 1368 * t.val ∧ (win0_0.rect t).off 1 = 2048 :=
  (by decide +kernel : ∀ t : Fin grid0.N, (win0_0.rect t).off 0 = 112 + 1368 * t.val ∧ (win0_0.rect t).off 1 = 2048)
theorem off1 : ∀ t : Fin cfg0.N, (win0_1.rect t).off 0 = 112 + 1368 * t.val ∧ (win0_1.rect t).off 1 = 3072 :=
  (by decide +kernel : ∀ t : Fin grid0.N, (win0_1.rect t).off 0 = 112 + 1368 * t.val ∧ (win0_1.rect t).off 1 = 3072)
theorem off2 : ∀ t : Fin cfg0.N, (win0_2.rect t).off 0 = 1368 * t.val ∧ (win0_2.rect t).off 1 = 0 :=
  (by decide +kernel : ∀ t : Fin grid0.N, (win0_2.rect t).off 0 = 1368 * t.val ∧ (win0_2.rect t).off 1 = 0)
theorem off3 : ∀ t : Fin cfg0.N, (win0_3.rect t).off 0 = 1368 * t.val ∧ (win0_3.rect t).off 1 = 0 :=
  (by decide +kernel : ∀ t : Fin grid0.N, (win0_3.rect t).off 0 = 1368 * t.val ∧ (win0_3.rect t).off 1 = 0)

/-- Window 0's block at point `t`, element by element. -/
theorem iblk0_apply (c : Dev nD) (t : Fin cfg0.N) (a : Fin 1368) (b : Fin 1024) (r : Fin 8320) (k : Fin 4096) (h0 : r.val = 112 + 1368 * t.val + a.val) (h1 : k.val = 2048 + b.val) :
    (iblk m c 0 t : Vec Ideal S1368x1024 .f32) (ix2 a b) = (m ((c : Thread nD τ).loc main_arg0) : Vec Ideal S8320x4096 .f32) (ix2 r k) := by
  unfold iblk
  rw [View.read_apply]
  show V m c main_arg0 _ = _
  rw [V_main_arg0]
  refine at_ix2 (m ((c : Thread nD τ).loc main_arg0) : Vec Ideal S8320x4096 .f32) _ r k ?_ ?_
  · show (win0_0.rect t).off 0 + 1 * a.val = r.val
    rw [(off0 t).1]; omega
  · show (win0_0.rect t).off 1 + 1 * b.val = k.val
    rw [(off0 t).2]; omega

/-- Window 1's block at point `t`, element by element. -/
theorem iblk1_apply (c : Dev nD) (t : Fin cfg0.N) (a : Fin 1368) (b : Fin 1024) (r : Fin 8320) (k : Fin 4096) (h0 : r.val = 112 + 1368 * t.val + a.val) (h1 : k.val = 3072 + b.val) :
    (iblk m c 1 t : Vec Ideal S1368x1024 .f32) (ix2 a b) = (m ((c : Thread nD τ).loc main_arg0) : Vec Ideal S8320x4096 .f32) (ix2 r k) := by
  unfold iblk
  rw [View.read_apply]
  show V m c main_arg0 _ = _
  rw [V_main_arg0]
  refine at_ix2 (m ((c : Thread nD τ).loc main_arg0) : Vec Ideal S8320x4096 .f32) _ r k ?_ ?_
  · show (win0_1.rect t).off 0 + 1 * a.val = r.val
    rw [(off1 t).1]; omega
  · show (win0_1.rect t).off 1 + 1 * b.val = k.val
    rw [(off1 t).2]; omega

/-- What point `t` writes back is its block of the result. -/
theorem flushed2_eq (c : Dev nD) (t : Fin cfg0.N) :
    (dats m 0 c).flushed 2 t = ((cfg0.win 2).blk t).view.read (Elt Ideal) (G2 m c) := by
  rw [Value.flushed2]
  refine funext fun (j : S1368x1024.Idx) => ?_
  obtain ⟨a, b, rfl⟩ : ∃ (a : Fin 1368) (b : Fin 1024), j = ix2 a b := ⟨j 0, j 1, eq_ix2 j⟩
  rw [View.read_apply]
  have ht : t.val < 6 := lt_of_lt_of_eq t.isLt N_0
  have ha := a.isLt
  have hr : 1368 * t.val + a.val < 8208 := by omega
  show (out0_2 (iblk m c 0 t) (iblk m c 1 t) : Vec Ideal S1368x1024 .f32) (ix2 a b) = G2 m c ((win0_2.rect t).idx (ix2 a b))
  refine Eq.trans ?_ (at_ix2 (G2 m c : S8208x1024.Idx → EReal) ((win0_2.rect t).idx (ix2 a b)) ⟨_, hr⟩ b ?_ ?_).symm
  · unfold out0_2
    rw [View.canon_unit_zero zero2, View.ld_unit_zero zero2]
    exact iblk0_apply m c t a b _ _ (by show 112 + (1368 * t.val + a.val) = _; omega) rfl
  · show (win0_2.rect t).off 0 + 1 * a.val = 1368 * t.val + a.val
    rw [(off2 t).1]; omega
  · show (win0_2.rect t).off 1 + 1 * b.val = b.val
    rw [(off2 t).2]; omega

/-- The blocks tile the result. -/
theorem cover2 (i : S8208x1024.Idx) : ∃ t : Fin cfg0.N, (cfg0.win 2).flush t = true ∧ i ∈ ((cfg0.win 2).blk t).view.set := by
  have h0 : (i 0 : Nat) < 8208 := (i 0).isLt
  have h1 : (i 1 : Nat) < 1024 := (i 1).isLt
  have hN : cfg0.N = 6 := N_0
  let t : Fin cfg0.N := ⟨(i 0).val / 1368, by omega⟩
  refine ⟨t, flush0_2 _, ?_⟩
  show i ∈ ((View.whole main_v0_0).slice (win0_2.rect t)).set
  rw [View.set_slice_whole, Rect.mem_set_unit]
  intro a
  match a with
  | ⟨0, _⟩ =>
    show (win0_2.rect t).off 0 ≤ (i 0 : Nat) ∧ (i 0 : Nat) < (win0_2.rect t).off 0 + 1368
    rw [(off2 _).1, show t.val = (i 0).val / 1368 from rfl]; omega
  | ⟨1, _⟩ =>
    show (win0_2.rect t).off 1 ≤ (i 1 : Nat) ∧ (i 1 : Nat) < (win0_2.rect t).off 1 + 1024
    rw [(off2 _).2]; omega

theorem final2 (c : Dev nD) : (dats m 0 c).arrAt 2 cfg0.N = G2 m c :=
  (dats m 0 c).arrAt_eq_of_cover 2 (G2 m c) (fun t _ => flushed2_eq m c t) cover2

/-- What point `t` writes back is its block of the result. -/
theorem flushed3_eq (c : Dev nD) (t : Fin cfg0.N) :
    (dats m 0 c).flushed 3 t = ((cfg0.win 3).blk t).view.read (Elt Ideal) (G3 m c) := by
  rw [Value.flushed3]
  refine funext fun (j : S1368x1024.Idx) => ?_
  obtain ⟨a, b, rfl⟩ : ∃ (a : Fin 1368) (b : Fin 1024), j = ix2 a b := ⟨j 0, j 1, eq_ix2 j⟩
  rw [View.read_apply]
  have ht : t.val < 6 := lt_of_lt_of_eq t.isLt N_0
  have ha := a.isLt
  have hr : 1368 * t.val + a.val < 8208 := by omega
  show (out0_3 (iblk m c 0 t) (iblk m c 1 t) : Vec Ideal S1368x1024 .f32) (ix2 a b) = G3 m c ((win0_3.rect t).idx (ix2 a b))
  refine Eq.trans ?_ (at_ix2 (G3 m c : S8208x1024.Idx → EReal) ((win0_3.rect t).idx (ix2 a b)) ⟨_, hr⟩ b ?_ ?_).symm
  · unfold out0_3
    rw [View.canon_unit_zero zero2, View.ld_unit_zero zero2]
    exact iblk1_apply m c t a b _ _ (by show 112 + (1368 * t.val + a.val) = _; omega) rfl
  · show (win0_3.rect t).off 0 + 1 * a.val = 1368 * t.val + a.val
    rw [(off3 t).1]; omega
  · show (win0_3.rect t).off 1 + 1 * b.val = b.val
    rw [(off3 t).2]; omega

/-- The blocks tile the result. -/
theorem cover3 (i : S8208x1024.Idx) : ∃ t : Fin cfg0.N, (cfg0.win 3).flush t = true ∧ i ∈ ((cfg0.win 3).blk t).view.set := by
  have h0 : (i 0 : Nat) < 8208 := (i 0).isLt
  have h1 : (i 1 : Nat) < 1024 := (i 1).isLt
  have hN : cfg0.N = 6 := N_0
  let t : Fin cfg0.N := ⟨(i 0).val / 1368, by omega⟩
  refine ⟨t, flush0_3 _, ?_⟩
  show i ∈ ((View.whole main_v0_1).slice (win0_3.rect t)).set
  rw [View.set_slice_whole, Rect.mem_set_unit]
  intro a
  match a with
  | ⟨0, _⟩ =>
    show (win0_3.rect t).off 0 ≤ (i 0 : Nat) ∧ (i 0 : Nat) < (win0_3.rect t).off 0 + 1368
    rw [(off3 _).1, show t.val = (i 0).val / 1368 from rfl]; omega
  | ⟨1, _⟩ =>
    show (win0_3.rect t).off 1 ≤ (i 1 : Nat) ∧ (i 1 : Nat) < (win0_3.rect t).off 1 + 1024
    rw [(off3 _).2]; omega

theorem final3 (c : Dev nD) : (dats m 0 c).arrAt 3 cfg0.N = G3 m c :=
  (dats m 0 c).arrAt_eq_of_cover 3 (G3 m c) (fun t _ => flushed3_eq m c t) cover3

end Cert.Kernel9Ideal.KvValue

namespace Cert.Reference9Ideal.KvValue

open Cert.Reference9Ideal Cert.Reference9Ideal.Gen

theorem keys_eq (z : FVec Ideal S8320x4096 .f32) :
    (extractStridedSlice S8208x1024 ![0, 2048] (extractStridedSlice S8208x4096 ![112, 0] z slices_S8320x4096_S8208x4096_112_0) slices_S8208x4096_S8208x1024_0_2048 : FVec Ideal S8208x1024 .f32)
      = Cert.Kernel9Ideal.KvValue.spec z 2048 (by omega) := by
  refine funext fun i => ?_
  obtain ⟨r, k, rfl⟩ : ∃ (r : Fin 8208) (k : Fin 1024), i = ix2 r k := ⟨i 0, i 1, eq_ix2 i⟩
  show _ = z (ix2 ⟨112 + r.val, by omega⟩ ⟨2048 + k.val, by omega⟩)
  pointwise []

theorem values_eq (z : FVec Ideal S8320x4096 .f32) :
    (extractStridedSlice S8208x1024 ![0, 3072] (extractStridedSlice S8208x4096 ![112, 0] z slices_S8320x4096_S8208x4096_112_0) slices_S8208x4096_S8208x1024_0_3072 : FVec Ideal S8208x1024 .f32)
      = Cert.Kernel9Ideal.KvValue.spec z 3072 (by omega) := by
  refine funext fun i => ?_
  obtain ⟨r, k, rfl⟩ : ∃ (r : Fin 8208) (k : Fin 1024), i = ix2 r k := ⟨i 0, i 1, eq_ix2 i⟩
  show _ = z (ix2 ⟨112 + r.val, by omega⟩ ⟨3072 + k.val, by omega⟩)
  pointwise []

end Cert.Reference9Ideal.KvValue

namespace Cert.Proof.KvClaims

theorem frame_reference : Cert.quiescent_Reference9Ideal := fun m ρ _ =>
  (θ_run Cert.Reference9Ideal.defs _ _).mono (fun r h => ⟨fun c => (h c).2.2,
      Idealize.ShloMosaic.sem_eq_zero_of_no_sems (by decide) r.2⟩)
    (Cert.Reference9Ideal.Value.run (F := Ideal) m ρ)

theorem algebraic : Cert.algebraic_Kernel9Ideal_Reference9Ideal := by
  intro m ρ m' ρ' _ hag
  refine ⟨fun c => Cert.Kernel9Ideal.KvValue.G2 m c, fun c => Cert.Kernel9Ideal.KvValue.G3 m c, ?_, ?_⟩
  · exact (θ_run Cert.Kernel9Ideal.defs _ _).mono
      (fun _ h c => ⟨(h c).1.trans (Cert.Kernel9Ideal.KvValue.final2 m c), (h c).2.1.trans (Cert.Kernel9Ideal.KvValue.final3 m c), (h c).2.2⟩)
      (Cert.Kernel9Ideal.Value.run_blocks (F := Ideal) m ρ)
  · refine (θ_run Cert.Reference9Ideal.defs _ _).mono (fun _ h c => ⟨(h c).1.trans ?_, (h c).2.1.trans ?_, (h c).2.2⟩)
      (Cert.Reference9Ideal.Value.run (F := Ideal) m' ρ')
    · rw [hag c]
      exact Cert.Reference9Ideal.KvValue.keys_eq _
    · rw [hag c]
      exact Cert.Reference9Ideal.KvValue.values_eq _

end Cert.Proof.KvClaims

end
-- ==== Proof.Lead10.lean ====
/- The meta rows set before the prompt's rows, and the first normalisation. Point `t` takes rows `640 t …` of the joined array: point 0's block
   begins with the 128 leading rows (112 of zeros, 16 of meta tokens), the others' lie whole in the prompt. -/
module

public import proofs.«01_k».proof.Defs
public import proofs.«01_k».proof.Proof.MmModel
public import proofs.«01_k».proof.Proof.NormValue
public import proofs.«01_k».proof.Proof.Gen.Kernel10Ideal.Value
public import proofs.«01_k».proof.Proof.Gen.Reference10Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel10Ideal.LeadValue

open Cert.Kernel10Ideal Cert.Kernel10Ideal.Gen Cert.Mm Cert.RowNorm

variable (m : (ℓ : Loc nD τ sig) → Buf (Elt Ideal) ℓ)

/-- The leading rows: zeros, then the meta tokens. -/
def leadAt (mt : S16x2048.Idx → EReal) (r : Fin 128) (k : Fin 2048) : EReal :=
  if h : r.val < 112 then 0 else mt (ix2 ⟨r.val - 112, by omega⟩ k)

/-- The joined rows. -/
def rows (mt : S16x2048.Idx → EReal) (x : S8192x2048.Idx → EReal) : S8320x2048.Idx → EReal := fun i =>
  if h : (i 0).val < 128 then leadAt mt ⟨(i 0).val, h⟩ (i 1)
  else x (ix2 ⟨(i 0).val - 128, by have h0 : (i 0).val < 8320 := (i 0).isLt; omega⟩ (i 1))

/-- Every joined row normalised. -/
def normed (mt : S16x2048.Idx → EReal) (x : S8192x2048.Idx → EReal) (g : S2048.Idx → EReal) : S8320x2048.Idx → EReal := fun i =>
  normAt (fun k => rows mt x (ix2 (i 0) k)) (rows mt x (ix2 (i 0) (i 1))) (g (ix1 (i 1)))

/-- The first result. -/
abbrev G3 (c : Dev nD) : Buf (Elt Ideal) ((c : Thread nD τ).loc main_v3_0) :=
  rows (m ((c : Thread nD τ).loc main_arg0)) (m ((c : Thread nD τ).loc main_arg1))
/-- The second result. -/
abbrev G4 (c : Dev nD) : Buf (Elt Ideal) ((c : Thread nD τ).loc main_v3_1) :=
  normed (m ((c : Thread nD τ).loc main_arg0)) (m ((c : Thread nD τ).loc main_arg1)) (m ((c : Thread nD τ).loc main_arg2))

/-! Where the windows' blocks begin at point `t`. -/

theorem off0 : ∀ t : Fin cfg0.N, (win0_0.rect t).off 0 = 0 ∧ (win0_0.rect t).off 1 = 0 :=
  (by decide +kernel : ∀ t : Fin grid0.N, (win0_0.rect t).off 0 = 0 ∧ (win0_0.rect t).off 1 = 0)
theorem off1 : ∀ t : Fin cfg0.N, (win0_1.rect t).off 0 = 640 * t.val - 128 ∧ (win0_1.rect t).off 1 = 0 :=
  (by decide +kernel : ∀ t : Fin grid0.N, (win0_1.rect t).off 0 = 640 * t.val - 128 ∧ (win0_1.rect t).off 1 = 0)
theorem off2 : ∀ t : Fin cfg0.N, (win0_2.rect t).off 0 = 0 ∧ (win0_2.rect t).off 1 = 0 :=
  (by decide +kernel : ∀ t : Fin grid0.N, (win0_2.rect t).off 0 = 0 ∧ (win0_2.rect t).off 1 = 0)
theorem off3 : ∀ t : Fin cfg0.N, (win0_3.rect t).off 0 = 640 * t.val ∧ (win0_3.rect t).off 1 = 0 :=
  (by decide +kernel : ∀ t : Fin grid0.N, (win0_3.rect t).off 0 = 640 * t.val ∧ (win0_3.rect t).off 1 = 0)
theorem off4 : ∀ t : Fin cfg0.N, (win0_4.rect t).off 0 = 640 * t.val ∧ (win0_4.rect t).off 1 = 0 :=
  (by decide +kernel : ∀ t : Fin grid0.N, (win0_4.rect t).off 0 = 640 * t.val ∧ (win0_4.rect t).off 1 = 0)
theorem coord : ∀ t : Fin cfg0.N, (grid0.coords t 0).val = t.val := (by decide +kernel : ∀ t : Fin grid0.N, (grid0.coords t 0).val = t.val)

/-- Window 1's block at point `t`, element by element. -/
theorem iblk1_apply (c : Dev nD) (t : Fin cfg0.N) (a : Fin 640) (b : Fin 2048) (r : Fin 8192) (k : Fin 2048) (h0 : r.val = 640 * t.val - 128 + a.val) (h1 : k.val = 0 + b.val) :
    (iblk m c 1 t : Vec Ideal S640x2048 .f32) (ix2 a b) = (m ((c : Thread nD τ).loc main_arg1) : Vec Ideal S8192x2048 .f32) (ix2 r k) := by
  unfold iblk
  rw [View.read_apply]
  show V m c main_arg1 _ = _
  rw [V_main_arg1]
  refine at_ix2 (m ((c : Thread nD τ).loc main_arg1) : Vec Ideal S8192x2048 .f32) _ r k ?_ ?_
  · show (win0_1.rect t).off 0 + 1 * a.val = r.val
    rw [(off1 t).1]; omega
  · show (win0_1.rect t).off 1 + 1 * b.val = k.val
    rw [(off1 t).2]; omega

theorem lead_apply (mt : FVec Ideal S16x2048 .f32) (r : Fin 128) (k : Fin 2048) :
    (concatenate (α := Ideal .f32) S128x2048 0 [⟨S112x2048, broadcastInDim S112x2048 ![] bcast_S_S112x2048 (constant (F := Ideal) S_ .f32 0x00000000#32)⟩, ⟨S16x2048, mt⟩]
      concatenates_S112x2048_S16x2048_S128x2048_d0 : FVec Ideal S128x2048 .f32) (ix2 r k) = leadAt mt r k := by
  unfold leadAt
  pointwise []

/-- The leading rows as the region finds them. -/
theorem V_v1 (c : Dev nD) (r : Fin 128) (k : Fin 2048) :
    (V m c main_v1 : Vec Ideal S128x2048 .f32) (ix2 r k) = leadAt (m ((c : Thread nD τ).loc main_arg0)) r k := by
  have e : (V m c main_v1 : Vec Ideal S128x2048 .f32) = concatenate (α := Ideal .f32) S128x2048 0 [⟨S112x2048, broadcastInDim S112x2048 ![] bcast_S_S112x2048 (constant (F := Ideal) S_ .f32 0x00000000#32)⟩, ⟨S16x2048, (m ((c : Thread nD τ).loc main_arg0) : Vec Ideal S16x2048 .f32)⟩]
      concatenates_S112x2048_S16x2048_S128x2048_d0 := by
    unfold V hostOps0
    after_results <;> rfl
  rw [e]
  exact lead_apply _ r k

theorem iblk0_apply (c : Dev nD) (t : Fin cfg0.N) (r : Fin 128) (k : Fin 2048) :
    (iblk m c 0 t : Vec Ideal S128x2048 .f32) (ix2 r k) = leadAt (m ((c : Thread nD τ).loc main_arg0)) r k := by
  unfold iblk
  rw [View.read_apply]
  refine Eq.trans (at_ix2 (V m c main_v1 : Vec Ideal S128x2048 .f32) _ r k ?_ ?_) (V_v1 m c r k)
  · show (win0_0.rect t).off 0 + 1 * r.val = r.val
    rw [(off0 t).1]; omega
  · show (win0_0.rect t).off 1 + 1 * k.val = k.val
    rw [(off0 t).2]; omega

/-- A vector as one row. -/
theorem row_apply (g : Vec Ideal S2048 .f32) (z : Fin 1) (k : Fin 2048) :
    (shapeCast S1x2048 g shapeCasts_S2048_S1x2048 : Vec Ideal S1x2048 .f32) (ix2 z k) = g (ix1 k) := by
  pointwise []

/-- The gains as the region finds them: the argument as one row. -/
theorem V_v2 (c : Dev nD) (z : Fin 1) (k : Fin 2048) :
    (V m c main_v2 : Vec Ideal S1x2048 .f32) (ix2 z k) = (m ((c : Thread nD τ).loc main_arg2) : Vec Ideal S2048 .f32) (ix1 k) := by
  have e : (V m c main_v2 : Vec Ideal S1x2048 .f32) = shapeCast S1x2048 (m ((c : Thread nD τ).loc main_arg2) : Vec Ideal S2048 .f32) shapeCasts_S2048_S1x2048 := by
    unfold V hostOps0
    after_results <;> rfl
  rw [e]
  exact row_apply _ z k

theorem iblk2_apply (c : Dev nD) (t : Fin cfg0.N) (z : Fin 1) (k : Fin 2048) :
    (iblk m c 2 t : Vec Ideal S1x2048 .f32) (ix2 z k) = (m ((c : Thread nD τ).loc main_arg2) : Vec Ideal S2048 .f32) (ix1 k) := by
  unfold iblk
  rw [View.read_apply]
  refine Eq.trans (at_ix2 (V m c main_v2 : Vec Ideal S1x2048 .f32) _ z k ?_ ?_) (V_v2 m c z k)
  · show (win0_2.rect t).off 0 + 1 * z.val = z.val
    rw [(off2 t).1]; omega
  · show (win0_2.rect t).off 1 + 1 * k.val = k.val
    rw [(off2 t).2]; omega

/-- Point 0's rows: the leading block, then the prompt's first rows. -/
theorem pay1_zero (i : grid0.Coords) (hi : (i 0).val = 0) (x0 : Vec Ideal S128x2048 .f32) (x1 : Vec Ideal S512x2048 .f32) (x2 : Vec Ideal S640x2048 .f32) (a : Fin 640) (b : Fin 2048) :
    (k0_pay1 i x0 x1 x2 : FVec Ideal S640x2048 .f32) (ix2 a b)
      = if h : a.val < 128 then x0 (ix2 ⟨a.val, h⟩ b) else x1 (ix2 ⟨a.val - 128, by omega⟩ b) := by
  have hs : Scalar.cmpi .eq (BitVec.ofNat 32 (i 0).val) 0#32 = 1#1 := by rw [hi]; rfl
  unfold k0_pay1
  rw [hs]
  show (concatenate (α := Ideal .f32) S640x2048 0 [⟨S128x2048, shapeCast S128x2048 x0 shapeCasts_S128x2048_S128x2048⟩, ⟨S512x2048, x1⟩] concatenates_S128x2048_S512x2048_S640x2048_d0 : FVec Ideal S640x2048 .f32) (ix2 a b) = _
  pointwise []

/-- Any other point's rows are its window's. -/
theorem pay1_pos (i : grid0.Coords) (hi : (i 0).val ≠ 0) (x0 : Vec Ideal S128x2048 .f32) (x1 : Vec Ideal S512x2048 .f32) (x2 : Vec Ideal S640x2048 .f32) :
    (k0_pay1 i x0 x1 x2 : FVec Ideal S640x2048 .f32) = x2 := by
  have hlt : (i 0).val < 13 := (i 0).isLt
  have hs : Scalar.cmpi .eq (BitVec.ofNat 32 (i 0).val) 0#32 = 0#1 := by
    generalize (i 0).val = v at hi hlt
    interval_cases v <;> first | rfl | exact absurd rfl hi
  show Scalar.select (Scalar.cmpi .eq (BitVec.ofNat 32 (i 0).val) 0#32) _ x2 = x2
  rw [hs]
  rfl

/-- The normalisation of a block's rows. -/
theorem pay2_apply (i : grid0.Coords) (x0 : Vec Ideal S128x2048 .f32) (x1 : Vec Ideal S512x2048 .f32) (x2 : Vec Ideal S640x2048 .f32) (g : Vec Ideal S1x2048 .f32) (a : Fin 640) (b : Fin 2048) :
    (k0_pay2 i x0 x1 x2 g : FVec Ideal S640x2048 .bf16) (ix2 a b)
      = normAt (fun k => (k0_pay1 i x0 x1 x2 : FVec Ideal S640x2048 .f32) (ix2 a k)) ((k0_pay1 i x0 x1 x2 : FVec Ideal S640x2048 .f32) (ix2 a b)) (g (ix2 0 b)) := by
  unfold k0_pay2
  generalize (k0_pay1 i x0 x1 x2 : FVec Ideal S640x2048 .f32) = p
  unfold normAt normOf
  pointwise []

/-- A point's rows are the joined array's. -/
theorem point_rows (c : Dev nD) (t : Fin cfg0.N) (a : Fin 640) (b : Fin 2048) (r : Fin 8320) (hr : r.val = 640 * t.val + a.val) :
    (k0_pay1 (grid0.coords t) (iblk m c 0 t : Vec Ideal S128x2048 .f32) (View.ld (iblk m c 1 t : Vec Ideal S640x2048 .f32) r0_1) (iblk m c 1 t : Vec Ideal S640x2048 .f32) : FVec Ideal S640x2048 .f32) (ix2 a b)
      = rows (m ((c : Thread nD τ).loc main_arg0)) (m ((c : Thread nD τ).loc main_arg1)) (ix2 r b) := by
  have hc := coord t
  by_cases h0 : t.val = 0
  · rw [pay1_zero _ (hc.trans h0)]
    by_cases ha : a.val < 128
    · have h : r.val < 128 := by omega
      rw [dif_pos ha]
      refine (iblk0_apply m c t _ b).trans ?_
      refine Eq.trans ?_ (dif_pos h).symm
      refine congrArg (fun q => leadAt _ q b) (Fin.ext ?_)
      show a.val = r.val
      omega
    · have h : ¬ r.val < 128 := by omega
      rw [dif_neg ha]
      refine Eq.trans ?_ (dif_neg h).symm
      refine (at_ix2 (iblk m c 1 t : Vec Ideal S640x2048 .f32) _ ⟨a.val - 128, by omega⟩ b ?_ ?_).trans
        (iblk1_apply m c t ⟨a.val - 128, by omega⟩ b ⟨r.val - 128, by omega⟩ b ?_ ?_)
      · show 0 + 1 * (a.val - 128) = a.val - 128
        omega
      · show 0 + 1 * b.val = b.val
        omega
      · show r.val - 128 = 640 * t.val - 128 + (a.val - 128)
        omega
      · omega
  · rw [pay1_pos _ (fun e => h0 (hc.symm.trans e))]
    have h : ¬ r.val < 128 := by omega
    refine Eq.trans ?_ (dif_neg h).symm
    refine iblk1_apply m c t a b ⟨r.val - 128, by omega⟩ b ?_ (by omega)
    show r.val - 128 = 640 * t.val - 128 + a.val
    omega

/-- What point `t` writes back is its block of the result. -/
theorem flushed3_eq (c : Dev nD) (t : Fin cfg0.N) :
    (dats m 0 c).flushed 3 t = ((cfg0.win 3).blk t).view.read (Elt Ideal) (G3 m c) := by
  rw [Value.flushed3]
  refine funext fun (j : S640x2048.Idx) => ?_
  obtain ⟨a, b, rfl⟩ : ∃ (a : Fin 640) (b : Fin 2048), j = ix2 a b := ⟨j 0, j 1, eq_ix2 j⟩
  rw [View.read_apply]
  have ht : t.val < 13 := lt_of_lt_of_eq t.isLt N_0
  have ha := a.isLt
  have hr : 640 * t.val + a.val < 8320 := by omega
  show (out0_3 (grid0.coords t) (iblk m c 0 t) (iblk m c 1 t) (iblk m c 2 t) : Vec Ideal S640x2048 .f32) (ix2 a b) = G3 m c ((win0_3.rect t).idx (ix2 a b))
  refine Eq.trans ?_ (at_ix2 (G3 m c : S8320x2048.Idx → EReal) ((win0_3.rect t).idx (ix2 a b)) ⟨_, hr⟩ b ?_ ?_).symm
  · unfold out0_3
    rw [View.canon_unit_zero zero2, View.ld_unit_zero zero2, View.ld_unit_zero zero2]
    exact point_rows m c t a b ⟨_, hr⟩ rfl
  · show (win0_3.rect t).off 0 + 1 * a.val = 640 * t.val + a.val
    rw [(off3 t).1]; omega
  · show (win0_3.rect t).off 1 + 1 * b.val = b.val
    rw [(off3 t).2]; omega

/-- The blocks tile the result. -/
theorem cover3 (i : S8320x2048.Idx) : ∃ t : Fin cfg0.N, (cfg0.win 3).flush t = true ∧ i ∈ ((cfg0.win 3).blk t).view.set := by
  have h0 : (i 0 : Nat) < 8320 := (i 0).isLt
  have h1 : (i 1 : Nat) < 2048 := (i 1).isLt
  have hN : cfg0.N = 13 := N_0
  let t : Fin cfg0.N := ⟨(i 0).val / 640, by omega⟩
  refine ⟨t, flush0_3 _, ?_⟩
  show i ∈ ((View.whole main_v3_0).slice (win0_3.rect t)).set
  rw [View.set_slice_whole, Rect.mem_set_unit]
  intro a
  match a with
  | ⟨0, _⟩ =>
    show (win0_3.rect t).off 0 ≤ (i 0 : Nat) ∧ (i 0 : Nat) < (win0_3.rect t).off 0 + 640
    rw [(off3 _).1, show t.val = (i 0).val / 640 from rfl]; omega
  | ⟨1, _⟩ =>
    show (win0_3.rect t).off 1 ≤ (i 1 : Nat) ∧ (i 1 : Nat) < (win0_3.rect t).off 1 + 2048
    rw [(off3 _).2]; omega

theorem final3 (c : Dev nD) : (dats m 0 c).arrAt 3 cfg0.N = G3 m c :=
  (dats m 0 c).arrAt_eq_of_cover 3 (G3 m c) (fun t _ => flushed3_eq m c t) cover3

/-- What point `t` writes back is its block of the result. -/
theorem flushed4_eq (c : Dev nD) (t : Fin cfg0.N) :
    (dats m 0 c).flushed 4 t = ((cfg0.win 4).blk t).view.read (Elt Ideal) (G4 m c) := by
  rw [Value.flushed4]
  refine funext fun (j : S640x2048.Idx) => ?_
  obtain ⟨a, b, rfl⟩ : ∃ (a : Fin 640) (b : Fin 2048), j = ix2 a b := ⟨j 0, j 1, eq_ix2 j⟩
  rw [View.read_apply]
  have ht : t.val < 13 := lt_of_lt_of_eq t.isLt N_0
  have ha := a.isLt
  have hr : 640 * t.val + a.val < 8320 := by omega
  show (out0_4 (grid0.coords t) (iblk m c 0 t) (iblk m c 1 t) (iblk m c 2 t) : Vec Ideal S640x2048 .bf16) (ix2 a b) = G4 m c ((win0_4.rect t).idx (ix2 a b))
  refine Eq.trans ?_ (at_ix2 (G4 m c : S8320x2048.Idx → EReal) ((win0_4.rect t).idx (ix2 a b)) ⟨_, hr⟩ b ?_ ?_).symm
  · unfold out0_4
    rw [View.canon_unit_zero zero2, View.ld_unit_zero zero2, View.ld_unit_zero zero2, View.ld_unit_zero zero2]
    refine (pay2_apply _ _ _ _ _ a b).trans ?_
    show normAt _ _ _ = normAt _ _ _
    congr 1
    · funext k
      exact point_rows m c t a k ⟨_, hr⟩ rfl
    · exact point_rows m c t a b ⟨_, hr⟩ rfl
    · exact iblk2_apply m c t 0 b
  · show (win0_4.rect t).off 0 + 1 * a.val = 640 * t.val + a.val
    rw [(off4 t).1]; omega
  · show (win0_4.rect t).off 1 + 1 * b.val = b.val
    rw [(off4 t).2]; omega

/-- The blocks tile the result. -/
theorem cover4 (i : S8320x2048.Idx) : ∃ t : Fin cfg0.N, (cfg0.win 4).flush t = true ∧ i ∈ ((cfg0.win 4).blk t).view.set := by
  have h0 : (i 0 : Nat) < 8320 := (i 0).isLt
  have h1 : (i 1 : Nat) < 2048 := (i 1).isLt
  have hN : cfg0.N = 13 := N_0
  let t : Fin cfg0.N := ⟨(i 0).val / 640, by omega⟩
  refine ⟨t, flush0_4 _, ?_⟩
  show i ∈ ((View.whole main_v3_1).slice (win0_4.rect t)).set
  rw [View.set_slice_whole, Rect.mem_set_unit]
  intro a
  match a with
  | ⟨0, _⟩ =>
    show (win0_4.rect t).off 0 ≤ (i 0 : Nat) ∧ (i 0 : Nat) < (win0_4.rect t).off 0 + 640
    rw [(off4 _).1, show t.val = (i 0).val / 640 from rfl]; omega
  | ⟨1, _⟩ =>
    show (win0_4.rect t).off 1 ≤ (i 1 : Nat) ∧ (i 1 : Nat) < (win0_4.rect t).off 1 + 2048
    rw [(off4 _).2]; omega

theorem final4 (c : Dev nD) : (dats m 0 c).arrAt 4 cfg0.N = G4 m c :=
  (dats m 0 c).arrAt_eq_of_cover 4 (G4 m c) (fun t _ => flushed4_eq m c t) cover4

end Cert.Kernel10Ideal.LeadValue

namespace Cert.Reference10Ideal.LeadValue

open Cert.Reference10Ideal Cert.Reference10Ideal.Gen Cert.RowNorm

/-- The reference's joined rows. -/
def joined (mt : FVec Ideal S16x2048 .f32) (x : FVec Ideal S8192x2048 .f32) : FVec Ideal S8320x2048 .f32 :=
  concatenate (α := Ideal .f32) S8320x2048 0 [⟨S112x2048, broadcastInDim S112x2048 ![] bcast_S_S112x2048 (constant (F := Ideal) S_ .f32 0x00000000#32)⟩, ⟨S16x2048, mt⟩, ⟨S8192x2048, x⟩] concatenates_S112x2048_S16x2048_S8192x2048_S8320x2048_d0

theorem joined_eq (mt : FVec Ideal S16x2048 .f32) (x : FVec Ideal S8192x2048 .f32) : joined mt x = Cert.Kernel10Ideal.LeadValue.rows mt x := by
  refine funext fun i => ?_
  obtain ⟨r, k, rfl⟩ : ∃ (r : Fin 8320) (k : Fin 2048), i = ix2 r k := ⟨i 0, i 1, eq_ix2 i⟩
  show _ = if h : r.val < 128 then Cert.Kernel10Ideal.LeadValue.leadAt mt ⟨r.val, h⟩ k else x (ix2 ⟨r.val - 128, by omega⟩ k)
  unfold Cert.Kernel10Ideal.LeadValue.leadAt
  pointwise [joined]
  by_cases h1 : r.val < 112
  · have h2 : r.val < 128 := by omega
    simp only [dif_pos h1, dif_pos h2]
  · by_cases h2 : r.val < 128
    · have h3 : r.val - 112 < 16 := by omega
      simp only [dif_neg h1, dif_pos h2, dif_pos h3]
    · have h3 : ¬ r.val - 112 < 16 := by omega
      simp only [dif_neg h1, dif_neg h2, dif_neg h3]
      exact congrArg (fun q => x (ix2 q k)) (Fin.ext (by show r.val - 112 - 16 = r.val - 128; omega))

/-- The reference's normalised rows of the joined ones. -/
def val (h : FVec Ideal S8320x2048 .f32) (g : FVec Ideal S2048 .f32) : FVec Ideal S8320x2048 .bf16 :=
  truncf .bf16 (mulf (mulf h (broadcastInDim S8320x2048 ![0, 1] bcast_S8320x1_S8320x2048_0_1 (Host.rsqrt (F := Ideal) (addf (Host.divf (broadcastInDim S8320x1 ![0] bcast_S8320_S8320x1_0 (Host.reduceAdd (mulf h h) (constant (F := Ideal) S_ .f32 0x00000000#32) reducesTo_S8320x2048_S8320_d1 h_S_)) (broadcastInDim S8320x1 ![] bcast_S_S8320x1 (constant (F := Ideal) S_ .f32 0x45000000#32))) (broadcastInDim S8320x1 ![] bcast_S_S8320x1 (constant (F := Ideal) S_ .f32 0x358637BD#32)))))) (broadcastInDim S8320x2048 ![0, 1] bcast_S1x2048_S8320x2048_0_1 (broadcastInDim S1x2048 ![1] bcast_S2048_S1x2048_1 g))) bitsLt_bf16_f32

theorem val_eq (h : FVec Ideal S8320x2048 .f32) (g : FVec Ideal S2048 .f32) (r : Fin 8320) (k : Fin 2048) :
    val h g (ix2 r k) = normAt (fun k => h (ix2 r k)) (h (ix2 r k)) (g (ix1 k)) := by
  unfold normAt normOf
  pointwise [val]

theorem normed_eq (mt : FVec Ideal S16x2048 .f32) (x : FVec Ideal S8192x2048 .f32) (g : FVec Ideal S2048 .f32) :
    val (joined mt x) g = Cert.Kernel10Ideal.LeadValue.normed mt x g := by
  refine funext fun i => ?_
  obtain ⟨r, k, rfl⟩ : ∃ (r : Fin 8320) (k : Fin 2048), i = ix2 r k := ⟨i 0, i 1, eq_ix2 i⟩
  rw [joined_eq]
  exact val_eq _ g r k

end Cert.Reference10Ideal.LeadValue

namespace Cert.Proof.LeadClaims

theorem frame_reference : Cert.quiescent_Reference10Ideal := fun m ρ _ =>
  (θ_run Cert.Reference10Ideal.defs _ _).mono (fun r h => ⟨fun c => (h c).2.2,
      Idealize.ShloMosaic.sem_eq_zero_of_no_sems (by decide) r.2⟩)
    (Cert.Reference10Ideal.Value.run (F := Ideal) m ρ)

theorem algebraic : Cert.algebraic_Kernel10Ideal_Reference10Ideal := by
  intro m ρ m' ρ' _ hag
  refine ⟨fun c => Cert.Kernel10Ideal.LeadValue.G3 m c, fun c => Cert.Kernel10Ideal.LeadValue.G4 m c, ?_, ?_⟩
  · exact (θ_run Cert.Kernel10Ideal.defs _ _).mono
      (fun _ h c => ⟨(h c).1.trans (Cert.Kernel10Ideal.LeadValue.final3 m c), (h c).2.1.trans (Cert.Kernel10Ideal.LeadValue.final4 m c), (h c).2.2⟩)
      (Cert.Kernel10Ideal.Value.run_blocks (F := Ideal) m ρ)
  · refine (θ_run Cert.Reference10Ideal.defs _ _).mono (fun _ h c => ⟨(h c).1.trans ?_, (h c).2.1.trans ?_, (h c).2.2⟩)
      (Cert.Reference10Ideal.Value.run (F := Ideal) m' ρ')
    · rw [(hag c).1, (hag c).2.1]
      exact Cert.Reference10Ideal.LeadValue.joined_eq _ _
    · rw [(hag c).1, (hag c).2.1, (hag c).2.2]
      exact Cert.Reference10Ideal.LeadValue.normed_eq _ _ _

end Cert.Proof.LeadClaims

end
-- ==== Proof.Mid11.lean ====
/- The normalisation before the second layer's projection: point `t` normalises rows `1664 t …` by their root mean square and scales them by the gains. -/
module

public import proofs.«01_k».proof.Defs
public import proofs.«01_k».proof.Proof.MmModel
public import proofs.«01_k».proof.Proof.NormValue
public import proofs.«01_k».proof.Proof.Gen.Kernel11Ideal.Value
public import proofs.«01_k».proof.Proof.Gen.Reference11Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel11Ideal.MidValue

open Cert.Kernel11Ideal Cert.Kernel11Ideal.Gen Cert.Mm Cert.RowNorm

variable (m : (ℓ : Loc nD τ sig) → Buf (Elt Ideal) ℓ)

/-- Every row normalised. -/
def spec (x : S8320x2048.Idx → EReal) (g : S2048.Idx → EReal) : S8320x2048.Idx → EReal := fun i =>
  normAt (fun k => x (ix2 (i 0) k)) (x (ix2 (i 0) (i 1))) (g (ix1 (i 1)))

/-- The whole result array. -/
abbrev G (c : Dev nD) : Buf (Elt Ideal) ((c : Thread nD τ).loc main_v1) :=
  spec (m ((c : Thread nD τ).loc main_arg0)) (m ((c : Thread nD τ).loc main_arg1))

/-! Where the windows' blocks begin at point `t`. -/

theorem off0 : ∀ t : Fin cfg0.N, (win0_0.rect t).off 0 = 1664 * t.val ∧ (win0_0.rect t).off 1 = 0 :=
  (by decide +kernel : ∀ t : Fin grid0.N, (win0_0.rect t).off 0 = 1664 * t.val ∧ (win0_0.rect t).off 1 = 0)
theorem off1 : ∀ t : Fin cfg0.N, (win0_1.rect t).off 0 = 0 ∧ (win0_1.rect t).off 1 = 0 :=
  (by decide +kernel : ∀ t : Fin grid0.N, (win0_1.rect t).off 0 = 0 ∧ (win0_1.rect t).off 1 = 0)
theorem off2 : ∀ t : Fin cfg0.N, (win0_2.rect t).off 0 = 1664 * t.val ∧ (win0_2.rect t).off 1 = 0 :=
  (by decide +kernel : ∀ t : Fin grid0.N, (win0_2.rect t).off 0 = 1664 * t.val ∧ (win0_2.rect t).off 1 = 0)

/-- Window 0's block at point `t`, element by element. -/
theorem iblk0_apply (c : Dev nD) (t : Fin cfg0.N) (a : Fin 1664) (b : Fin 2048) (r : Fin 8320) (k : Fin 2048) (h0 : r.val = 1664 * t.val + a.val) (h1 : k.val = 0 + b.val) :
    (iblk m c 0 t : Vec Ideal S1664x2048 .f32) (ix2 a b) = (m ((c : Thread nD τ).loc main_arg0) : Vec Ideal S8320x2048 .f32) (ix2 r k) := by
  unfold iblk
  rw [View.read_apply]
  show V m c main_arg0 _ = _
  rw [V_main_arg0]
  refine at_ix2 (m ((c : Thread nD τ).loc main_arg0) : Vec Ideal S8320x2048 .f32) _ r k ?_ ?_
  · show (win0_0.rect t).off 0 + 1 * a.val = r.val
    rw [(off0 t).1]; omega
  · show (win0_0.rect t).off 1 + 1 * b.val = k.val
    rw [(off0 t).2]; omega

/-- A vector as one row. -/
theorem row_apply (g : Vec Ideal S2048 .f32) (z : Fin 1) (k : Fin 2048) :
    (shapeCast S1x2048 g shapeCasts_S2048_S1x2048 : Vec Ideal S1x2048 .f32) (ix2 z k) = g (ix1 k) := by
  pointwise []

/-- The gains as the region finds them: the argument as one row. -/
theorem V_v0 (c : Dev nD) (z : Fin 1) (k : Fin 2048) :
    (V m c main_v0 : Vec Ideal S1x2048 .f32) (ix2 z k) = (m ((c : Thread nD τ).loc main_arg1) : Vec Ideal S2048 .f32) (ix1 k) := by
  have e : (V m c main_v0 : Vec Ideal S1x2048 .f32) = shapeCast S1x2048 (m ((c : Thread nD τ).loc main_arg1) : Vec Ideal S2048 .f32) shapeCasts_S2048_S1x2048 := by
    unfold V hostOps0
    after_results
    rfl
  rw [e]
  exact row_apply _ z k

theorem iblk1_apply (c : Dev nD) (t : Fin cfg0.N) (z : Fin 1) (k : Fin 2048) :
    (iblk m c 1 t : Vec Ideal S1x2048 .f32) (ix2 z k) = (m ((c : Thread nD τ).loc main_arg1) : Vec Ideal S2048 .f32) (ix1 k) := by
  unfold iblk
  rw [View.read_apply]
  refine Eq.trans (at_ix2 (V m c main_v0 : Vec Ideal S1x2048 .f32) _ z k ?_ ?_) (V_v0 m c z k)
  · show (win0_1.rect t).off 0 + 1 * z.val = z.val
    rw [(off1 t).1]; omega
  · show (win0_1.rect t).off 1 + 1 * k.val = k.val
    rw [(off1 t).2]; omega

/-- The body's block at an index. -/
theorem out_apply (x0 : Vec Ideal S1664x2048 .f32) (x1 : Vec Ideal S1x2048 .f32) (a : Fin 1664) (b : Fin 2048) :
    (out0_2 x0 x1 : Vec Ideal S1664x2048 .bf16) (ix2 a b) = normAt (fun k => x0 (ix2 a k)) (x0 (ix2 a b)) (x1 (ix2 0 b)) := by
  unfold out0_2
  rw [View.canon_unit_zero zero2, View.ld_unit_zero zero2, View.ld_unit_zero zero2]
  unfold normAt normOf
  pointwise [k0_pay1]

/-- What point `t` writes back is its block of the result. -/
theorem flushed2_eq (c : Dev nD) (t : Fin cfg0.N) :
    (dats m 0 c).flushed 2 t = ((cfg0.win 2).blk t).view.read (Elt Ideal) (G m c) := by
  rw [Value.flushed2]
  refine funext fun (j : S1664x2048.Idx) => ?_
  obtain ⟨a, b, rfl⟩ : ∃ (a : Fin 1664) (b : Fin 2048), j = ix2 a b := ⟨j 0, j 1, eq_ix2 j⟩
  rw [View.read_apply]
  have ht : t.val < 5 := lt_of_lt_of_eq t.isLt N_0
  have ha := a.isLt
  have hr : 1664 * t.val + a.val < 8320 := by omega
  show (out0_2 (iblk m c 0 t) (iblk m c 1 t) : Vec Ideal S1664x2048 .bf16) (ix2 a b) = G m c ((win0_2.rect t).idx (ix2 a b))
  refine Eq.trans ?_ (at_ix2 (G m c : S8320x2048.Idx → EReal) ((win0_2.rect t).idx (ix2 a b)) ⟨_, hr⟩ b ?_ ?_).symm
  · refine (out_apply _ _ a b).trans ?_
    show normAt _ _ _ = normAt _ _ _
    congr 1
    · funext k
      exact iblk0_apply m c t a k ⟨_, hr⟩ k rfl (by omega)
    · exact iblk0_apply m c t a b ⟨_, hr⟩ b rfl (by omega)
    · exact iblk1_apply m c t 0 b
  · show (win0_2.rect t).off 0 + 1 * a.val = 1664 * t.val + a.val
    rw [(off2 t).1]; omega
  · show (win0_2.rect t).off 1 + 1 * b.val = b.val
    rw [(off2 t).2]; omega

/-- The blocks tile the result. -/
theorem cover2 (i : S8320x2048.Idx) : ∃ t : Fin cfg0.N, (cfg0.win 2).flush t = true ∧ i ∈ ((cfg0.win 2).blk t).view.set := by
  have h0 : (i 0 : Nat) < 8320 := (i 0).isLt
  have h1 : (i 1 : Nat) < 2048 := (i 1).isLt
  have hN : cfg0.N = 5 := N_0
  let t : Fin cfg0.N := ⟨(i 0).val / 1664, by omega⟩
  refine ⟨t, flush0_2 _, ?_⟩
  show i ∈ ((View.whole main_v1).slice (win0_2.rect t)).set
  rw [View.set_slice_whole, Rect.mem_set_unit]
  intro a
  match a with
  | ⟨0, _⟩ =>
    show (win0_2.rect t).off 0 ≤ (i 0 : Nat) ∧ (i 0 : Nat) < (win0_2.rect t).off 0 + 1664
    rw [(off2 _).1, show t.val = (i 0).val / 1664 from rfl]; omega
  | ⟨1, _⟩ =>
    show (win0_2.rect t).off 1 ≤ (i 1 : Nat) ∧ (i 1 : Nat) < (win0_2.rect t).off 1 + 2048
    rw [(off2 _).2]; omega

theorem final2 (c : Dev nD) : (dats m 0 c).arrAt 2 cfg0.N = G m c :=
  (dats m 0 c).arrAt_eq_of_cover 2 (G m c) (fun t _ => flushed2_eq m c t) cover2

end Cert.Kernel11Ideal.MidValue

namespace Cert.Reference11Ideal.MidValue

open Cert.Reference11Ideal Cert.Reference11Ideal.Gen Cert.RowNorm

/-- The reference's term of its arguments. -/
def val (x : FVec Ideal S8320x2048 .f32) (g : FVec Ideal S2048 .f32) : FVec Ideal S8320x2048 .bf16 :=
  truncf .bf16 (mulf (mulf x (broadcastInDim S8320x2048 ![0, 1] bcast_S8320x1_S8320x2048_0_1 (Host.rsqrt (F := Ideal) (addf (Host.divf (broadcastInDim S8320x1 ![0] bcast_S8320_S8320x1_0 (Host.reduceAdd (mulf x x) (constant (F := Ideal) S_ .f32 0x00000000#32) reducesTo_S8320x2048_S8320_d1 h_S_)) (broadcastInDim S8320x1 ![] bcast_S_S8320x1 (constant (F := Ideal) S_ .f32 0x45000000#32))) (broadcastInDim S8320x1 ![] bcast_S_S8320x1 (constant (F := Ideal) S_ .f32 0x358637BD#32)))))) (broadcastInDim S8320x2048 ![0, 1] bcast_S1x2048_S8320x2048_0_1 (broadcastInDim S1x2048 ![1] bcast_S2048_S1x2048_1 g))) bitsLt_bf16_f32

theorem val_eq (x : FVec Ideal S8320x2048 .f32) (g : FVec Ideal S2048 .f32) : val x g = Cert.Kernel11Ideal.MidValue.spec x g := by
  refine funext fun i => ?_
  obtain ⟨r, k, rfl⟩ : ∃ (r : Fin 8320) (k : Fin 2048), i = ix2 r k := ⟨i 0, i 1, eq_ix2 i⟩
  show _ = normAt (fun k => x (ix2 r k)) (x (ix2 r k)) (g (ix1 k))
  unfold normAt normOf
  pointwise [val]

end Cert.Reference11Ideal.MidValue

namespace Cert.Proof.MidClaims

theorem frame_reference : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)

theorem algebraic : Cert.algebraic_Kernel11Ideal_Reference11Ideal := by
  intro m ρ m' ρ' _ hag
  refine ⟨fun c => Cert.Kernel11Ideal.MidValue.G m c, ?_, ?_⟩
  · exact (θ_run Cert.Kernel11Ideal.defs _ _).mono (fun _ h c => ⟨(h c).1.trans (Cert.Kernel11Ideal.MidValue.final2 m c), (h c).2⟩)
      (Cert.Kernel11Ideal.Value.run_blocks (F := Ideal) m ρ)
  · refine (θ_run Cert.Reference11Ideal.defs _ _).mono (fun _ h c => ⟨(h c).1.trans ?_, (h c).2⟩)
      (Cert.Reference11Ideal.Value.run (F := Ideal) m' ρ')
    rw [(hag c).1, (hag c).2]
    exact Cert.Reference11Ideal.MidValue.val_eq _ _

end Cert.Proof.MidClaims

end
-- ==== Proof.ForgetModel.lean ====
module
public import proofs.«01_k».proof.Defs
public import proofs.«01_k».proof.Proof.Gen.Kernel12Ideal.Value
public import proofs.«01_k».proof.Proof.MmModel
public import Idealize.ShloMosaic.Lib.Routing.OpsOne
@[expose] public section
set_option maxRecDepth 16384
noncomputable section
open Idealize.ShloMosaic Idealize.ShloMosaic.TcCoe Idealize.SL.Sem

namespace Cert.Forget

/-! The log forget values and their running sums, in extended reals. -/

/-- The log of the sigmoid. -/
def logf (x : EReal) : EReal := min x 0 - Ideal.log (1 + Ideal.exp (0 - max x (-x)))

/-- The logarithm's term is a real number, whatever the argument. -/
theorem log_term (x : EReal) : ∃ l : ℝ, Ideal.log (1 + Ideal.exp (0 - max x (-x))) = (l : EReal) := by
  induction x using EReal.rec with
  | bot =>
    refine ⟨Real.log 1, ?_⟩
    rw [show max (⊥ : EReal) (-⊥) = ⊤ by simp, show (0 : EReal) - ⊤ = ⊥ by simp]
    show Ideal.log (1 + 0) = _
    rw [add_zero]
    show (if (1 : ℝ) ≤ 0 then (⊥ : EReal) else (Real.log 1 : EReal)) = _
    rw [if_neg (by norm_num)]
  | top =>
    refine ⟨Real.log 1, ?_⟩
    rw [show max (⊤ : EReal) (-⊤) = ⊤ by simp, show (0 : EReal) - ⊤ = ⊥ by simp]
    show Ideal.log (1 + 0) = _
    rw [add_zero]
    show (if (1 : ℝ) ≤ 0 then (⊥ : EReal) else (Real.log 1 : EReal)) = _
    rw [if_neg (by norm_num)]
  | coe r =>
    refine ⟨Real.log (1 + Real.exp (0 - max r (-r))), ?_⟩
    have e : (0 : EReal) - max (r : EReal) (-(r : EReal)) = ((0 - max r (-r) : ℝ) : EReal) := by
      rw [← EReal.coe_neg, ← EReal.coe_strictMono.monotone.map_max, ← EReal.coe_zero, ← EReal.coe_sub]
    rw [e]
    show Ideal.log (1 + (Real.exp (0 - max r (-r)) : EReal)) = _
    rw [← EReal.coe_one, ← EReal.coe_add]
    show (if 1 + Real.exp (0 - max r (-r)) ≤ 0 then (⊥ : EReal) else (Real.log (1 + Real.exp (0 - max r (-r))) : EReal)) = _
    rw [if_neg (by have := Real.exp_pos (0 - max r (-r)); linarith)]

theorem logf_ne_top (x : EReal) : logf x ≠ ⊤ := by
  obtain ⟨l, hl⟩ := log_term x
  unfold logf
  rw [hl]
  have h0 : min x 0 ≠ ⊤ := ne_top_of_le_ne_top EReal.zero_ne_top (min_le_right x 0)
  intro h
  induction hm : min x 0 using EReal.rec with
  | bot => rw [hm] at h; exact absurd h (by simp)
  | top => exact h0 hm
  | coe r => rw [hm, ← EReal.coe_sub] at h; exact EReal.coe_ne_top _ h

/-- The log of the sigmoid as minus a softplus. -/
theorem neg_softplus (x : EReal) : -(max (-x) 0 + Ideal.log (1 + Ideal.exp (-(max (-x) (-(-x)))))) = logf x := by
  obtain ⟨l, hl⟩ := log_term x
  have e : -(max (-x) (-(-x))) = 0 - max x (-x) := by rw [neg_neg, max_comm, zero_sub]
  unfold logf
  rw [e, hl, EReal.neg_add (Or.inr (EReal.coe_ne_top l)) (Or.inr (EReal.coe_ne_bot l))]
  congr 1
  rcases le_total x 0 with h | h
  · rw [min_eq_left h, max_eq_left (by simpa using EReal.neg_le_neg_iff.2 h), neg_neg]
  · rw [min_eq_right h, max_eq_right (by simpa using EReal.neg_le_neg_iff.2 h), neg_zero]

/-- What is left of a number after taking it away from itself, and again: nothing that changes it. -/
theorem absorb (x : EReal) (h : x ≠ ⊤) : x + (x - x) + ((x - x) - (x - x)) = x := by
  induction x using EReal.rec with
  | bot => simp
  | top => exact absurd rfl h
  | coe r =>
    rw [← EReal.coe_sub, ← EReal.coe_sub, ← EReal.coe_add, ← EReal.coe_add]
    congr 1
    ring

/-- The sum of the first `n` values. -/
def pref (f : ℕ → EReal) (n : ℕ) : EReal := ∑ i ∈ Finset.range n, f i

theorem pref_add (f : ℕ → EReal) (n k : ℕ) : pref f (n + k) = pref (fun i => f (n + i)) k + pref f n := by
  unfold pref
  rw [Finset.sum_range_add, add_comm]

/-- A sum over a block's rows up to one of them. -/
theorem sum_upto {N : ℕ} (g : ℕ → EReal) (a : Fin N) : (∑ k : Fin N, if k.val ≤ a.val then g k.val else 0) = pref g (a.val + 1) := by
  rw [Fin.sum_univ_eq_sum_range (fun k => if k ≤ a.val then g k else 0) N, ← Finset.sum_filter]
  unfold pref
  refine Finset.sum_congr (Finset.ext fun k => ?_) fun _ _ => rfl
  have := a.isLt
  rw [Finset.mem_filter, Finset.mem_range, Finset.mem_range]
  omega

/-- A fold that adds is a sum. -/
theorem foldl_plus {ι : Type} (g : ι → EReal) : ∀ (L : List ι) (v : EReal), L.foldl (fun r n => r + g n) v = v + (L.map g).sum
  | [], v => by simp
  | n :: L, v => by rw [List.foldl_cons, foldl_plus g L, List.map_cons, List.sum_cons, add_assoc]

/-- The terms a window padded low picks, added up: the first ones. -/
theorem padded_sum (f : ℕ → EReal) (R j : ℕ) (hj : j < R + 1) :
    (∑ n ∈ Finset.range (R + 1), if R ≤ j + n then f (j + n - R) else 0) = pref f (j + 1) := by
  rw [show R + 1 = (R - j) + (j + 1) by omega, Finset.sum_range_add, Finset.sum_eq_zero, zero_add]
  · unfold pref
    refine Finset.sum_congr rfl fun i hi => ?_
    rw [if_pos (by omega)]
    congr 1
    omega
  · intro n hn
    rw [Finset.mem_range] at hn
    rw [if_neg (by omega)]

/-- The sum over a window of the whole height, padded low by one less: the running sum of a lane. -/
theorem window_sum {R Rm1 C : ℕ} (hR : Rm1 + 1 = R) (x : (⟨2, ![R, C]⟩ : Shape).Idx → EReal) (f : ℕ → EReal) (l : Fin C) (hx : ∀ i : Fin R, x (ix2 i l) = f i.val)
    {u : Shape} (v : u.Idx → EReal) (hv : ∀ i, v i = 0)
    (h : (⟨2, ![R, C]⟩ : Shape).ReduceWindows (![R, 1] : Fin 2 → ℕ) ![1, 1] ![Rm1, 0] ![0, 0] ⟨2, ![R, C]⟩) (hu : 0 < u.numel) (j : Fin R) :
    Host.reduceWindow (fun a b : EReal => a + b) (![R, 1] : Fin 2 → ℕ) ![1, 1] ![Rm1, 0] ![0, 0] x v h hu (ix2 j l) = pref f (j.val + 1) := by
  subst hR
  have hj := j.isLt
  have hl := l.isLt
  unfold Host.reduceWindow
  dsimp only
  rw [foldl_plus, hv, zero_add, ← Fin.sum_univ_def, ← padded_sum f Rm1 j.val hj, ← Fin.sum_univ_eq_sum_range (fun n => if Rm1 ≤ j.val + n then f (j.val + n - Rm1) else 0) (Rm1 + 1)]
  refine Fintype.sum_equiv (finCongr (Idealize.ShloMosaic.Routing.numel_col (Rm1 + 1))) _ _ fun n => ?_
  have hn : n.val < Rm1 + 1 := lt_of_lt_of_eq n.isLt (Idealize.ShloMosaic.Routing.numel_col (Rm1 + 1))
  have e0 : ((⟨2, ![Rm1 + 1, 1]⟩ : Shape).rowMajor.symm n 0).val = n.val := congrArg (fun w => (w 0).val) (Idealize.ShloMosaic.Routing.symm_col n)
  have e1 : ((⟨2, ![Rm1 + 1, 1]⟩ : Shape).rowMajor.symm n 1).val = 0 := congrArg (fun w => (w 1).val) (Idealize.ShloMosaic.Routing.symm_col n)
  show _ = if Rm1 ≤ j.val + n.val then f (j.val + n.val - Rm1) else 0
  by_cases hc : Rm1 ≤ j.val + n.val
  · rw [if_pos hc]
    refine (dif_pos (Fin.forall_fin_two.2 ⟨?_, ?_⟩)).trans ?_
    · show Rm1 ≤ j.val * 1 + ((⟨2, ![Rm1 + 1, 1]⟩ : Shape).rowMajor.symm n 0).val ∧ j.val * 1 + ((⟨2, ![Rm1 + 1, 1]⟩ : Shape).rowMajor.symm n 0).val - Rm1 < Rm1 + 1
      omega
    · show 0 ≤ l.val * 1 + ((⟨2, ![Rm1 + 1, 1]⟩ : Shape).rowMajor.symm n 1).val ∧ l.val * 1 + ((⟨2, ![Rm1 + 1, 1]⟩ : Shape).rowMajor.symm n 1).val - 0 < C
      omega
    · refine (Cert.Mm.at_ix2 x _ ⟨j.val + n.val - Rm1, by omega⟩ l ?_ ?_).trans (hx _)
      · show j.val * 1 + ((⟨2, ![Rm1 + 1, 1]⟩ : Shape).rowMajor.symm n 0).val - Rm1 = j.val + n.val - Rm1
        omega
      · show l.val * 1 + ((⟨2, ![Rm1 + 1, 1]⟩ : Shape).rowMajor.symm n 1).val - 0 = l.val
        omega
  · refine (dif_neg fun hin => hc ?_).trans (if_neg hc).symm
    have h0 : Rm1 ≤ j.val * 1 + ((⟨2, ![Rm1 + 1, 1]⟩ : Shape).rowMajor.symm n 0).val := (hin 0).1
    omega

/-- A small whole number keeps its value as a signed word. -/
theorem toInt_small (n : ℕ) (h : n < 2 ^ 31) : (BitVec.ofNat 32 n).toInt = (n : ℤ) := by
  rw [BitVec.toInt_eq_toNat_of_lt (by rw [BitVec.toNat_ofNat]; omega), BitVec.toNat_ofNat, Nat.mod_eq_of_lt (by omega)]

/-- Which rows are padding. -/
theorem below (n : ℕ) (h : n < 2 ^ 31) : IntOp.cmpi .slt (BitVec.ofNat 32 n) 112#32 = if n < 112 then 1#1 else 0#1 := by
  show BitVec.ofBool (decide ((BitVec.ofNat 32 n).toInt < (112#32 : BitVec 32).toInt)) = _
  rw [toInt_small n h, show (112#32 : BitVec 32).toInt = 112 from rfl]
  by_cases hc : n < 112
  · rw [if_pos hc, decide_eq_true (by omega)]
    rfl
  · rw [if_neg hc, decide_eq_false (by omega)]
    rfl

end Cert.Forget

namespace Cert.Kernel12Ideal.ForgetValue

open Cert.Kernel12Ideal Cert.Kernel12Ideal.Gen Cert.Mm Cert.Forget Idealize.ShloMosaic.Routing

/-! One point's arithmetic. -/

theorem pay5_apply (x : Vec Ideal S640x128 .f32) (b : Vec Ideal S1x128 .f32) (a : Fin 640) (l : Fin 128) :
    (k0_pay5 x b : FVec Ideal S640x128 .f32) (ix2 a l) = logf (x (ix2 a l) + b (ix2 0 l)) := by
  unfold logf
  pointwise [k0_pay5]
  rfl

theorem pay6_apply (x : Vec Ideal S640x128 .f32) (b : Vec Ideal S1x128 .f32) (a : Fin 640) (l : Fin 128) :
    (k0_pay6 x b : FVec Ideal S640x128 .f32) (ix2 a l) = ∑ k : Fin 640, if k.val ≤ a.val then logf (x (ix2 k l) + b (ix2 0 l)) else 0 := by
  have hp := pay5_apply x b
  unfold k0_pay6
  generalize (k0_pay5 x b : FVec Ideal S640x128 .f32) = p at hp ⊢
  pointwise []
  have hle : ∀ k : Fin 640, IntOp.cmpi .sle (BitVec.ofNat 32 k.val) (BitVec.ofNat 32 a.val) = if k.val ≤ a.val then 1#1 else 0#1 := fun k => by
    have := k.isLt
    have := a.isLt
    show BitVec.ofBool (decide ((BitVec.ofNat 32 k.val).toInt ≤ (BitVec.ofNat 32 a.val).toInt)) = _
    rw [toInt_small k.val (by omega), toInt_small a.val (by omega)]
    by_cases hc : k.val ≤ a.val <;> simp [hc]
  rw [← Finset.sum_add_distrib, ← Finset.sum_add_distrib]
  refine Finset.sum_congr rfl fun k _ => ?_
  rw [hle k]
  by_cases hc : k.val ≤ a.val
  · rw [if_pos hc, if_pos hc]
    show p (ix2 k l) + (p (ix2 k l) - p (ix2 k l)) + ((p (ix2 k l) - p (ix2 k l)) - (p (ix2 k l) - p (ix2 k l))) = _
    rw [hp, absorb _ (logf_ne_top _)]
  · rw [if_neg hc, if_neg hc]
    show (0 : EReal) + 0 + 0 = 0
    rw [add_zero, add_zero]

theorem pay1_apply (s : FVec Ideal S640x128 .f32) (c : Vec Ideal S1x128 .f32) (a : Fin 640) (l : Fin 128) :
    (k0_pay1 s c : FVec Ideal S640x128 .f32) (ix2 a l) = s (ix2 a l) + c (ix2 0 l) := by
  pointwise [k0_pay1]

theorem pay2_apply (s : FVec Ideal S640x128 .f32) (c : Vec Ideal S1x128 .f32) (z : Fin 1) (l : Fin 128) :
    (k0_pay2 s c : FVec Ideal S1x128 .f32) (ix2 z l) = s (ix2 639 l) + c (ix2 0 l) := by
  pointwise [k0_pay2, k0_pay1]

theorem pay4_apply (z : Fin 1) (l : Fin 128) : (k0_pay4 : FVec Ideal S1x128 .f32) (ix2 z l) = 0 := by
  pointwise [k0_pay4]

theorem pay3_apply (n : ℕ) (hn : n < 13) (s : FVec Ideal S640x128 .f32) (c : Vec Ideal S1x128 .f32) (h : Fin 8) (a : Fin 640) :
    (k0_pay3 (BitVec.ofNat 32 n) s c : FVec Ideal S8x640 .f32) (ix2 h a)
      = if 640 * n + a.val < 112 then FloatOps.ofBits (F := Ideal) .f32 0x7149F2CA#32 else s (ix2 a ⟨h.val, by omega⟩) + c (ix2 0 ⟨h.val, by omega⟩) := by
  pointwise [k0_pay3, k0_pay1]
  have ha := a.isLt
  have e : IntOp.addi (Scalar.muli (BitVec.ofNat 32 n) 640#32) (BitVec.ofNat 32 a.val) = BitVec.ofNat 32 (640 * n + a.val) := by
    show BitVec.ofNat 32 n * 640#32 + BitVec.ofNat 32 a.val = _
    rw [show (640#32 : BitVec 32) = BitVec.ofNat 32 640 from rfl, ← BitVec.ofNat_mul, ← BitVec.ofNat_add, Nat.mul_comm n 640]
  have hlt : IntOp.cmpi .slt (BitVec.ofNat 32 (640 * n + a.val)) 112#32 = if 640 * n + a.val < 112 then 1#1 else 0#1 := below _ (by omega)
  rw [e, hlt]
  by_cases hc : 640 * n + a.val < 112
  · rw [if_pos hc, if_pos hc]
    rfl
  · rw [if_neg hc, if_neg hc]
    rfl

/-- The bias row as the host code prepares it: zeros, with the eight biases written at its start. -/
theorem scatter_row (d : ScatterDims S1x128 S2 S8) (hiw : d.insertedWindowDims = [0]) (hsd : d.scatterDimsToOperandDims = [0, 1])
    (hivd : d.indexVectorDim = 0) (x0 : S1x128.Idx → EReal) (idx : IVec S2 32) (h0 : (idx (ix1 (0 : Fin 2))).toInt = 0) (h1 : (idx (ix1 (1 : Fin 2))).toInt = 0)
    (v : S8.Idx → EReal) (z : Fin 1) (l : Fin 128) :
    Host.scatter d (fun _ b => b) x0 idx v (ix2 z l) = if h : l.val < 8 then v (ix1 ⟨l.val, h⟩) else x0 (ix2 z l) := by
  have hk : d.sKept = [1] := by
    show S1x128.kept d.insertedWindowDims = _
    rw [hiw]
    rfl
  have hwin0 : ∀ k : S8.Idx, d.window k 0 = 0 := fun k => by
    unfold ScatterDims.window
    rw [dif_neg fun h => (of_decide_eq_true (List.mem_filter.1 h).2) (by rw [hiw]; simp)]
  have hwin1 : ∀ k : S8.Idx, d.window k 1 = (k 0).val := fun k => by
    unfold ScatterDims.window
    rw [dif_pos (by rw [hk]; simp)]
    exact congrArg (fun t => ((k : S8.Idx) t).val) (Subsingleton.elim (α := Fin 1) _ 0)
  have lands : ∀ k : S8.Idx, d.resultIdx? k idx = some (ix2 z l) ↔ (k 0).val = l.val := fun k => by
    refine (resultIdx?_ix2 (R := 1) (C := 128) d k idx z l).trans ?_
    rw [start_pair (R := 1) (C := 128) d hsd hivd idx k 0, start_pair (R := 1) (C := 128) d hsd hivd idx k 1, hwin0, hwin1]
    have h0' : (idx (Idealize.ShloMosaic.ValueIdx.ix1 (0 : Fin 2))).toInt = 0 := h0
    have h1' : (idx (Idealize.ShloMosaic.ValueIdx.ix1 (1 : Fin 2))).toInt = 0 := h1
    rw [h0', h1']
    omega
  by_cases h : l.val < 8
  · rw [dif_pos h]
    refine scatter_set_hit d x0 idx v _ _ (fun k hk' => ?_) (ix1 ⟨l.val, h⟩) ((lands _).2 rfl)
    rw [eq_ix1 k]
    exact congrArg (fun e => v (ix1 e)) (Fin.ext ((lands k).1 hk'))
  · rw [dif_neg h]
    refine scatter_set_miss d x0 idx v _ fun k hk' => h ?_
    have := (lands k).1 hk'
    have hlt : (k 0).val < 8 := (k 0).isLt
    omega

end Cert.Kernel12Ideal.ForgetValue
end
-- ==== Proof.Forget12.lean ====
/- The forget gates: the logs of the sigmoids and their running sums. Point `t` takes rows `640 t …`, adds up each lane over the block
   and carries the lane's sum to the next point. -/
module

public import proofs.«01_k».proof.Defs
public import proofs.«01_k».proof.Proof.MmModel
public import proofs.«01_k».proof.Proof.ForgetModel
public import proofs.«01_k».proof.Proof.Gen.Kernel12Ideal.Value
public import proofs.«01_k».proof.Proof.Gen.Reference12Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel12Ideal.ForgetValue

open Cert.Kernel12Ideal Cert.Kernel12Ideal.Gen Cert.Mm Cert.Forget Idealize.ShloMosaic.Tactic

section Blocks

variable {F : FTy → Type} [FloatOps F]

/-! What a point leaves in its two output blocks and in the carried sums. -/

/-- The load of the carried sums after the store of all of them reads what was stored. -/
theorem carry_readCov (v : View sig .tc .vmem S1x128 .f32) (h0 : ∀ x, (![0, 0] : Fin 2 → ℕ) x + S1x128.size x ≤ S1x128.size x) (X : Vec F S1x128 .f32) :
    v.readCov [(⟨Rect.unit ![0, 0] S1x128.size h0, X⟩ : View.Piece (Elt F) S1x128 .f32)] (Rect.unit ![0, 0] S1x128.size h0).toLoadRect = X := by
  rw [View.readCov_eq_canon', View.canon_unit_zero zero2]
  exact View.ld_unit_zero zero2 h0 X

set_option maxHeartbeats 1000000 in
theorem out0_A_2_eq (c : Dev nD) (i : grid0.Coords) (arg1 : Memref sig .tc .vmem S640x128 .f32) (harg1 : arg1.IsWhole) (arg2 : Memref sig .tc .vmem S1x128 .f32) (harg2 : arg2.IsWhole) (arg3 : Memref sig .tc .vmem S640x128 .f32) (harg3 : arg3.IsWhole) (arg4 : Memref sig .tc .vmem S8x640 .f32) (harg4 : arg4.IsWhole) (arg5 : Memref sig .tc .vmem S1x128 .f32) (harg5 : arg5.IsWhole) (hc0 : cond0_0 i) (x0 : Vec F S640x128 .f32) (x1 : Vec F S1x128 .f32) :
    out0_A_2 c i arg1 harg1 arg2 harg2 arg3 harg3 arg4 harg4 arg5 harg5 hc0 x0 x1 = k0_pay5 x0 x1 := by
  unfold out0_A_2
  rw [View.read_writes_eq_canon _ _ _ (cover0_A_2 c i arg1 harg1 arg2 harg2 arg3 harg3 arg4 harg4 arg5 harg5 hc0 x0 x1)]
  unfold kernelRun0_A
  dsimp only
  sl_unfold_words
  simp only [View.readAt_eq_ld, harg1.read_unread, harg2.read_unread, harg3.read_unread, harg4.read_unread, harg5.read_unread, View.ld_unit_zero (S := S640x128) zero2, View.ld_unit_zero (S := S1x128) zero2, carry_readCov]
  refine (View.canon_cons_unit_zero (S := S640x128) zero2 _ _ _).trans ?_
  rfl

set_option maxHeartbeats 1000000 in
theorem out0_A_3_eq (c : Dev nD) (i : grid0.Coords) (arg1 : Memref sig .tc .vmem S640x128 .f32) (harg1 : arg1.IsWhole) (arg2 : Memref sig .tc .vmem S1x128 .f32) (harg2 : arg2.IsWhole) (arg3 : Memref sig .tc .vmem S640x128 .f32) (harg3 : arg3.IsWhole) (arg4 : Memref sig .tc .vmem S8x640 .f32) (harg4 : arg4.IsWhole) (arg5 : Memref sig .tc .vmem S1x128 .f32) (harg5 : arg5.IsWhole) (hc0 : cond0_0 i) (x0 : Vec F S640x128 .f32) (x1 : Vec F S1x128 .f32) :
    out0_A_3 c i arg1 harg1 arg2 harg2 arg3 harg3 arg4 harg4 arg5 harg5 hc0 x0 x1 = k0_pay3 (BitVec.ofNat 32 (i 0).val) (k0_pay6 x0 x1) k0_pay4 := by
  unfold out0_A_3
  rw [View.read_writes_eq_canon _ _ _ (cover0_A_3 c i arg1 harg1 arg2 harg2 arg3 harg3 arg4 harg4 arg5 harg5 hc0 x0 x1)]
  unfold kernelRun0_A
  dsimp only
  sl_unfold_words
  simp only [View.readAt_eq_ld, harg1.read_unread, harg2.read_unread, harg3.read_unread, harg4.read_unread, harg5.read_unread, View.ld_unit_zero (S := S640x128) zero2, View.ld_unit_zero (S := S1x128) zero2, carry_readCov]
  refine (View.canon_cons_unit_zero (S := S8x640) zero2 _ _ _).trans ?_
  exact congrArg (fun q => k0_pay3 (BitVec.ofNat 32 (i 0).val) (k0_pay6 x0 x1) q) (carry_readCov arg5.view _ _)

set_option maxHeartbeats 1000000 in
theorem sout0_A_0_eq (c : Dev nD) (i : grid0.Coords) (arg1 : Memref sig .tc .vmem S640x128 .f32) (harg1 : arg1.IsWhole) (arg2 : Memref sig .tc .vmem S1x128 .f32) (harg2 : arg2.IsWhole) (arg3 : Memref sig .tc .vmem S640x128 .f32) (harg3 : arg3.IsWhole) (arg4 : Memref sig .tc .vmem S8x640 .f32) (harg4 : arg4.IsWhole) (arg5 : Memref sig .tc .vmem S1x128 .f32) (harg5 : arg5.IsWhole) (hc0 : cond0_0 i) (x0 : Vec F S640x128 .f32) (x1 : Vec F S1x128 .f32) :
    sout0_A_0 c i arg1 harg1 arg2 harg2 arg3 harg3 arg4 harg4 arg5 harg5 hc0 x0 x1 = k0_pay2 (k0_pay6 x0 x1) k0_pay4 := by
  unfold sout0_A_0
  rw [View.read_writes_eq_canon _ _ _ (scover0_A_0 c i arg1 harg1 arg2 harg2 arg3 harg3 arg4 harg4 arg5 harg5 hc0 x0 x1)]
  unfold kernelRun0_A
  dsimp only
  sl_unfold_words
  simp only [View.readAt_eq_ld, harg1.read_unread, harg2.read_unread, harg3.read_unread, harg4.read_unread, harg5.read_unread, View.ld_unit_zero (S := S640x128) zero2, View.ld_unit_zero (S := S1x128) zero2, carry_readCov]
  refine (View.canon_cons_unit_zero (S := S1x128) zero2 _ _ _).trans ?_
  exact congrArg (fun q => k0_pay2 (k0_pay6 x0 x1) q) (carry_readCov arg5.view _ _)

set_option maxHeartbeats 1000000 in
theorem out0_B_2_eq (c : Dev nD) (i : grid0.Coords) (arg1 : Memref sig .tc .vmem S640x128 .f32) (harg1 : arg1.IsWhole) (arg2 : Memref sig .tc .vmem S1x128 .f32) (harg2 : arg2.IsWhole) (arg3 : Memref sig .tc .vmem S640x128 .f32) (harg3 : arg3.IsWhole) (arg4 : Memref sig .tc .vmem S8x640 .f32) (harg4 : arg4.IsWhole) (arg5 : Memref sig .tc .vmem S1x128 .f32) (harg5 : arg5.IsWhole) (hc0 : ¬cond0_0 i) (x0 : Vec F S640x128 .f32) (x1 : Vec F S1x128 .f32) (xs0 : Vec F S1x128 .f32) :
    out0_B_2 c i arg1 harg1 arg2 harg2 arg3 harg3 arg4 harg4 arg5 harg5 hc0 x0 x1 xs0 = k0_pay5 x0 x1 := by
  unfold out0_B_2
  rw [View.read_writes_eq_canon _ _ _ (cover0_B_2 c i arg1 harg1 arg2 harg2 arg3 harg3 arg4 harg4 arg5 harg5 hc0 x0 x1 xs0)]
  unfold kernelRun0_B
  dsimp only
  sl_unfold_words
  simp only [View.readAt_eq_ld, harg1.read_unread, harg2.read_unread, harg3.read_unread, harg4.read_unread, harg5.read_unread, View.ld_unit_zero (S := S640x128) zero2, View.ld_unit_zero (S := S1x128) zero2, carry_readCov]
  refine (View.canon_cons_unit_zero (S := S640x128) zero2 _ _ _).trans ?_
  rfl

set_option maxHeartbeats 1000000 in
theorem out0_B_3_eq (c : Dev nD) (i : grid0.Coords) (arg1 : Memref sig .tc .vmem S640x128 .f32) (harg1 : arg1.IsWhole) (arg2 : Memref sig .tc .vmem S1x128 .f32) (harg2 : arg2.IsWhole) (arg3 : Memref sig .tc .vmem S640x128 .f32) (harg3 : arg3.IsWhole) (arg4 : Memref sig .tc .vmem S8x640 .f32) (harg4 : arg4.IsWhole) (arg5 : Memref sig .tc .vmem S1x128 .f32) (harg5 : arg5.IsWhole) (hc0 : ¬cond0_0 i) (x0 : Vec F S640x128 .f32) (x1 : Vec F S1x128 .f32) (xs0 : Vec F S1x128 .f32) :
    out0_B_3 c i arg1 harg1 arg2 harg2 arg3 harg3 arg4 harg4 arg5 harg5 hc0 x0 x1 xs0 = k0_pay3 (BitVec.ofNat 32 (i 0).val) (k0_pay6 x0 x1) xs0 := by
  unfold out0_B_3
  rw [View.read_writes_eq_canon _ _ _ (cover0_B_3 c i arg1 harg1 arg2 harg2 arg3 harg3 arg4 harg4 arg5 harg5 hc0 x0 x1 xs0)]
  unfold kernelRun0_B
  dsimp only
  sl_unfold_words
  simp only [View.readAt_eq_ld, harg1.read_unread, harg2.read_unread, harg3.read_unread, harg4.read_unread, harg5.read_unread, View.ld_unit_zero (S := S640x128) zero2, View.ld_unit_zero (S := S1x128) zero2, carry_readCov]
  refine (View.canon_cons_unit_zero (S := S8x640) zero2 _ _ _).trans ?_
  rfl

set_option maxHeartbeats 1000000 in
theorem sout0_B_0_eq (c : Dev nD) (i : grid0.Coords) (arg1 : Memref sig .tc .vmem S640x128 .f32) (harg1 : arg1.IsWhole) (arg2 : Memref sig .tc .vmem S1x128 .f32) (harg2 : arg2.IsWhole) (arg3 : Memref sig .tc .vmem S640x128 .f32) (harg3 : arg3.IsWhole) (arg4 : Memref sig .tc .vmem S8x640 .f32) (harg4 : arg4.IsWhole) (arg5 : Memref sig .tc .vmem S1x128 .f32) (harg5 : arg5.IsWhole) (hc0 : ¬cond0_0 i) (x0 : Vec F S640x128 .f32) (x1 : Vec F S1x128 .f32) (xs0 : Vec F S1x128 .f32) :
    sout0_B_0 c i arg1 harg1 arg2 harg2 arg3 harg3 arg4 harg4 arg5 harg5 hc0 x0 x1 xs0 = k0_pay2 (k0_pay6 x0 x1) xs0 := by
  unfold sout0_B_0
  rw [View.read_writes_eq_canon _ _ _ (scover0_B_0 c i arg1 harg1 arg2 harg2 arg3 harg3 arg4 harg4 arg5 harg5 hc0 x0 x1 xs0)]
  unfold kernelRun0_B
  dsimp only
  sl_unfold_words
  simp only [View.readAt_eq_ld, harg1.read_unread, harg2.read_unread, harg3.read_unread, harg4.read_unread, harg5.read_unread, View.ld_unit_zero (S := S640x128) zero2, View.ld_unit_zero (S := S1x128) zero2, carry_readCov]
  refine (View.canon_cons_unit_zero (S := S1x128) zero2 _ _ _).trans ?_
  rfl

end Blocks

variable (m : (ℓ : Loc nD τ sig) → Buf (Elt Ideal) ℓ)

/-- The bias row: the eight biases, then zeros. -/
def biasAt (u : S8.Idx → EReal) (l : Fin 128) : EReal := if h : l.val < 8 then u (ix1 ⟨l.val, h⟩) else 0

/-- Lane `l` of row `n` of the log forget values. -/
def gate (zc : S8320x3328.Idx → EReal) (u : S8.Idx → EReal) (l : Fin 128) (n : ℕ) : EReal :=
  if h : n < 8320 then logf (zc (ix2 ⟨n, h⟩ ⟨3200 + l.val, by omega⟩) + biasAt u l) else 0

/-- The first result. -/
def gates (zc : S8320x3328.Idx → EReal) (u : S8.Idx → EReal) : S8320x128.Idx → EReal := fun i => gate zc u (i 1) (i 0).val

/-- The second result: the running sums, and a large number on the padding rows. -/
def sums (zc : S8320x3328.Idx → EReal) (u : S8.Idx → EReal) : S8x8320.Idx → EReal := fun i =>
  if (i 1).val < 112 then FloatOps.ofBits (F := Ideal) .f32 0x7149F2CA#32
  else pref (gate zc u ⟨(i 0).val, by have h0 : (i 0).val < 8 := (i 0).isLt; omega⟩) ((i 1).val + 1)

theorem off0 : ∀ t : Fin cfg0.N, (win0_0.rect t).off 0 = 640 * t.val ∧ (win0_0.rect t).off 1 = 3200 :=
  (by decide +kernel : ∀ t : Fin grid0.N, (win0_0.rect t).off 0 = 640 * t.val ∧ (win0_0.rect t).off 1 = 3200)
theorem off1 : ∀ t : Fin cfg0.N, (win0_1.rect t).off 0 = 0 ∧ (win0_1.rect t).off 1 = 0 :=
  (by decide +kernel : ∀ t : Fin grid0.N, (win0_1.rect t).off 0 = 0 ∧ (win0_1.rect t).off 1 = 0)
theorem coord : ∀ t : Fin cfg0.N, (grid0.coords t 0).val = t.val := (by decide +kernel : ∀ t : Fin grid0.N, (grid0.coords t 0).val = t.val)

/-- Window 0's block at point `t`, element by element. -/
theorem iblk0_apply (c : Dev nD) (t : Fin cfg0.N) (a : Fin 640) (b : Fin 128) (r : Fin 8320) (k : Fin 3328) (h0 : r.val = 640 * t.val + a.val) (h1 : k.val = 3200 + b.val) :
    (iblk m c 0 t : Vec Ideal S640x128 .f32) (ix2 a b) = (m ((c : Thread nD τ).loc main_arg0) : Vec Ideal S8320x3328 .f32) (ix2 r k) := by
  unfold iblk
  rw [View.read_apply]
  show V m c main_arg0 _ = _
  rw [V_main_arg0]
  refine at_ix2 (m ((c : Thread nD τ).loc main_arg0) : Vec Ideal S8320x3328 .f32) _ r k ?_ ?_
  · show (win0_0.rect t).off 0 + 1 * a.val = r.val
    rw [(off0 t).1]; omega
  · show (win0_0.rect t).off 1 + 1 * b.val = k.val
    rw [(off0 t).2]; omega

theorem bias_apply (u : FVec Ideal S8 .f32) (z : Fin 1) (l : Fin 128) :
    (Host.scatter scatter_S1x128_S2_S8_0_0_01_0 (fun _ b => b) (broadcastInDim S1x128 ![] bcast_S_S1x128 (constant (F := Ideal) S_ .f32 0x00000000#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0) u : FVec Ideal S1x128 .f32) (ix2 z l) = biasAt u l := by
  refine (scatter_row _ rfl rfl rfl _ _ ?_ ?_ u z l).trans ?_
  · pointwise []
    rfl
  · pointwise []
    rfl
  · unfold biasAt
    refine congrArg (fun q => dite _ _ q) (funext fun _ => ?_)
    pointwise []

/-- The bias row as the region finds it. -/
theorem V_v4 (c : Dev nD) (z : Fin 1) (l : Fin 128) :
    (V m c main_v4 : Vec Ideal S1x128 .f32) (ix2 z l) = biasAt (m ((c : Thread nD τ).loc main_arg1)) l := by
  have e : (V m c main_v4 : Vec Ideal S1x128 .f32) = Host.scatter scatter_S1x128_S2_S8_0_0_01_0 (fun _ b => b) (broadcastInDim S1x128 ![] bcast_S_S1x128 (constant (F := Ideal) S_ .f32 0x00000000#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0) (m ((c : Thread nD τ).loc main_arg1) : Vec Ideal S8 .f32) := by
    unfold V hostOps0
    after_results <;> rfl
  rw [e]
  exact bias_apply _ z l

theorem iblk1_apply (c : Dev nD) (t : Fin cfg0.N) (z : Fin 1) (l : Fin 128) :
    (iblk m c 1 t : Vec Ideal S1x128 .f32) (ix2 z l) = biasAt (m ((c : Thread nD τ).loc main_arg1)) l := by
  unfold iblk
  rw [View.read_apply]
  refine Eq.trans (at_ix2 (V m c main_v4 : Vec Ideal S1x128 .f32) _ z l ?_ ?_) (V_v4 m c z l)
  · show (win0_1.rect t).off 0 + 1 * z.val = z.val
    rw [(off1 t).1]; omega
  · show (win0_1.rect t).off 1 + 1 * l.val = l.val
    rw [(off1 t).2]; omega

/-- The launch's gate values. -/
abbrev gt (c : Dev nD) (l : Fin 128) (n : ℕ) : EReal :=
  gate (m ((c : Thread nD τ).loc main_arg0) : Vec Ideal S8320x3328 .f32) (m ((c : Thread nD τ).loc main_arg1) : Vec Ideal S8 .f32) l n

/-- The blocks a point reads. -/
abbrev rowsIn (c : Dev nD) (t : Fin cfg0.N) : FVec Ideal S640x128 .f32 := iblk m c 0 t
abbrev biasIn (c : Dev nD) (t : Fin cfg0.N) : FVec Ideal S1x128 .f32 := iblk m c 1 t

/-- A point's gate values are its rows'. -/
theorem point_gate (c : Dev nD) (t : Fin cfg0.N) (a : Fin 640) (l : Fin 128) :
    logf (rowsIn m c t (ix2 a l) + biasIn m c t (ix2 0 l)) = gt m c l (640 * t.val + a.val) := by
  have ht : t.val < 13 := lt_of_lt_of_eq t.isLt N_0
  have ha := a.isLt
  have hr : 640 * t.val + a.val < 8320 := by omega
  have e0 : rowsIn m c t (ix2 a l) = _ := iblk0_apply m c t a l ⟨_, hr⟩ ⟨3200 + l.val, by omega⟩ rfl rfl
  have e1 : biasIn m c t (ix2 0 l) = _ := iblk1_apply m c t 0 l
  unfold gt gate
  rw [dif_pos hr, e0, e1]

/-- A point's gate values. -/
def gateBlock (c : Dev nD) (n : ℕ) : Vec Ideal S640x128 .f32 := fun i => gt m c (i 1) (640 * n + (i 0).val)

/-- A point's running sums. -/
def sumBlock (c : Dev nD) (n : ℕ) : Vec Ideal S8x640 .f32 := fun i =>
  if 640 * n + (i 1).val < 112 then FloatOps.ofBits (F := Ideal) .f32 0x7149F2CA#32
  else pref (gt m c ⟨(i 0).val, by have h0 : (i 0).val < 8 := (i 0).isLt; omega⟩) (640 * n + (i 1).val + 1)

/-- The sums before point `n`. -/
def carryBlock (c : Dev nD) (n : ℕ) : Vec Ideal S1x128 .f32 := fun i => pref (gt m c (i 1)) (640 * n)

theorem pay5_block (c : Dev nD) (t : Fin cfg0.N) : (k0_pay5 (rowsIn m c t) (biasIn m c t) : FVec Ideal S640x128 .f32) = gateBlock m c t.val := by
  refine funext fun (i : S640x128.Idx) => ?_
  obtain ⟨a, l, rfl⟩ : ∃ (a : Fin 640) (l : Fin 128), i = ix2 a l := ⟨i 0, i 1, eq_ix2 i⟩
  exact (pay5_apply _ _ a l).trans (point_gate m c t a l)

/-- The block's own running sum, with the sum carried in. -/
theorem block_sum (c : Dev nD) (t : Fin cfg0.N) (a : Fin 640) (l : Fin 128) :
    (k0_pay6 (rowsIn m c t) (biasIn m c t) : FVec Ideal S640x128 .f32) (ix2 a l) + (carryBlock m c t.val : FVec Ideal S1x128 .f32) (ix2 0 l)
      = pref (gt m c l) (640 * t.val + a.val + 1) := by
  rw [pay6_apply, add_assoc (640 * t.val), pref_add, ← sum_upto (fun k => gt m c l (640 * t.val + k)) a]
  show _ + pref (gt m c l) (640 * t.val) = _
  refine congrArg (· + pref (gt m c l) (640 * t.val)) (Finset.sum_congr rfl fun k _ => ?_)
  rw [point_gate m c t k l]

theorem pay3_block (c : Dev nD) (t : Fin cfg0.N) :
    (k0_pay3 (BitVec.ofNat 32 (grid0.coords t 0).val) (k0_pay6 (rowsIn m c t) (biasIn m c t)) (carryBlock m c t.val) : FVec Ideal S8x640 .f32)
      = sumBlock m c t.val := by
  have ht : t.val < 13 := lt_of_lt_of_eq t.isLt N_0
  refine funext fun (i : S8x640.Idx) => ?_
  obtain ⟨h, a, rfl⟩ : ∃ (h : Fin 8) (a : Fin 640), i = ix2 h a := ⟨i 0, i 1, eq_ix2 i⟩
  rw [coord t]
  refine (pay3_apply t.val ht _ _ h a).trans ?_
  show (if 640 * t.val + a.val < 112 then _ else _) = if 640 * t.val + a.val < 112 then _ else _
  refine congrArg (fun q => ite _ _ q) ?_
  exact block_sum m c t a ⟨h.val, by omega⟩

theorem pay2_block (c : Dev nD) (t : Fin cfg0.N) :
    (k0_pay2 (k0_pay6 (rowsIn m c t) (biasIn m c t)) (carryBlock m c t.val) : FVec Ideal S1x128 .f32) = carryBlock m c (t.val + 1) := by
  refine funext fun (i : S1x128.Idx) => ?_
  obtain ⟨z, l, rfl⟩ : ∃ (z : Fin 1) (l : Fin 128), i = ix2 z l := ⟨i 0, i 1, eq_ix2 i⟩
  refine (pay2_apply _ _ z l).trans ((block_sum m c t 639 l).trans ?_)
  show pref (gt m c l) (640 * t.val + 639 + 1) = pref (gt m c l) (640 * (t.val + 1))
  congr 1

theorem pay4_block (c : Dev nD) : (k0_pay4 : FVec Ideal S1x128 .f32) = carryBlock m c 0 := by
  refine funext fun (i : S1x128.Idx) => ?_
  obtain ⟨z, l, rfl⟩ : ∃ (z : Fin 1) (l : Fin 128), i = ix2 z l := ⟨i 0, i 1, eq_ix2 i⟩
  refine (pay4_apply z l).trans ?_
  show 0 = pref (gt m c l) (640 * 0)
  unfold pref
  simp

/-- After point `n`: its gate values, its running sums and the sums carried on. -/
theorem outsAt_eq (c : Dev nD) : ∀ (n : ℕ) (hn : n < cfg0.N),
    (outsAt0 m c n hn).1 = gateBlock m c n ∧ (outsAt0 m c n hn).2.1 = sumBlock m c n ∧ (outsAt0 m c n hn).2.2 = carryBlock m c (n + 1)
  | 0, hn => by
    rw [outsAt0_A m c ⟨0, hn⟩ rfl]
    dsimp only
    rw [out0_A_2_eq, out0_A_3_eq, sout0_A_0_eq, pay4_block m c]
    exact ⟨pay5_block m c ⟨0, hn⟩, pay3_block m c ⟨0, hn⟩, pay2_block m c ⟨0, hn⟩⟩
  | n + 1, hn => by
    have hs : (outsAt0 m c n (Nat.lt_of_succ_lt hn)).2.2 = carryBlock m c (n + 1) := (outsAt_eq c n (Nat.lt_of_succ_lt hn)).2.2
    have hN : n + 1 < 13 := lt_of_lt_of_eq hn N_0
    rw [outsAt0_B m c ⟨n + 1, hn⟩ (by show ¬ ((n + 1) % 13 = 0); omega)]
    dsimp only
    rw [out0_B_2_eq, out0_B_3_eq, sout0_B_0_eq]
    show _ ∧ k0_pay3 _ _ (outsAt0 m c n (Nat.lt_of_succ_lt hn)).2.2 = _ ∧ k0_pay2 _ (outsAt0 m c n (Nat.lt_of_succ_lt hn)).2.2 = _
    rw [hs]
    exact ⟨pay5_block m c ⟨n + 1, hn⟩, pay3_block m c ⟨n + 1, hn⟩, pay2_block m c ⟨n + 1, hn⟩⟩

/-- The gate values' array. -/
theorem G2_eq (c : Dev nD) : (Value.G2 m c : Vec Ideal S8320x128 .f32) = gates (m ((c : Thread nD τ).loc main_arg0)) (m ((c : Thread nD τ).loc main_arg1)) := by
  refine funext fun (i : S8320x128.Idx) => ?_
  have h0 : (i 0).val < 8320 := (i 0).isLt
  have h1 : (i 1).val < 128 := (i 1).isLt
  have hp : Value.pt2Of i = (i 0).val / 640 := by
    show 1 * ((i 0).val / 640 - 0) + 1 * ((i 1).val / 128 - 0) = (i 0).val / 640
    omega
  have hN : Value.pt2Of i < cfg0.N := by rw [hp]; exact lt_of_lt_of_eq (by omega : _ < 13) N_0.symm
  show Value.G2 m c i = _
  unfold Value.G2
  rw [dif_pos hN, ← Value.outsAt0_sweep m c _ hN, (outsAt_eq m c _ hN).1, hp]
  have e0 : ((Value.loc2Of i) 0).val = (i 0).val % 640 := rfl
  have e1 : (Value.loc2Of i) 1 = i 1 := Fin.ext (by show (i 1).val % 128 = (i 1).val; omega)
  show gt m c ((Value.loc2Of i) 1) (640 * ((i 0).val / 640) + ((Value.loc2Of i) 0).val) = gt m c (i 1) (i 0).val
  rw [e0, e1, Nat.div_add_mod]

/-- The running sums' array. -/
theorem G3_eq (c : Dev nD) : (Value.G3 m c : Vec Ideal S8x8320 .f32) = sums (m ((c : Thread nD τ).loc main_arg0)) (m ((c : Thread nD τ).loc main_arg1)) := by
  refine funext fun (i : S8x8320.Idx) => ?_
  have h0 : (i 0).val < 8 := (i 0).isLt
  have h1 : (i 1).val < 8320 := (i 1).isLt
  have hp : Value.pt3Of i = (i 1).val / 640 := by
    show 13 * ((i 0).val / 8 - 0) + 1 * ((i 1).val / 640 - 0) = (i 1).val / 640
    omega
  have hN : Value.pt3Of i < cfg0.N := by rw [hp]; exact lt_of_lt_of_eq (by omega : _ < 13) N_0.symm
  show Value.G3 m c i = _
  unfold Value.G3
  rw [dif_pos hN, ← Value.outsAt0_sweep m c _ hN, (outsAt_eq m c _ hN).2.1, hp]
  have e0 : ((Value.loc3Of i) 0).val = (i 0).val := by show (i 0).val % 8 = (i 0).val; omega
  have e1 : ((Value.loc3Of i) 1).val = (i 1).val % 640 := rfl
  have ef : (⟨((Value.loc3Of i) 0).val, by rw [e0]; omega⟩ : Fin 128) = ⟨(i 0).val, by omega⟩ := Fin.ext e0
  show (if 640 * ((i 1).val / 640) + ((Value.loc3Of i) 1).val < 112 then _ else pref (gt m c ⟨((Value.loc3Of i) 0).val, _⟩) (640 * ((i 1).val / 640) + ((Value.loc3Of i) 1).val + 1))
    = if (i 1).val < 112 then _ else pref (gt m c ⟨(i 0).val, _⟩) ((i 1).val + 1)
  rw [ef, e1, Nat.div_add_mod]

end Cert.Kernel12Ideal.ForgetValue

namespace Cert.Reference12Ideal.ForgetValue

open Cert.Reference12Ideal Cert.Reference12Ideal.Gen Cert.Forget

/-- The reference's argument of the gate. -/
def pre (zc : FVec Ideal S8320x3328 .f32) (u : FVec Ideal S8 .f32) : FVec Ideal S8320x128 .f32 :=
  addf (extractStridedSlice S8320x128 ![0, 3200] zc slices_S8320x3328_S8320x128_0_3200) (broadcastInDim S8320x128 ![0, 1] bcast_S1x128_S8320x128_0_1 (broadcastInDim S1x128 ![1] bcast_S128_S1x128_1 (pad S128 ![0] ![120] ![0] u (sitofp (F := Ideal) .f32 (constantI S_ 32 0#32)) pads_S8_S128_01200 h_S_)))

theorem pre_apply (zc : FVec Ideal S8320x3328 .f32) (u : FVec Ideal S8 .f32) (r : Fin 8320) (l : Fin 128) :
    pre zc u (ix2 r l) = zc (ix2 r ⟨3200 + l.val, by omega⟩) + Cert.Kernel12Ideal.ForgetValue.biasAt u l := by
  unfold Cert.Kernel12Ideal.ForgetValue.biasAt
  have hz : FloatOps.sitofp (F := Ideal) .f32 0#32 = 0 := by
    show ((((0#32 : BitVec 32).toInt : ℝ)) : EReal) = 0
    simp
  pointwise [pre]
  rw [hz]

/-- The reference's gate. -/
def soft (x : FVec Ideal S8320x128 .f32) : FVec Ideal S8320x128 .f32 :=
  Host.negf (select (cmpf .une (subf (Host.negf x) (broadcastInDim S8320x128 ![] bcast_S_S8320x128 (constant (F := Ideal) S_ .f32 0x00000000#32))) (subf (Host.negf x) (broadcastInDim S8320x128 ![] bcast_S_S8320x128 (constant (F := Ideal) S_ .f32 0x00000000#32)))) (addf (Host.negf x) (broadcastInDim S8320x128 ![] bcast_S_S8320x128 (constant (F := Ideal) S_ .f32 0x00000000#32))) (addf (maximumf (Host.negf x) (broadcastInDim S8320x128 ![] bcast_S_S8320x128 (constant (F := Ideal) S_ .f32 0x00000000#32))) (Host.log1p (Host.exp (Host.negf (Host.absf (subf (Host.negf x) (broadcastInDim S8320x128 ![] bcast_S_S8320x128 (constant (F := Ideal) S_ .f32 0x00000000#32)))))))))

theorem soft_apply (x : FVec Ideal S8320x128 .f32) (r : Fin 8320) (l : Fin 128) : soft x (ix2 r l) = logf (x (ix2 r l)) := by
  pointwise [soft]
  rw [if_neg (not_not.2 rfl)]
  exact neg_softplus (x (ix2 r l))

/-- The reference's first result. -/
theorem soft_eq (zc : FVec Ideal S8320x3328 .f32) (u : FVec Ideal S8 .f32) : soft (pre zc u) = Cert.Kernel12Ideal.ForgetValue.gates zc u := by
  refine funext fun (i : S8320x128.Idx) => ?_
  obtain ⟨r, l, rfl⟩ : ∃ (r : Fin 8320) (l : Fin 128), i = ix2 r l := ⟨i 0, i 1, eq_ix2 i⟩
  rw [soft_apply, pre_apply]
  show _ = Cert.Kernel12Ideal.ForgetValue.gate zc u l r.val
  unfold Cert.Kernel12Ideal.ForgetValue.gate
  rw [dif_pos r.isLt]

/-- The reference's running sums of the first eight lanes, and the large number on the padding rows. -/
def tail (y : FVec Ideal S8320x128 .f32) : FVec Ideal S8x8320 .f32 :=
  select (broadcastInDim S8x8320 ![0, 1] bcast_S1x8320_S8x8320_0_1 (cmpi .slt (broadcastInDim S1x8320 ![1] bcast_S8320_S1x8320_1 (iotaInDim S8320 32 0)) (broadcastInDim S1x8320 ![] bcast_S_S1x8320 (constantI S_ 32 112#32)))) (broadcastInDim S8x8320 ![] bcast_S_S8x8320 (id (constant (F := Ideal) S_ .f32 0x7149F2CA#32))) (transpose S8x8320 [1, 0] (Host.reduceWindowAdd ![8320, 1] ![1, 1] ![8319, 0] ![0, 0] (extractStridedSlice S8320x8 ![0, 0] y slices_S8320x128_S8320x8_0_0) (broadcastInDim S_ ![] bcast_S_S_ (constant (F := Ideal) S_ .f32 0x00000000#32)) reduceWindows_S8320x8_S8320x8_w8320s1p8319_0_w1s1p0_0 h_S_) transposes_S8320x8_S8x8320_1_0)

theorem tail_apply (y : FVec Ideal S8320x128 .f32) (f : ℕ → EReal) (h : Fin 8) (hf : ∀ r : Fin 8320, y (ix2 r ⟨h.val, by omega⟩) = f r.val) (r : Fin 8320) :
    tail y (ix2 h r) = if r.val < 112 then FloatOps.ofBits (F := Ideal) .f32 0x7149F2CA#32 else pref f (r.val + 1) := by
  have hx : ∀ k : Fin 8320, (extractStridedSlice S8320x8 ![0, 0] y slices_S8320x128_S8320x8_0_0 : FVec Ideal S8320x8 .f32) (ix2 k h) = f k.val := fun k => by
    refine Eq.trans ?_ (hf k)
    pointwise []
  unfold tail
  generalize (extractStridedSlice S8320x8 ![0, 0] y slices_S8320x128_S8320x8_0_0 : FVec Ideal S8320x8 .f32) = s at hx ⊢
  have hs : (Host.reduceWindowAdd ![8320, 1] ![1, 1] ![8319, 0] ![0, 0] s (broadcastInDim S_ ![] bcast_S_S_ (constant (F := Ideal) S_ .f32 0x00000000#32)) reduceWindows_S8320x8_S8320x8_w8320s1p8319_0_w1s1p0_0 h_S_ : FVec Ideal S8320x8 .f32) (ix2 r h) = pref f (r.val + 1) := by
    unfold Host.reduceWindowAdd
    rw [Ideal.hostReduceWindowAdd_def]
    unfold Ideal.hostReduceWindowAdd
    refine window_sum (R := 8320) (Rm1 := 8319) (C := 8) (by norm_num) s f h hx _ (fun _ => ?_) _ _ r
    pointwise []
  generalize (Host.reduceWindowAdd ![8320, 1] ![1, 1] ![8319, 0] ![0, 0] s (broadcastInDim S_ ![] bcast_S_S_ (constant (F := Ideal) S_ .f32 0x00000000#32)) reduceWindows_S8320x8_S8320x8_w8320s1p8319_0_w1s1p0_0 h_S_ : FVec Ideal S8320x8 .f32) = q at hs ⊢
  pointwise []
  rw [below r.val (by omega), hs]
  by_cases hc : r.val < 112
  · rw [if_pos hc, if_pos hc]
    rfl
  · rw [if_neg hc, if_neg hc]
    rfl

/-- The reference's second result. -/
theorem tail_eq (zc : FVec Ideal S8320x3328 .f32) (u : FVec Ideal S8 .f32) : tail (soft (pre zc u)) = Cert.Kernel12Ideal.ForgetValue.sums zc u := by
  refine funext fun (i : S8x8320.Idx) => ?_
  obtain ⟨h, r, rfl⟩ : ∃ (h : Fin 8) (r : Fin 8320), i = ix2 h r := ⟨i 0, i 1, eq_ix2 i⟩
  rw [soft_eq]
  exact tail_apply _ (Cert.Kernel12Ideal.ForgetValue.gate zc u ⟨h.val, by omega⟩) h (fun _ => rfl) r

end Cert.Reference12Ideal.ForgetValue

namespace Cert.Proof.ForgetClaims

theorem frame_reference : Cert.quiescent_Reference12Ideal := fun m ρ _ =>
  (θ_run Cert.Reference12Ideal.defs _ _).mono (fun r h => ⟨fun c => (h c).2.2,
      Idealize.ShloMosaic.sem_eq_zero_of_no_sems (by decide) r.2⟩)
    (Cert.Reference12Ideal.Value.run (F := Ideal) m ρ)

theorem algebraic : Cert.algebraic_Kernel12Ideal_Reference12Ideal := by
  intro m ρ m' ρ' _ hag
  refine ⟨fun c => Cert.Kernel12Ideal.ForgetValue.gates (m ((c : Thread Cert.Kernel12Ideal.nD Cert.Kernel12Ideal.τ).loc Cert.Kernel12Ideal.main_arg0)) (m ((c : Thread Cert.Kernel12Ideal.nD Cert.Kernel12Ideal.τ).loc Cert.Kernel12Ideal.main_arg1)),
    fun c => Cert.Kernel12Ideal.ForgetValue.sums (m ((c : Thread Cert.Kernel12Ideal.nD Cert.Kernel12Ideal.τ).loc Cert.Kernel12Ideal.main_arg0)) (m ((c : Thread Cert.Kernel12Ideal.nD Cert.Kernel12Ideal.τ).loc Cert.Kernel12Ideal.main_arg1)), ?_, ?_⟩
  · exact (θ_run Cert.Kernel12Ideal.defs _ _).mono
      (fun _ h c => ⟨(h c).1.trans (Cert.Kernel12Ideal.ForgetValue.G2_eq m c), (h c).2.1.trans (Cert.Kernel12Ideal.ForgetValue.G3_eq m c), (h c).2.2⟩)
      (Cert.Kernel12Ideal.Value.run (F := Ideal) m ρ)
  · refine (θ_run Cert.Reference12Ideal.defs _ _).mono (fun _ h c => ⟨(h c).1.trans ?_, (h c).2.1.trans ?_, (h c).2.2⟩)
      (Cert.Reference12Ideal.Value.run (F := Ideal) m' ρ')
    · rw [(hag c).1, (hag c).2]
      exact Cert.Reference12Ideal.ForgetValue.soft_eq _ _
    · rw [(hag c).1, (hag c).2]
      exact Cert.Reference12Ideal.ForgetValue.tail_eq _ _

end Cert.Proof.ForgetClaims

end
-- ==== Proof.Cast13.lean ====
/- The cast of an output projection: every block of 256 rows is rounded to bfloat16, which over the reals is the identity. -/
module

public import proofs.«01_k».proof.Defs
public import proofs.«01_k».proof.Proof.MmModel
public import proofs.«01_k».proof.Proof.Gen.Kernel13Ideal.Value
public import proofs.«01_k».proof.Proof.Gen.Reference13Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel13Ideal.CastValue

open Cert.Kernel13Ideal Cert.Kernel13Ideal.Gen Cert.Mm

variable (m : (ℓ : Loc nD τ sig) → Buf (Elt Ideal) ℓ)

/-- The whole result array. -/
abbrev G (c : Dev nD) : Buf (Elt Ideal) ((c : Thread nD τ).loc main_v0) := (m ((c : Thread nD τ).loc main_arg0) : S2048x2048.Idx → EReal)

/-! Where the windows' blocks begin at point `t`. -/

theorem off0 : ∀ t : Fin cfg0.N, (win0_0.rect t).off 0 = 256 * t.val ∧ (win0_0.rect t).off 1 = 0 :=
  (by decide +kernel : ∀ t : Fin grid0.N, (win0_0.rect t).off 0 = 256 * t.val ∧ (win0_0.rect t).off 1 = 0)
theorem off1 : ∀ t : Fin cfg0.N, (win0_1.rect t).off 0 = 256 * t.val ∧ (win0_1.rect t).off 1 = 0 :=
  (by decide +kernel : ∀ t : Fin grid0.N, (win0_1.rect t).off 0 = 256 * t.val ∧ (win0_1.rect t).off 1 = 0)

/-- Window 0's block at point `t`, element by element. -/
theorem iblk0_apply (c : Dev nD) (t : Fin cfg0.N) (a : Fin 256) (b : Fin 2048) (r : Fin 2048) (k : Fin 2048) (h0 : r.val = 256 * t.val + a.val) (h1 : k.val = 0 + b.val) :
    (iblk m c 0 t : Vec Ideal S256x2048 .f32) (ix2 a b) = (m ((c : Thread nD τ).loc main_arg0) : Vec Ideal S2048x2048 .f32) (ix2 r k) := by
  unfold iblk
  rw [View.read_apply]
  show V m c main_arg0 _ = _
  rw [V_main_arg0]
  refine at_ix2 (m ((c : Thread nD τ).loc main_arg0) : Vec Ideal S2048x2048 .f32) _ r k ?_ ?_
  · show (win0_0.rect t).off 0 + 1 * a.val = r.val
    rw [(off0 t).1]; omega
  · show (win0_0.rect t).off 1 + 1 * b.val = k.val
    rw [(off0 t).2]; omega

/-- What point `t` writes back is its block of the result. -/
theorem flushed1_eq (c : Dev nD) (t : Fin cfg0.N) :
    (dats m 0 c).flushed 1 t = ((cfg0.win 1).blk t).view.read (Elt Ideal) (G m c) := by
  rw [Value.flushed1]
  refine funext fun (j : S256x2048.Idx) => ?_
  obtain ⟨a, b, rfl⟩ : ∃ (a : Fin 256) (b : Fin 2048), j = ix2 a b := ⟨j 0, j 1, eq_ix2 j⟩
  rw [View.read_apply]
  have ht : t.val < 8 := lt_of_lt_of_eq t.isLt N_0
  have ha := a.isLt
  have hr : 256 * t.val + a.val < 2048 := by omega
  show (out0_1 (iblk m c 0 t) : Vec Ideal S256x2048 .bf16) (ix2 a b) = G m c ((win0_1.rect t).idx (ix2 a b))
  refine Eq.trans ?_ (at_ix2 (G m c : S2048x2048.Idx → EReal) ((win0_1.rect t).idx (ix2 a b)) ⟨_, hr⟩ b ?_ ?_).symm
  · unfold out0_1
    rw [View.canon_unit_zero zero2, View.ld_unit_zero zero2]
    exact iblk0_apply m c t a b ⟨_, hr⟩ b rfl (by omega)
  · show (win0_1.rect t).off 0 + 1 * a.val = 256 * t.val + a.val
    rw [(off1 t).1]; omega
  · show (win0_1.rect t).off 1 + 1 * b.val = b.val
    rw [(off1 t).2]; omega

/-- The blocks tile the result. -/
theorem cover1 (i : S2048x2048.Idx) : ∃ t : Fin cfg0.N, (cfg0.win 1).flush t = true ∧ i ∈ ((cfg0.win 1).blk t).view.set := by
  have h0 : (i 0 : Nat) < 2048 := (i 0).isLt
  have h1 : (i 1 : Nat) < 2048 := (i 1).isLt
  have hN : cfg0.N = 8 := N_0
  let t : Fin cfg0.N := ⟨(i 0).val / 256, by omega⟩
  refine ⟨t, flush0_1 _, ?_⟩
  show i ∈ ((View.whole main_v0).slice (win0_1.rect t)).set
  rw [View.set_slice_whole, Rect.mem_set_unit]
  intro a
  match a with
  | ⟨0, _⟩ =>
    show (win0_1.rect t).off 0 ≤ (i 0 : Nat) ∧ (i 0 : Nat) < (win0_1.rect t).off 0 + 256
    rw [(off1 _).1, show t.val = (i 0).val / 256 from rfl]; omega
  | ⟨1, _⟩ =>
    show (win0_1.rect t).off 1 ≤ (i 1 : Nat) ∧ (i 1 : Nat) < (win0_1.rect t).off 1 + 2048
    rw [(off1 _).2]; omega

theorem final1 (c : Dev nD) : (dats m 0 c).arrAt 1 cfg0.N = G m c :=
  (dats m 0 c).arrAt_eq_of_cover 1 (G m c) (fun t _ => flushed1_eq m c t) cover1

end Cert.Kernel13Ideal.CastValue

namespace Cert.Proof.CastClaims13

theorem frame_reference : Cert.quiescent_Reference13Ideal := fun m ρ _ =>
  (θ_run Cert.Reference13Ideal.defs _ _).mono (fun r h => ⟨fun c => (h c).2,
      Idealize.ShloMosaic.sem_eq_zero_of_no_sems (by decide) r.2⟩)
    (Cert.Reference13Ideal.Value.run (F := Ideal) m ρ)

theorem algebraic : Cert.algebraic_Kernel13Ideal_Reference13Ideal := by
  intro m ρ m' ρ' _ hag
  refine ⟨fun c => Cert.Kernel13Ideal.CastValue.G m c, ?_, ?_⟩
  · exact (θ_run Cert.Kernel13Ideal.defs _ _).mono (fun _ h c => ⟨(h c).1.trans (Cert.Kernel13Ideal.CastValue.final1 m c), (h c).2⟩)
      (Cert.Kernel13Ideal.Value.run_blocks (F := Ideal) m ρ)
  · refine (θ_run Cert.Reference13Ideal.defs _ _).mono (fun _ h c => ⟨(h c).1.trans ?_, (h c).2⟩)
      (Cert.Reference13Ideal.Value.run (F := Ideal) m' ρ')
    rw [hag c]
    rfl

end Cert.Proof.CastClaims13

end
-- ==== Proof.Cast14.lean ====
/- The cast of the second input projection: every block of 256 rows is rounded to bfloat16, which over the reals is the identity. -/
module

public import proofs.«01_k».proof.Defs
public import proofs.«01_k».proof.Proof.MmModel
public import proofs.«01_k».proof.Proof.Gen.Kernel14Ideal.Value
public import proofs.«01_k».proof.Proof.Gen.Reference14Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel14Ideal.CastValue

open Cert.Kernel14Ideal Cert.Kernel14Ideal.Gen Cert.Mm

variable (m : (ℓ : Loc nD τ sig) → Buf (Elt Ideal) ℓ)

/-- The whole result array. -/
abbrev G (c : Dev nD) : Buf (Elt Ideal) ((c : Thread nD τ).loc main_v0) := (m ((c : Thread nD τ).loc main_arg0) : S2048x6144.Idx → EReal)

/-! Where the windows' blocks begin at point `t`. -/

theorem off0 : ∀ t : Fin cfg0.N, (win0_0.rect t).off 0 = 256 * t.val ∧ (win0_0.rect t).off 1 = 0 :=
  (by decide +kernel : ∀ t : Fin grid0.N, (win0_0.rect t).off 0 = 256 * t.val ∧ (win0_0.rect t).off 1 = 0)
theorem off1 : ∀ t : Fin cfg0.N, (win0_1.rect t).off 0 = 256 * t.val ∧ (win0_1.rect t).off 1 = 0 :=
  (by decide +kernel : ∀ t : Fin grid0.N, (win0_1.rect t).off 0 = 256 * t.val ∧ (win0_1.rect t).off 1 = 0)

/-- Window 0's block at point `t`, element by element. -/
theorem iblk0_apply (c : Dev nD) (t : Fin cfg0.N) (a : Fin 256) (b : Fin 6144) (r : Fin 2048) (k : Fin 6144) (h0 : r.val = 256 * t.val + a.val) (h1 : k.val = 0 + b.val) :
    (iblk m c 0 t : Vec Ideal S256x6144 .f32) (ix2 a b) = (m ((c : Thread nD τ).loc main_arg0) : Vec Ideal S2048x6144 .f32) (ix2 r k) := by
  unfold iblk
  rw [View.read_apply]
  show V m c main_arg0 _ = _
  rw [V_main_arg0]
  refine at_ix2 (m ((c : Thread nD τ).loc main_arg0) : Vec Ideal S2048x6144 .f32) _ r k ?_ ?_
  · show (win0_0.rect t).off 0 + 1 * a.val = r.val
    rw [(off0 t).1]; omega
  · show (win0_0.rect t).off 1 + 1 * b.val = k.val
    rw [(off0 t).2]; omega

/-- What point `t` writes back is its block of the result. -/
theorem flushed1_eq (c : Dev nD) (t : Fin cfg0.N) :
    (dats m 0 c).flushed 1 t = ((cfg0.win 1).blk t).view.read (Elt Ideal) (G m c) := by
  rw [Value.flushed1]
  refine funext fun (j : S256x6144.Idx) => ?_
  obtain ⟨a, b, rfl⟩ : ∃ (a : Fin 256) (b : Fin 6144), j = ix2 a b := ⟨j 0, j 1, eq_ix2 j⟩
  rw [View.read_apply]
  have ht : t.val < 8 := lt_of_lt_of_eq t.isLt N_0
  have ha := a.isLt
  have hr : 256 * t.val + a.val < 2048 := by omega
  show (out0_1 (iblk m c 0 t) : Vec Ideal S256x6144 .bf16) (ix2 a b) = G m c ((win0_1.rect t).idx (ix2 a b))
  refine Eq.trans ?_ (at_ix2 (G m c : S2048x6144.Idx → EReal) ((win0_1.rect t).idx (ix2 a b)) ⟨_, hr⟩ b ?_ ?_).symm
  · unfold out0_1
    rw [View.canon_unit_zero zero2, View.ld_unit_zero zero2]
    exact iblk0_apply m c t a b ⟨_, hr⟩ b rfl (by omega)
  · show (win0_1.rect t).off 0 + 1 * a.val = 256 * t.val + a.val
    rw [(off1 t).1]; omega
  · show (win0_1.rect t).off 1 + 1 * b.val = b.val
    rw [(off1 t).2]; omega

/-- The blocks tile the result. -/
theorem cover1 (i : S2048x6144.Idx) : ∃ t : Fin cfg0.N, (cfg0.win 1).flush t = true ∧ i ∈ ((cfg0.win 1).blk t).view.set := by
  have h0 : (i 0 : Nat) < 2048 := (i 0).isLt
  have h1 : (i 1 : Nat) < 6144 := (i 1).isLt
  have hN : cfg0.N = 8 := N_0
  let t : Fin cfg0.N := ⟨(i 0).val / 256, by omega⟩
  refine ⟨t, flush0_1 _, ?_⟩
  show i ∈ ((View.whole main_v0).slice (win0_1.rect t)).set
  rw [View.set_slice_whole, Rect.mem_set_unit]
  intro a
  match a with
  | ⟨0, _⟩ =>
    show (win0_1.rect t).off 0 ≤ (i 0 : Nat) ∧ (i 0 : Nat) < (win0_1.rect t).off 0 + 256
    rw [(off1 _).1, show t.val = (i 0).val / 256 from rfl]; omega
  | ⟨1, _⟩ =>
    show (win0_1.rect t).off 1 ≤ (i 1 : Nat) ∧ (i 1 : Nat) < (win0_1.rect t).off 1 + 6144
    rw [(off1 _).2]; omega

theorem final1 (c : Dev nD) : (dats m 0 c).arrAt 1 cfg0.N = G m c :=
  (dats m 0 c).arrAt_eq_of_cover 1 (G m c) (fun t _ => flushed1_eq m c t) cover1

end Cert.Kernel14Ideal.CastValue

namespace Cert.Proof.CastClaims14

theorem frame_reference : Cert.quiescent_Reference14Ideal := fun m ρ _ =>
  (θ_run Cert.Reference14Ideal.defs _ _).mono (fun r h => ⟨fun c => (h c).2,
      Idealize.ShloMosaic.sem_eq_zero_of_no_sems (by decide) r.2⟩)
    (Cert.Reference14Ideal.Value.run (F := Ideal) m ρ)

theorem algebraic : Cert.algebraic_Kernel14Ideal_Reference14Ideal := by
  intro m ρ m' ρ' _ hag
  refine ⟨fun c => Cert.Kernel14Ideal.CastValue.G m c, ?_, ?_⟩
  · exact (θ_run Cert.Kernel14Ideal.defs _ _).mono (fun _ h c => ⟨(h c).1.trans (Cert.Kernel14Ideal.CastValue.final1 m c), (h c).2⟩)
      (Cert.Kernel14Ideal.Value.run_blocks (F := Ideal) m ρ)
  · refine (θ_run Cert.Reference14Ideal.defs _ _).mono (fun _ h c => ⟨(h c).1.trans ?_, (h c).2⟩)
      (Cert.Reference14Ideal.Value.run (F := Ideal) m' ρ')
    rw [hag c]
    rfl

end Cert.Proof.CastClaims14

end
-- ==== Proof.Mm15.lean ====
/- The sample batch's projection to layer 0's queries, keys, values and first gate: point `t` of the grid of 1 by 4 leaves one block of 512 rows and 1024 columns of
   the product. The blocks tile the result, so the whole array is the plain product. -/
module

public import proofs.«01_k».proof.Defs
public import proofs.«01_k».proof.Proof.MmModel
public import proofs.«01_k».proof.Proof.Gen.Kernel15Ideal.Value
public import proofs.«01_k».proof.Proof.Gen.Reference15Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel15Ideal.MmValue

open Cert.Kernel15Ideal Cert.Kernel15Ideal.Gen Cert.Mm

variable (m : (ℓ : Loc nD τ sig) → Buf (Elt Ideal) ℓ)

/-- The result as a function of the arguments. -/
def spec (x0 : S512x2048.Idx → EReal) (w : S2048x4096.Idx → EReal) : S512x4096.Idx → EReal := fun i =>
  prod x0 w i

/-- The whole result array. -/
abbrev G (c : Dev nD) : Buf (Elt Ideal) ((c : Thread nD τ).loc main_v0) :=
  spec (m ((c : Thread nD τ).loc main_arg0)) (m ((c : Thread nD τ).loc main_arg1))

/-! Where the windows' blocks begin at point `t`. -/

theorem off0 : ∀ t : Fin cfg0.N, (win0_0.rect t).off 0 = 512 * (t.val / 4) ∧ (win0_0.rect t).off 1 = 0 :=
  (by decide +kernel : ∀ t : Fin grid0.N, (win0_0.rect t).off 0 = 512 * (t.val / 4) ∧ (win0_0.rect t).off 1 = 0)
theorem off1 : ∀ t : Fin cfg0.N, (win0_1.rect t).off 0 = 0 ∧ (win0_1.rect t).off 1 = 1024 * (t.val % 4) :=
  (by decide +kernel : ∀ t : Fin grid0.N, (win0_1.rect t).off 0 = 0 ∧ (win0_1.rect t).off 1 = 1024 * (t.val % 4))
theorem off2 : ∀ t : Fin cfg0.N, (win0_2.rect t).off 0 = 512 * (t.val / 4) ∧ (win0_2.rect t).off 1 = 1024 * (t.val % 4) :=
  (by decide +kernel : ∀ t : Fin grid0.N, (win0_2.rect t).off 0 = 512 * (t.val / 4) ∧ (win0_2.rect t).off 1 = 1024 * (t.val % 4))

/-- Window 0's block at point `t`, element by element. -/
theorem iblk0_apply (c : Dev nD) (t : Fin cfg0.N) (a : Fin 512) (b : Fin 2048) (r : Fin 512) (k : Fin 2048) (h0 : r.val = 512 * (t.val / 4) + a.val) (h1 : k.val = 0 + b.val) :
    (iblk m c 0 t : Vec Ideal S512x2048 .bf16) (ix2 a b) = (m ((c : Thread nD τ).loc main_arg0) : Vec Ideal S512x2048 .bf16) (ix2 r k) := by
  unfold iblk
  rw [View.read_apply]
  show V m c main_arg0 _ = _
  rw [V_main_arg0]
  refine at_ix2 (m ((c : Thread nD τ).loc main_arg0) : Vec Ideal S512x2048 .bf16) _ r k ?_ ?_
  · show (win0_0.rect t).off 0 + 1 * a.val = r.val
    rw [(off0 t).1]; omega
  · show (win0_0.rect t).off 1 + 1 * b.val = k.val
    rw [(off0 t).2]; omega

/-- Window 1's block at point `t`, element by element. -/
theorem iblk1_apply (c : Dev nD) (t : Fin cfg0.N) (a : Fin 2048) (b : Fin 1024) (r : Fin 2048) (k : Fin 4096) (h0 : r.val = 0 + a.val) (h1 : k.val = 1024 * (t.val % 4) + b.val) :
    (iblk m c 1 t : Vec Ideal S2048x1024 .bf16) (ix2 a b) = (m ((c : Thread nD τ).loc main_arg1) : Vec Ideal S2048x4096 .bf16) (ix2 r k) := by
  unfold iblk
  rw [View.read_apply]
  show V m c main_arg1 _ = _
  rw [V_main_arg1]
  refine at_ix2 (m ((c : Thread nD τ).loc main_arg1) : Vec Ideal S2048x4096 .bf16) _ r k ?_ ?_
  · show (win0_1.rect t).off 0 + 1 * a.val = r.val
    rw [(off1 t).1]; omega
  · show (win0_1.rect t).off 1 + 1 * b.val = k.val
    rw [(off1 t).2]; omega

/-- The body's block at an index. -/
theorem out_apply (x0 : Vec Ideal S512x2048 .bf16) (x1 : Vec Ideal S2048x1024 .bf16) (a : Fin 512) (b : Fin 1024) :
    (out0_2 x0 x1 : Vec Ideal S512x1024 .f32) (ix2 a b) = (∑ k : Fin 2048, x0 (ix2 a k) * x1 (ix2 k b)) := by
  unfold out0_2
  rw [View.canon_unit_zero zero2]
  rw [View.ld_unit_zero zero2, View.ld_unit_zero zero2]
  pointwise [k0_pay1]

/-- What point `t` writes back is its block of the result. -/
theorem flushed_eq (c : Dev nD) (t : Fin cfg0.N) :
    (dats m 0 c).flushed 2 t = ((cfg0.win 2).blk t).view.read (Elt Ideal) (G m c) := by
  rw [Value.flushed2]
  refine funext fun (j : S512x1024.Idx) => ?_
  obtain ⟨a, b, rfl⟩ : ∃ (a : Fin 512) (b : Fin 1024), j = ix2 a b := ⟨j 0, j 1, eq_ix2 j⟩
  rw [View.read_apply]
  have ht : t.val < 4 := lt_of_lt_of_eq t.isLt N_0
  have ha := a.isLt
  have hb := b.isLt
  have hr : 512 * (t.val / 4) + a.val < 512 := by omega
  have hk : 1024 * (t.val % 4) + b.val < 4096 := by omega
  show (out0_2 (iblk m c 0 t) (iblk m c 1 t) : Vec Ideal S512x1024 .f32) (ix2 a b) = G m c ((win0_2.rect t).idx (ix2 a b))
  refine (out_apply _ _ a b).trans ?_
  refine Eq.trans ?_ (at_ix2 (G m c : S512x4096.Idx → EReal) ((win0_2.rect t).idx (ix2 a b)) ⟨_, hr⟩ ⟨_, hk⟩ ?_ ?_).symm
  · refine Eq.trans ?_ (prod_apply _ _ ⟨_, hr⟩ ⟨_, hk⟩).symm
    exact Finset.sum_congr rfl fun k _ => congrArg₂ (· * ·) (iblk0_apply m c t a k ⟨_, hr⟩ k rfl (by omega)) (iblk1_apply m c t k b k ⟨_, hk⟩ (by omega) rfl)
  · show (win0_2.rect t).off 0 + 1 * a.val = 512 * (t.val / 4) + a.val
    rw [(off2 t).1]; omega
  · show (win0_2.rect t).off 1 + 1 * b.val = 1024 * (t.val % 4) + b.val
    rw [(off2 t).2]; omega

/-- The blocks tile the result. -/
theorem cover (i : S512x4096.Idx) : ∃ t : Fin cfg0.N, (cfg0.win 2).flush t = true ∧ i ∈ ((cfg0.win 2).blk t).view.set := by
  have h0 : (i 0 : Nat) < 512 := (i 0).isLt
  have h1 : (i 1 : Nat) < 4096 := (i 1).isLt
  have hN : cfg0.N = 4 := N_0
  let t : Fin cfg0.N := ⟨4 * ((i 0).val / 512) + (i 1).val / 1024, by omega⟩
  have hq : t.val / 4 = (i 0).val / 512 := by show (4 * ((i 0).val / 512) + (i 1).val / 1024) / 4 = _; omega
  have hm : t.val % 4 = (i 1).val / 1024 := by show (4 * ((i 0).val / 512) + (i 1).val / 1024) % 4 = _; omega
  refine ⟨t, flush0_2 _, ?_⟩
  show i ∈ ((View.whole main_v0).slice (win0_2.rect t)).set
  rw [View.set_slice_whole, Rect.mem_set_unit]
  intro a
  match a with
  | ⟨0, _⟩ =>
    show (win0_2.rect t).off 0 ≤ (i 0 : Nat) ∧ (i 0 : Nat) < (win0_2.rect t).off 0 + 512
    rw [(off2 _).1, hq]; omega
  | ⟨1, _⟩ =>
    show (win0_2.rect t).off 1 ≤ (i 1 : Nat) ∧ (i 1 : Nat) < (win0_2.rect t).off 1 + 1024
    rw [(off2 _).2, hm]; omega

theorem final (c : Dev nD) : (dats m 0 c).arrAt 2 cfg0.N = G m c :=
  (dats m 0 c).arrAt_eq_of_cover 2 (G m c) (fun t _ => flushed_eq m c t) cover

end Cert.Kernel15Ideal.MmValue

namespace Cert.Reference15Ideal.MmValue

open Cert.Reference15Ideal Cert.Reference15Ideal.Gen Cert.Mm

/-- The reference's term of its arguments. -/
def val (x0 : FVec Ideal S512x2048 .bf16) (x1 : FVec Ideal S2048x4096 .bf16) : FVec Ideal S512x4096 .f32 :=
  Host.dotGeneral dot_S512x2048_S2048x4096_S512x4096_1_0_0_1_n_n none (extf .f32 x0 bitsLt_bf16_f32) (extf .f32 x1 bitsLt_bf16_f32)

theorem val_eq (x0 : FVec Ideal S512x2048 .bf16) (x1 : FVec Ideal S2048x4096 .bf16) : val x0 x1 = Cert.Kernel15Ideal.MmValue.spec x0 x1 := by
  refine funext fun i => ?_
  obtain ⟨r, k, rfl⟩ : ∃ (r : Fin 512) (k : Fin 4096), i = ix2 r k := ⟨i 0, i 1, eq_ix2 i⟩
  show _ = (∑ j : Fin 2048, x0 (ix2 r j) * x1 (ix2 j k))
  pointwise [val]

end Cert.Reference15Ideal.MmValue

namespace Cert.Proof.MmClaims15

theorem frame_reference : Cert.quiescent_Reference15Ideal := fun m ρ _ =>
  (θ_run Cert.Reference15Ideal.defs _ _).mono (fun r h => ⟨fun c => (h c).2,
      Idealize.ShloMosaic.sem_eq_zero_of_no_sems (by decide) r.2⟩)
    (Cert.Reference15Ideal.Value.run (F := Ideal) m ρ)

theorem algebraic : Cert.algebraic_Kernel15Ideal_Reference15Ideal := by
  intro m ρ m' ρ' _ hag
  refine ⟨fun c => Cert.Kernel15Ideal.MmValue.G m c, ?_, ?_⟩
  · exact (θ_run Cert.Kernel15Ideal.defs _ _).mono (fun _ h c => ⟨(h c).1.trans (Cert.Kernel15Ideal.MmValue.final m c), (h c).2⟩)
      (Cert.Kernel15Ideal.Value.run_blocks (F := Ideal) m ρ)
  · refine (θ_run Cert.Reference15Ideal.defs _ _).mono (fun _ h c => ⟨(h c).1.trans ?_, (h c).2⟩)
      (Cert.Reference15Ideal.Value.run (F := Ideal) m' ρ')
    obtain ⟨h0, h1⟩ := hag c
    rw [h0, h1]
    exact Cert.Reference15Ideal.MmValue.val_eq _ _

end Cert.Proof.MmClaims15

end
-- ==== Proof.Mm16.lean ====
/- The sample batch's projection to layer 0's token-shifted columns and forget columns: point `t` of the grid of 1 by 2 leaves one block of 512 rows and 1664 columns of
   the product. The blocks tile the result, so the whole array is the plain product. -/
module

public import proofs.«01_k».proof.Defs
public import proofs.«01_k».proof.Proof.MmModel
public import proofs.«01_k».proof.Proof.Gen.Kernel16Ideal.Value
public import proofs.«01_k».proof.Proof.Gen.Reference16Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel16Ideal.MmValue

open Cert.Kernel16Ideal Cert.Kernel16Ideal.Gen Cert.Mm

variable (m : (ℓ : Loc nD τ sig) → Buf (Elt Ideal) ℓ)

/-- The result as a function of the arguments. -/
def spec (x0 : S512x2048.Idx → EReal) (w : S2048x3328.Idx → EReal) : S512x3328.Idx → EReal := fun i =>
  prod x0 w i

/-- The whole result array. -/
abbrev G (c : Dev nD) : Buf (Elt Ideal) ((c : Thread nD τ).loc main_v0) :=
  spec (m ((c : Thread nD τ).loc main_arg0)) (m ((c : Thread nD τ).loc main_arg1))

/-! Where the windows' blocks begin at point `t`. -/

theorem off0 : ∀ t : Fin cfg0.N, (win0_0.rect t).off 0 = 512 * (t.val / 2) ∧ (win0_0.rect t).off 1 = 0 :=
  (by decide +kernel : ∀ t : Fin grid0.N, (win0_0.rect t).off 0 = 512 * (t.val / 2) ∧ (win0_0.rect t).off 1 = 0)
theorem off1 : ∀ t : Fin cfg0.N, (win0_1.rect t).off 0 = 0 ∧ (win0_1.rect t).off 1 = 1664 * (t.val % 2) :=
  (by decide +kernel : ∀ t : Fin grid0.N, (win0_1.rect t).off 0 = 0 ∧ (win0_1.rect t).off 1 = 1664 * (t.val % 2))
theorem off2 : ∀ t : Fin cfg0.N, (win0_2.rect t).off 0 = 512 * (t.val / 2) ∧ (win0_2.rect t).off 1 = 1664 * (t.val % 2) :=
  (by decide +kernel : ∀ t : Fin grid0.N, (win0_2.rect t).off 0 = 512 * (t.val / 2) ∧ (win0_2.rect t).off 1 = 1664 * (t.val % 2))

/-- Window 0's block at point `t`, element by element. -/
theorem iblk0_apply (c : Dev nD) (t : Fin cfg0.N) (a : Fin 512) (b : Fin 2048) (r : Fin 512) (k : Fin 2048) (h0 : r.val = 512 * (t.val / 2) + a.val) (h1 : k.val = 0 + b.val) :
    (iblk m c 0 t : Vec Ideal S512x2048 .bf16) (ix2 a b) = (m ((c : Thread nD τ).loc main_arg0) : Vec Ideal S512x2048 .bf16) (ix2 r k) := by
  unfold iblk
  rw [View.read_apply]
  show V m c main_arg0 _ = _
  rw [V_main_arg0]
  refine at_ix2 (m ((c : Thread nD τ).loc main_arg0) : Vec Ideal S512x2048 .bf16) _ r k ?_ ?_
  · show (win0_0.rect t).off 0 + 1 * a.val = r.val
    rw [(off0 t).1]; omega
  · show (win0_0.rect t).off 1 + 1 * b.val = k.val
    rw [(off0 t).2]; omega

/-- Window 1's block at point `t`, element by element. -/
theorem iblk1_apply (c : Dev nD) (t : Fin cfg0.N) (a : Fin 2048) (b : Fin 1664) (r : Fin 2048) (k : Fin 3328) (h0 : r.val = 0 + a.val) (h1 : k.val = 1664 * (t.val % 2) + b.val) :
    (iblk m c 1 t : Vec Ideal S2048x1664 .bf16) (ix2 a b) = (m ((c : Thread nD τ).loc main_arg1) : Vec Ideal S2048x3328 .bf16) (ix2 r k) := by
  unfold iblk
  rw [View.read_apply]
  show V m c main_arg1 _ = _
  rw [V_main_arg1]
  refine at_ix2 (m ((c : Thread nD τ).loc main_arg1) : Vec Ideal S2048x3328 .bf16) _ r k ?_ ?_
  · show (win0_1.rect t).off 0 + 1 * a.val = r.val
    rw [(off1 t).1]; omega
  · show (win0_1.rect t).off 1 + 1 * b.val = k.val
    rw [(off1 t).2]; omega

/-- The body's block at an index. -/
theorem out_apply (x0 : Vec Ideal S512x2048 .bf16) (x1 : Vec Ideal S2048x1664 .bf16) (a : Fin 512) (b : Fin 1664) :
    (out0_2 x0 x1 : Vec Ideal S512x1664 .f32) (ix2 a b) = (∑ k : Fin 2048, x0 (ix2 a k) * x1 (ix2 k b)) := by
  unfold out0_2
  rw [View.canon_unit_zero zero2]
  rw [View.ld_unit_zero zero2, View.ld_unit_zero zero2]
  pointwise [k0_pay1]

/-- What point `t` writes back is its block of the result. -/
theorem flushed_eq (c : Dev nD) (t : Fin cfg0.N) :
    (dats m 0 c).flushed 2 t = ((cfg0.win 2).blk t).view.read (Elt Ideal) (G m c) := by
  rw [Value.flushed2]
  refine funext fun (j : S512x1664.Idx) => ?_
  obtain ⟨a, b, rfl⟩ : ∃ (a : Fin 512) (b : Fin 1664), j = ix2 a b := ⟨j 0, j 1, eq_ix2 j⟩
  rw [View.read_apply]
  have ht : t.val < 2 := lt_of_lt_of_eq t.isLt N_0
  have ha := a.isLt
  have hb := b.isLt
  have hr : 512 * (t.val / 2) + a.val < 512 := by omega
  have hk : 1664 * (t.val % 2) + b.val < 3328 := by omega
  show (out0_2 (iblk m c 0 t) (iblk m c 1 t) : Vec Ideal S512x1664 .f32) (ix2 a b) = G m c ((win0_2.rect t).idx (ix2 a b))
  refine (out_apply _ _ a b).trans ?_
  refine Eq.trans ?_ (at_ix2 (G m c : S512x3328.Idx → EReal) ((win0_2.rect t).idx (ix2 a b)) ⟨_, hr⟩ ⟨_, hk⟩ ?_ ?_).symm
  · refine Eq.trans ?_ (prod_apply _ _ ⟨_, hr⟩ ⟨_, hk⟩).symm
    exact Finset.sum_congr rfl fun k _ => congrArg₂ (· * ·) (iblk0_apply m c t a k ⟨_, hr⟩ k rfl (by omega)) (iblk1_apply m c t k b k ⟨_, hk⟩ (by omega) rfl)
  · show (win0_2.rect t).off 0 + 1 * a.val = 512 * (t.val / 2) + a.val
    rw [(off2 t).1]; omega
  · show (win0_2.rect t).off 1 + 1 * b.val = 1664 * (t.val % 2) + b.val
    rw [(off2 t).2]; omega

/-- The blocks tile the result. -/
theorem cover (i : S512x3328.Idx) : ∃ t : Fin cfg0.N, (cfg0.win 2).flush t = true ∧ i ∈ ((cfg0.win 2).blk t).view.set := by
  have h0 : (i 0 : Nat) < 512 := (i 0).isLt
  have h1 : (i 1 : Nat) < 3328 := (i 1).isLt
  have hN : cfg0.N = 2 := N_0
  let t : Fin cfg0.N := ⟨2 * ((i 0).val / 512) + (i 1).val / 1664, by omega⟩
  have hq : t.val / 2 = (i 0).val / 512 := by show (2 * ((i 0).val / 512) + (i 1).val / 1664) / 2 = _; omega
  have hm : t.val % 2 = (i 1).val / 1664 := by show (2 * ((i 0).val / 512) + (i 1).val / 1664) % 2 = _; omega
  refine ⟨t, flush0_2 _, ?_⟩
  show i ∈ ((View.whole main_v0).slice (win0_2.rect t)).set
  rw [View.set_slice_whole, Rect.mem_set_unit]
  intro a
  match a with
  | ⟨0, _⟩ =>
    show (win0_2.rect t).off 0 ≤ (i 0 : Nat) ∧ (i 0 : Nat) < (win0_2.rect t).off 0 + 512
    rw [(off2 _).1, hq]; omega
  | ⟨1, _⟩ =>
    show (win0_2.rect t).off 1 ≤ (i 1 : Nat) ∧ (i 1 : Nat) < (win0_2.rect t).off 1 + 1664
    rw [(off2 _).2, hm]; omega

theorem final (c : Dev nD) : (dats m 0 c).arrAt 2 cfg0.N = G m c :=
  (dats m 0 c).arrAt_eq_of_cover 2 (G m c) (fun t _ => flushed_eq m c t) cover

end Cert.Kernel16Ideal.MmValue

namespace Cert.Reference16Ideal.MmValue

open Cert.Reference16Ideal Cert.Reference16Ideal.Gen Cert.Mm

/-- The reference's term of its arguments. -/
def val (x0 : FVec Ideal S512x2048 .bf16) (x1 : FVec Ideal S2048x3328 .bf16) : FVec Ideal S512x3328 .f32 :=
  Host.dotGeneral dot_S512x2048_S2048x3328_S512x3328_1_0_0_1_n_n none (extf .f32 x0 bitsLt_bf16_f32) (extf .f32 x1 bitsLt_bf16_f32)

theorem val_eq (x0 : FVec Ideal S512x2048 .bf16) (x1 : FVec Ideal S2048x3328 .bf16) : val x0 x1 = Cert.Kernel16Ideal.MmValue.spec x0 x1 := by
  refine funext fun i => ?_
  obtain ⟨r, k, rfl⟩ : ∃ (r : Fin 512) (k : Fin 3328), i = ix2 r k := ⟨i 0, i 1, eq_ix2 i⟩
  show _ = (∑ j : Fin 2048, x0 (ix2 r j) * x1 (ix2 j k))
  pointwise [val]

end Cert.Reference16Ideal.MmValue

namespace Cert.Proof.MmClaims16

theorem frame_reference : Cert.quiescent_Reference16Ideal := fun m ρ _ =>
  (θ_run Cert.Reference16Ideal.defs _ _).mono (fun r h => ⟨fun c => (h c).2,
      Idealize.ShloMosaic.sem_eq_zero_of_no_sems (by decide) r.2⟩)
    (Cert.Reference16Ideal.Value.run (F := Ideal) m ρ)

theorem algebraic : Cert.algebraic_Kernel16Ideal_Reference16Ideal := by
  intro m ρ m' ρ' _ hag
  refine ⟨fun c => Cert.Kernel16Ideal.MmValue.G m c, ?_, ?_⟩
  · exact (θ_run Cert.Kernel16Ideal.defs _ _).mono (fun _ h c => ⟨(h c).1.trans (Cert.Kernel16Ideal.MmValue.final m c), (h c).2⟩)
      (Cert.Kernel16Ideal.Value.run_blocks (F := Ideal) m ρ)
  · refine (θ_run Cert.Reference16Ideal.defs _ _).mono (fun _ h c => ⟨(h c).1.trans ?_, (h c).2⟩)
      (Cert.Reference16Ideal.Value.run (F := Ideal) m' ρ')
    obtain ⟨h0, h1⟩ := hag c
    rw [h0, h1]
    exact Cert.Reference16Ideal.MmValue.val_eq _ _

end Cert.Proof.MmClaims16

end
-- ==== Proof.Mm17.lean ====
/- The sample batch's projection to layer 0's second gate: point `t` of the grid of 1 by 1 leaves one block of 512 rows and 1024 columns of
   the product. The blocks tile the result, so the whole array is the plain product. -/
module

public import proofs.«01_k».proof.Defs
public import proofs.«01_k».proof.Proof.MmModel
public import proofs.«01_k».proof.Proof.Gen.Kernel17Ideal.Value
public import proofs.«01_k».proof.Proof.Gen.Reference17Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel17Ideal.MmValue

open Cert.Kernel17Ideal Cert.Kernel17Ideal.Gen Cert.Mm

variable (m : (ℓ : Loc nD τ sig) → Buf (Elt Ideal) ℓ)

/-- The result as a function of the arguments. -/
def spec (x0 : S512x2048.Idx → EReal) (w : S2048x1024.Idx → EReal) : S512x1024.Idx → EReal := fun i =>
  prod x0 w i

/-- The whole result array. -/
abbrev G (c : Dev nD) : Buf (Elt Ideal) ((c : Thread nD τ).loc main_v0) :=
  spec (m ((c : Thread nD τ).loc main_arg0)) (m ((c : Thread nD τ).loc main_arg1))

/-! Where the windows' blocks begin at point `t`. -/

theorem off0 : ∀ t : Fin cfg0.N, (win0_0.rect t).off 0 = 512 * (t.val / 1) ∧ (win0_0.rect t).off 1 = 0 :=
  (by decide +kernel : ∀ t : Fin grid0.N, (win0_0.rect t).off 0 = 512 * (t.val / 1) ∧ (win0_0.rect t).off 1 = 0)
theorem off1 : ∀ t : Fin cfg0.N, (win0_1.rect t).off 0 = 0 ∧ (win0_1.rect t).off 1 = 1024 * (t.val % 1) :=
  (by decide +kernel : ∀ t : Fin grid0.N, (win0_1.rect t).off 0 = 0 ∧ (win0_1.rect t).off 1 = 1024 * (t.val % 1))
theorem off2 : ∀ t : Fin cfg0.N, (win0_2.rect t).off 0 = 512 * (t.val / 1) ∧ (win0_2.rect t).off 1 = 1024 * (t.val % 1) :=
  (by decide +kernel : ∀ t : Fin grid0.N, (win0_2.rect t).off 0 = 512 * (t.val / 1) ∧ (win0_2.rect t).off 1 = 1024 * (t.val % 1))

/-- Window 0's block at point `t`, element by element. -/
theorem iblk0_apply (c : Dev nD) (t : Fin cfg0.N) (a : Fin 512) (b : Fin 2048) (r : Fin 512) (k : Fin 2048) (h0 : r.val = 512 * (t.val / 1) + a.val) (h1 : k.val = 0 + b.val) :
    (iblk m c 0 t : Vec Ideal S512x2048 .bf16) (ix2 a b) = (m ((c : Thread nD τ).loc main_arg0) : Vec Ideal S512x2048 .bf16) (ix2 r k) := by
  unfold iblk
  rw [View.read_apply]
  show V m c main_arg0 _ = _
  rw [V_main_arg0]
  refine at_ix2 (m ((c : Thread nD τ).loc main_arg0) : Vec Ideal S512x2048 .bf16) _ r k ?_ ?_
  · show (win0_0.rect t).off 0 + 1 * a.val = r.val
    rw [(off0 t).1]; omega
  · show (win0_0.rect t).off 1 + 1 * b.val = k.val
    rw [(off0 t).2]; omega

/-- Window 1's block at point `t`, element by element. -/
theorem iblk1_apply (c : Dev nD) (t : Fin cfg0.N) (a : Fin 2048) (b : Fin 1024) (r : Fin 2048) (k : Fin 1024) (h0 : r.val = 0 + a.val) (h1 : k.val = 1024 * (t.val % 1) + b.val) :
    (iblk m c 1 t : Vec Ideal S2048x1024 .bf16) (ix2 a b) = (m ((c : Thread nD τ).loc main_arg1) : Vec Ideal S2048x1024 .bf16) (ix2 r k) := by
  unfold iblk
  rw [View.read_apply]
  show V m c main_arg1 _ = _
  rw [V_main_arg1]
  refine at_ix2 (m ((c : Thread nD τ).loc main_arg1) : Vec Ideal S2048x1024 .bf16) _ r k ?_ ?_
  · show (win0_1.rect t).off 0 + 1 * a.val = r.val
    rw [(off1 t).1]; omega
  · show (win0_1.rect t).off 1 + 1 * b.val = k.val
    rw [(off1 t).2]; omega

/-- The body's block at an index. -/
theorem out_apply (x0 : Vec Ideal S512x2048 .bf16) (x1 : Vec Ideal S2048x1024 .bf16) (a : Fin 512) (b : Fin 1024) :
    (out0_2 x0 x1 : Vec Ideal S512x1024 .f32) (ix2 a b) = (∑ k : Fin 2048, x0 (ix2 a k) * x1 (ix2 k b)) := by
  unfold out0_2
  rw [View.canon_unit_zero zero2]
  rw [View.ld_unit_zero zero2, View.ld_unit_zero zero2]
  pointwise [k0_pay1]

/-- What point `t` writes back is its block of the result. -/
theorem flushed_eq (c : Dev nD) (t : Fin cfg0.N) :
    (dats m 0 c).flushed 2 t = ((cfg0.win 2).blk t).view.read (Elt Ideal) (G m c) := by
  rw [Value.flushed2]
  refine funext fun (j : S512x1024.Idx) => ?_
  obtain ⟨a, b, rfl⟩ : ∃ (a : Fin 512) (b : Fin 1024), j = ix2 a b := ⟨j 0, j 1, eq_ix2 j⟩
  rw [View.read_apply]
  have ht : t.val < 1 := lt_of_lt_of_eq t.isLt N_0
  have ha := a.isLt
  have hb := b.isLt
  have hr : 512 * (t.val / 1) + a.val < 512 := by omega
  have hk : 1024 * (t.val % 1) + b.val < 1024 := by omega
  show (out0_2 (iblk m c 0 t) (iblk m c 1 t) : Vec Ideal S512x1024 .f32) (ix2 a b) = G m c ((win0_2.rect t).idx (ix2 a b))
  refine (out_apply _ _ a b).trans ?_
  refine Eq.trans ?_ (at_ix2 (G m c : S512x1024.Idx → EReal) ((win0_2.rect t).idx (ix2 a b)) ⟨_, hr⟩ ⟨_, hk⟩ ?_ ?_).symm
  · refine Eq.trans ?_ (prod_apply _ _ ⟨_, hr⟩ ⟨_, hk⟩).symm
    exact Finset.sum_congr rfl fun k _ => congrArg₂ (· * ·) (iblk0_apply m c t a k ⟨_, hr⟩ k rfl (by omega)) (iblk1_apply m c t k b k ⟨_, hk⟩ (by omega) rfl)
  · show (win0_2.rect t).off 0 + 1 * a.val = 512 * (t.val / 1) + a.val
    rw [(off2 t).1]; omega
  · show (win0_2.rect t).off 1 + 1 * b.val = 1024 * (t.val % 1) + b.val
    rw [(off2 t).2]; omega

/-- The blocks tile the result. -/
theorem cover (i : S512x1024.Idx) : ∃ t : Fin cfg0.N, (cfg0.win 2).flush t = true ∧ i ∈ ((cfg0.win 2).blk t).view.set := by
  have h0 : (i 0 : Nat) < 512 := (i 0).isLt
  have h1 : (i 1 : Nat) < 1024 := (i 1).isLt
  have hN : cfg0.N = 1 := N_0
  let t : Fin cfg0.N := ⟨1 * ((i 0).val / 512) + (i 1).val / 1024, by omega⟩
  have hq : t.val / 1 = (i 0).val / 512 := by show (1 * ((i 0).val / 512) + (i 1).val / 1024) / 1 = _; omega
  have hm : t.val % 1 = (i 1).val / 1024 := by show (1 * ((i 0).val / 512) + (i 1).val / 1024) % 1 = _; omega
  refine ⟨t, flush0_2 _, ?_⟩
  show i ∈ ((View.whole main_v0).slice (win0_2.rect t)).set
  rw [View.set_slice_whole, Rect.mem_set_unit]
  intro a
  match a with
  | ⟨0, _⟩ =>
    show (win0_2.rect t).off 0 ≤ (i 0 : Nat) ∧ (i 0 : Nat) < (win0_2.rect t).off 0 + 512
    rw [(off2 _).1, hq]; omega
  | ⟨1, _⟩ =>
    show (win0_2.rect t).off 1 ≤ (i 1 : Nat) ∧ (i 1 : Nat) < (win0_2.rect t).off 1 + 1024
    rw [(off2 _).2, hm]; omega

theorem final (c : Dev nD) : (dats m 0 c).arrAt 2 cfg0.N = G m c :=
  (dats m 0 c).arrAt_eq_of_cover 2 (G m c) (fun t _ => flushed_eq m c t) cover

end Cert.Kernel17Ideal.MmValue

namespace Cert.Reference17Ideal.MmValue

open Cert.Reference17Ideal Cert.Reference17Ideal.Gen Cert.Mm

/-- The reference's term of its arguments. -/
def val (x0 : FVec Ideal S512x2048 .bf16) (x1 : FVec Ideal S2048x1024 .bf16) : FVec Ideal S512x1024 .f32 :=
  Host.dotGeneral dot_S512x2048_S2048x1024_S512x1024_1_0_0_1_n_n none (extf .f32 x0 bitsLt_bf16_f32) (extf .f32 x1 bitsLt_bf16_f32)

theorem val_eq (x0 : FVec Ideal S512x2048 .bf16) (x1 : FVec Ideal S2048x1024 .bf16) : val x0 x1 = Cert.Kernel17Ideal.MmValue.spec x0 x1 := by
  refine funext fun i => ?_
  obtain ⟨r, k, rfl⟩ : ∃ (r : Fin 512) (k : Fin 1024), i = ix2 r k := ⟨i 0, i 1, eq_ix2 i⟩
  show _ = (∑ j : Fin 2048, x0 (ix2 r j) * x1 (ix2 j k))
  pointwise [val]

end Cert.Reference17Ideal.MmValue

namespace Cert.Proof.MmClaims17

theorem frame_reference : Cert.quiescent_Reference17Ideal := fun m ρ _ =>
  (θ_run Cert.Reference17Ideal.defs _ _).mono (fun r h => ⟨fun c => (h c).2,
      Idealize.ShloMosaic.sem_eq_zero_of_no_sems (by decide) r.2⟩)
    (Cert.Reference17Ideal.Value.run (F := Ideal) m ρ)

theorem algebraic : Cert.algebraic_Kernel17Ideal_Reference17Ideal := by
  intro m ρ m' ρ' _ hag
  refine ⟨fun c => Cert.Kernel17Ideal.MmValue.G m c, ?_, ?_⟩
  · exact (θ_run Cert.Kernel17Ideal.defs _ _).mono (fun _ h c => ⟨(h c).1.trans (Cert.Kernel17Ideal.MmValue.final m c), (h c).2⟩)
      (Cert.Kernel17Ideal.Value.run_blocks (F := Ideal) m ρ)
  · refine (θ_run Cert.Reference17Ideal.defs _ _).mono (fun _ h c => ⟨(h c).1.trans ?_, (h c).2⟩)
      (Cert.Reference17Ideal.Value.run (F := Ideal) m' ρ')
    obtain ⟨h0, h1⟩ := hag c
    rw [h0, h1]
    exact Cert.Reference17Ideal.MmValue.val_eq _ _

end Cert.Proof.MmClaims17

end
-- ==== Proof.Mm18.lean ====
/- Layer 1's input projection on the sample batch: point `t` of the grid of 1 by 6 leaves one block of 512 rows and 1024 columns of
   the product. The blocks tile the result, so the whole array is the plain product. -/
module

public import proofs.«01_k».proof.Defs
public import proofs.«01_k».proof.Proof.MmModel
public import proofs.«01_k».proof.Proof.Gen.Kernel18Ideal.Value
public import proofs.«01_k».proof.Proof.Gen.Reference18Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel18Ideal.MmValue

open Cert.Kernel18Ideal Cert.Kernel18Ideal.Gen Cert.Mm

variable (m : (ℓ : Loc nD τ sig) → Buf (Elt Ideal) ℓ)

/-- The result as a function of the arguments. -/
def spec (x0 : S512x2048.Idx → EReal) (w : S2048x6144.Idx → EReal) : S512x6144.Idx → EReal := fun i =>
  prod x0 w i

/-- The whole result array. -/
abbrev G (c : Dev nD) : Buf (Elt Ideal) ((c : Thread nD τ).loc main_v0) :=
  spec (m ((c : Thread nD τ).loc main_arg0)) (m ((c : Thread nD τ).loc main_arg1))

/-! Where the windows' blocks begin at point `t`. -/

theorem off0 : ∀ t : Fin cfg0.N, (win0_0.rect t).off 0 = 512 * (t.val / 6) ∧ (win0_0.rect t).off 1 = 0 :=
  (by decide +kernel : ∀ t : Fin grid0.N, (win0_0.rect t).off 0 = 512 * (t.val / 6) ∧ (win0_0.rect t).off 1 = 0)
theorem off1 : ∀ t : Fin cfg0.N, (win0_1.rect t).off 0 = 0 ∧ (win0_1.rect t).off 1 = 1024 * (t.val % 6) :=
  (by decide +kernel : ∀ t : Fin grid0.N, (win0_1.rect t).off 0 = 0 ∧ (win0_1.rect t).off 1 = 1024 * (t.val % 6))
theorem off2 : ∀ t : Fin cfg0.N, (win0_2.rect t).off 0 = 512 * (t.val / 6) ∧ (win0_2.rect t).off 1 = 1024 * (t.val % 6) :=
  (by decide +kernel : ∀ t : Fin grid0.N, (win0_2.rect t).off 0 = 512 * (t.val / 6) ∧ (win0_2.rect t).off 1 = 1024 * (t.val % 6))

/-- Window 0's block at point `t`, element by element. -/
theorem iblk0_apply (c : Dev nD) (t : Fin cfg0.N) (a : Fin 512) (b : Fin 2048) (r : Fin 512) (k : Fin 2048) (h0 : r.val = 512 * (t.val / 6) + a.val) (h1 : k.val = 0 + b.val) :
    (iblk m c 0 t : Vec Ideal S512x2048 .bf16) (ix2 a b) = (m ((c : Thread nD τ).loc main_arg0) : Vec Ideal S512x2048 .bf16) (ix2 r k) := by
  unfold iblk
  rw [View.read_apply]
  show V m c main_arg0 _ = _
  rw [V_main_arg0]
  refine at_ix2 (m ((c : Thread nD τ).loc main_arg0) : Vec Ideal S512x2048 .bf16) _ r k ?_ ?_
  · show (win0_0.rect t).off 0 + 1 * a.val = r.val
    rw [(off0 t).1]; omega
  · show (win0_0.rect t).off 1 + 1 * b.val = k.val
    rw [(off0 t).2]; omega

/-- Window 1's block at point `t`, element by element. -/
theorem iblk1_apply (c : Dev nD) (t : Fin cfg0.N) (a : Fin 2048) (b : Fin 1024) (r : Fin 2048) (k : Fin 6144) (h0 : r.val = 0 + a.val) (h1 : k.val = 1024 * (t.val % 6) + b.val) :
    (iblk m c 1 t : Vec Ideal S2048x1024 .bf16) (ix2 a b) = (m ((c : Thread nD τ).loc main_arg1) : Vec Ideal S2048x6144 .bf16) (ix2 r k) := by
  unfold iblk
  rw [View.read_apply]
  show V m c main_arg1 _ = _
  rw [V_main_arg1]
  refine at_ix2 (m ((c : Thread nD τ).loc main_arg1) : Vec Ideal S2048x6144 .bf16) _ r k ?_ ?_
  · show (win0_1.rect t).off 0 + 1 * a.val = r.val
    rw [(off1 t).1]; omega
  · show (win0_1.rect t).off 1 + 1 * b.val = k.val
    rw [(off1 t).2]; omega

/-- The body's block at an index. -/
theorem out_apply (x0 : Vec Ideal S512x2048 .bf16) (x1 : Vec Ideal S2048x1024 .bf16) (a : Fin 512) (b : Fin 1024) :
    (out0_2 x0 x1 : Vec Ideal S512x1024 .f32) (ix2 a b) = (∑ k : Fin 2048, x0 (ix2 a k) * x1 (ix2 k b)) := by
  unfold out0_2
  rw [View.canon_unit_zero zero2]
  rw [View.ld_unit_zero zero2, View.ld_unit_zero zero2]
  pointwise [k0_pay1]

/-- What point `t` writes back is its block of the result. -/
theorem flushed_eq (c : Dev nD) (t : Fin cfg0.N) :
    (dats m 0 c).flushed 2 t = ((cfg0.win 2).blk t).view.read (Elt Ideal) (G m c) := by
  rw [Value.flushed2]
  refine funext fun (j : S512x1024.Idx) => ?_
  obtain ⟨a, b, rfl⟩ : ∃ (a : Fin 512) (b : Fin 1024), j = ix2 a b := ⟨j 0, j 1, eq_ix2 j⟩
  rw [View.read_apply]
  have ht : t.val < 6 := lt_of_lt_of_eq t.isLt N_0
  have ha := a.isLt
  have hb := b.isLt
  have hr : 512 * (t.val / 6) + a.val < 512 := by omega
  have hk : 1024 * (t.val % 6) + b.val < 6144 := by omega
  show (out0_2 (iblk m c 0 t) (iblk m c 1 t) : Vec Ideal S512x1024 .f32) (ix2 a b) = G m c ((win0_2.rect t).idx (ix2 a b))
  refine (out_apply _ _ a b).trans ?_
  refine Eq.trans ?_ (at_ix2 (G m c : S512x6144.Idx → EReal) ((win0_2.rect t).idx (ix2 a b)) ⟨_, hr⟩ ⟨_, hk⟩ ?_ ?_).symm
  · refine Eq.trans ?_ (prod_apply _ _ ⟨_, hr⟩ ⟨_, hk⟩).symm
    exact Finset.sum_congr rfl fun k _ => congrArg₂ (· * ·) (iblk0_apply m c t a k ⟨_, hr⟩ k rfl (by omega)) (iblk1_apply m c t k b k ⟨_, hk⟩ (by omega) rfl)
  · show (win0_2.rect t).off 0 + 1 * a.val = 512 * (t.val / 6) + a.val
    rw [(off2 t).1]; omega
  · show (win0_2.rect t).off 1 + 1 * b.val = 1024 * (t.val % 6) + b.val
    rw [(off2 t).2]; omega

/-- The blocks tile the result. -/
theorem cover (i : S512x6144.Idx) : ∃ t : Fin cfg0.N, (cfg0.win 2).flush t = true ∧ i ∈ ((cfg0.win 2).blk t).view.set := by
  have h0 : (i 0 : Nat) < 512 := (i 0).isLt
  have h1 : (i 1 : Nat) < 6144 := (i 1).isLt
  have hN : cfg0.N = 6 := N_0
  let t : Fin cfg0.N := ⟨6 * ((i 0).val / 512) + (i 1).val / 1024, by omega⟩
  have hq : t.val / 6 = (i 0).val / 512 := by show (6 * ((i 0).val / 512) + (i 1).val / 1024) / 6 = _; omega
  have hm : t.val % 6 = (i 1).val / 1024 := by show (6 * ((i 0).val / 512) + (i 1).val / 1024) % 6 = _; omega
  refine ⟨t, flush0_2 _, ?_⟩
  show i ∈ ((View.whole main_v0).slice (win0_2.rect t)).set
  rw [View.set_slice_whole, Rect.mem_set_unit]
  intro a
  match a with
  | ⟨0, _⟩ =>
    show (win0_2.rect t).off 0 ≤ (i 0 : Nat) ∧ (i 0 : Nat) < (win0_2.rect t).off 0 + 512
    rw [(off2 _).1, hq]; omega
  | ⟨1, _⟩ =>
    show (win0_2.rect t).off 1 ≤ (i 1 : Nat) ∧ (i 1 : Nat) < (win0_2.rect t).off 1 + 1024
    rw [(off2 _).2, hm]; omega

theorem final (c : Dev nD) : (dats m 0 c).arrAt 2 cfg0.N = G m c :=
  (dats m 0 c).arrAt_eq_of_cover 2 (G m c) (fun t _ => flushed_eq m c t) cover

end Cert.Kernel18Ideal.MmValue

namespace Cert.Reference18Ideal.MmValue

open Cert.Reference18Ideal Cert.Reference18Ideal.Gen Cert.Mm

/-- The reference's term of its arguments. -/
def val (x0 : FVec Ideal S512x2048 .bf16) (x1 : FVec Ideal S2048x6144 .bf16) : FVec Ideal S512x6144 .f32 :=
  Host.dotGeneral dot_S512x2048_S2048x6144_S512x6144_1_0_0_1_n_n none (extf .f32 x0 bitsLt_bf16_f32) (extf .f32 x1 bitsLt_bf16_f32)

theorem val_eq (x0 : FVec Ideal S512x2048 .bf16) (x1 : FVec Ideal S2048x6144 .bf16) : val x0 x1 = Cert.Kernel18Ideal.MmValue.spec x0 x1 := by
  refine funext fun i => ?_
  obtain ⟨r, k, rfl⟩ : ∃ (r : Fin 512) (k : Fin 6144), i = ix2 r k := ⟨i 0, i 1, eq_ix2 i⟩
  show _ = (∑ j : Fin 2048, x0 (ix2 r j) * x1 (ix2 j k))
  pointwise [val]

end Cert.Reference18Ideal.MmValue

namespace Cert.Proof.MmClaims18

theorem frame_reference : Cert.quiescent_Reference18Ideal := fun m ρ _ =>
  (θ_run Cert.Reference18Ideal.defs _ _).mono (fun r h => ⟨fun c => (h c).2,
      Idealize.ShloMosaic.sem_eq_zero_of_no_sems (by decide) r.2⟩)
    (Cert.Reference18Ideal.Value.run (F := Ideal) m ρ)

theorem algebraic : Cert.algebraic_Kernel18Ideal_Reference18Ideal := by
  intro m ρ m' ρ' _ hag
  refine ⟨fun c => Cert.Kernel18Ideal.MmValue.G m c, ?_, ?_⟩
  · exact (θ_run Cert.Kernel18Ideal.defs _ _).mono (fun _ h c => ⟨(h c).1.trans (Cert.Kernel18Ideal.MmValue.final m c), (h c).2⟩)
      (Cert.Kernel18Ideal.Value.run_blocks (F := Ideal) m ρ)
  · refine (θ_run Cert.Reference18Ideal.defs _ _).mono (fun _ h c => ⟨(h c).1.trans ?_, (h c).2⟩)
      (Cert.Reference18Ideal.Value.run (F := Ideal) m' ρ')
    obtain ⟨h0, h1⟩ := hag c
    rw [h0, h1]
    exact Cert.Reference18Ideal.MmValue.val_eq _ _

end Cert.Proof.MmClaims18

end
-- ==== Proof.Mm19.lean ====
/- Layer 0's output projection on the sample batch, added to the layer's input: point `t` of the grid of 1 by 4 leaves one block of 512 rows and 512 columns of
   the product. The blocks tile the result, so the whole array is the plain product. -/
module

public import proofs.«01_k».proof.Defs
public import proofs.«01_k».proof.Proof.MmModel
public import proofs.«01_k».proof.Proof.Gen.Kernel19Ideal.Value
public import proofs.«01_k».proof.Proof.Gen.Reference19Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel19Ideal.MmValue

open Cert.Kernel19Ideal Cert.Kernel19Ideal.Gen Cert.Mm

variable (m : (ℓ : Loc nD τ sig) → Buf (Elt Ideal) ℓ)

/-- The result as a function of the arguments. -/
def spec (x0 : S512x1024.Idx → EReal) (x1 : S512x1024.Idx → EReal) (w : S2048x2048.Idx → EReal) (r : S512x2048.Idx → EReal) : S512x2048.Idx → EReal := fun i =>
  r i + ((∑ k : Fin 1024, x0 (ix2 (i 0) k) * w (ix2 ⟨k.val, by omega⟩ (i 1)))
    + ∑ k : Fin 1024, x1 (ix2 (i 0) k) * w (ix2 ⟨1024 + k.val, by omega⟩ (i 1)))

/-- The whole result array. -/
abbrev G (c : Dev nD) : Buf (Elt Ideal) ((c : Thread nD τ).loc main_v0) :=
  spec (m ((c : Thread nD τ).loc main_arg0)) (m ((c : Thread nD τ).loc main_arg1)) (m ((c : Thread nD τ).loc main_arg2)) (m ((c : Thread nD τ).loc main_arg3))

/-! Where the windows' blocks begin at point `t`. -/

theorem off0 : ∀ t : Fin cfg0.N, (win0_0.rect t).off 0 = 512 * (t.val / 4) ∧ (win0_0.rect t).off 1 = 0 :=
  (by decide +kernel : ∀ t : Fin grid0.N, (win0_0.rect t).off 0 = 512 * (t.val / 4) ∧ (win0_0.rect t).off 1 = 0)
theorem off1 : ∀ t : Fin cfg0.N, (win0_1.rect t).off 0 = 512 * (t.val / 4) ∧ (win0_1.rect t).off 1 = 0 :=
  (by decide +kernel : ∀ t : Fin grid0.N, (win0_1.rect t).off 0 = 512 * (t.val / 4) ∧ (win0_1.rect t).off 1 = 0)
theorem off2 : ∀ t : Fin cfg0.N, (win0_2.rect t).off 0 = 0 ∧ (win0_2.rect t).off 1 = 512 * (t.val % 4) :=
  (by decide +kernel : ∀ t : Fin grid0.N, (win0_2.rect t).off 0 = 0 ∧ (win0_2.rect t).off 1 = 512 * (t.val % 4))
theorem off3 : ∀ t : Fin cfg0.N, (win0_3.rect t).off 0 = 512 * (t.val / 4) ∧ (win0_3.rect t).off 1 = 512 * (t.val % 4) :=
  (by decide +kernel : ∀ t : Fin grid0.N, (win0_3.rect t).off 0 = 512 * (t.val / 4) ∧ (win0_3.rect t).off 1 = 512 * (t.val % 4))
theorem off4 : ∀ t : Fin cfg0.N, (win0_4.rect t).off 0 = 512 * (t.val / 4) ∧ (win0_4.rect t).off 1 = 512 * (t.val % 4) :=
  (by decide +kernel : ∀ t : Fin grid0.N, (win0_4.rect t).off 0 = 512 * (t.val / 4) ∧ (win0_4.rect t).off 1 = 512 * (t.val % 4))

/-- Window 0's block at point `t`, element by element. -/
theorem iblk0_apply (c : Dev nD) (t : Fin cfg0.N) (a : Fin 512) (b : Fin 1024) (r : Fin 512) (k : Fin 1024) (h0 : r.val = 512 * (t.val / 4) + a.val) (h1 : k.val = 0 + b.val) :
    (iblk m c 0 t : Vec Ideal S512x1024 .bf16) (ix2 a b) = (m ((c : Thread nD τ).loc main_arg0) : Vec Ideal S512x1024 .bf16) (ix2 r k) := by
  unfold iblk
  rw [View.read_apply]
  show V m c main_arg0 _ = _
  rw [V_main_arg0]
  refine at_ix2 (m ((c : Thread nD τ).loc main_arg0) : Vec Ideal S512x1024 .bf16) _ r k ?_ ?_
  · show (win0_0.rect t).off 0 + 1 * a.val = r.val
    rw [(off0 t).1]; omega
  · show (win0_0.rect t).off 1 + 1 * b.val = k.val
    rw [(off0 t).2]; omega

/-- Window 1's block at point `t`, element by element. -/
theorem iblk1_apply (c : Dev nD) (t : Fin cfg0.N) (a : Fin 512) (b : Fin 1024) (r : Fin 512) (k : Fin 1024) (h0 : r.val = 512 * (t.val / 4) + a.val) (h1 : k.val = 0 + b.val) :
    (iblk m c 1 t : Vec Ideal S512x1024 .bf16) (ix2 a b) = (m ((c : Thread nD τ).loc main_arg1) : Vec Ideal S512x1024 .bf16) (ix2 r k) := by
  unfold iblk
  rw [View.read_apply]
  show V m c main_arg1 _ = _
  rw [V_main_arg1]
  refine at_ix2 (m ((c : Thread nD τ).loc main_arg1) : Vec Ideal S512x1024 .bf16) _ r k ?_ ?_
  · show (win0_1.rect t).off 0 + 1 * a.val = r.val
    rw [(off1 t).1]; omega
  · show (win0_1.rect t).off 1 + 1 * b.val = k.val
    rw [(off1 t).2]; omega

/-- Window 2's block at point `t`, element by element. -/
theorem iblk2_apply (c : Dev nD) (t : Fin cfg0.N) (a : Fin 2048) (b : Fin 512) (r : Fin 2048) (k : Fin 2048) (h0 : r.val = 0 + a.val) (h1 : k.val = 512 * (t.val % 4) + b.val) :
    (iblk m c 2 t : Vec Ideal S2048x512 .bf16) (ix2 a b) = (m ((c : Thread nD τ).loc main_arg2) : Vec Ideal S2048x2048 .bf16) (ix2 r k) := by
  unfold iblk
  rw [View.read_apply]
  show V m c main_arg2 _ = _
  rw [V_main_arg2]
  refine at_ix2 (m ((c : Thread nD τ).loc main_arg2) : Vec Ideal S2048x2048 .bf16) _ r k ?_ ?_
  · show (win0_2.rect t).off 0 + 1 * a.val = r.val
    rw [(off2 t).1]; omega
  · show (win0_2.rect t).off 1 + 1 * b.val = k.val
    rw [(off2 t).2]; omega

/-- Window 3's block at point `t`, element by element. -/
theorem iblk3_apply (c : Dev nD) (t : Fin cfg0.N) (a : Fin 512) (b : Fin 512) (r : Fin 512) (k : Fin 2048) (h0 : r.val = 512 * (t.val / 4) + a.val) (h1 : k.val = 512 * (t.val % 4) + b.val) :
    (iblk m c 3 t : Vec Ideal S512x512 .f32) (ix2 a b) = (m ((c : Thread nD τ).loc main_arg3) : Vec Ideal S512x2048 .f32) (ix2 r k) := by
  unfold iblk
  rw [View.read_apply]
  show V m c main_arg3 _ = _
  rw [V_main_arg3]
  refine at_ix2 (m ((c : Thread nD τ).loc main_arg3) : Vec Ideal S512x2048 .f32) _ r k ?_ ?_
  · show (win0_3.rect t).off 0 + 1 * a.val = r.val
    rw [(off3 t).1]; omega
  · show (win0_3.rect t).off 1 + 1 * b.val = k.val
    rw [(off3 t).2]; omega

/-- The body's block at an index. -/
theorem out_apply (x0 : Vec Ideal S512x1024 .bf16) (x1 : Vec Ideal S512x1024 .bf16) (x2 : Vec Ideal S2048x512 .bf16) (x3 : Vec Ideal S512x512 .f32) (a : Fin 512) (b : Fin 512) :
    (out0_4 x0 x1 x2 x3 : Vec Ideal S512x512 .f32) (ix2 a b) = x3 (ix2 a b) + ((∑ k : Fin 1024, x0 (ix2 a k) * x2 (ix2 ⟨k.val, by omega⟩ b)) + ∑ k : Fin 1024, x1 (ix2 a k) * x2 (ix2 ⟨1024 + k.val, by omega⟩ b)) := by
  unfold out0_4
  rw [View.canon_unit_zero zero2]
  rw [View.ld_unit_zero zero2, View.ld_unit_zero zero2, View.ld_unit_zero zero2]
  pointwise [k0_pay1]

/-- What point `t` writes back is its block of the result. -/
theorem flushed_eq (c : Dev nD) (t : Fin cfg0.N) :
    (dats m 0 c).flushed 4 t = ((cfg0.win 4).blk t).view.read (Elt Ideal) (G m c) := by
  rw [Value.flushed4]
  refine funext fun (j : S512x512.Idx) => ?_
  obtain ⟨a, b, rfl⟩ : ∃ (a : Fin 512) (b : Fin 512), j = ix2 a b := ⟨j 0, j 1, eq_ix2 j⟩
  rw [View.read_apply]
  have ht : t.val < 4 := lt_of_lt_of_eq t.isLt N_0
  have ha := a.isLt
  have hb := b.isLt
  have hr : 512 * (t.val / 4) + a.val < 512 := by omega
  have hk : 512 * (t.val % 4) + b.val < 2048 := by omega
  show (out0_4 (iblk m c 0 t) (iblk m c 1 t) (iblk m c 2 t) (iblk m c 3 t) : Vec Ideal S512x512 .f32) (ix2 a b) = G m c ((win0_4.rect t).idx (ix2 a b))
  refine (out_apply _ _ _ _ a b).trans ?_
  refine Eq.trans ?_ (at_ix2 (G m c : S512x2048.Idx → EReal) ((win0_4.rect t).idx (ix2 a b)) ⟨_, hr⟩ ⟨_, hk⟩ ?_ ?_).symm
  · show _ = _ + ((∑ k : Fin 1024, (_ : EReal)) + ∑ k : Fin 1024, (_ : EReal))
    exact congrArg₂ (· + ·) (iblk3_apply m c t a b ⟨_, hr⟩ ⟨_, hk⟩ rfl rfl)
      (congrArg₂ (· + ·)
        (Finset.sum_congr rfl fun k _ => congrArg₂ (· * ·) (iblk0_apply m c t a k ⟨_, hr⟩ k rfl (by omega)) (iblk2_apply m c t ⟨k.val, by omega⟩ b ⟨k.val, by omega⟩ ⟨_, hk⟩ (by omega) rfl))
        (Finset.sum_congr rfl fun k _ => congrArg₂ (· * ·) (iblk1_apply m c t a k ⟨_, hr⟩ k rfl (by omega)) (iblk2_apply m c t ⟨1024 + k.val, by omega⟩ b ⟨1024 + k.val, by omega⟩ ⟨_, hk⟩ (by omega) rfl)))
  · show (win0_4.rect t).off 0 + 1 * a.val = 512 * (t.val / 4) + a.val
    rw [(off4 t).1]; omega
  · show (win0_4.rect t).off 1 + 1 * b.val = 512 * (t.val % 4) + b.val
    rw [(off4 t).2]; omega

/-- The blocks tile the result. -/
theorem cover (i : S512x2048.Idx) : ∃ t : Fin cfg0.N, (cfg0.win 4).flush t = true ∧ i ∈ ((cfg0.win 4).blk t).view.set := by
  have h0 : (i 0 : Nat) < 512 := (i 0).isLt
  have h1 : (i 1 : Nat) < 2048 := (i 1).isLt
  have hN : cfg0.N = 4 := N_0
  let t : Fin cfg0.N := ⟨4 * ((i 0).val / 512) + (i 1).val / 512, by omega⟩
  have hq : t.val / 4 = (i 0).val / 512 := by show (4 * ((i 0).val / 512) + (i 1).val / 512) / 4 = _; omega
  have hm : t.val % 4 = (i 1).val / 512 := by show (4 * ((i 0).val / 512) + (i 1).val / 512) % 4 = _; omega
  refine ⟨t, flush0_4 _, ?_⟩
  show i ∈ ((View.whole main_v0).slice (win0_4.rect t)).set
  rw [View.set_slice_whole, Rect.mem_set_unit]
  intro a
  match a with
  | ⟨0, _⟩ =>
    show (win0_4.rect t).off 0 ≤ (i 0 : Nat) ∧ (i 0 : Nat) < (win0_4.rect t).off 0 + 512
    rw [(off4 _).1, hq]; omega
  | ⟨1, _⟩ =>
    show (win0_4.rect t).off 1 ≤ (i 1 : Nat) ∧ (i 1 : Nat) < (win0_4.rect t).off 1 + 512
    rw [(off4 _).2, hm]; omega

theorem final (c : Dev nD) : (dats m 0 c).arrAt 4 cfg0.N = G m c :=
  (dats m 0 c).arrAt_eq_of_cover 4 (G m c) (fun t _ => flushed_eq m c t) cover

end Cert.Kernel19Ideal.MmValue

namespace Cert.Reference19Ideal.MmValue

open Cert.Reference19Ideal Cert.Reference19Ideal.Gen Cert.Mm

/-- The reference's term of its arguments. -/
def val (x0 : FVec Ideal S512x1024 .bf16) (x1 : FVec Ideal S512x1024 .bf16) (x2 : FVec Ideal S2048x2048 .bf16) (x3 : FVec Ideal S512x2048 .f32) : FVec Ideal S512x2048 .f32 :=
  addf x3 (Host.dotGeneral dot_S512x2048_S2048x2048_S512x2048_1_0_0_1_n_n none (extf .f32 (concatenate (α := Ideal .bf16) S512x2048 1 [⟨S512x1024, x0⟩, ⟨S512x1024, x1⟩] concatenates_S512x1024_S512x1024_S512x2048_d1) bitsLt_bf16_f32) (extf .f32 x2 bitsLt_bf16_f32))

theorem val_eq (x0 : FVec Ideal S512x1024 .bf16) (x1 : FVec Ideal S512x1024 .bf16) (x2 : FVec Ideal S2048x2048 .bf16) (x3 : FVec Ideal S512x2048 .f32) : val x0 x1 x2 x3 = Cert.Kernel19Ideal.MmValue.spec x0 x1 x2 x3 := by
  refine funext fun i => ?_
  obtain ⟨r, k, rfl⟩ : ∃ (r : Fin 512) (k : Fin 2048), i = ix2 r k := ⟨i 0, i 1, eq_ix2 i⟩
  show _ = x3 (ix2 r k) + ((∑ j : Fin 1024, x0 (ix2 r j) * x2 (ix2 ⟨j.val, by omega⟩ k)) + ∑ j : Fin 1024, x1 (ix2 r j) * x2 (ix2 ⟨1024 + j.val, by omega⟩ k))
  pointwise [val]

end Cert.Reference19Ideal.MmValue

namespace Cert.Proof.MmClaims19

theorem frame_reference : Cert.quiescent_Reference19Ideal := fun m ρ _ =>
  (θ_run Cert.Reference19Ideal.defs _ _).mono (fun r h => ⟨fun c => (h c).2,
      Idealize.ShloMosaic.sem_eq_zero_of_no_sems (by decide) r.2⟩)
    (Cert.Reference19Ideal.Value.run (F := Ideal) m ρ)

theorem algebraic : Cert.algebraic_Kernel19Ideal_Reference19Ideal := by
  intro m ρ m' ρ' _ hag
  refine ⟨fun c => Cert.Kernel19Ideal.MmValue.G m c, ?_, ?_⟩
  · exact (θ_run Cert.Kernel19Ideal.defs _ _).mono (fun _ h c => ⟨(h c).1.trans (Cert.Kernel19Ideal.MmValue.final m c), (h c).2⟩)
      (Cert.Kernel19Ideal.Value.run_blocks (F := Ideal) m ρ)
  · refine (θ_run Cert.Reference19Ideal.defs _ _).mono (fun _ h c => ⟨(h c).1.trans ?_, (h c).2⟩)
      (Cert.Reference19Ideal.Value.run (F := Ideal) m' ρ')
    obtain ⟨h0, h1, h2, h3⟩ := hag c
    rw [h0, h1, h2, h3]
    exact Cert.Reference19Ideal.MmValue.val_eq _ _ _ _

end Cert.Proof.MmClaims19

end
-- ==== Proof.Mm20.lean ====
/- Layer 1's output projection on the sample batch, added to the layer's input: point `t` of the grid of 1 by 4 leaves one block of 512 rows and 512 columns of
   the product. The blocks tile the result, so the whole array is the plain product. -/
module

public import proofs.«01_k».proof.Defs
public import proofs.«01_k».proof.Proof.MmModel
public import proofs.«01_k».proof.Proof.Gen.Kernel20Ideal.Value
public import proofs.«01_k».proof.Proof.Gen.Reference20Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel20Ideal.MmValue

open Cert.Kernel20Ideal Cert.Kernel20Ideal.Gen Cert.Mm

variable (m : (ℓ : Loc nD τ sig) → Buf (Elt Ideal) ℓ)

/-- The result as a function of the arguments. -/
def spec (x0 : S512x2048.Idx → EReal) (w : S2048x2048.Idx → EReal) (r : S512x2048.Idx → EReal) : S512x2048.Idx → EReal := fun i =>
  r i + prod x0 w i

/-- The whole result array. -/
abbrev G (c : Dev nD) : Buf (Elt Ideal) ((c : Thread nD τ).loc main_v0) :=
  spec (m ((c : Thread nD τ).loc main_arg0)) (m ((c : Thread nD τ).loc main_arg1)) (m ((c : Thread nD τ).loc main_arg2))

/-! Where the windows' blocks begin at point `t`. -/

theorem off0 : ∀ t : Fin cfg0.N, (win0_0.rect t).off 0 = 512 * (t.val / 4) ∧ (win0_0.rect t).off 1 = 0 :=
  (by decide +kernel : ∀ t : Fin grid0.N, (win0_0.rect t).off 0 = 512 * (t.val / 4) ∧ (win0_0.rect t).off 1 = 0)
theorem off1 : ∀ t : Fin cfg0.N, (win0_1.rect t).off 0 = 0 ∧ (win0_1.rect t).off 1 = 512 * (t.val % 4) :=
  (by decide +kernel : ∀ t : Fin grid0.N, (win0_1.rect t).off 0 = 0 ∧ (win0_1.rect t).off 1 = 512 * (t.val % 4))
theorem off2 : ∀ t : Fin cfg0.N, (win0_2.rect t).off 0 = 512 * (t.val / 4) ∧ (win0_2.rect t).off 1 = 512 * (t.val % 4) :=
  (by decide +kernel : ∀ t : Fin grid0.N, (win0_2.rect t).off 0 = 512 * (t.val / 4) ∧ (win0_2.rect t).off 1 = 512 * (t.val % 4))
theorem off3 : ∀ t : Fin cfg0.N, (win0_3.rect t).off 0 = 512 * (t.val / 4) ∧ (win0_3.rect t).off 1 = 512 * (t.val % 4) :=
  (by decide +kernel : ∀ t : Fin grid0.N, (win0_3.rect t).off 0 = 512 * (t.val / 4) ∧ (win0_3.rect t).off 1 = 512 * (t.val % 4))

/-- Window 0's block at point `t`, element by element. -/
theorem iblk0_apply (c : Dev nD) (t : Fin cfg0.N) (a : Fin 512) (b : Fin 2048) (r : Fin 512) (k : Fin 2048) (h0 : r.val = 512 * (t.val / 4) + a.val) (h1 : k.val = 0 + b.val) :
    (iblk m c 0 t : Vec Ideal S512x2048 .bf16) (ix2 a b) = (m ((c : Thread nD τ).loc main_arg0) : Vec Ideal S512x2048 .bf16) (ix2 r k) := by
  unfold iblk
  rw [View.read_apply]
  show V m c main_arg0 _ = _
  rw [V_main_arg0]
  refine at_ix2 (m ((c : Thread nD τ).loc main_arg0) : Vec Ideal S512x2048 .bf16) _ r k ?_ ?_
  · show (win0_0.rect t).off 0 + 1 * a.val = r.val
    rw [(off0 t).1]; omega
  · show (win0_0.rect t).off 1 + 1 * b.val = k.val
    rw [(off0 t).2]; omega

/-- Window 1's block at point `t`, element by element. -/
theorem iblk1_apply (c : Dev nD) (t : Fin cfg0.N) (a : Fin 2048) (b : Fin 512) (r : Fin 2048) (k : Fin 2048) (h0 : r.val = 0 + a.val) (h1 : k.val = 512 * (t.val % 4) + b.val) :
    (iblk m c 1 t : Vec Ideal S2048x512 .bf16) (ix2 a b) = (m ((c : Thread nD τ).loc main_arg1) : Vec Ideal S2048x2048 .bf16) (ix2 r k) := by
  unfold iblk
  rw [View.read_apply]
  show V m c main_arg1 _ = _
  rw [V_main_arg1]
  refine at_ix2 (m ((c : Thread nD τ).loc main_arg1) : Vec Ideal S2048x2048 .bf16) _ r k ?_ ?_
  · show (win0_1.rect t).off 0 + 1 * a.val = r.val
    rw [(off1 t).1]; omega
  · show (win0_1.rect t).off 1 + 1 * b.val = k.val
    rw [(off1 t).2]; omega

/-- Window 2's block at point `t`, element by element. -/
theorem iblk2_apply (c : Dev nD) (t : Fin cfg0.N) (a : Fin 512) (b : Fin 512) (r : Fin 512) (k : Fin 2048) (h0 : r.val = 512 * (t.val / 4) + a.val) (h1 : k.val = 512 * (t.val % 4) + b.val) :
    (iblk m c 2 t : Vec Ideal S512x512 .f32) (ix2 a b) = (m ((c : Thread nD τ).loc main_arg2) : Vec Ideal S512x2048 .f32) (ix2 r k) := by
  unfold iblk
  rw [View.read_apply]
  show V m c main_arg2 _ = _
  rw [V_main_arg2]
  refine at_ix2 (m ((c : Thread nD τ).loc main_arg2) : Vec Ideal S512x2048 .f32) _ r k ?_ ?_
  · show (win0_2.rect t).off 0 + 1 * a.val = r.val
    rw [(off2 t).1]; omega
  · show (win0_2.rect t).off 1 + 1 * b.val = k.val
    rw [(off2 t).2]; omega

/-- The body's block at an index. -/
theorem out_apply (x0 : Vec Ideal S512x2048 .bf16) (x1 : Vec Ideal S2048x512 .bf16) (x2 : Vec Ideal S512x512 .f32) (a : Fin 512) (b : Fin 512) :
    (out0_3 x0 x1 x2 : Vec Ideal S512x512 .f32) (ix2 a b) = x2 (ix2 a b) + (∑ k : Fin 2048, x0 (ix2 a k) * x1 (ix2 k b)) := by
  unfold out0_3
  rw [View.canon_unit_zero zero2]
  rw [View.ld_unit_zero zero2, View.ld_unit_zero zero2, View.ld_unit_zero zero2]
  pointwise [k0_pay1]

/-- What point `t` writes back is its block of the result. -/
theorem flushed_eq (c : Dev nD) (t : Fin cfg0.N) :
    (dats m 0 c).flushed 3 t = ((cfg0.win 3).blk t).view.read (Elt Ideal) (G m c) := by
  rw [Value.flushed3]
  refine funext fun (j : S512x512.Idx) => ?_
  obtain ⟨a, b, rfl⟩ : ∃ (a : Fin 512) (b : Fin 512), j = ix2 a b := ⟨j 0, j 1, eq_ix2 j⟩
  rw [View.read_apply]
  have ht : t.val < 4 := lt_of_lt_of_eq t.isLt N_0
  have ha := a.isLt
  have hb := b.isLt
  have hr : 512 * (t.val / 4) + a.val < 512 := by omega
  have hk : 512 * (t.val % 4) + b.val < 2048 := by omega
  show (out0_3 (iblk m c 0 t) (iblk m c 1 t) (iblk m c 2 t) : Vec Ideal S512x512 .f32) (ix2 a b) = G m c ((win0_3.rect t).idx (ix2 a b))
  refine (out_apply _ _ _ a b).trans ?_
  refine Eq.trans ?_ (at_ix2 (G m c : S512x2048.Idx → EReal) ((win0_3.rect t).idx (ix2 a b)) ⟨_, hr⟩ ⟨_, hk⟩ ?_ ?_).symm
  · show _ = _ + ∑ k : Fin 2048, (_ : EReal)
    exact congrArg₂ (· + ·) (iblk2_apply m c t a b ⟨_, hr⟩ ⟨_, hk⟩ rfl rfl)
      (Finset.sum_congr rfl fun k _ => congrArg₂ (· * ·) (iblk0_apply m c t a k ⟨_, hr⟩ k rfl (by omega)) (iblk1_apply m c t k b k ⟨_, hk⟩ (by omega) rfl))
  · show (win0_3.rect t).off 0 + 1 * a.val = 512 * (t.val / 4) + a.val
    rw [(off3 t).1]; omega
  · show (win0_3.rect t).off 1 + 1 * b.val = 512 * (t.val % 4) + b.val
    rw [(off3 t).2]; omega

/-- The blocks tile the result. -/
theorem cover (i : S512x2048.Idx) : ∃ t : Fin cfg0.N, (cfg0.win 3).flush t = true ∧ i ∈ ((cfg0.win 3).blk t).view.set := by
  have h0 : (i 0 : Nat) < 512 := (i 0).isLt
  have h1 : (i 1 : Nat) < 2048 := (i 1).isLt
  have hN : cfg0.N = 4 := N_0
  let t : Fin cfg0.N := ⟨4 * ((i 0).val / 512) + (i 1).val / 512, by omega⟩
  have hq : t.val / 4 = (i 0).val / 512 := by show (4 * ((i 0).val / 512) + (i 1).val / 512) / 4 = _; omega
  have hm : t.val % 4 = (i 1).val / 512 := by show (4 * ((i 0).val / 512) + (i 1).val / 512) % 4 = _; omega
  refine ⟨t, flush0_3 _, ?_⟩
  show i ∈ ((View.whole main_v0).slice (win0_3.rect t)).set
  rw [View.set_slice_whole, Rect.mem_set_unit]
  intro a
  match a with
  | ⟨0, _⟩ =>
    show (win0_3.rect t).off 0 ≤ (i 0 : Nat) ∧ (i 0 : Nat) < (win0_3.rect t).off 0 + 512
    rw [(off3 _).1, hq]; omega
  | ⟨1, _⟩ =>
    show (win0_3.rect t).off 1 ≤ (i 1 : Nat) ∧ (i 1 : Nat) < (win0_3.rect t).off 1 + 512
    rw [(off3 _).2, hm]; omega

theorem final (c : Dev nD) : (dats m 0 c).arrAt 3 cfg0.N = G m c :=
  (dats m 0 c).arrAt_eq_of_cover 3 (G m c) (fun t _ => flushed_eq m c t) cover

end Cert.Kernel20Ideal.MmValue

namespace Cert.Reference20Ideal.MmValue

open Cert.Reference20Ideal Cert.Reference20Ideal.Gen Cert.Mm

/-- The reference's term of its arguments. -/
def val (x0 : FVec Ideal S512x2048 .bf16) (x1 : FVec Ideal S2048x2048 .bf16) (x2 : FVec Ideal S512x2048 .f32) : FVec Ideal S512x2048 .f32 :=
  addf x2 (Host.dotGeneral dot_S512x2048_S2048x2048_S512x2048_1_0_0_1_n_n none (extf .f32 x0 bitsLt_bf16_f32) (extf .f32 x1 bitsLt_bf16_f32))

theorem val_eq (x0 : FVec Ideal S512x2048 .bf16) (x1 : FVec Ideal S2048x2048 .bf16) (x2 : FVec Ideal S512x2048 .f32) : val x0 x1 x2 = Cert.Kernel20Ideal.MmValue.spec x0 x1 x2 := by
  refine funext fun i => ?_
  obtain ⟨r, k, rfl⟩ : ∃ (r : Fin 512) (k : Fin 2048), i = ix2 r k := ⟨i 0, i 1, eq_ix2 i⟩
  show _ = x2 (ix2 r k) + (∑ j : Fin 2048, x0 (ix2 r j) * x1 (ix2 j k))
  pointwise [val]

end Cert.Reference20Ideal.MmValue

namespace Cert.Proof.MmClaims20

theorem frame_reference : Cert.quiescent_Reference20Ideal := fun m ρ _ =>
  (θ_run Cert.Reference20Ideal.defs _ _).mono (fun r h => ⟨fun c => (h c).2,
      Idealize.ShloMosaic.sem_eq_zero_of_no_sems (by decide) r.2⟩)
    (Cert.Reference20Ideal.Value.run (F := Ideal) m ρ)

theorem algebraic : Cert.algebraic_Kernel20Ideal_Reference20Ideal := by
  intro m ρ m' ρ' _ hag
  refine ⟨fun c => Cert.Kernel20Ideal.MmValue.G m c, ?_, ?_⟩
  · exact (θ_run Cert.Kernel20Ideal.defs _ _).mono (fun _ h c => ⟨(h c).1.trans (Cert.Kernel20Ideal.MmValue.final m c), (h c).2⟩)
      (Cert.Kernel20Ideal.Value.run_blocks (F := Ideal) m ρ)
  · refine (θ_run Cert.Reference20Ideal.defs _ _).mono (fun _ h c => ⟨(h c).1.trans ?_, (h c).2⟩)
      (Cert.Reference20Ideal.Value.run (F := Ideal) m' ρ')
    obtain ⟨h0, h1, h2⟩ := hag c
    rw [h0, h1, h2]
    exact Cert.Reference20Ideal.MmValue.val_eq _ _ _

end Cert.Proof.MmClaims20

end
-- ==== Proof.Last21.lean ====
/- The final normalisation of the sample batch's rows: the grid's one point normalises every row by its root mean square and scales it by the gains. -/
module

public import proofs.«01_k».proof.Defs
public import proofs.«01_k».proof.Proof.MmModel
public import proofs.«01_k».proof.Proof.NormValue
public import proofs.«01_k».proof.Proof.Gen.Kernel21Ideal.Value
public import proofs.«01_k».proof.Proof.Gen.Reference21Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel21Ideal.MidValue

open Cert.Kernel21Ideal Cert.Kernel21Ideal.Gen Cert.Mm Cert.RowNorm

variable (m : (ℓ : Loc nD τ sig) → Buf (Elt Ideal) ℓ)

/-- Every row normalised. -/
def spec (x : S512x2048.Idx → EReal) (g : S2048.Idx → EReal) : S512x2048.Idx → EReal := fun i =>
  normAt (fun k => x (ix2 (i 0) k)) (x (ix2 (i 0) (i 1))) (g (ix1 (i 1)))

/-- The whole result array. -/
abbrev G (c : Dev nD) : Buf (Elt Ideal) ((c : Thread nD τ).loc main_v1) :=
  spec (m ((c : Thread nD τ).loc main_arg0)) (m ((c : Thread nD τ).loc main_arg1))

/-! Where the windows' blocks begin at point `t`. -/

theorem off0 : ∀ t : Fin cfg0.N, (win0_0.rect t).off 0 = 512 * t.val ∧ (win0_0.rect t).off 1 = 0 :=
  (by decide +kernel : ∀ t : Fin grid0.N, (win0_0.rect t).off 0 = 512 * t.val ∧ (win0_0.rect t).off 1 = 0)
theorem off1 : ∀ t : Fin cfg0.N, (win0_1.rect t).off 0 = 0 ∧ (win0_1.rect t).off 1 = 0 :=
  (by decide +kernel : ∀ t : Fin grid0.N, (win0_1.rect t).off 0 = 0 ∧ (win0_1.rect t).off 1 = 0)
theorem off2 : ∀ t : Fin cfg0.N, (win0_2.rect t).off 0 = 512 * t.val ∧ (win0_2.rect t).off 1 = 0 :=
  (by decide +kernel : ∀ t : Fin grid0.N, (win0_2.rect t).off 0 = 512 * t.val ∧ (win0_2.rect t).off 1 = 0)

/-- Window 0's block at point `t`, element by element. -/
theorem iblk0_apply (c : Dev nD) (t : Fin cfg0.N) (a : Fin 512) (b : Fin 2048) (r : Fin 512) (k : Fin 2048) (h0 : r.val = 512 * t.val + a.val) (h1 : k.val = 0 + b.val) :
    (iblk m c 0 t : Vec Ideal S512x2048 .f32) (ix2 a b) = (m ((c : Thread nD τ).loc main_arg0) : Vec Ideal S512x2048 .f32) (ix2 r k) := by
  unfold iblk
  rw [View.read_apply]
  show V m c main_arg0 _ = _
  rw [V_main_arg0]
  refine at_ix2 (m ((c : Thread nD τ).loc main_arg0) : Vec Ideal S512x2048 .f32) _ r k ?_ ?_
  · show (win0_0.rect t).off 0 + 1 * a.val = r.val
    rw [(off0 t).1]; omega
  · show (win0_0.rect t).off 1 + 1 * b.val = k.val
    rw [(off0 t).2]; omega

/-- A vector as one row. -/
theorem row_apply (g : Vec Ideal S2048 .f32) (z : Fin 1) (k : Fin 2048) :
    (shapeCast S1x2048 g shapeCasts_S2048_S1x2048 : Vec Ideal S1x2048 .f32) (ix2 z k) = g (ix1 k) := by
  pointwise []

/-- The gains as the region finds them: the argument as one row. -/
theorem V_v0 (c : Dev nD) (z : Fin 1) (k : Fin 2048) :
    (V m c main_v0 : Vec Ideal S1x2048 .f32) (ix2 z k) = (m ((c : Thread nD τ).loc main_arg1) : Vec Ideal S2048 .f32) (ix1 k) := by
  have e : (V m c main_v0 : Vec Ideal S1x2048 .f32) = shapeCast S1x2048 (m ((c : Thread nD τ).loc main_arg1) : Vec Ideal S2048 .f32) shapeCasts_S2048_S1x2048 := by
    unfold V hostOps0
    after_results
    rfl
  rw [e]
  exact row_apply _ z k

theorem iblk1_apply (c : Dev nD) (t : Fin cfg0.N) (z : Fin 1) (k : Fin 2048) :
    (iblk m c 1 t : Vec Ideal S1x2048 .f32) (ix2 z k) = (m ((c : Thread nD τ).loc main_arg1) : Vec Ideal S2048 .f32) (ix1 k) := by
  unfold iblk
  rw [View.read_apply]
  refine Eq.trans (at_ix2 (V m c main_v0 : Vec Ideal S1x2048 .f32) _ z k ?_ ?_) (V_v0 m c z k)
  · show (win0_1.rect t).off 0 + 1 * z.val = z.val
    rw [(off1 t).1]; omega
  · show (win0_1.rect t).off 1 + 1 * k.val = k.val
    rw [(off1 t).2]; omega

/-- The body's block at an index. -/
theorem out_apply (x0 : Vec Ideal S512x2048 .f32) (x1 : Vec Ideal S1x2048 .f32) (a : Fin 512) (b : Fin 2048) :
    (out0_2 x0 x1 : Vec Ideal S512x2048 .f32) (ix2 a b) = normAt (fun k => x0 (ix2 a k)) (x0 (ix2 a b)) (x1 (ix2 0 b)) := by
  unfold out0_2
  rw [View.canon_unit_zero zero2, View.ld_unit_zero zero2, View.ld_unit_zero zero2]
  unfold normAt normOf
  pointwise [k0_pay1]

/-- What point `t` writes back is its block of the result. -/
theorem flushed2_eq (c : Dev nD) (t : Fin cfg0.N) :
    (dats m 0 c).flushed 2 t = ((cfg0.win 2).blk t).view.read (Elt Ideal) (G m c) := by
  rw [Value.flushed2]
  refine funext fun (j : S512x2048.Idx) => ?_
  obtain ⟨a, b, rfl⟩ : ∃ (a : Fin 512) (b : Fin 2048), j = ix2 a b := ⟨j 0, j 1, eq_ix2 j⟩
  rw [View.read_apply]
  have ht : t.val < 1 := lt_of_lt_of_eq t.isLt N_0
  have ha := a.isLt
  have hr : 512 * t.val + a.val < 512 := by omega
  show (out0_2 (iblk m c 0 t) (iblk m c 1 t) : Vec Ideal S512x2048 .f32) (ix2 a b) = G m c ((win0_2.rect t).idx (ix2 a b))
  refine Eq.trans ?_ (at_ix2 (G m c : S512x2048.Idx → EReal) ((win0_2.rect t).idx (ix2 a b)) ⟨_, hr⟩ b ?_ ?_).symm
  · refine (out_apply _ _ a b).trans ?_
    show normAt _ _ _ = normAt _ _ _
    congr 1
    · funext k
      exact iblk0_apply m c t a k ⟨_, hr⟩ k rfl (by omega)
    · exact iblk0_apply m c t a b ⟨_, hr⟩ b rfl (by omega)
    · exact iblk1_apply m c t 0 b
  · show (win0_2.rect t).off 0 + 1 * a.val = 512 * t.val + a.val
    rw [(off2 t).1]; omega
  · show (win0_2.rect t).off 1 + 1 * b.val = b.val
    rw [(off2 t).2]; omega

/-- The blocks tile the result. -/
theorem cover2 (i : S512x2048.Idx) : ∃ t : Fin cfg0.N, (cfg0.win 2).flush t = true ∧ i ∈ ((cfg0.win 2).blk t).view.set := by
  have h0 : (i 0 : Nat) < 512 := (i 0).isLt
  have h1 : (i 1 : Nat) < 2048 := (i 1).isLt
  have hN : cfg0.N = 1 := N_0
  let t : Fin cfg0.N := ⟨(i 0).val / 512, by omega⟩
  refine ⟨t, flush0_2 _, ?_⟩
  show i ∈ ((View.whole main_v1).slice (win0_2.rect t)).set
  rw [View.set_slice_whole, Rect.mem_set_unit]
  intro a
  match a with
  | ⟨0, _⟩ =>
    show (win0_2.rect t).off 0 ≤ (i 0 : Nat) ∧ (i 0 : Nat) < (win0_2.rect t).off 0 + 512
    rw [(off2 _).1, show t.val = (i 0).val / 512 from rfl]; omega
  | ⟨1, _⟩ =>
    show (win0_2.rect t).off 1 ≤ (i 1 : Nat) ∧ (i 1 : Nat) < (win0_2.rect t).off 1 + 2048
    rw [(off2 _).2]; omega

theorem final2 (c : Dev nD) : (dats m 0 c).arrAt 2 cfg0.N = G m c :=
  (dats m 0 c).arrAt_eq_of_cover 2 (G m c) (fun t _ => flushed2_eq m c t) cover2

end Cert.Kernel21Ideal.MidValue

namespace Cert.Reference21Ideal.MidValue

open Cert.Reference21Ideal Cert.Reference21Ideal.Gen Cert.RowNorm

/-- The reference's term of its arguments. -/
def val (x : FVec Ideal S512x2048 .f32) (g : FVec Ideal S2048 .f32) : FVec Ideal S512x2048 .f32 :=
  mulf (mulf x (broadcastInDim S512x2048 ![0, 1] bcast_S512x1_S512x2048_0_1 (Host.rsqrt (F := Ideal) (addf (Host.divf (broadcastInDim S512x1 ![0] bcast_S512_S512x1_0 (Host.reduceAdd (mulf x x) (constant (F := Ideal) S_ .f32 0x00000000#32) reducesTo_S512x2048_S512_d1 h_S_)) (broadcastInDim S512x1 ![] bcast_S_S512x1 (constant (F := Ideal) S_ .f32 0x45000000#32))) (broadcastInDim S512x1 ![] bcast_S_S512x1 (constant (F := Ideal) S_ .f32 0x358637BD#32)))))) (broadcastInDim S512x2048 ![0, 1] bcast_S1x2048_S512x2048_0_1 (broadcastInDim S1x2048 ![1] bcast_S2048_S1x2048_1 g))

theorem val_eq (x : FVec Ideal S512x2048 .f32) (g : FVec Ideal S2048 .f32) : val x g = Cert.Kernel21Ideal.MidValue.spec x g := by
  refine funext fun i => ?_
  obtain ⟨r, k, rfl⟩ : ∃ (r : Fin 512) (k : Fin 2048), i = ix2 r k := ⟨i 0, i 1, eq_ix2 i⟩
  show _ = normAt (fun k => x (ix2 r k)) (x (ix2 r k)) (g (ix1 k))
  unfold normAt normOf
  pointwise [val]

end Cert.Reference21Ideal.MidValue

namespace Cert.Proof.Last21Claims

theorem frame_reference : Cert.quiescent_Reference21Ideal := fun m ρ _ =>
  (θ_run Cert.Reference21Ideal.defs _ _).mono (fun r h => ⟨fun c => (h c).2,
      Idealize.ShloMosaic.sem_eq_zero_of_no_sems (by decide) r.2⟩)
    (Cert.Reference21Ideal.Value.run (F := Ideal) m ρ)

theorem algebraic : Cert.algebraic_Kernel21Ideal_Reference21Ideal := by
  intro m ρ m' ρ' _ hag
  refine ⟨fun c => Cert.Kernel21Ideal.MidValue.G m c, ?_, ?_⟩
  · exact (θ_run Cert.Kernel21Ideal.defs _ _).mono (fun _ h c => ⟨(h c).1.trans (Cert.Kernel21Ideal.MidValue.final2 m c), (h c).2⟩)
      (Cert.Kernel21Ideal.Value.run_blocks (F := Ideal) m ρ)
  · refine (θ_run Cert.Reference21Ideal.defs _ _).mono (fun _ h c => ⟨(h c).1.trans ?_, (h c).2⟩)
      (Cert.Reference21Ideal.Value.run (F := Ideal) m' ρ')
    rw [(hag c).1, (hag c).2]
    exact Cert.Reference21Ideal.MidValue.val_eq _ _

end Cert.Proof.Last21Claims

end
-- ==== Proof.Mid22.lean ====
/- The normalisation of the sample batch's rows before a layer's projection: the grid's one point normalises every row by its root mean square and scales it by the gains. -/
module

public import proofs.«01_k».proof.Defs
public import proofs.«01_k».proof.Proof.MmModel
public import proofs.«01_k».proof.Proof.NormValue
public import proofs.«01_k».proof.Proof.Gen.Kernel22Ideal.Value
public import proofs.«01_k».proof.Proof.Gen.Reference22Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel22Ideal.MidValue

open Cert.Kernel22Ideal Cert.Kernel22Ideal.Gen Cert.Mm Cert.RowNorm

variable (m : (ℓ : Loc nD τ sig) → Buf (Elt Ideal) ℓ)

/-- Every row normalised. -/
def spec (x : S512x2048.Idx → EReal) (g : S2048.Idx → EReal) : S512x2048.Idx → EReal := fun i =>
  normAt (fun k => x (ix2 (i 0) k)) (x (ix2 (i 0) (i 1))) (g (ix1 (i 1)))

/-- The whole result array. -/
abbrev G (c : Dev nD) : Buf (Elt Ideal) ((c : Thread nD τ).loc main_v1) :=
  spec (m ((c : Thread nD τ).loc main_arg0)) (m ((c : Thread nD τ).loc main_arg1))

/-! Where the windows' blocks begin at point `t`. -/

theorem off0 : ∀ t : Fin cfg0.N, (win0_0.rect t).off 0 = 512 * t.val ∧ (win0_0.rect t).off 1 = 0 :=
  (by decide +kernel : ∀ t : Fin grid0.N, (win0_0.rect t).off 0 = 512 * t.val ∧ (win0_0.rect t).off 1 = 0)
theorem off1 : ∀ t : Fin cfg0.N, (win0_1.rect t).off 0 = 0 ∧ (win0_1.rect t).off 1 = 0 :=
  (by decide +kernel : ∀ t : Fin grid0.N, (win0_1.rect t).off 0 = 0 ∧ (win0_1.rect t).off 1 = 0)
theorem off2 : ∀ t : Fin cfg0.N, (win0_2.rect t).off 0 = 512 * t.val ∧ (win0_2.rect t).off 1 = 0 :=
  (by decide +kernel : ∀ t : Fin grid0.N, (win0_2.rect t).off 0 = 512 * t.val ∧ (win0_2.rect t).off 1 = 0)

/-- Window 0's block at point `t`, element by element. -/
theorem iblk0_apply (c : Dev nD) (t : Fin cfg0.N) (a : Fin 512) (b : Fin 2048) (r : Fin 512) (k : Fin 2048) (h0 : r.val = 512 * t.val + a.val) (h1 : k.val = 0 + b.val) :
    (iblk m c 0 t : Vec Ideal S512x2048 .f32) (ix2 a b) = (m ((c : Thread nD τ).loc main_arg0) : Vec Ideal S512x2048 .f32) (ix2 r k) := by
  unfold iblk
  rw [View.read_apply]
  show V m c main_arg0 _ = _
  rw [V_main_arg0]
  refine at_ix2 (m ((c : Thread nD τ).loc main_arg0) : Vec Ideal S512x2048 .f32) _ r k ?_ ?_
  · show (win0_0.rect t).off 0 + 1 * a.val = r.val
    rw [(off0 t).1]; omega
  · show (win0_0.rect t).off 1 + 1 * b.val = k.val
    rw [(off0 t).2]; omega

/-- A vector as one row. -/
theorem row_apply (g : Vec Ideal S2048 .f32) (z : Fin 1) (k : Fin 2048) :
    (shapeCast S1x2048 g shapeCasts_S2048_S1x2048 : Vec Ideal S1x2048 .f32) (ix2 z k) = g (ix1 k) := by
  pointwise []

/-- The gains as the region finds them: the argument as one row. -/
theorem V_v0 (c : Dev nD) (z : Fin 1) (k : Fin 2048) :
    (V m c main_v0 : Vec Ideal S1x2048 .f32) (ix2 z k) = (m ((c : Thread nD τ).loc main_arg1) : Vec Ideal S2048 .f32) (ix1 k) := by
  have e : (V m c main_v0 : Vec Ideal S1x2048 .f32) = shapeCast S1x2048 (m ((c : Thread nD τ).loc main_arg1) : Vec Ideal S2048 .f32) shapeCasts_S2048_S1x2048 := by
    unfold V hostOps0
    after_results
    rfl
  rw [e]
  exact row_apply _ z k

theorem iblk1_apply (c : Dev nD) (t : Fin cfg0.N) (z : Fin 1) (k : Fin 2048) :
    (iblk m c 1 t : Vec Ideal S1x2048 .f32) (ix2 z k) = (m ((c : Thread nD τ).loc main_arg1) : Vec Ideal S2048 .f32) (ix1 k) := by
  unfold iblk
  rw [View.read_apply]
  refine Eq.trans (at_ix2 (V m c main_v0 : Vec Ideal S1x2048 .f32) _ z k ?_ ?_) (V_v0 m c z k)
  · show (win0_1.rect t).off 0 + 1 * z.val = z.val
    rw [(off1 t).1]; omega
  · show (win0_1.rect t).off 1 + 1 * k.val = k.val
    rw [(off1 t).2]; omega

/-- The body's block at an index. -/
theorem out_apply (x0 : Vec Ideal S512x2048 .f32) (x1 : Vec Ideal S1x2048 .f32) (a : Fin 512) (b : Fin 2048) :
    (out0_2 x0 x1 : Vec Ideal S512x2048 .bf16) (ix2 a b) = normAt (fun k => x0 (ix2 a k)) (x0 (ix2 a b)) (x1 (ix2 0 b)) := by
  unfold out0_2
  rw [View.canon_unit_zero zero2, View.ld_unit_zero zero2, View.ld_unit_zero zero2]
  unfold normAt normOf
  pointwise [k0_pay1]

/-- What point `t` writes back is its block of the result. -/
theorem flushed2_eq (c : Dev nD) (t : Fin cfg0.N) :
    (dats m 0 c).flushed 2 t = ((cfg0.win 2).blk t).view.read (Elt Ideal) (G m c) := by
  rw [Value.flushed2]
  refine funext fun (j : S512x2048.Idx) => ?_
  obtain ⟨a, b, rfl⟩ : ∃ (a : Fin 512) (b : Fin 2048), j = ix2 a b := ⟨j 0, j 1, eq_ix2 j⟩
  rw [View.read_apply]
  have ht : t.val < 1 := lt_of_lt_of_eq t.isLt N_0
  have ha := a.isLt
  have hr : 512 * t.val + a.val < 512 := by omega
  show (out0_2 (iblk m c 0 t) (iblk m c 1 t) : Vec Ideal S512x2048 .bf16) (ix2 a b) = G m c ((win0_2.rect t).idx (ix2 a b))
  refine Eq.trans ?_ (at_ix2 (G m c : S512x2048.Idx → EReal) ((win0_2.rect t).idx (ix2 a b)) ⟨_, hr⟩ b ?_ ?_).symm
  · refine (out_apply _ _ a b).trans ?_
    show normAt _ _ _ = normAt _ _ _
    congr 1
    · funext k
      exact iblk0_apply m c t a k ⟨_, hr⟩ k rfl (by omega)
    · exact iblk0_apply m c t a b ⟨_, hr⟩ b rfl (by omega)
    · exact iblk1_apply m c t 0 b
  · show (win0_2.rect t).off 0 + 1 * a.val = 512 * t.val + a.val
    rw [(off2 t).1]; omega
  · show (win0_2.rect t).off 1 + 1 * b.val = b.val
    rw [(off2 t).2]; omega

/-- The blocks tile the result. -/
theorem cover2 (i : S512x2048.Idx) : ∃ t : Fin cfg0.N, (cfg0.win 2).flush t = true ∧ i ∈ ((cfg0.win 2).blk t).view.set := by
  have h0 : (i 0 : Nat) < 512 := (i 0).isLt
  have h1 : (i 1 : Nat) < 2048 := (i 1).isLt
  have hN : cfg0.N = 1 := N_0
  let t : Fin cfg0.N := ⟨(i 0).val / 512, by omega⟩
  refine ⟨t, flush0_2 _, ?_⟩
  show i ∈ ((View.whole main_v1).slice (win0_2.rect t)).set
  rw [View.set_slice_whole, Rect.mem_set_unit]
  intro a
  match a with
  | ⟨0, _⟩ =>
    show (win0_2.rect t).off 0 ≤ (i 0 : Nat) ∧ (i 0 : Nat) < (win0_2.rect t).off 0 + 512
    rw [(off2 _).1, show t.val = (i 0).val / 512 from rfl]; omega
  | ⟨1, _⟩ =>
    show (win0_2.rect t).off 1 ≤ (i 1 : Nat) ∧ (i 1 : Nat) < (win0_2.rect t).off 1 + 2048
    rw [(off2 _).2]; omega

theorem final2 (c : Dev nD) : (dats m 0 c).arrAt 2 cfg0.N = G m c :=
  (dats m 0 c).arrAt_eq_of_cover 2 (G m c) (fun t _ => flushed2_eq m c t) cover2

end Cert.Kernel22Ideal.MidValue

namespace Cert.Reference22Ideal.MidValue

open Cert.Reference22Ideal Cert.Reference22Ideal.Gen Cert.RowNorm

/-- The reference's term of its arguments. -/
def val (x : FVec Ideal S512x2048 .f32) (g : FVec Ideal S2048 .f32) : FVec Ideal S512x2048 .bf16 :=
  truncf .bf16 (mulf (mulf x (broadcastInDim S512x2048 ![0, 1] bcast_S512x1_S512x2048_0_1 (Host.rsqrt (F := Ideal) (addf (Host.divf (broadcastInDim S512x1 ![0] bcast_S512_S512x1_0 (Host.reduceAdd (mulf x x) (constant (F := Ideal) S_ .f32 0x00000000#32) reducesTo_S512x2048_S512_d1 h_S_)) (broadcastInDim S512x1 ![] bcast_S_S512x1 (constant (F := Ideal) S_ .f32 0x45000000#32))) (broadcastInDim S512x1 ![] bcast_S_S512x1 (constant (F := Ideal) S_ .f32 0x358637BD#32)))))) (broadcastInDim S512x2048 ![0, 1] bcast_S1x2048_S512x2048_0_1 (broadcastInDim S1x2048 ![1] bcast_S2048_S1x2048_1 g))) bitsLt_bf16_f32

theorem val_eq (x : FVec Ideal S512x2048 .f32) (g : FVec Ideal S2048 .f32) : val x g = Cert.Kernel22Ideal.MidValue.spec x g := by
  refine funext fun i => ?_
  obtain ⟨r, k, rfl⟩ : ∃ (r : Fin 512) (k : Fin 2048), i = ix2 r k := ⟨i 0, i 1, eq_ix2 i⟩
  show _ = normAt (fun k => x (ix2 r k)) (x (ix2 r k)) (g (ix1 k))
  unfold normAt normOf
  pointwise [val]

end Cert.Reference22Ideal.MidValue

namespace Cert.Proof.Mid22Claims

theorem frame_reference : Cert.quiescent_Reference22Ideal := fun m ρ _ =>
  (θ_run Cert.Reference22Ideal.defs _ _).mono (fun r h => ⟨fun c => (h c).2,
      Idealize.ShloMosaic.sem_eq_zero_of_no_sems (by decide) r.2⟩)
    (Cert.Reference22Ideal.Value.run (F := Ideal) m ρ)

theorem algebraic : Cert.algebraic_Kernel22Ideal_Reference22Ideal := by
  intro m ρ m' ρ' _ hag
  refine ⟨fun c => Cert.Kernel22Ideal.MidValue.G m c, ?_, ?_⟩
  · exact (θ_run Cert.Kernel22Ideal.defs _ _).mono (fun _ h c => ⟨(h c).1.trans (Cert.Kernel22Ideal.MidValue.final2 m c), (h c).2⟩)
      (Cert.Kernel22Ideal.Value.run_blocks (F := Ideal) m ρ)
  · refine (θ_run Cert.Reference22Ideal.defs _ _).mono (fun _ h c => ⟨(h c).1.trans ?_, (h c).2⟩)
      (Cert.Reference22Ideal.Value.run (F := Ideal) m' ρ')
    rw [(hag c).1, (hag c).2]
    exact Cert.Reference22Ideal.MidValue.val_eq _ _

end Cert.Proof.Mid22Claims

end
-- ==== Proof.Forget23.lean ====
/- The forget gates of the sample batch: the logs of the sigmoids and their running sums. Point `t` takes rows `128 t …`, adds up each lane over the block
   and carries the lane's sum to the next point. -/
module

public import proofs.«01_k».proof.Defs
public import proofs.«01_k».proof.Proof.MmModel
public import proofs.«01_k».proof.Proof.ForgetModel
public import proofs.«01_k».proof.Proof.Gen.Kernel23Ideal.Value
public import proofs.«01_k».proof.Proof.Gen.Reference23Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel23Ideal.ForgetValue

open Cert.Kernel23Ideal Cert.Kernel23Ideal.Gen Cert.Mm Cert.Forget Idealize.ShloMosaic.Tactic

/-! One point's arithmetic. -/

theorem pay5_apply (x : Vec Ideal S128x128 .f32) (b : Vec Ideal S1x128 .f32) (a : Fin 128) (l : Fin 128) :
    (k0_pay5 x b : FVec Ideal S128x128 .f32) (ix2 a l) = logf (x (ix2 a l) + b (ix2 0 l)) := by
  unfold logf
  pointwise [k0_pay5]
  rfl

theorem pay6_apply (x : Vec Ideal S128x128 .f32) (b : Vec Ideal S1x128 .f32) (a : Fin 128) (l : Fin 128) :
    (k0_pay6 x b : FVec Ideal S128x128 .f32) (ix2 a l) = ∑ k : Fin 128, if k.val ≤ a.val then logf (x (ix2 k l) + b (ix2 0 l)) else 0 := by
  have hp := pay5_apply x b
  unfold k0_pay6
  generalize (k0_pay5 x b : FVec Ideal S128x128 .f32) = p at hp ⊢
  pointwise []
  have hle : ∀ k : Fin 128, IntOp.cmpi .sle (BitVec.ofNat 32 k.val) (BitVec.ofNat 32 a.val) = if k.val ≤ a.val then 1#1 else 0#1 := fun k => by
    have := k.isLt
    have := a.isLt
    show BitVec.ofBool (decide ((BitVec.ofNat 32 k.val).toInt ≤ (BitVec.ofNat 32 a.val).toInt)) = _
    rw [toInt_small k.val (by omega), toInt_small a.val (by omega)]
    by_cases hc : k.val ≤ a.val <;> simp [hc]
  rw [← Finset.sum_add_distrib, ← Finset.sum_add_distrib]
  refine Finset.sum_congr rfl fun k _ => ?_
  rw [hle k]
  by_cases hc : k.val ≤ a.val
  · rw [if_pos hc, if_pos hc]
    show p (ix2 k l) + (p (ix2 k l) - p (ix2 k l)) + ((p (ix2 k l) - p (ix2 k l)) - (p (ix2 k l) - p (ix2 k l))) = _
    rw [hp, absorb _ (logf_ne_top _)]
  · rw [if_neg hc, if_neg hc]
    show (0 : EReal) + 0 + 0 = 0
    rw [add_zero, add_zero]

theorem pay1_apply (s : FVec Ideal S128x128 .f32) (c : Vec Ideal S1x128 .f32) (a : Fin 128) (l : Fin 128) :
    (k0_pay1 s c : FVec Ideal S128x128 .f32) (ix2 a l) = s (ix2 a l) + c (ix2 0 l) := by
  pointwise [k0_pay1]

theorem pay2_apply (s : FVec Ideal S128x128 .f32) (c : Vec Ideal S1x128 .f32) (z : Fin 1) (l : Fin 128) :
    (k0_pay2 s c : FVec Ideal S1x128 .f32) (ix2 z l) = s (ix2 127 l) + c (ix2 0 l) := by
  pointwise [k0_pay2, k0_pay1]

theorem pay4_apply (z : Fin 1) (l : Fin 128) : (k0_pay4 : FVec Ideal S1x128 .f32) (ix2 z l) = 0 := by
  pointwise [k0_pay4]

theorem pay3_apply (n : ℕ) (hn : n < 4) (s : FVec Ideal S128x128 .f32) (c : Vec Ideal S1x128 .f32) (h : Fin 8) (a : Fin 128) :
    (k0_pay3 (BitVec.ofNat 32 n) s c : FVec Ideal S8x128 .f32) (ix2 h a) = s (ix2 a ⟨h.val, by omega⟩) + c (ix2 0 ⟨h.val, by omega⟩) := by
  pointwise [k0_pay3, k0_pay1]
  have ha := a.isLt
  have e : IntOp.addi (Scalar.muli (BitVec.ofNat 32 n) 128#32) (BitVec.ofNat 32 a.val) = BitVec.ofNat 32 (128 * n + a.val) := by
    show BitVec.ofNat 32 n * 128#32 + BitVec.ofNat 32 a.val = _
    rw [show (128#32 : BitVec 32) = BitVec.ofNat 32 128 from rfl, ← BitVec.ofNat_mul, ← BitVec.ofNat_add, Nat.mul_comm n 128]
  have hge : IntOp.cmpi .slt (BitVec.ofNat 32 (128 * n + a.val)) 0#32 = 0#1 := by
    show BitVec.ofBool (decide ((BitVec.ofNat 32 (128 * n + a.val)).toInt < (0#32 : BitVec 32).toInt)) = _
    rw [toInt_small (128 * n + a.val) (by omega), decide_eq_false (not_lt.2 (by show (0 : ℤ) ≤ _; positivity))]
    rfl
  rw [e, hge]
  rfl

section Blocks

variable {F : FTy → Type} [FloatOps F]

/-! What a point leaves in its two output blocks and in the carried sums. -/

/-- The load of the carried sums after the store of all of them reads what was stored. -/
theorem carry_readCov (v : View sig .tc .vmem S1x128 .f32) (h0 : ∀ x, (![0, 0] : Fin 2 → ℕ) x + S1x128.size x ≤ S1x128.size x) (X : Vec F S1x128 .f32) :
    v.readCov [(⟨Rect.unit ![0, 0] S1x128.size h0, X⟩ : View.Piece (Elt F) S1x128 .f32)] (Rect.unit ![0, 0] S1x128.size h0).toLoadRect = X := by
  rw [View.readCov_eq_canon', View.canon_unit_zero zero2]
  exact View.ld_unit_zero zero2 h0 X

set_option maxHeartbeats 1000000 in
theorem out0_A_2_eq (c : Dev nD) (i : grid0.Coords) (arg1 : Memref sig .tc .vmem S128x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S8x128 .f32) (harg4 : arg4.IsWhole) (arg5 : Memref sig .tc .vmem S1x128 .f32) (harg5 : arg5.IsWhole) (hc0 : cond0_0 i) (x0 : Vec F S128x128 .f32) (x1 : Vec F S1x128 .f32) :
    out0_A_2 c i arg1 harg1 arg2 harg2 arg3 harg3 arg4 harg4 arg5 harg5 hc0 x0 x1 = k0_pay5 x0 x1 := by
  unfold out0_A_2
  rw [View.read_writes_eq_canon _ _ _ (cover0_A_2 c i arg1 harg1 arg2 harg2 arg3 harg3 arg4 harg4 arg5 harg5 hc0 x0 x1)]
  unfold kernelRun0_A
  dsimp only
  sl_unfold_words
  simp only [View.readAt_eq_ld, harg1.read_unread, harg2.read_unread, harg3.read_unread, harg4.read_unread, harg5.read_unread, View.ld_unit_zero (S := S128x128) zero2, View.ld_unit_zero (S := S1x128) zero2, carry_readCov]
  refine (View.canon_cons_unit_zero (S := S128x128) zero2 _ _ _).trans ?_
  rfl

set_option maxHeartbeats 1000000 in
theorem out0_A_3_eq (c : Dev nD) (i : grid0.Coords) (arg1 : Memref sig .tc .vmem S128x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S8x128 .f32) (harg4 : arg4.IsWhole) (arg5 : Memref sig .tc .vmem S1x128 .f32) (harg5 : arg5.IsWhole) (hc0 : cond0_0 i) (x0 : Vec F S128x128 .f32) (x1 : Vec F S1x128 .f32) :
    out0_A_3 c i arg1 harg1 arg2 harg2 arg3 harg3 arg4 harg4 arg5 harg5 hc0 x0 x1 = k0_pay3 (BitVec.ofNat 32 (i 0).val) (k0_pay6 x0 x1) k0_pay4 := by
  unfold out0_A_3
  rw [View.read_writes_eq_canon _ _ _ (cover0_A_3 c i arg1 harg1 arg2 harg2 arg3 harg3 arg4 harg4 arg5 harg5 hc0 x0 x1)]
  unfold kernelRun0_A
  dsimp only
  sl_unfold_words
  simp only [View.readAt_eq_ld, harg1.read_unread, harg2.read_unread, harg3.read_unread, harg4.read_unread, harg5.read_unread, View.ld_unit_zero (S := S128x128) zero2, View.ld_unit_zero (S := S1x128) zero2, carry_readCov]
  refine (View.canon_cons_unit_zero (S := S8x128) zero2 _ _ _).trans ?_
  exact congrArg (fun q => k0_pay3 (BitVec.ofNat 32 (i 0).val) (k0_pay6 x0 x1) q) (carry_readCov arg5.view _ _)

set_option maxHeartbeats 1000000 in
theorem sout0_A_0_eq (c : Dev nD) (i : grid0.Coords) (arg1 : Memref sig .tc .vmem S128x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S8x128 .f32) (harg4 : arg4.IsWhole) (arg5 : Memref sig .tc .vmem S1x128 .f32) (harg5 : arg5.IsWhole) (hc0 : cond0_0 i) (x0 : Vec F S128x128 .f32) (x1 : Vec F S1x128 .f32) :
    sout0_A_0 c i arg1 harg1 arg2 harg2 arg3 harg3 arg4 harg4 arg5 harg5 hc0 x0 x1 = k0_pay2 (k0_pay6 x0 x1) k0_pay4 := by
  unfold sout0_A_0
  rw [View.read_writes_eq_canon _ _ _ (scover0_A_0 c i arg1 harg1 arg2 harg2 arg3 harg3 arg4 harg4 arg5 harg5 hc0 x0 x1)]
  unfold kernelRun0_A
  dsimp only
  sl_unfold_words
  simp only [View.readAt_eq_ld, harg1.read_unread, harg2.read_unread, harg3.read_unread, harg4.read_unread, harg5.read_unread, View.ld_unit_zero (S := S128x128) zero2, View.ld_unit_zero (S := S1x128) zero2, carry_readCov]
  refine (View.canon_cons_unit_zero (S := S1x128) zero2 _ _ _).trans ?_
  exact congrArg (fun q => k0_pay2 (k0_pay6 x0 x1) q) (carry_readCov arg5.view _ _)

set_option maxHeartbeats 1000000 in
theorem out0_B_2_eq (c : Dev nD) (i : grid0.Coords) (arg1 : Memref sig .tc .vmem S128x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S8x128 .f32) (harg4 : arg4.IsWhole) (arg5 : Memref sig .tc .vmem S1x128 .f32) (harg5 : arg5.IsWhole) (hc0 : ¬cond0_0 i) (x0 : Vec F S128x128 .f32) (x1 : Vec F S1x128 .f32) (xs0 : Vec F S1x128 .f32) :
    out0_B_2 c i arg1 harg1 arg2 harg2 arg3 harg3 arg4 harg4 arg5 harg5 hc0 x0 x1 xs0 = k0_pay5 x0 x1 := by
  unfold out0_B_2
  rw [View.read_writes_eq_canon _ _ _ (cover0_B_2 c i arg1 harg1 arg2 harg2 arg3 harg3 arg4 harg4 arg5 harg5 hc0 x0 x1 xs0)]
  unfold kernelRun0_B
  dsimp only
  sl_unfold_words
  simp only [View.readAt_eq_ld, harg1.read_unread, harg2.read_unread, harg3.read_unread, harg4.read_unread, harg5.read_unread, View.ld_unit_zero (S := S128x128) zero2, View.ld_unit_zero (S := S1x128) zero2, carry_readCov]
  refine (View.canon_cons_unit_zero (S := S128x128) zero2 _ _ _).trans ?_
  rfl

set_option maxHeartbeats 1000000 in
theorem out0_B_3_eq (c : Dev nD) (i : grid0.Coords) (arg1 : Memref sig .tc .vmem S128x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S8x128 .f32) (harg4 : arg4.IsWhole) (arg5 : Memref sig .tc .vmem S1x128 .f32) (harg5 : arg5.IsWhole) (hc0 : ¬cond0_0 i) (x0 : Vec F S128x128 .f32) (x1 : Vec F S1x128 .f32) (xs0 : Vec F S1x128 .f32) :
    out0_B_3 c i arg1 harg1 arg2 harg2 arg3 harg3 arg4 harg4 arg5 harg5 hc0 x0 x1 xs0 = k0_pay3 (BitVec.ofNat 32 (i 0).val) (k0_pay6 x0 x1) xs0 := by
  unfold out0_B_3
  rw [View.read_writes_eq_canon _ _ _ (cover0_B_3 c i arg1 harg1 arg2 harg2 arg3 harg3 arg4 harg4 arg5 harg5 hc0 x0 x1 xs0)]
  unfold kernelRun0_B
  dsimp only
  sl_unfold_words
  simp only [View.readAt_eq_ld, harg1.read_unread, harg2.read_unread, harg3.read_unread, harg4.read_unread, harg5.read_unread, View.ld_unit_zero (S := S128x128) zero2, View.ld_unit_zero (S := S1x128) zero2, carry_readCov]
  refine (View.canon_cons_unit_zero (S := S8x128) zero2 _ _ _).trans ?_
  rfl

set_option maxHeartbeats 1000000 in
theorem sout0_B_0_eq (c : Dev nD) (i : grid0.Coords) (arg1 : Memref sig .tc .vmem S128x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S8x128 .f32) (harg4 : arg4.IsWhole) (arg5 : Memref sig .tc .vmem S1x128 .f32) (harg5 : arg5.IsWhole) (hc0 : ¬cond0_0 i) (x0 : Vec F S128x128 .f32) (x1 : Vec F S1x128 .f32) (xs0 : Vec F S1x128 .f32) :
    sout0_B_0 c i arg1 harg1 arg2 harg2 arg3 harg3 arg4 harg4 arg5 harg5 hc0 x0 x1 xs0 = k0_pay2 (k0_pay6 x0 x1) xs0 := by
  unfold sout0_B_0
  rw [View.read_writes_eq_canon _ _ _ (scover0_B_0 c i arg1 harg1 arg2 harg2 arg3 harg3 arg4 harg4 arg5 harg5 hc0 x0 x1 xs0)]
  unfold kernelRun0_B
  dsimp only
  sl_unfold_words
  simp only [View.readAt_eq_ld, harg1.read_unread, harg2.read_unread, harg3.read_unread, harg4.read_unread, harg5.read_unread, View.ld_unit_zero (S := S128x128) zero2, View.ld_unit_zero (S := S1x128) zero2, carry_readCov]
  refine (View.canon_cons_unit_zero (S := S1x128) zero2 _ _ _).trans ?_
  rfl

end Blocks

variable (m : (ℓ : Loc nD τ sig) → Buf (Elt Ideal) ℓ)

/-- The bias row: the eight biases, then zeros. -/
def biasAt (u : S8.Idx → EReal) (l : Fin 128) : EReal := if h : l.val < 8 then u (ix1 ⟨l.val, h⟩) else 0

/-- Lane `l` of row `n` of the log forget values. -/
def gate (zc : S512x3328.Idx → EReal) (u : S8.Idx → EReal) (l : Fin 128) (n : ℕ) : EReal :=
  if h : n < 512 then logf (zc (ix2 ⟨n, h⟩ ⟨3200 + l.val, by omega⟩) + biasAt u l) else 0

/-- The first result. -/
def gates (zc : S512x3328.Idx → EReal) (u : S8.Idx → EReal) : S512x128.Idx → EReal := fun i => gate zc u (i 1) (i 0).val

/-- The second result: the running sums. -/
def sums (zc : S512x3328.Idx → EReal) (u : S8.Idx → EReal) : S8x512.Idx → EReal := fun i =>
  pref (gate zc u ⟨(i 0).val, by have h0 : (i 0).val < 8 := (i 0).isLt; omega⟩) ((i 1).val + 1)

theorem off0 : ∀ t : Fin cfg0.N, (win0_0.rect t).off 0 = 128 * t.val ∧ (win0_0.rect t).off 1 = 3200 :=
  (by decide +kernel : ∀ t : Fin grid0.N, (win0_0.rect t).off 0 = 128 * t.val ∧ (win0_0.rect t).off 1 = 3200)
theorem off1 : ∀ t : Fin cfg0.N, (win0_1.rect t).off 0 = 0 ∧ (win0_1.rect t).off 1 = 0 :=
  (by decide +kernel : ∀ t : Fin grid0.N, (win0_1.rect t).off 0 = 0 ∧ (win0_1.rect t).off 1 = 0)
theorem coord : ∀ t : Fin cfg0.N, (grid0.coords t 0).val = t.val := (by decide +kernel : ∀ t : Fin grid0.N, (grid0.coords t 0).val = t.val)

/-- Window 0's block at point `t`, element by element. -/
theorem iblk0_apply (c : Dev nD) (t : Fin cfg0.N) (a : Fin 128) (b : Fin 128) (r : Fin 512) (k : Fin 3328) (h0 : r.val = 128 * t.val + a.val) (h1 : k.val = 3200 + b.val) :
    (iblk m c 0 t : Vec Ideal S128x128 .f32) (ix2 a b) = (m ((c : Thread nD τ).loc main_arg0) : Vec Ideal S512x3328 .f32) (ix2 r k) := by
  unfold iblk
  rw [View.read_apply]
  show V m c main_arg0 _ = _
  rw [V_main_arg0]
  refine at_ix2 (m ((c : Thread nD τ).loc main_arg0) : Vec Ideal S512x3328 .f32) _ r k ?_ ?_
  · show (win0_0.rect t).off 0 + 1 * a.val = r.val
    rw [(off0 t).1]; omega
  · show (win0_0.rect t).off 1 + 1 * b.val = k.val
    rw [(off0 t).2]; omega

theorem bias_apply (u : FVec Ideal S8 .f32) (z : Fin 1) (l : Fin 128) :
    (Host.scatter scatter_S1x128_S2_S8_0_0_01_0 (fun _ b => b) (broadcastInDim S1x128 ![] bcast_S_S1x128 (constant (F := Ideal) S_ .f32 0x00000000#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0) u : FVec Ideal S1x128 .f32) (ix2 z l) = biasAt u l := by
  refine (Cert.Kernel12Ideal.ForgetValue.scatter_row _ rfl rfl rfl _ _ ?_ ?_ u z l).trans ?_
  · pointwise []
    rfl
  · pointwise []
    rfl
  · unfold biasAt
    refine congrArg (fun q => dite _ _ q) (funext fun _ => ?_)
    pointwise []

/-- The bias row as the region finds it. -/
theorem V_v4 (c : Dev nD) (z : Fin 1) (l : Fin 128) :
    (V m c main_v4 : Vec Ideal S1x128 .f32) (ix2 z l) = biasAt (m ((c : Thread nD τ).loc main_arg1)) l := by
  have e : (V m c main_v4 : Vec Ideal S1x128 .f32) = Host.scatter scatter_S1x128_S2_S8_0_0_01_0 (fun _ b => b) (broadcastInDim S1x128 ![] bcast_S_S1x128 (constant (F := Ideal) S_ .f32 0x00000000#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0) (m ((c : Thread nD τ).loc main_arg1) : Vec Ideal S8 .f32) := by
    unfold V hostOps0
    after_results <;> rfl
  rw [e]
  exact bias_apply _ z l

theorem iblk1_apply (c : Dev nD) (t : Fin cfg0.N) (z : Fin 1) (l : Fin 128) :
    (iblk m c 1 t : Vec Ideal S1x128 .f32) (ix2 z l) = biasAt (m ((c : Thread nD τ).loc main_arg1)) l := by
  unfold iblk
  rw [View.read_apply]
  refine Eq.trans (at_ix2 (V m c main_v4 : Vec Ideal S1x128 .f32) _ z l ?_ ?_) (V_v4 m c z l)
  · show (win0_1.rect t).off 0 + 1 * z.val = z.val
    rw [(off1 t).1]; omega
  · show (win0_1.rect t).off 1 + 1 * l.val = l.val
    rw [(off1 t).2]; omega

/-- The launch's gate values. -/
abbrev gt (c : Dev nD) (l : Fin 128) (n : ℕ) : EReal :=
  gate (m ((c : Thread nD τ).loc main_arg0) : Vec Ideal S512x3328 .f32) (m ((c : Thread nD τ).loc main_arg1) : Vec Ideal S8 .f32) l n

/-- The blocks a point reads. -/
abbrev rowsIn (c : Dev nD) (t : Fin cfg0.N) : FVec Ideal S128x128 .f32 := iblk m c 0 t
abbrev biasIn (c : Dev nD) (t : Fin cfg0.N) : FVec Ideal S1x128 .f32 := iblk m c 1 t

/-- A point's gate values are its rows'. -/
theorem point_gate (c : Dev nD) (t : Fin cfg0.N) (a : Fin 128) (l : Fin 128) :
    logf (rowsIn m c t (ix2 a l) + biasIn m c t (ix2 0 l)) = gt m c l (128 * t.val + a.val) := by
  have ht : t.val < 4 := lt_of_lt_of_eq t.isLt N_0
  have ha := a.isLt
  have hr : 128 * t.val + a.val < 512 := by omega
  have e0 : rowsIn m c t (ix2 a l) = _ := iblk0_apply m c t a l ⟨_, hr⟩ ⟨3200 + l.val, by omega⟩ rfl rfl
  have e1 : biasIn m c t (ix2 0 l) = _ := iblk1_apply m c t 0 l
  unfold gt gate
  rw [dif_pos hr, e0, e1]

/-- A point's gate values. -/
def gateBlock (c : Dev nD) (n : ℕ) : Vec Ideal S128x128 .f32 := fun i => gt m c (i 1) (128 * n + (i 0).val)

/-- A point's running sums. -/
def sumBlock (c : Dev nD) (n : ℕ) : Vec Ideal S8x128 .f32 := fun i =>
  pref (gt m c ⟨(i 0).val, by have h0 : (i 0).val < 8 := (i 0).isLt; omega⟩) (128 * n + (i 1).val + 1)

/-- The sums before point `n`. -/
def carryBlock (c : Dev nD) (n : ℕ) : Vec Ideal S1x128 .f32 := fun i => pref (gt m c (i 1)) (128 * n)

theorem pay5_block (c : Dev nD) (t : Fin cfg0.N) : (k0_pay5 (rowsIn m c t) (biasIn m c t) : FVec Ideal S128x128 .f32) = gateBlock m c t.val := by
  refine funext fun (i : S128x128.Idx) => ?_
  obtain ⟨a, l, rfl⟩ : ∃ (a : Fin 128) (l : Fin 128), i = ix2 a l := ⟨i 0, i 1, eq_ix2 i⟩
  exact (pay5_apply _ _ a l).trans (point_gate m c t a l)

/-- The block's own running sum, with the sum carried in. -/
theorem block_sum (c : Dev nD) (t : Fin cfg0.N) (a : Fin 128) (l : Fin 128) :
    (k0_pay6 (rowsIn m c t) (biasIn m c t) : FVec Ideal S128x128 .f32) (ix2 a l) + (carryBlock m c t.val : FVec Ideal S1x128 .f32) (ix2 0 l)
      = pref (gt m c l) (128 * t.val + a.val + 1) := by
  rw [pay6_apply, add_assoc (128 * t.val), pref_add, ← sum_upto (fun k => gt m c l (128 * t.val + k)) a]
  show _ + pref (gt m c l) (128 * t.val) = _
  refine congrArg (· + pref (gt m c l) (128 * t.val)) (Finset.sum_congr rfl fun k _ => ?_)
  rw [point_gate m c t k l]

theorem pay3_block (c : Dev nD) (t : Fin cfg0.N) :
    (k0_pay3 (BitVec.ofNat 32 (grid0.coords t 0).val) (k0_pay6 (rowsIn m c t) (biasIn m c t)) (carryBlock m c t.val) : FVec Ideal S8x128 .f32)
      = sumBlock m c t.val := by
  have ht : t.val < 4 := lt_of_lt_of_eq t.isLt N_0
  refine funext fun (i : S8x128.Idx) => ?_
  obtain ⟨h, a, rfl⟩ : ∃ (h : Fin 8) (a : Fin 128), i = ix2 h a := ⟨i 0, i 1, eq_ix2 i⟩
  rw [coord t]
  refine (pay3_apply t.val ht _ _ h a).trans ?_
  exact block_sum m c t a ⟨h.val, by omega⟩

theorem pay2_block (c : Dev nD) (t : Fin cfg0.N) :
    (k0_pay2 (k0_pay6 (rowsIn m c t) (biasIn m c t)) (carryBlock m c t.val) : FVec Ideal S1x128 .f32) = carryBlock m c (t.val + 1) := by
  refine funext fun (i : S1x128.Idx) => ?_
  obtain ⟨z, l, rfl⟩ : ∃ (z : Fin 1) (l : Fin 128), i = ix2 z l := ⟨i 0, i 1, eq_ix2 i⟩
  refine (pay2_apply _ _ z l).trans ((block_sum m c t 127 l).trans ?_)
  show pref (gt m c l) (128 * t.val + 127 + 1) = pref (gt m c l) (128 * (t.val + 1))
  congr 1

theorem pay4_block (c : Dev nD) : (k0_pay4 : FVec Ideal S1x128 .f32) = carryBlock m c 0 := by
  refine funext fun (i : S1x128.Idx) => ?_
  obtain ⟨z, l, rfl⟩ : ∃ (z : Fin 1) (l : Fin 128), i = ix2 z l := ⟨i 0, i 1, eq_ix2 i⟩
  refine (pay4_apply z l).trans ?_
  show 0 = pref (gt m c l) (128 * 0)
  unfold pref
  simp

/-- After point `n`: its gate values, its running sums and the sums carried on. -/
theorem outsAt_eq (c : Dev nD) : ∀ (n : ℕ) (hn : n < cfg0.N),
    (outsAt0 m c n hn).1 = gateBlock m c n ∧ (outsAt0 m c n hn).2.1 = sumBlock m c n ∧ (outsAt0 m c n hn).2.2 = carryBlock m c (n + 1)
  | 0, hn => by
    rw [outsAt0_A m c ⟨0, hn⟩ rfl]
    dsimp only
    rw [out0_A_2_eq, out0_A_3_eq, sout0_A_0_eq, pay4_block m c]
    exact ⟨pay5_block m c ⟨0, hn⟩, pay3_block m c ⟨0, hn⟩, pay2_block m c ⟨0, hn⟩⟩
  | n + 1, hn => by
    have hs : (outsAt0 m c n (Nat.lt_of_succ_lt hn)).2.2 = carryBlock m c (n + 1) := (outsAt_eq c n (Nat.lt_of_succ_lt hn)).2.2
    have hN : n + 1 < 4 := lt_of_lt_of_eq hn N_0
    rw [outsAt0_B m c ⟨n + 1, hn⟩ (by show ¬ ((n + 1) % 4 = 0); omega)]
    dsimp only
    rw [out0_B_2_eq, out0_B_3_eq, sout0_B_0_eq]
    show _ ∧ k0_pay3 _ _ (outsAt0 m c n (Nat.lt_of_succ_lt hn)).2.2 = _ ∧ k0_pay2 _ (outsAt0 m c n (Nat.lt_of_succ_lt hn)).2.2 = _
    rw [hs]
    exact ⟨pay5_block m c ⟨n + 1, hn⟩, pay3_block m c ⟨n + 1, hn⟩, pay2_block m c ⟨n + 1, hn⟩⟩

/-- The gate values' array. -/
theorem G2_eq (c : Dev nD) : (Value.G2 m c : Vec Ideal S512x128 .f32) = gates (m ((c : Thread nD τ).loc main_arg0)) (m ((c : Thread nD τ).loc main_arg1)) := by
  refine funext fun (i : S512x128.Idx) => ?_
  have h0 : (i 0).val < 512 := (i 0).isLt
  have h1 : (i 1).val < 128 := (i 1).isLt
  have hp : Value.pt2Of i = (i 0).val / 128 := by
    show 1 * ((i 0).val / 128 - 0) + 1 * ((i 1).val / 128 - 0) = (i 0).val / 128
    omega
  have hN : Value.pt2Of i < cfg0.N := by rw [hp]; exact lt_of_lt_of_eq (by omega : _ < 4) N_0.symm
  show Value.G2 m c i = _
  unfold Value.G2
  rw [dif_pos hN, ← Value.outsAt0_sweep m c _ hN, (outsAt_eq m c _ hN).1, hp]
  have e0 : ((Value.loc2Of i) 0).val = (i 0).val % 128 := rfl
  have e1 : (Value.loc2Of i) 1 = i 1 := Fin.ext (by show (i 1).val % 128 = (i 1).val; omega)
  show gt m c ((Value.loc2Of i) 1) (128 * ((i 0).val / 128) + ((Value.loc2Of i) 0).val) = gt m c (i 1) (i 0).val
  rw [e0, e1, Nat.div_add_mod]

/-- The running sums' array. -/
theorem G3_eq (c : Dev nD) : (Value.G3 m c : Vec Ideal S8x512 .f32) = sums (m ((c : Thread nD τ).loc main_arg0)) (m ((c : Thread nD τ).loc main_arg1)) := by
  refine funext fun (i : S8x512.Idx) => ?_
  have h0 : (i 0).val < 8 := (i 0).isLt
  have h1 : (i 1).val < 512 := (i 1).isLt
  have hp : Value.pt3Of i = (i 1).val / 128 := by
    show 4 * ((i 0).val / 8 - 0) + 1 * ((i 1).val / 128 - 0) = (i 1).val / 128
    omega
  have hN : Value.pt3Of i < cfg0.N := by rw [hp]; exact lt_of_lt_of_eq (by omega : _ < 4) N_0.symm
  show Value.G3 m c i = _
  unfold Value.G3
  rw [dif_pos hN, ← Value.outsAt0_sweep m c _ hN, (outsAt_eq m c _ hN).2.1, hp]
  have e0 : ((Value.loc3Of i) 0).val = (i 0).val := by show (i 0).val % 8 = (i 0).val; omega
  have e1 : ((Value.loc3Of i) 1).val = (i 1).val % 128 := rfl
  have ef : (⟨((Value.loc3Of i) 0).val, by rw [e0]; omega⟩ : Fin 128) = ⟨(i 0).val, by omega⟩ := Fin.ext e0
  show pref (gt m c ⟨((Value.loc3Of i) 0).val, _⟩) (128 * ((i 1).val / 128) + ((Value.loc3Of i) 1).val + 1)
    = pref (gt m c ⟨(i 0).val, _⟩) ((i 1).val + 1)
  rw [ef, e1, Nat.div_add_mod]

end Cert.Kernel23Ideal.ForgetValue

namespace Cert.Reference23Ideal.ForgetValue

open Cert.Reference23Ideal Cert.Reference23Ideal.Gen Cert.Forget

/-- The reference's argument of the gate. -/
def pre (zc : FVec Ideal S512x3328 .f32) (u : FVec Ideal S8 .f32) : FVec Ideal S512x128 .f32 :=
  addf (extractStridedSlice S512x128 ![0, 3200] zc slices_S512x3328_S512x128_0_3200) (broadcastInDim S512x128 ![0, 1] bcast_S1x128_S512x128_0_1 (broadcastInDim S1x128 ![1] bcast_S128_S1x128_1 (pad S128 ![0] ![120] ![0] u (sitofp (F := Ideal) .f32 (constantI S_ 32 0#32)) pads_S8_S128_01200 h_S_)))

theorem pre_apply (zc : FVec Ideal S512x3328 .f32) (u : FVec Ideal S8 .f32) (r : Fin 512) (l : Fin 128) :
    pre zc u (ix2 r l) = zc (ix2 r ⟨3200 + l.val, by omega⟩) + Cert.Kernel23Ideal.ForgetValue.biasAt u l := by
  unfold Cert.Kernel23Ideal.ForgetValue.biasAt
  have hz : FloatOps.sitofp (F := Ideal) .f32 0#32 = 0 := by
    show ((((0#32 : BitVec 32).toInt : ℝ)) : EReal) = 0
    simp
  pointwise [pre]
  rw [hz]

/-- The reference's gate. -/
def soft (x : FVec Ideal S512x128 .f32) : FVec Ideal S512x128 .f32 :=
  Host.negf (select (cmpf .une (subf (Host.negf x) (broadcastInDim S512x128 ![] bcast_S_S512x128 (constant (F := Ideal) S_ .f32 0x00000000#32))) (subf (Host.negf x) (broadcastInDim S512x128 ![] bcast_S_S512x128 (constant (F := Ideal) S_ .f32 0x00000000#32)))) (addf (Host.negf x) (broadcastInDim S512x128 ![] bcast_S_S512x128 (constant (F := Ideal) S_ .f32 0x00000000#32))) (addf (maximumf (Host.negf x) (broadcastInDim S512x128 ![] bcast_S_S512x128 (constant (F := Ideal) S_ .f32 0x00000000#32))) (Host.log1p (Host.exp (Host.negf (Host.absf (subf (Host.negf x) (broadcastInDim S512x128 ![] bcast_S_S512x128 (constant (F := Ideal) S_ .f32 0x00000000#32)))))))))

theorem soft_apply (x : FVec Ideal S512x128 .f32) (r : Fin 512) (l : Fin 128) : soft x (ix2 r l) = logf (x (ix2 r l)) := by
  pointwise [soft]
  rw [if_neg (not_not.2 rfl)]
  exact neg_softplus (x (ix2 r l))

/-- The reference's first result. -/
theorem soft_eq (zc : FVec Ideal S512x3328 .f32) (u : FVec Ideal S8 .f32) : soft (pre zc u) = Cert.Kernel23Ideal.ForgetValue.gates zc u := by
  refine funext fun (i : S512x128.Idx) => ?_
  obtain ⟨r, l, rfl⟩ : ∃ (r : Fin 512) (l : Fin 128), i = ix2 r l := ⟨i 0, i 1, eq_ix2 i⟩
  rw [soft_apply, pre_apply]
  show _ = Cert.Kernel23Ideal.ForgetValue.gate zc u l r.val
  unfold Cert.Kernel23Ideal.ForgetValue.gate
  rw [dif_pos r.isLt]

/-- The reference's running sums of the first eight lanes. -/
def tail (y : FVec Ideal S512x128 .f32) : FVec Ideal S8x512 .f32 :=
  transpose S8x512 [1, 0] (Host.reduceWindowAdd ![512, 1] ![1, 1] ![511, 0] ![0, 0] (extractStridedSlice S512x8 ![0, 0] y slices_S512x128_S512x8_0_0) (broadcastInDim S_ ![] bcast_S_S_ (constant (F := Ideal) S_ .f32 0x00000000#32)) reduceWindows_S512x8_S512x8_w512s1p511_0_w1s1p0_0 h_S_) transposes_S512x8_S8x512_1_0

theorem tail_apply (y : FVec Ideal S512x128 .f32) (f : ℕ → EReal) (h : Fin 8) (hf : ∀ r : Fin 512, y (ix2 r ⟨h.val, by omega⟩) = f r.val) (r : Fin 512) :
    tail y (ix2 h r) = pref f (r.val + 1) := by
  have hx : ∀ k : Fin 512, (extractStridedSlice S512x8 ![0, 0] y slices_S512x128_S512x8_0_0 : FVec Ideal S512x8 .f32) (ix2 k h) = f k.val := fun k => by
    refine Eq.trans ?_ (hf k)
    pointwise []
  unfold tail
  generalize (extractStridedSlice S512x8 ![0, 0] y slices_S512x128_S512x8_0_0 : FVec Ideal S512x8 .f32) = s at hx ⊢
  have hs : (Host.reduceWindowAdd ![512, 1] ![1, 1] ![511, 0] ![0, 0] s (broadcastInDim S_ ![] bcast_S_S_ (constant (F := Ideal) S_ .f32 0x00000000#32)) reduceWindows_S512x8_S512x8_w512s1p511_0_w1s1p0_0 h_S_ : FVec Ideal S512x8 .f32) (ix2 r h) = pref f (r.val + 1) := by
    unfold Host.reduceWindowAdd
    rw [Ideal.hostReduceWindowAdd_def]
    unfold Ideal.hostReduceWindowAdd
    refine window_sum (R := 512) (Rm1 := 511) (C := 8) (by norm_num) s f h hx _ (fun _ => ?_) _ _ r
    pointwise []
  generalize (Host.reduceWindowAdd ![512, 1] ![1, 1] ![511, 0] ![0, 0] s (broadcastInDim S_ ![] bcast_S_S_ (constant (F := Ideal) S_ .f32 0x00000000#32)) reduceWindows_S512x8_S512x8_w512s1p511_0_w1s1p0_0 h_S_ : FVec Ideal S512x8 .f32) = q at hs ⊢
  pointwise []
  exact hs

/-- The reference's second result. -/
theorem tail_eq (zc : FVec Ideal S512x3328 .f32) (u : FVec Ideal S8 .f32) : tail (soft (pre zc u)) = Cert.Kernel23Ideal.ForgetValue.sums zc u := by
  refine funext fun (i : S8x512.Idx) => ?_
  obtain ⟨h, r, rfl⟩ : ∃ (h : Fin 8) (r : Fin 512), i = ix2 h r := ⟨i 0, i 1, eq_ix2 i⟩
  rw [soft_eq]
  exact tail_apply _ (Cert.Kernel23Ideal.ForgetValue.gate zc u ⟨h.val, by omega⟩) h (fun _ => rfl) r

end Cert.Reference23Ideal.ForgetValue

namespace Cert.Proof.ForgetClaims23

theorem frame_reference : Cert.quiescent_Reference23Ideal := fun m ρ _ =>
  (θ_run Cert.Reference23Ideal.defs _ _).mono (fun r h => ⟨fun c => (h c).2.2,
      Idealize.ShloMosaic.sem_eq_zero_of_no_sems (by decide) r.2⟩)
    (Cert.Reference23Ideal.Value.run (F := Ideal) m ρ)

theorem algebraic : Cert.algebraic_Kernel23Ideal_Reference23Ideal := by
  intro m ρ m' ρ' _ hag
  refine ⟨fun c => Cert.Kernel23Ideal.ForgetValue.gates (m ((c : Thread Cert.Kernel23Ideal.nD Cert.Kernel23Ideal.τ).loc Cert.Kernel23Ideal.main_arg0)) (m ((c : Thread Cert.Kernel23Ideal.nD Cert.Kernel23Ideal.τ).loc Cert.Kernel23Ideal.main_arg1)),
    fun c => Cert.Kernel23Ideal.ForgetValue.sums (m ((c : Thread Cert.Kernel23Ideal.nD Cert.Kernel23Ideal.τ).loc Cert.Kernel23Ideal.main_arg0)) (m ((c : Thread Cert.Kernel23Ideal.nD Cert.Kernel23Ideal.τ).loc Cert.Kernel23Ideal.main_arg1)), ?_, ?_⟩
  · exact (θ_run Cert.Kernel23Ideal.defs _ _).mono
      (fun _ h c => ⟨(h c).1.trans (Cert.Kernel23Ideal.ForgetValue.G2_eq m c), (h c).2.1.trans (Cert.Kernel23Ideal.ForgetValue.G3_eq m c), (h c).2.2⟩)
      (Cert.Kernel23Ideal.Value.run (F := Ideal) m ρ)
  · refine (θ_run Cert.Reference23Ideal.defs _ _).mono (fun _ h c => ⟨(h c).1.trans ?_, (h c).2.1.trans ?_, (h c).2.2⟩)
      (Cert.Reference23Ideal.Value.run (F := Ideal) m' ρ')
    · rw [(hag c).1, (hag c).2]
      exact Cert.Reference23Ideal.ForgetValue.soft_eq _ _
    · rw [(hag c).1, (hag c).2]
      exact Cert.Reference23Ideal.ForgetValue.tail_eq _ _

end Cert.Proof.ForgetClaims23

end
-- ==== Proof.RetSPay.lean ====
module
public import proofs.«01_k».proof.Defs
public import proofs.«01_k».proof.Proof.Gen.Kernel24Ideal.Value
@[expose] public section
set_option maxRecDepth 16384
noncomputable section
open Idealize.ShloMosaic Idealize.ShloMosaic.TcCoe Idealize.SL.Sem
namespace Cert.Kernel24Ideal.RetSValue
open Cert.Kernel24Ideal Cert.Kernel24Ideal.Gen Idealize.ShloMosaic.Tactic
variable {F : FTy → Type} [FloatOps F]

/-! What one batch of the sample's retention leaves, head by head: sixteen query rows against sixteen key rows filled up
with rows of zeros to 128. -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The rotation of one head's columns: `x·cos + roll(x)·sin`. -/
def turn (cs sn x : Vec F S16x128 .f32) : FVec F S16x128 .f32 :=
  addf (mulf x (shapeCast S16x128 cs shapeCasts_S16x128_S16x128))
    (mulf (dynamicRotate 1 64#32 none x rotates_S16x128_d1) (shapeCast S16x128 sn shapeCasts_S16x128_S16x128))

/-- The rotated query, scaled. -/
def query (cs sn q : Vec F S16x128 .f32) : FVec F S16x128 .f32 :=
  mulf (turn cs sn q) (broadcast S16x128 (Scalar.ofBits .f32 0x3DB504F3#32))

/-- Sixteen rows of keys and rows of zeros below them. -/
def padK (k : FVec F S16x128 .f32) : FVec F S128x128 .f32 :=
  concatenate S128x128 0 [⟨S16x128, k⟩, ⟨S112x128, broadcast S112x128 (Scalar.ofBits .f32 0x00000000#32 : F .f32)⟩] concatenates_S16x128_S112x128_S128x128_d0

/-- Sixteen rows of values and rows of zeros below them. -/
def padV (v : FVec F S16x256 .f32) : FVec F S128x256 .f32 :=
  concatenate S128x256 0 [⟨S16x256, v⟩, ⟨S112x256, broadcast S112x256 (Scalar.ofBits .f32 0x00000000#32 : F .f32)⟩] concatenates_S16x256_S112x256_S128x256_d0

/-- The batch's own product: the decayed scores times the values. -/
def inner (qr : FVec F S16x128 .f32) (kr : FVec F S128x128 .f32) (v : FVec F S128x256 .f32) (d : Vec F S1x16x128 .f32) : FVec F S16x256 .f32 :=
  matmul dot_S16x128_S128x256_S16x256_1_0_0_1_n_n none
    (truncf .bf16 (mulf (matmul dot_S16x128_S128x128_S16x128_1_1_0_0_n_n none (truncf .bf16 qr bitsLt_bf16_f32) (truncf .bf16 kr bitsLt_bf16_f32)
      (constant S16x128 .f32 0x00000000#32)) (shapeCast S16x128 d shapeCasts_S1x16x128_S16x128)) bitsLt_bf16_f32)
    (truncf .bf16 v bitsLt_bf16_f32) (constant S16x256 .f32 0x00000000#32)

/-- The product with the state carried in. -/
def cross (qr : FVec F S16x128 .f32) (qd : Vec F S16x128 .f32) (s : FVec F S128x256 .f32) : FVec F S16x256 .f32 :=
  matmul dot_S16x128_S128x256_S16x256_1_0_0_1_n_n none
    (truncf .bf16 (mulf qr (shapeCast S16x128 qd shapeCasts_S16x128_S16x128)) bitsLt_bf16_f32)
    (truncf .bf16 s bitsLt_bf16_f32) (constant S16x256 .f32 0x00000000#32)

/-- One head's rows, normalised by their root mean square and scaled by the gain. -/
def normed (o : FVec F S16x256 .f32) (gain : Vec F S1x256 .f32) : FVec F S16x256 .f32 :=
  mulf (mulf o (broadcastTo S16x256 (rsqrt (addf (divf (shapeCast S16x1
      (multiReduction .add [1] S16 (mulf o o) 0x00000000#32 reduces_S16x256_S16 (.inl rfl) rfl) shapeCasts_S16_S16x1)
      (broadcast S16x1 (Scalar.ofBits .f32 0x43800000#32))) (broadcast S16x1 (Scalar.ofBits .f32 0x358637BD#32)))) broadcasts_S16x1_S16x256))
    (broadcastTo S16x256 (shapeCast S1x256 gain shapeCasts_S1x256_S1x256) broadcasts_S1x256_S16x256)

/-- The gate: `g / (1 + exp (0 − g))`, as `g` times the quotient. -/
def gated (g : Vec F S16x256 .f32) (n : FVec F S16x256 .f32) : FVec F S16x256 .bf16 :=
  truncf .bf16 (mulf (mulf g (divf (broadcast S16x256 (Scalar.ofBits .f32 0x3F800000#32))
    (addf (broadcast S16x256 (Scalar.ofBits .f32 0x3F800000#32)) (exp (subf (broadcast S16x256 (Scalar.ofBits .f32 0x00000000#32)) g))))) n) bitsLt_bf16_f32

/-- One head's output rows. -/
def headOut (cs sn q k : Vec F S16x128 .f32) (v g : Vec F S16x256 .f32) (d : Vec F S1x16x128 .f32) (qd : Vec F S16x128 .f32)
    (gain : Vec F S1x256 .f32) (s : Vec F S1x128x256 .f32) : FVec F S16x256 .bf16 :=
  gated g (normed (addf (inner (query cs sn q) (padK (turn cs sn k)) (padV v) d) (cross (query cs sn q) qd (shapeCast S128x256 s shapeCasts_S1x128x256_S128x256))) gain)

/-- One head's state after the batch's keys. -/
def headState (cd : BitVec 32) (cs sn k : Vec F S16x128 .f32) (v : Vec F S16x256 .f32) (kd : Vec F S128x128 .f32) (s : Vec F S1x128x256 .f32) :
    FVec F S1x128x256 .f32 :=
  shapeCast S1x128x256 (addf (mulf (shapeCast S128x256 s shapeCasts_S1x128x256_S128x256) (broadcast S128x256 (Scalar.ofBits .f32 cd)))
    (matmul dot_S128x128_S128x256_S128x256_1_0_0_1_n_n none
      (truncf .bf16 (transpose S128x128 [1, 0] (mulf (padK (turn cs sn k)) (shapeCast S128x128 kd shapeCasts_S128x128_S128x128)) transposes_S128x128_p1_0_S128x128) bitsLt_bf16_f32)
      (truncf .bf16 (padV v) bitsLt_bf16_f32) (constant S128x256 .f32 0x00000000#32))) shapeCasts_S128x256_S1x128x256

/-- The output, as the eight blocks of columns the heads store. -/
def outPieces (x0 x1 : Vec F S16x1024 .f32) (x2 x3 : Vec F S16x2048 .f32) (x4 x5 : Vec F S16x128 .f32) (x6 : Vec F S8x16x128 .f32)
    (x7 : Vec F S16x1024 .f32) (x9 : Vec F S1x2048 .f32) (s : Vec F S8x128x256 .f32) : List (View.Piece (Elt F) S16x2048 .bf16) :=
  [⟨Rect.unit ![0, 1792] ![16, 256] inb_S16x2048_S16x256_0_1792, headOut x4 x5 (View.ld x0 (Rect.unit ![0, 896] ![16, 128] inb_S16x1024_S16x128_0_896)) (View.ld x1 (Rect.unit ![0, 896] ![16, 128] inb_S16x1024_S16x128_0_896)) (View.ld x2 (Rect.unit ![0, 1792] ![16, 256] inb_S16x2048_S16x256_0_1792)) (View.ld x3 (Rect.unit ![0, 1792] ![16, 256] inb_S16x2048_S16x256_0_1792)) (View.ld x6 (Rect.unit ![7, 0, 0] ![1, 16, 128] inb_S8x16x128_S1x16x128_7_0_0)) (View.ld x7 (Rect.unit ![0, 896] ![16, 128] inb_S16x1024_S16x128_0_896)) (View.ld x9 (Rect.unit ![0, 1792] ![1, 256] inb_S1x2048_S1x256_0_1792)) (View.ld s (Rect.unit ![7, 0, 0] ![1, 128, 256] inb_S8x128x256_S1x128x256_7_0_0))⟩,
   ⟨Rect.unit ![0, 1536] ![16, 256] inb_S16x2048_S16x256_0_1536, headOut x4 x5 (View.ld x0 (Rect.unit ![0, 768] ![16, 128] inb_S16x1024_S16x128_0_768)) (View.ld x1 (Rect.unit ![0, 768] ![16, 128] inb_S16x1024_S16x128_0_768)) (View.ld x2 (Rect.unit ![0, 1536] ![16, 256] inb_S16x2048_S16x256_0_1536)) (View.ld x3 (Rect.unit ![0, 1536] ![16, 256] inb_S16x2048_S16x256_0_1536)) (View.ld x6 (Rect.unit ![6, 0, 0] ![1, 16, 128] inb_S8x16x128_S1x16x128_6_0_0)) (View.ld x7 (Rect.unit ![0, 768] ![16, 128] inb_S16x1024_S16x128_0_768)) (View.ld x9 (Rect.unit ![0, 1536] ![1, 256] inb_S1x2048_S1x256_0_1536)) (View.ld s (Rect.unit ![6, 0, 0] ![1, 128, 256] inb_S8x128x256_S1x128x256_6_0_0))⟩,
   ⟨Rect.unit ![0, 1280] ![16, 256] inb_S16x2048_S16x256_0_1280, headOut x4 x5 (View.ld x0 (Rect.unit ![0, 640] ![16, 128] inb_S16x1024_S16x128_0_640)) (View.ld x1 (Rect.unit ![0, 640] ![16, 128] inb_S16x1024_S16x128_0_640)) (View.ld x2 (Rect.unit ![0, 1280] ![16, 256] inb_S16x2048_S16x256_0_1280)) (View.ld x3 (Rect.unit ![0, 1280] ![16, 256] inb_S16x2048_S16x256_0_1280)) (View.ld x6 (Rect.unit ![5, 0, 0] ![1, 16, 128] inb_S8x16x128_S1x16x128_5_0_0)) (View.ld x7 (Rect.unit ![0, 640] ![16, 128] inb_S16x1024_S16x128_0_640)) (View.ld x9 (Rect.unit ![0, 1280] ![1, 256] inb_S1x2048_S1x256_0_1280)) (View.ld s (Rect.unit ![5, 0, 0] ![1, 128, 256] inb_S8x128x256_S1x128x256_5_0_0))⟩,
   ⟨Rect.unit ![0, 1024] ![16, 256] inb_S16x2048_S16x256_0_1024, headOut x4 x5 (View.ld x0 (Rect.unit ![0, 512] ![16, 128] inb_S16x1024_S16x128_0_512)) (View.ld x1 (Rect.unit ![0, 512] ![16, 128] inb_S16x1024_S16x128_0_512)) (View.ld x2 (Rect.unit ![0, 1024] ![16, 256] inb_S16x2048_S16x256_0_1024)) (View.ld x3 (Rect.unit ![0, 1024] ![16, 256] inb_S16x2048_S16x256_0_1024)) (View.ld x6 (Rect.unit ![4, 0, 0] ![1, 16, 128] inb_S8x16x128_S1x16x128_4_0_0)) (View.ld x7 (Rect.unit ![0, 512] ![16, 128] inb_S16x1024_S16x128_0_512)) (View.ld x9 (Rect.unit ![0, 1024] ![1, 256] inb_S1x2048_S1x256_0_1024)) (View.ld s (Rect.unit ![4, 0, 0] ![1, 128, 256] inb_S8x128x256_S1x128x256_4_0_0))⟩,
   ⟨Rect.unit ![0, 768] ![16, 256] inb_S16x2048_S16x256_0_768, headOut x4 x5 (View.ld x0 (Rect.unit ![0, 384] ![16, 128] inb_S16x1024_S16x128_0_384)) (View.ld x1 (Rect.unit ![0, 384] ![16, 128] inb_S16x1024_S16x128_0_384)) (View.ld x2 (Rect.unit ![0, 768] ![16, 256] inb_S16x2048_S16x256_0_768)) (View.ld x3 (Rect.unit ![0, 768] ![16, 256] inb_S16x2048_S16x256_0_768)) (View.ld x6 (Rect.unit ![3, 0, 0] ![1, 16, 128] inb_S8x16x128_S1x16x128_3_0_0)) (View.ld x7 (Rect.unit ![0, 384] ![16, 128] inb_S16x1024_S16x128_0_384)) (View.ld x9 (Rect.unit ![0, 768] ![1, 256] inb_S1x2048_S1x256_0_768)) (View.ld s (Rect.unit ![3, 0, 0] ![1, 128, 256] inb_S8x128x256_S1x128x256_3_0_0))⟩,
   ⟨Rect.unit ![0, 512] ![16, 256] inb_S16x2048_S16x256_0_512, headOut x4 x5 (View.ld x0 (Rect.unit ![0, 256] ![16, 128] inb_S16x1024_S16x128_0_256)) (View.ld x1 (Rect.unit ![0, 256] ![16, 128] inb_S16x1024_S16x128_0_256)) (View.ld x2 (Rect.unit ![0, 512] ![16, 256] inb_S16x2048_S16x256_0_512)) (View.ld x3 (Rect.unit ![0, 512] ![16, 256] inb_S16x2048_S16x256_0_512)) (View.ld x6 (Rect.unit ![2, 0, 0] ![1, 16, 128] inb_S8x16x128_S1x16x128_2_0_0)) (View.ld x7 (Rect.unit ![0, 256] ![16, 128] inb_S16x1024_S16x128_0_256)) (View.ld x9 (Rect.unit ![0, 512] ![1, 256] inb_S1x2048_S1x256_0_512)) (View.ld s (Rect.unit ![2, 0, 0] ![1, 128, 256] inb_S8x128x256_S1x128x256_2_0_0))⟩,
   ⟨Rect.unit ![0, 256] ![16, 256] inb_S16x2048_S16x256_0_256, headOut x4 x5 (View.ld x0 (Rect.unit ![0, 128] ![16, 128] inb_S16x1024_S16x128_0_128)) (View.ld x1 (Rect.unit ![0, 128] ![16, 128] inb_S16x1024_S16x128_0_128)) (View.ld x2 (Rect.unit ![0, 256] ![16, 256] inb_S16x2048_S16x256_0_256)) (View.ld x3 (Rect.unit ![0, 256] ![16, 256] inb_S16x2048_S16x256_0_256)) (View.ld x6 (Rect.unit ![1, 0, 0] ![1, 16, 128] inb_S8x16x128_S1x16x128_1_0_0)) (View.ld x7 (Rect.unit ![0, 128] ![16, 128] inb_S16x1024_S16x128_0_128)) (View.ld x9 (Rect.unit ![0, 256] ![1, 256] inb_S1x2048_S1x256_0_256)) (View.ld s (Rect.unit ![1, 0, 0] ![1, 128, 256] inb_S8x128x256_S1x128x256_1_0_0))⟩,
   ⟨Rect.unit ![0, 0] ![16, 256] inb_S16x2048_S16x256_0_0, headOut x4 x5 (View.ld x0 (Rect.unit ![0, 0] ![16, 128] inb_S16x1024_S16x128_0_0)) (View.ld x1 (Rect.unit ![0, 0] ![16, 128] inb_S16x1024_S16x128_0_0)) (View.ld x2 (Rect.unit ![0, 0] ![16, 256] inb_S16x2048_S16x256_0_0)) (View.ld x3 (Rect.unit ![0, 0] ![16, 256] inb_S16x2048_S16x256_0_0)) (View.ld x6 (Rect.unit ![0, 0, 0] ![1, 16, 128] inb_S8x16x128_S1x16x128_0_0_0)) (View.ld x7 (Rect.unit ![0, 0] ![16, 128] inb_S16x1024_S16x128_0_0)) (View.ld x9 (Rect.unit ![0, 0] ![1, 256] inb_S1x2048_S1x256_0_0)) (View.ld s (Rect.unit ![0, 0, 0] ![1, 128, 256] inb_S8x128x256_S1x128x256_0_0_0))⟩]

/-- The state, as the eight blocks the heads store. -/
def statePieces (x1 : Vec F S16x1024 .f32) (x2 : Vec F S16x2048 .f32) (x4 x5 : Vec F S16x128 .f32)
    (x8 : Vec F S128x1024 .f32) (s : Vec F S8x128x256 .f32) : List (View.Piece (Elt F) S8x128x256 .f32) :=
  [⟨Rect.unit ![7, 0, 0] ![1, 128, 256] inb_S8x128x256_S1x128x256_7_0_0, headState 0x3F7FC006#32 x4 x5 (View.ld x1 (Rect.unit ![0, 896] ![16, 128] inb_S16x1024_S16x128_0_896)) (View.ld x2 (Rect.unit ![0, 1792] ![16, 256] inb_S16x2048_S16x256_0_1792)) (View.ld x8 (Rect.unit ![0, 896] ![128, 128] inb_S128x1024_S128x128_0_896)) (View.ld s (Rect.unit ![7, 0, 0] ![1, 128, 256] inb_S8x128x256_S1x128x256_7_0_0))⟩,
   ⟨Rect.unit ![6, 0, 0] ![1, 128, 256] inb_S8x128x256_S1x128x256_6_0_0, headState 0x3F7F8018#32 x4 x5 (View.ld x1 (Rect.unit ![0, 768] ![16, 128] inb_S16x1024_S16x128_0_768)) (View.ld x2 (Rect.unit ![0, 1536] ![16, 256] inb_S16x2048_S16x256_0_1536)) (View.ld x8 (Rect.unit ![0, 768] ![128, 128] inb_S128x1024_S128x128_0_768)) (View.ld s (Rect.unit ![6, 0, 0] ![1, 128, 256] inb_S8x128x256_S1x128x256_6_0_0))⟩,
   ⟨Rect.unit ![5, 0, 0] ![1, 128, 256] inb_S8x128x256_S1x128x256_5_0_0, headState 0x3F7F0060#32 x4 x5 (View.ld x1 (Rect.unit ![0, 640] ![16, 128] inb_S16x1024_S16x128_0_640)) (View.ld x2 (Rect.unit ![0, 1280] ![16, 256] inb_S16x2048_S16x256_0_1280)) (View.ld x8 (Rect.unit ![0, 640] ![128, 128] inb_S128x1024_S128x128_0_640)) (View.ld s (Rect.unit ![5, 0, 0] ![1, 128, 256] inb_S8x128x256_S1x128x256_5_0_0))⟩,
   ⟨Rect.unit ![4, 0, 0] ![1, 128, 256] inb_S8x128x256_S1x128x256_4_0_0, headState 0x3F7E0180#32 x4 x5 (View.ld x1 (Rect.unit ![0, 512] ![16, 128] inb_S16x1024_S16x128_0_512)) (View.ld x2 (Rect.unit ![0, 1024] ![16, 256] inb_S16x2048_S16x256_0_1024)) (View.ld x8 (Rect.unit ![0, 512] ![128, 128] inb_S128x1024_S128x128_0_512)) (View.ld s (Rect.unit ![4, 0, 0] ![1, 128, 256] inb_S8x128x256_S1x128x256_4_0_0))⟩,
   ⟨Rect.unit ![3, 0, 0] ![1, 128, 256] inb_S8x128x256_S1x128x256_3_0_0, headState 0x3F7C05FC#32 x4 x5 (View.ld x1 (Rect.unit ![0, 384] ![16, 128] inb_S16x1024_S16x128_0_384)) (View.ld x2 (Rect.unit ![0, 768] ![16, 256] inb_S16x2048_S16x256_0_768)) (View.ld x8 (Rect.unit ![0, 384] ![128, 128] inb_S128x1024_S128x128_0_384)) (View.ld s (Rect.unit ![3, 0, 0] ![1, 128, 256] inb_S8x128x256_S1x128x256_3_0_0))⟩,
   ⟨Rect.unit ![2, 0, 0] ![1, 128, 256] inb_S8x128x256_S1x128x256_2_0_0, headState 0x3F7817E0#32 x4 x5 (View.ld x1 (Rect.unit ![0, 256] ![16, 128] inb_S16x1024_S16x128_0_256)) (View.ld x2 (Rect.unit ![0, 512] ![16, 256] inb_S16x2048_S16x256_0_512)) (View.ld x8 (Rect.unit ![0, 256] ![128, 128] inb_S128x1024_S128x128_0_256)) (View.ld s (Rect.unit ![2, 0, 0] ![1, 128, 256] inb_S8x128x256_S1x128x256_2_0_0))⟩,
   ⟨Rect.unit ![1, 0, 0] ![1, 128, 256] inb_S8x128x256_S1x128x256_1_0_0, headState 0x3F705F01#32 x4 x5 (View.ld x1 (Rect.unit ![0, 128] ![16, 128] inb_S16x1024_S16x128_0_128)) (View.ld x2 (Rect.unit ![0, 256] ![16, 256] inb_S16x2048_S16x256_0_256)) (View.ld x8 (Rect.unit ![0, 128] ![128, 128] inb_S128x1024_S128x128_0_128)) (View.ld s (Rect.unit ![1, 0, 0] ![1, 128, 256] inb_S8x128x256_S1x128x256_1_0_0))⟩,
   ⟨Rect.unit ![0, 0, 0] ![1, 128, 256] inb_S8x128x256_S1x128x256_0_0_0, headState 0x3F617810#32 x4 x5 (View.ld x1 (Rect.unit ![0, 0] ![16, 128] inb_S16x1024_S16x128_0_0)) (View.ld x2 (Rect.unit ![0, 0] ![16, 256] inb_S16x2048_S16x256_0_0)) (View.ld x8 (Rect.unit ![0, 0] ![128, 128] inb_S128x1024_S128x128_0_0)) (View.ld s (Rect.unit ![0, 0, 0] ![1, 128, 256] inb_S8x128x256_S1x128x256_0_0_0))⟩]

/-- A load of one head's block of the state passes over a store to another head's block; -/
theorem readCov_skip (v : View sig .tc .vmem S8x128x256 .f32) {a b : ℕ} (hab : a ≠ b)
    (ha : ∀ x, (![a, 0, 0] : Fin 3 → ℕ) x + (![1, 128, 256] : Fin 3 → ℕ) x ≤ S8x128x256.size x)
    (hb : ∀ x, (![b, 0, 0] : Fin 3 → ℕ) x + (![1, 128, 256] : Fin 3 → ℕ) x ≤ S8x128x256.size x)
    (w : (Rect.unit (s := S8x128x256) ![a, 0, 0] ![1, 128, 256] ha).shape.Idx → Elt F .f32) (L : List (View.Piece (Elt F) S8x128x256 .f32)) :
    v.readCov (⟨Rect.unit ![a, 0, 0] ![1, 128, 256] ha, w⟩ :: L) (Rect.unit ![b, 0, 0] ![1, 128, 256] hb).toLoadRect
      = v.readCov L (Rect.unit ![b, 0, 0] ![1, 128, 256] hb).toLoadRect := by
  rw [View.readCov_eq_canon', View.readCov_eq_canon']
  funext x
  refine View.canon_cons_of_not_mem _ _ fun hm => hab ?_
  have hm' : (Rect.unit (s := S8x128x256) ![b, 0, 0] ![1, 128, 256] hb).idx x ∈ (Rect.unit (s := S8x128x256) ![a, 0, 0] ![1, 128, 256] ha).set := hm
  rw [Rect.mem_set_unit] at hm'
  have h1 := hm' (0 : Fin 3)
  clear hm hm'
  have hx : (((Rect.unit (s := S8x128x256) ![b, 0, 0] ![1, 128, 256] hb).idx x) (0 : Fin 3)).val = b + 1 * (x 0).val := rfl
  have h2 : (x (0 : Fin 3)).val < 1 := (x (0 : Fin 3)).isLt
  have h3 : (![a, 0, 0] : Fin 3 → ℕ) 0 = a := rfl
  have h4 : (![1, 128, 256] : Fin 3 → ℕ) 0 = 1 := rfl
  omega

/-- and over the one store of the whole state it reads that state's block. -/
theorem readCov_whole (v : View sig .tc .vmem S8x128x256 .f32) {b : ℕ}
    (h0 : ∀ x, (![0, 0, 0] : Fin 3 → ℕ) x + S8x128x256.size x ≤ S8x128x256.size x)
    (hb : ∀ x, (![b, 0, 0] : Fin 3 → ℕ) x + (![1, 128, 256] : Fin 3 → ℕ) x ≤ S8x128x256.size x) (X : Vec F S8x128x256 .f32) :
    v.readCov [(⟨Rect.unit ![0, 0, 0] S8x128x256.size h0, X⟩ : View.Piece (Elt F) S8x128x256 .f32)] (Rect.unit ![b, 0, 0] ![1, 128, 256] hb).toLoadRect
      = View.ld X (Rect.unit ![b, 0, 0] ![1, 128, 256] hb) := by
  rw [View.readCov_eq_canon', View.canon_unit_zero hz3]

set_option maxHeartbeats 1000000 in
theorem out11_eq (c : Dev nD) (i : grid0.Coords) (arg2 : Memref sig .tc .vmem S16x1024 .f32) (harg2 : arg2.IsWhole) (arg3 : Memref sig .tc .vmem S16x1024 .f32) (harg3 : arg3.IsWhole) (arg4 : Memref sig .tc .vmem S16x2048 .f32) (harg4 : arg4.IsWhole) (arg5 : Memref sig .tc .vmem S16x2048 .f32) (harg5 : arg5.IsWhole) (arg6 : Memref sig .tc .vmem S16x128 .f32) (harg6 : arg6.IsWhole) (arg7 : Memref sig .tc .vmem S16x128 .f32) (harg7 : arg7.IsWhole) (arg8 : Memref sig .tc .vmem S8x16x128 .f32) (harg8 : arg8.IsWhole) (arg9 : Memref sig .tc .vmem S16x1024 .f32) (harg9 : arg9.IsWhole) (arg10 : Memref sig .tc .vmem S128x1024 .f32) (harg10 : arg10.IsWhole) (arg11 : Memref sig .tc .vmem S1x2048 .f32) (harg11 : arg11.IsWhole) (arg12 : Memref sig .tc .vmem S1x8x128x256 .f32) (harg12 : arg12.IsWhole) (arg13 : Memref sig .tc .vmem S16x2048 .bf16) (harg13 : arg13.IsWhole) (arg14 : Memref sig .tc .vmem S1x8x128x256 .f32) (harg14 : arg14.IsWhole) (arg15 : Memref sig .tc .vmem S8x128x256 .f32) (harg15 : arg15.IsWhole) (hc0 : cond0_0 i) (hc1 : cond0_1 i)
    (x0 : Vec F S16x1024 .f32) (x1 : Vec F S16x1024 .f32) (x2 : Vec F S16x2048 .f32) (x3 : Vec F S16x2048 .f32) (x4 : Vec F S16x128 .f32) (x5 : Vec F S16x128 .f32) (x6 : Vec F S8x16x128 .f32) (x7 : Vec F S16x1024 .f32) (x8 : Vec F S128x1024 .f32) (x9 : Vec F S1x2048 .f32) (x10 : Vec F S1x8x128x256 .f32) : out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = View.canon (outPieces x0 x1 x2 x3 x4 x5 x6 x7 x9 (k0_pay3 x10)) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S16x128) hz2]
  simp (discharger := decide) only [↓readCov_skip, readCov_whole arg15.view, View.ld_unit_zero (S := S1x8x128x256) hz4]
  rfl

/-- The scratch when the state is written out: the heads' blocks over the state handed in. -/
def scratch (x1 : Vec F S16x1024 .f32) (x2 : Vec F S16x2048 .f32) (x4 x5 : Vec F S16x128 .f32)
    (x8 : Vec F S128x1024 .f32) (s : Vec F S8x128x256 .f32) : List (View.Piece (Elt F) S8x128x256 .f32) :=
  statePieces x1 x2 x4 x5 x8 s ++ [⟨Rect.unit ![0, 0, 0] S8x128x256.size inb_S8x128x256_S8x128x256_0_0_0, s⟩]

set_option maxHeartbeats 1000000 in
theorem out12_eq (c : Dev nD) (i : grid0.Coords) (arg2 : Memref sig .tc .vmem S16x1024 .f32) (harg2 : arg2.IsWhole) (arg3 : Memref sig .tc .vmem S16x1024 .f32) (harg3 : arg3.IsWhole) (arg4 : Memref sig .tc .vmem S16x2048 .f32) (harg4 : arg4.IsWhole) (arg5 : Memref sig .tc .vmem S16x2048 .f32) (harg5 : arg5.IsWhole) (arg6 : Memref sig .tc .vmem S16x128 .f32) (harg6 : arg6.IsWhole) (arg7 : Memref sig .tc .vmem S16x128 .f32) (harg7 : arg7.IsWhole) (arg8 : Memref sig .tc .vmem S8x16x128 .f32) (harg8 : arg8.IsWhole) (arg9 : Memref sig .tc .vmem S16x1024 .f32) (harg9 : arg9.IsWhole) (arg10 : Memref sig .tc .vmem S128x1024 .f32) (harg10 : arg10.IsWhole) (arg11 : Memref sig .tc .vmem S1x2048 .f32) (harg11 : arg11.IsWhole) (arg12 : Memref sig .tc .vmem S1x8x128x256 .f32) (harg12 : arg12.IsWhole) (arg13 : Memref sig .tc .vmem S16x2048 .bf16) (harg13 : arg13.IsWhole) (arg14 : Memref sig .tc .vmem S1x8x128x256 .f32) (harg14 : arg14.IsWhole) (arg15 : Memref sig .tc .vmem S8x128x256 .f32) (harg15 : arg15.IsWhole) (hc0 : cond0_0 i) (hc1 : cond0_1 i)
    (x0 : Vec F S16x1024 .f32) (x1 : Vec F S16x1024 .f32) (x2 : Vec F S16x2048 .f32) (x3 : Vec F S16x2048 .f32) (x4 : Vec F S16x128 .f32) (x5 : Vec F S16x128 .f32) (x6 : Vec F S8x16x128 .f32) (x7 : Vec F S16x1024 .f32) (x8 : Vec F S128x1024 .f32) (x9 : Vec F S1x2048 .f32) (x10 : Vec F S1x8x128x256 .f32) : out0_A_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = shapeCast S1x8x128x256 (View.canon (scratch x1 x2 x4 x5 x8 (k0_pay3 x10))) shapeCasts_S8x128x256_S1x8x128x256 := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  rw [View.canon_unit_zero hz4, View.readCov_eq_canon']
  unfold k0_pay2
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S16x128) hz2]
  simp (discharger := decide) only [↓readCov_skip, readCov_whole arg15.view, View.ld_unit_zero (S := S1x8x128x256) hz4]
  refine congrArg (fun q => shapeCast S1x8x128x256 q shapeCasts_S8x128x256_S1x8x128x256) ?_
  exact View.ld_unit_zero (S := S8x128x256) hz3 inb_S8x128x256_S8x128x256_0_0_0 (View.canon (scratch x1 x2 x4 x5 x8 (k0_pay3 x10)))

end Cert.Kernel24Ideal.RetSValue
end
-- ==== Proof.RetSModel.lean ====
module
public import proofs.«01_k».proof.Proof.RetModel
@[expose] public section
noncomputable section
open Idealize.ShloMosaic
namespace Cert.RetS
open Cert.Ret

/-! Retention over the sample's batches, written over plain functions of indices: 32 batches of sixteen rows, of which
the first four carry keys and values; every batch has its own state. -/

/-- Row `a` of batch `n`. -/
def row (n : Fin 32) (a : Fin 16) : Fin 512 := ⟨16 * n.val + a.val, by omega⟩

/-- Key `b` as a row of the batch. -/
def key (b : Fin 4) : Fin 16 := ⟨b.val, by omega⟩

/-- The arrays the sample's retention takes. -/
structure Args where
  z : Fin 512 → Fin 6144 → EReal
  cos : Fin 16 → Fin 64 → EReal
  sin : Fin 16 → Fin 64 → EReal
  dmask : Fin 8 → Fin 16 → Fin 4 → EReal
  qdec : Fin 16 → Fin 8 → EReal
  kdec : Fin 4 → Fin 8 → EReal
  s0 : Fin 32 → Fin 8 → Fin 128 → Fin 256 → EReal
  gain : Fin 2048 → EReal

/-- The bits of the decay of four keys, head by head. -/
def cdecBits : Fin 8 → BitVec 32 :=
  ![0x3F617810#32, 0x3F705F01#32, 0x3F7817E0#32, 0x3F7C05FC#32, 0x3F7E0180#32, 0x3F7F0060#32, 0x3F7F8018#32, 0x3F7FC006#32]

/-- A sum of 128 terms of which only the first four are not zero. -/
theorem sum_four (f : Fin 128 → EReal) (hf : ∀ b : Fin 128, 4 ≤ b.val → f b = 0) : ∑ b, f b = ∑ b : Fin 4, f ⟨b.val, by omega⟩ := by
  refine (Fin.sum_univ_add (a := 4) (b := 124) f).trans ?_
  rw [Finset.sum_eq_zero (s := Finset.univ) (f := fun i : Fin 124 => f (Fin.natAdd 4 i)) fun i _ => hf _ (Nat.le_add_right 4 i.val), add_zero]
  rfl

namespace Args
variable (A : Args) (n : Fin 32) (h : Fin 8)

/-- The scaled, rotated queries. -/
def q (a : Fin 16) (d : Fin 128) : EReal :=
  rot (fun d => A.z (row n a) (colQK 0 h d)) (A.cos a) (A.sin a) d * Ideal.ofBits .f32 0x3DB504F3#32

/-- The rotated keys. -/
def k (a : Fin 16) (d : Fin 128) : EReal := rot (fun d => A.z (row n a) (colQK 1 h d)) (A.cos a) (A.sin a) d

/-- The values. -/
def v (a : Fin 16) (e : Fin 256) : EReal := A.z (row n a) (colVG 0 h e)

/-- The gates. -/
def g (a : Fin 16) (e : Fin 256) : EReal := A.z (row n a) (colVG 1 h e)

/-- The state after the batch. -/
def state (d : Fin 128) (e : Fin 256) : EReal :=
  A.s0 n h d e * Ideal.ofBits .f32 (cdecBits h) + ∑ b : Fin 4, A.k n h (key b) d * A.kdec b h * A.v n h (key b) e

/-- The output before the normalisation. -/
def sum (a : Fin 16) (e : Fin 256) : EReal :=
  (∑ b : Fin 4, (∑ d : Fin 128, A.q n h a d * A.k n h (key b) d) * A.dmask h a b * A.v n h (key b) e)
    + ∑ d : Fin 128, A.q n h a d * A.qdec a h * A.s0 n h d e

/-- The output. -/
def out (a : Fin 16) (e : Fin 256) : EReal := gate (A.sum n h a) (fun e => A.gain (col2 h e)) (A.g n h a) e

end Args
end Cert.RetS
end
-- ==== Proof.RetSChunk.lean ====
module
public import proofs.«01_k».proof.Proof.RetSPay
public import proofs.«01_k».proof.Proof.RetSModel
public import Idealize.ShloMosaic.Lib.Pointwise
public import Idealize.ShloMosaic.Lib.Pipeline.CanonAppend
@[expose] public section
set_option maxRecDepth 16384
noncomputable section
open Idealize.ShloMosaic Idealize.ShloMosaic.TcCoe Idealize.SL.Sem
namespace Cert.Kernel24Ideal.RetSValue
open Cert.Kernel24Ideal Cert.Kernel24Ideal.Gen
open Cert.Ret (colQK colVG col1 col2 rot rot_cyclic gate)
open Cert.RetS (Args row key cdecBits sum_four)

/-! One batch of the sample's retention over the extended reals, against the plain functions of `RetSModel`. -/

variable (A : Args) (n : Fin 32)

/-- The rotation of a head, from the wide cosine and the signed wide sine. -/
theorem turn_apply {cs sn x : Vec Ideal S16x128 .f32} {X : Fin 16 → Fin 128 → EReal} (hx : ∀ a d, x (ix2 a d) = X a d)
    (hc : ∀ a (d : Fin 128), cs (ix2 a d) = A.cos a ⟨d.val % 64, by omega⟩)
    (hs : ∀ a (d : Fin 128), sn (ix2 a d) = if d.val < 64 then - A.sin a ⟨d.val % 64, by omega⟩ else A.sin a ⟨d.val % 64, by omega⟩)
    (a : Fin 16) (d : Fin 128) : turn (F := Ideal) cs sn x (ix2 a d) = rot (X a) (A.cos a) (A.sin a) d := by
  pointwise [turn]
  rw [hx, hx]
  exact rot_cyclic (X a) _ _ (fun d => cs (ix2 a d)) (fun d => sn (ix2 a d)) (hc a) (hs a) d

/-- The rows filled up with zeros: a key's row is the row itself. -/
theorem padK_apply (k : FVec Ideal S16x128 .f32) (b : Fin 4) (d : Fin 128) : padK k (ix2 ⟨b.val, by omega⟩ d) = k (ix2 (key b) d) := by
  pointwise [padK]
  rw [dif_pos (by show b.val < 16; omega)]
  rfl
theorem padV_apply (v : FVec Ideal S16x256 .f32) (b : Fin 4) (e : Fin 256) : padV v (ix2 ⟨b.val, by omega⟩ e) = v (ix2 (key b) e) := by
  pointwise [padV]
  rw [dif_pos (by show b.val < 16; omega)]
  rfl

/-- One head's output rows. -/
theorem headOut_apply {cs sn q k qd : Vec Ideal S16x128 .f32} {v g : Vec Ideal S16x256 .f32} {d : Vec Ideal S1x16x128 .f32}
    {gain : Vec Ideal S1x256 .f32} {s : Vec Ideal S1x128x256 .f32} (h : Fin 8)
    (hc : ∀ a (d : Fin 128), cs (ix2 a d) = A.cos a ⟨d.val % 64, by omega⟩)
    (hs : ∀ a (d : Fin 128), sn (ix2 a d) = if d.val < 64 then - A.sin a ⟨d.val % 64, by omega⟩ else A.sin a ⟨d.val % 64, by omega⟩)
    (hq : ∀ a d, q (ix2 a d) = A.z (row n a) (colQK 0 h d)) (hk : ∀ a d, k (ix2 a d) = A.z (row n a) (colQK 1 h d))
    (hv : ∀ a e, v (ix2 a e) = A.v n h a e) (hg : ∀ a e, g (ix2 a e) = A.g n h a e)
    (hd : ∀ a (b : Fin 128), d (ix3 0 a b) = if hb : b.val < 4 then A.dmask h a ⟨b.val, hb⟩ else 0) (hqd : ∀ a d, qd (ix2 a d) = A.qdec a h)
    (hgain : ∀ e, gain (ix2 0 e) = A.gain (col2 h e)) (hst : ∀ d e, s (ix3 0 d e) = A.s0 n h d e)
    (a : Fin 16) (e : Fin 256) : headOut (F := Ideal) cs sn q k v g d qd gain s (ix2 a e) = A.out n h a e := by
  have hQ : ∀ a d, query (F := Ideal) cs sn q (ix2 a d) = A.q n h a d := fun a d => by
    pointwise [query]
    rw [turn_apply A hq hc hs]; rfl
  have hK : ∀ a d, turn (F := Ideal) cs sn k (ix2 a d) = A.k n h a d := fun a d => turn_apply A hk hc hs a d
  have hO : ∀ e, inner (F := Ideal) (query cs sn q) (padK (turn cs sn k)) (padV v) d (ix2 a e)
      + cross (F := Ideal) (query cs sn q) qd (shapeCast S128x256 s shapeCasts_S1x128x256_S128x256) (ix2 a e) = A.sum n h a e := fun e => by
    pointwise [inner, cross]
    simp only [hQ, hqd, hst]
    refine congrArg₂ (· + ·) ?_ rfl
    rw [sum_four _ fun b hb => by rw [hd, dif_neg (Nat.not_lt.2 hb), mul_zero, zero_mul]]
    refine Finset.sum_congr rfl fun b _ => ?_
    rw [hd, dif_pos b.isLt, padV_apply, hv]
    simp only [padK_apply, hK]
  pointwise [headOut, gated, normed]
  simp only [hO, hg, hgain]
  rfl

/-- One head's state after the batch. -/
theorem headState_apply {cs sn k : Vec Ideal S16x128 .f32} {kd : Vec Ideal S128x128 .f32} {v : Vec Ideal S16x256 .f32} {s : Vec Ideal S1x128x256 .f32} (h : Fin 8)
    (hc : ∀ a (d : Fin 128), cs (ix2 a d) = A.cos a ⟨d.val % 64, by omega⟩)
    (hs : ∀ a (d : Fin 128), sn (ix2 a d) = if d.val < 64 then - A.sin a ⟨d.val % 64, by omega⟩ else A.sin a ⟨d.val % 64, by omega⟩)
    (hk : ∀ a d, k (ix2 a d) = A.z (row n a) (colQK 1 h d)) (hv : ∀ a e, v (ix2 a e) = A.v n h a e)
    (hkd : ∀ (b : Fin 128) d, kd (ix2 b d) = if hb : b.val < 4 then A.kdec ⟨b.val, hb⟩ h else 0) (hst : ∀ d e, s (ix3 0 d e) = A.s0 n h d e)
    (z : Fin 1) (d : Fin 128) (e : Fin 256) : headState (F := Ideal) (cdecBits h) cs sn k v kd s (ix3 z d e) = A.state n h d e := by
  have hK : ∀ a d, turn (F := Ideal) cs sn k (ix2 a d) = A.k n h a d := fun a d => turn_apply A hk hc hs a d
  pointwise [headState]
  rw [hst, sum_four _ fun b hb => by rw [hkd, dif_neg (Nat.not_lt.2 hb), mul_zero, zero_mul]]
  refine congrArg₂ (· + ·) rfl (Finset.sum_congr rfl fun b _ => ?_)
  rw [hkd, dif_pos b.isLt, padV_apply, padK_apply, hK, hv]

/-- A load of a block of columns, read at an index. -/
theorem ld_ix2 {e : EltTy} {R C r c o0 o1 : ℕ} (X : Vec Ideal ⟨2, ![R, C]⟩ e)
    (inb : ∀ x, (![o0, o1] : Fin 2 → ℕ) x + (![r, c] : Fin 2 → ℕ) x ≤ (⟨2, ![R, C]⟩ : Shape).size x)
    (a : Fin r) (d : Fin c) (a' : Fin R) (d' : Fin C) (h0 : a'.val = o0 + a.val) (h1 : d'.val = o1 + d.val) :
    View.ld X (Rect.unit (s := ⟨2, ![R, C]⟩) ![o0, o1] ![r, c] inb) (ix2 a d) = X (ix2 a' d') := by
  refine congrArg X (funext fun i => Fin.ext ?_)
  match i with
  | ⟨0, _⟩ => show o0 + 1 * a.val = a'.val; omega
  | ⟨1, _⟩ => show o1 + 1 * d.val = d'.val; omega

/-- A load of one matrix of a stack, read at an index. -/
theorem ld_ix3 {e : EltTy} {H R C o : ℕ} (X : Vec Ideal ⟨3, ![H, R, C]⟩ e)
    (inb : ∀ x, (![o, 0, 0] : Fin 3 → ℕ) x + (![1, R, C] : Fin 3 → ℕ) x ≤ (⟨3, ![H, R, C]⟩ : Shape).size x)
    (z : Fin 1) (a : Fin R) (d : Fin C) (h : Fin H) (h0 : h.val = o) :
    View.ld X (Rect.unit (s := ⟨3, ![H, R, C]⟩) ![o, 0, 0] ![1, R, C] inb) (ix3 z a d) = X (ix3 h a d) := by
  refine congrArg X (funext fun i => Fin.ext ?_)
  match i with
  | ⟨0, _⟩ => show o + 1 * z.val = h.val; omega
  | ⟨1, _⟩ => show 0 + 1 * a.val = a.val; omega
  | ⟨2, _⟩ => show 0 + 1 * d.val = d.val; omega

/-- The windows of batch `n` hold its rows of the arrays. -/
structure Fed (x0 x1 : Vec Ideal S16x1024 .f32) (x2 x3 : Vec Ideal S16x2048 .f32) (x4 x5 : Vec Ideal S16x128 .f32) (x6 : Vec Ideal S8x16x128 .f32)
    (x7 : Vec Ideal S16x1024 .f32) (x8 : Vec Ideal S128x1024 .f32) (x9 : Vec Ideal S1x2048 .f32) : Prop where
  q : ∀ a h d, x0 (ix2 a (col1 h d)) = A.z (row n a) (colQK 0 h d)
  k : ∀ a h d, x1 (ix2 a (col1 h d)) = A.z (row n a) (colQK 1 h d)
  v : ∀ a h e, x2 (ix2 a (col2 h e)) = A.z (row n a) (colVG 0 h e)
  g : ∀ a h e, x3 (ix2 a (col2 h e)) = A.z (row n a) (colVG 1 h e)
  cos : ∀ a (d : Fin 128), x4 (ix2 a d) = A.cos a ⟨d.val % 64, by omega⟩
  sin : ∀ a (d : Fin 128), x5 (ix2 a d) = if d.val < 64 then - A.sin a ⟨d.val % 64, by omega⟩ else A.sin a ⟨d.val % 64, by omega⟩
  dmask : ∀ h a (b : Fin 128), x6 (ix3 h a b) = if hb : b.val < 4 then A.dmask h a ⟨b.val, hb⟩ else 0
  qdec : ∀ a h d, x7 (ix2 a (col1 h d)) = A.qdec a h
  kdec : ∀ (b : Fin 128) h d, x8 (ix2 b (col1 h d)) = if hb : b.val < 4 then A.kdec ⟨b.val, hb⟩ h else 0
  gain : ∀ e, x9 (ix2 0 e) = A.gain e

/-- The batch's output block. -/
def outBlock : S16x2048.Idx → EReal := fun j =>
  A.out n ⟨(j 1).val / 256, by have : (j 1).val < 2048 := (j 1).isLt; omega⟩ (j 0) ⟨(j 1).val % 256, Nat.mod_lt _ (by decide)⟩

theorem outBlock_at (h : Fin 8) (j : S16x2048.Idx) (a : Fin 16) (e : Fin 256) (h0 : (j 0).val = a.val) (h1 : (j 1).val = 256 * h.val + e.val) :
    A.out n h a e = outBlock A n j := by
  unfold outBlock
  congr 1
  · exact Fin.ext (by show h.val = (j 1).val / 256; omega)
  · exact Fin.ext h0.symm
  · exact Fin.ext (by show e.val = (j 1).val % 256; omega)

/-- The state handed to batch `n`, as an array. -/
def entryBlock : S8x128x256.Idx → EReal := fun j => A.s0 n (j 0) (j 1) (j 2)

/-- The state after batch `n`, as an array. -/
def stateBlock : S8x128x256.Idx → EReal := fun j => A.state n (j 0) (j 1) (j 2)

theorem stateBlock_at (h : Fin 8) (j : S8x128x256.Idx) (d : Fin 128) (e : Fin 256) (h0 : (j 0).val = h.val) (h1 : (j 1).val = d.val)
    (h2 : (j 2).val = e.val) : A.state n h d e = stateBlock A n j := by
  unfold stateBlock
  congr 1
  · exact Fin.ext h0.symm
  · exact Fin.ext h1.symm
  · exact Fin.ext h2.symm

variable {A n} {x0 x1 : Vec Ideal S16x1024 .f32} {x2 x3 : Vec Ideal S16x2048 .f32} {x4 x5 : Vec Ideal S16x128 .f32} {x6 : Vec Ideal S8x16x128 .f32}
    {x7 : Vec Ideal S16x1024 .f32} {x8 : Vec Ideal S128x1024 .f32} {x9 : Vec Ideal S1x2048 .f32} {s : Vec Ideal S8x128x256 .f32}

/-- One head's piece of the output. -/
theorem outPiece (H : Fed A n x0 x1 x2 x3 x4 x5 x6 x7 x8 x9) (hs : s = entryBlock A n) (h : Fin 8) {o1 o2 o3 : ℕ}
    (e1 : o1 = 128 * h.val) (e2 : o2 = 256 * h.val) (e3 : o3 = h.val)
    (b1 : ∀ x, (![0, o1] : Fin 2 → ℕ) x + (![16, 128] : Fin 2 → ℕ) x ≤ S16x1024.size x)
    (b2 : ∀ x, (![0, o2] : Fin 2 → ℕ) x + (![16, 256] : Fin 2 → ℕ) x ≤ S16x2048.size x)
    (b3 : ∀ x, (![0, o2] : Fin 2 → ℕ) x + (![1, 256] : Fin 2 → ℕ) x ≤ S1x2048.size x)
    (b4 : ∀ x, (![o3, 0, 0] : Fin 3 → ℕ) x + (![1, 16, 128] : Fin 3 → ℕ) x ≤ S8x16x128.size x)
    (b5 : ∀ x, (![o3, 0, 0] : Fin 3 → ℕ) x + (![1, 128, 256] : Fin 3 → ℕ) x ≤ S8x128x256.size x) (x : S16x256.Idx) :
    headOut (F := Ideal) x4 x5 (View.ld x0 (Rect.unit ![0, o1] ![16, 128] b1)) (View.ld x1 (Rect.unit ![0, o1] ![16, 128] b1))
      (View.ld x2 (Rect.unit ![0, o2] ![16, 256] b2)) (View.ld x3 (Rect.unit ![0, o2] ![16, 256] b2))
      (View.ld x6 (Rect.unit ![o3, 0, 0] ![1, 16, 128] b4)) (View.ld x7 (Rect.unit ![0, o1] ![16, 128] b1))
      (View.ld x9 (Rect.unit ![0, o2] ![1, 256] b3)) (View.ld s (Rect.unit ![o3, 0, 0] ![1, 128, 256] b5)) x
      = outBlock A n ((Rect.unit (s := S16x2048) ![0, o2] ![16, 256] b2).emb x) := by
  obtain ⟨a0, d0, rfl⟩ : ∃ (a0 : Fin 16) (d0 : Fin 256), x = ix2 a0 d0 := ⟨x 0, x 1, eq_ix2 x⟩
  have c1 : ∀ d : Fin 128, (col1 h d).val = o1 + d.val := fun d => by rw [e1]; rfl
  have c2 : ∀ e : Fin 256, (col2 h e).val = o2 + e.val := fun d => by rw [e2]; rfl
  have z0 : ∀ a : ℕ, a = 0 + a := fun a => (Nat.zero_add a).symm
  rw [headOut_apply A n h H.cos H.sin
    (fun a d => (ld_ix2 x0 b1 a d a (col1 h d) (z0 _) (c1 d)).trans (H.q a h d))
    (fun a d => (ld_ix2 x1 b1 a d a (col1 h d) (z0 _) (c1 d)).trans (H.k a h d))
    (fun a e => (ld_ix2 x2 b2 a e a (col2 h e) (z0 _) (c2 e)).trans (H.v a h e))
    (fun a e => (ld_ix2 x3 b2 a e a (col2 h e) (z0 _) (c2 e)).trans (H.g a h e))
    (fun a b => (ld_ix3 x6 b4 0 a b h e3.symm).trans (H.dmask h a b))
    (fun a d => (ld_ix2 x7 b1 a d a (col1 h d) (z0 _) (c1 d)).trans (H.qdec a h d))
    (fun e => (ld_ix2 x9 b3 0 e 0 (col2 h e) (z0 _) (c2 e)).trans (H.gain (col2 h e)))
    (fun d e => (ld_ix3 s b5 0 d e h e3.symm).trans (by rw [hs]; rfl))]
  refine outBlock_at A n h _ _ _ ?_ ?_
  · show 0 + 1 * a0.val = a0.val; omega
  · show o2 + 1 * d0.val = 256 * h.val + d0.val; omega

/-- One head's piece of the state. -/
theorem statePiece (H : Fed A n x0 x1 x2 x3 x4 x5 x6 x7 x8 x9) (hs : s = entryBlock A n) (h : Fin 8) {o1 o2 o3 : ℕ} {cd : BitVec 32}
    (e1 : o1 = 128 * h.val) (e2 : o2 = 256 * h.val) (e3 : o3 = h.val) (e4 : cd = cdecBits h)
    (b1 : ∀ x, (![0, o1] : Fin 2 → ℕ) x + (![16, 128] : Fin 2 → ℕ) x ≤ S16x1024.size x)
    (b8 : ∀ x, (![0, o1] : Fin 2 → ℕ) x + (![128, 128] : Fin 2 → ℕ) x ≤ S128x1024.size x)
    (b2 : ∀ x, (![0, o2] : Fin 2 → ℕ) x + (![16, 256] : Fin 2 → ℕ) x ≤ S16x2048.size x)
    (b5 : ∀ x, (![o3, 0, 0] : Fin 3 → ℕ) x + (![1, 128, 256] : Fin 3 → ℕ) x ≤ S8x128x256.size x) (x : S1x128x256.Idx) :
    headState (F := Ideal) cd x4 x5 (View.ld x1 (Rect.unit ![0, o1] ![16, 128] b1))
      (View.ld x2 (Rect.unit ![0, o2] ![16, 256] b2)) (View.ld x8 (Rect.unit ![0, o1] ![128, 128] b8))
      (View.ld s (Rect.unit ![o3, 0, 0] ![1, 128, 256] b5)) x
      = stateBlock A n ((Rect.unit (s := S8x128x256) ![o3, 0, 0] ![1, 128, 256] b5).emb x) := by
  obtain ⟨z0', a0, d0, rfl⟩ : ∃ (z0' : Fin 1) (a0 : Fin 128) (d0 : Fin 256), x = ix3 z0' a0 d0 := ⟨x 0, x 1, x 2, eq_ix3 x⟩
  have c1 : ∀ d : Fin 128, (col1 h d).val = o1 + d.val := fun d => by rw [e1]; rfl
  have c2 : ∀ e : Fin 256, (col2 h e).val = o2 + e.val := fun d => by rw [e2]; rfl
  have z0 : ∀ a : ℕ, a = 0 + a := fun a => (Nat.zero_add a).symm
  rw [e4, headState_apply A n h H.cos H.sin
    (fun a d => (ld_ix2 x1 b1 a d a (col1 h d) (z0 _) (c1 d)).trans (H.k a h d))
    (fun a e => (ld_ix2 x2 b2 a e a (col2 h e) (z0 _) (c2 e)).trans (H.v a h e))
    (fun a d => (ld_ix2 x8 b8 a d a (col1 h d) (z0 _) (c1 d)).trans (H.kdec a h d))
    (fun d e => (ld_ix3 s b5 0 d e h e3.symm).trans (by rw [hs]; rfl))]
  refine stateBlock_at A n h _ _ _ ?_ ?_ ?_
  · show o3 + 1 * z0'.val = h.val; omega
  · show 0 + 1 * a0.val = a0.val; omega
  · show 0 + 1 * d0.val = d0.val; omega

theorem outPieces_at (H : Fed A n x0 x1 x2 x3 x4 x5 x6 x7 x8 x9) (hs : s = entryBlock A n) :
    ∀ p ∈ outPieces (F := Ideal) x0 x1 x2 x3 x4 x5 x6 x7 x9 s, ∀ x, p.2 x = outBlock A n (p.1.emb x) := by
  intro p hp x
  fin_cases hp
  · exact outPiece H hs 7 rfl rfl rfl _ _ _ _ _ x
  · exact outPiece H hs 6 rfl rfl rfl _ _ _ _ _ x
  · exact outPiece H hs 5 rfl rfl rfl _ _ _ _ _ x
  · exact outPiece H hs 4 rfl rfl rfl _ _ _ _ _ x
  · exact outPiece H hs 3 rfl rfl rfl _ _ _ _ _ x
  · exact outPiece H hs 2 rfl rfl rfl _ _ _ _ _ x
  · exact outPiece H hs 1 rfl rfl rfl _ _ _ _ _ x
  · exact outPiece H hs 0 rfl rfl rfl _ _ _ _ _ x

theorem statePieces_at (H : Fed A n x0 x1 x2 x3 x4 x5 x6 x7 x8 x9) (hs : s = entryBlock A n) :
    ∀ p ∈ statePieces (F := Ideal) x1 x2 x4 x5 x8 s, ∀ x, p.2 x = stateBlock A n (p.1.emb x) := by
  intro p hp x
  fin_cases hp
  · exact statePiece H hs 7 rfl rfl rfl rfl _ _ _ _ x
  · exact statePiece H hs 6 rfl rfl rfl rfl _ _ _ _ x
  · exact statePiece H hs 5 rfl rfl rfl rfl _ _ _ _ x
  · exact statePiece H hs 4 rfl rfl rfl rfl _ _ _ _ x
  · exact statePiece H hs 3 rfl rfl rfl rfl _ _ _ _ x
  · exact statePiece H hs 2 rfl rfl rfl rfl _ _ _ _ x
  · exact statePiece H hs 1 rfl rfl rfl rfl _ _ _ _ x
  · exact statePiece H hs 0 rfl rfl rfl rfl _ _ _ _ x

/-- Every index of the output block is in one head's piece. -/
theorem outPieces_cover (y : S16x2048.Idx) : ∃ p ∈ outPieces (F := Ideal) x0 x1 x2 x3 x4 x5 x6 x7 x9 s, y ∈ p.1.set := by
  have h0 : (y 0).val < 16 := (y 0).isLt
  have h1 : (y 1).val < 2048 := (y 1).isLt
  have key : ∀ (o : ℕ) (b : ∀ x, (![0, o] : Fin 2 → ℕ) x + (![16, 256] : Fin 2 → ℕ) x ≤ S16x2048.size x), o ≤ (y 1).val → (y 1).val < o + 256 →
      y ∈ (Rect.unit (s := S16x2048) ![0, o] ![16, 256] b).set := fun o b l u => by
    rw [Rect.mem_set_unit]
    intro a
    match a with
    | ⟨0, _⟩ => exact ⟨Nat.zero_le _, by show (y 0).val < 0 + 16; omega⟩
    | ⟨1, _⟩ => exact ⟨l, u⟩
  unfold outPieces
  obtain h | h | h | h | h | h | h | h : (y 1).val / 256 = 7 ∨ (y 1).val / 256 = 6 ∨ (y 1).val / 256 = 5 ∨ (y 1).val / 256 = 4
      ∨ (y 1).val / 256 = 3 ∨ (y 1).val / 256 = 2 ∨ (y 1).val / 256 = 1 ∨ (y 1).val / 256 = 0 := by omega
  · exact ⟨_, List.mem_cons_self, key 1792 inb_S16x2048_S16x256_0_1792 (by omega) (by omega)⟩
  · exact ⟨_, (List.mem_cons_of_mem _ List.mem_cons_self), key 1536 inb_S16x2048_S16x256_0_1536 (by omega) (by omega)⟩
  · exact ⟨_, (List.mem_cons_of_mem _ (List.mem_cons_of_mem _ List.mem_cons_self)), key 1280 inb_S16x2048_S16x256_0_1280 (by omega) (by omega)⟩
  · exact ⟨_, (List.mem_cons_of_mem _ (List.mem_cons_of_mem _ (List.mem_cons_of_mem _ List.mem_cons_self))), key 1024 inb_S16x2048_S16x256_0_1024 (by omega) (by omega)⟩
  · exact ⟨_, (List.mem_cons_of_mem _ (List.mem_cons_of_mem _ (List.mem_cons_of_mem _ (List.mem_cons_of_mem _ List.mem_cons_self)))), key 768 inb_S16x2048_S16x256_0_768 (by omega) (by omega)⟩
  · exact ⟨_, (List.mem_cons_of_mem _ (List.mem_cons_of_mem _ (List.mem_cons_of_mem _ (List.mem_cons_of_mem _ (List.mem_cons_of_mem _ List.mem_cons_self))))), key 512 inb_S16x2048_S16x256_0_512 (by omega) (by omega)⟩
  · exact ⟨_, (List.mem_cons_of_mem _ (List.mem_cons_of_mem _ (List.mem_cons_of_mem _ (List.mem_cons_of_mem _ (List.mem_cons_of_mem _ (List.mem_cons_of_mem _ List.mem_cons_self)))))), key 256 inb_S16x2048_S16x256_0_256 (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), key 0 inb_S16x2048_S16x256_0_0 (by omega) (by omega)⟩

theorem statePieces_cover (y : S8x128x256.Idx) : ∃ p ∈ statePieces (F := Ideal) x1 x2 x4 x5 x8 s, y ∈ p.1.set := by
  have h0 : (y 0).val < 8 := (y 0).isLt
  have h1 : (y 1).val < 128 := (y 1).isLt
  have h2 : (y 2).val < 256 := (y 2).isLt
  have key : ∀ (o : ℕ) (b : ∀ x, (![o, 0, 0] : Fin 3 → ℕ) x + (![1, 128, 256] : Fin 3 → ℕ) x ≤ S8x128x256.size x), (y 0).val = o →
      y ∈ (Rect.unit (s := S8x128x256) ![o, 0, 0] ![1, 128, 256] b).set := fun o b l => by
    rw [Rect.mem_set_unit]
    intro a
    match a with
    | ⟨0, _⟩ => exact ⟨l.ge, by show (y 0).val < o + 1; omega⟩
    | ⟨1, _⟩ => exact ⟨Nat.zero_le _, by show (y 1).val < 0 + 128; omega⟩
    | ⟨2, _⟩ => exact ⟨Nat.zero_le _, by show (y 2).val < 0 + 256; omega⟩
  unfold statePieces
  obtain h | h | h | h | h | h | h | h : (y 0).val = 7 ∨ (y 0).val = 6 ∨ (y 0).val = 5 ∨ (y 0).val = 4
      ∨ (y 0).val = 3 ∨ (y 0).val = 2 ∨ (y 0).val = 1 ∨ (y 0).val = 0 := by omega
  · exact ⟨_, List.mem_cons_self, key 7 inb_S8x128x256_S1x128x256_7_0_0 h⟩
  · exact ⟨_, (List.mem_cons_of_mem _ List.mem_cons_self), key 6 inb_S8x128x256_S1x128x256_6_0_0 h⟩
  · exact ⟨_, (List.mem_cons_of_mem _ (List.mem_cons_of_mem _ List.mem_cons_self)), key 5 inb_S8x128x256_S1x128x256_5_0_0 h⟩
  · exact ⟨_, (List.mem_cons_of_mem _ (List.mem_cons_of_mem _ (List.mem_cons_of_mem _ List.mem_cons_self))), key 4 inb_S8x128x256_S1x128x256_4_0_0 h⟩
  · exact ⟨_, (List.mem_cons_of_mem _ (List.mem_cons_of_mem _ (List.mem_cons_of_mem _ (List.mem_cons_of_mem _ List.mem_cons_self)))), key 3 inb_S8x128x256_S1x128x256_3_0_0 h⟩
  · exact ⟨_, (List.mem_cons_of_mem _ (List.mem_cons_of_mem _ (List.mem_cons_of_mem _ (List.mem_cons_of_mem _ (List.mem_cons_of_mem _ List.mem_cons_self))))), key 2 inb_S8x128x256_S1x128x256_2_0_0 h⟩
  · exact ⟨_, (List.mem_cons_of_mem _ (List.mem_cons_of_mem _ (List.mem_cons_of_mem _ (List.mem_cons_of_mem _ (List.mem_cons_of_mem _ (List.mem_cons_of_mem _ List.mem_cons_self)))))), key 1 inb_S8x128x256_S1x128x256_1_0_0 h⟩
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), key 0 inb_S8x128x256_S1x128x256_0_0_0 h⟩

/-- The output block of a batch. -/
theorem canon_out (H : Fed A n x0 x1 x2 x3 x4 x5 x6 x7 x8 x9) (hs : s = entryBlock A n) :
    View.canon (outPieces (F := Ideal) x0 x1 x2 x3 x4 x5 x6 x7 x9 s) = outBlock A n :=
  funext fun y => View.canon_apply_of_pieces (outBlock A n) _ (outPieces_at H hs) y (outPieces_cover y)

/-- The state after a batch, whatever was stored before the heads' pieces. -/
theorem canon_state (H : Fed A n x0 x1 x2 x3 x4 x5 x6 x7 x8 x9) (hs : s = entryBlock A n) (L : List (View.Piece (Elt Ideal) S8x128x256 .f32)) :
    View.canon (statePieces (F := Ideal) x1 x2 x4 x5 x8 s ++ L) = stateBlock A n :=
  funext fun y => View.canon_append_of_pieces (stateBlock A n) L _ (statePieces_at H hs) y (statePieces_cover y)

end Cert.Kernel24Ideal.RetSValue
end
-- ==== Proof.RetSKernel.lean ====
module
public import proofs.«01_k».proof.Proof.RetSChunk
public import Idealize.ShloMosaic.Lib.Pipeline.Value
@[expose] public section
set_option maxRecDepth 16384
noncomputable section
open Idealize.ShloMosaic Idealize.ShloMosaic.TcCoe Idealize.SL.Sem
namespace Cert.Kernel24Ideal.RetSValue
open Cert.Kernel24Ideal Cert.Kernel24Ideal.Gen Cert.Kernel24Ideal.Value
open Cert.Ret (colQK colVG col1 col2)
open Cert.RetS (Args row)

/-! What the sample's retention leaves: point `n` of the grid is batch `n`. -/

variable (m : (ℓ : Loc nD τ sig) → Buf (Elt Ideal) ℓ) (ρ : Dev nD → PrngReg)

/-- The arrays the program is launched with. -/
def args (c : Dev nD) : Args where
  z r k := (m ((c : Thread nD τ).loc main_arg0) : Vec Ideal S512x6144 .f32) (ix2 r k)
  cos r d := (m ((c : Thread nD τ).loc main_arg1) : Vec Ideal S16x64 .f32) (ix2 r d)
  sin r d := (m ((c : Thread nD τ).loc main_arg2) : Vec Ideal S16x64 .f32) (ix2 r d)
  dmask h a b := (m ((c : Thread nD τ).loc main_arg3) : Vec Ideal S8x16x4 .f32) (ix3 h a b)
  qdec a h := (m ((c : Thread nD τ).loc main_arg4) : Vec Ideal S16x8 .f32) (ix2 a h)
  kdec a h := (m ((c : Thread nD τ).loc main_arg5) : Vec Ideal S4x8 .f32) (ix2 a h)
  s0 n h d e := (m ((c : Thread nD τ).loc main_arg6) : Vec Ideal S32x8x128x256 .f32) (ix4 n h d e)
  gain e := (m ((c : Thread nD τ).loc main_arg7) : Vec Ideal S2048 .f32) (ix1 e)

/-- The batch of a point. -/
def bat (t : Fin cfg0.N) : Fin 32 := ⟨t.val, lt_of_lt_of_eq t.isLt N_0⟩

/-- Where the windows' blocks begin at a point. -/
theorem offs : ∀ t : Fin cfg0.N,
    ((win0_0.rect t).off 0 = 16 * t.val ∧ (win0_0.rect t).off 1 = 0) ∧ ((win0_1.rect t).off 0 = 16 * t.val ∧ (win0_1.rect t).off 1 = 1024)
    ∧ ((win0_2.rect t).off 0 = 16 * t.val ∧ (win0_2.rect t).off 1 = 2048) ∧ ((win0_3.rect t).off 0 = 16 * t.val ∧ (win0_3.rect t).off 1 = 4096)
    ∧ ((win0_11.rect t).off 0 = 16 * t.val ∧ (win0_11.rect t).off 1 = 0) :=
  (by decide +kernel : ∀ t : Fin grid0.N,
    ((win0_0.rect t).off 0 = 16 * t.val ∧ (win0_0.rect t).off 1 = 0) ∧ ((win0_1.rect t).off 0 = 16 * t.val ∧ (win0_1.rect t).off 1 = 1024)
    ∧ ((win0_2.rect t).off 0 = 16 * t.val ∧ (win0_2.rect t).off 1 = 2048) ∧ ((win0_3.rect t).off 0 = 16 * t.val ∧ (win0_3.rect t).off 1 = 4096)
    ∧ ((win0_11.rect t).off 0 = 16 * t.val ∧ (win0_11.rect t).off 1 = 0))
theorem offs' : ∀ t : Fin cfg0.N,
    (∀ a, (win0_4.rect t).off a = 0) ∧ (∀ a, (win0_5.rect t).off a = 0) ∧ (∀ a, (win0_6.rect t).off a = 0) ∧ (∀ a, (win0_7.rect t).off a = 0)
    ∧ (∀ a, (win0_8.rect t).off a = 0) ∧ (∀ a, (win0_9.rect t).off a = 0) :=
  (by decide +kernel : ∀ t : Fin grid0.N,
    (∀ a, (win0_4.rect t).off a = 0) ∧ (∀ a, (win0_5.rect t).off a = 0) ∧ (∀ a, (win0_6.rect t).off a = 0) ∧ (∀ a, (win0_7.rect t).off a = 0)
    ∧ (∀ a, (win0_8.rect t).off a = 0) ∧ (∀ a, (win0_9.rect t).off a = 0))
theorem offs'' : ∀ t : Fin cfg0.N,
    ((win0_10.rect t).off 0 = t.val ∧ (win0_10.rect t).off 1 = 0 ∧ (win0_10.rect t).off 2 = 0 ∧ (win0_10.rect t).off 3 = 0)
    ∧ ((win0_12.rect t).off 0 = t.val ∧ (win0_12.rect t).off 1 = 0 ∧ (win0_12.rect t).off 2 = 0 ∧ (win0_12.rect t).off 3 = 0) :=
  (by decide +kernel : ∀ t : Fin grid0.N,
    ((win0_10.rect t).off 0 = t.val ∧ (win0_10.rect t).off 1 = 0 ∧ (win0_10.rect t).off 2 = 0 ∧ (win0_10.rect t).off 3 = 0)
    ∧ ((win0_12.rect t).off 0 = t.val ∧ (win0_12.rect t).off 1 = 0 ∧ (win0_12.rect t).off 2 = 0 ∧ (win0_12.rect t).off 3 = 0))
theorem flushes : ∀ t : Fin cfg0.N, (cfg0.win 11).flush t = true ∧ (cfg0.win 12).flush t = true :=
  (by decide +kernel : ∀ t : Fin grid0.N, win0_11.flush t = true ∧ win0_12.flush t = true)

/-! The arrays prepared before the call. -/

theorem V_v0 (c : Dev nD) (r : Fin 16) (d : Fin 128) :
    (V m c main_v0 : Vec Ideal S16x128 .f32) (ix2 r d) = (args m c).cos r ⟨d.val % 64, by omega⟩ := by
  have e' : (V m c main_v0 : Vec Ideal S16x128 .f32) = concatenate S16x128 1
      [⟨S16x64, (m ((c : Thread nD τ).loc main_arg1) : Vec Ideal S16x64 .f32)⟩, ⟨S16x64, (m ((c : Thread nD τ).loc main_arg1) : Vec Ideal S16x64 .f32)⟩]
      concatenates_S16x64_S16x64_S16x128_d1 := by
    unfold V hostOps0 hostOps0_1 hostOps0_2 hostOps0_3 hostOps0_4
    simp only [List.flatten_cons, List.flatten_nil, List.cons_append, List.nil_append, List.append_nil, StableHlo.TRef.unary, StableHlo.TRef.binary, StableHlo.TRef.toBuf, StableHlo.TRef.ofBuf, cast_eq]
    after_results
  rw [e']
  pointwise []
  split
  · exact congrArg ((args m c).cos r) (Fin.ext (by show d.val = d.val % 64; omega))
  · exact congrArg ((args m c).cos r) (Fin.ext (by show d.val - 64 = d.val % 64; omega))

theorem V_v2 (c : Dev nD) (r : Fin 16) (d : Fin 128) :
    (V m c main_v2 : Vec Ideal S16x128 .f32) (ix2 r d)
      = if d.val < 64 then - (args m c).sin r ⟨d.val % 64, by omega⟩ else (args m c).sin r ⟨d.val % 64, by omega⟩ := by
  have e' : (V m c main_v2 : Vec Ideal S16x128 .f32) = concatenate (α := Ideal .f32) S16x128 1
      [⟨S16x64, Host.negf (F := Ideal) (φ := .f32) (m ((c : Thread nD τ).loc main_arg2) : Vec Ideal S16x64 .f32)⟩, ⟨S16x64, (m ((c : Thread nD τ).loc main_arg2) : Vec Ideal S16x64 .f32)⟩]
      concatenates_S16x64_S16x64_S16x128_d1 := by
    unfold V hostOps0 hostOps0_1 hostOps0_2 hostOps0_3 hostOps0_4
    simp only [List.flatten_cons, List.flatten_nil, List.cons_append, List.nil_append, List.append_nil, StableHlo.TRef.unary, StableHlo.TRef.binary, StableHlo.TRef.toBuf, StableHlo.TRef.ofBuf, cast_eq]
    after_results
  rw [e']
  pointwise []
  split
  · exact congrArg (fun x => - (args m c).sin r x) (Fin.ext (by show d.val = d.val % 64; omega))
  · exact congrArg ((args m c).sin r) (Fin.ext (by show d.val - 64 = d.val % 64; omega))

/-- The padding value of the tables: the integer zero as a float. -/
theorem pad_zero : FloatOps.sitofp (F := Ideal) .f32 0#32 = 0 := by
  show (((0#32 : BitVec 32).toInt : ℝ) : EReal) = 0
  simp

/-- The decay mask filled up with zeros. -/
theorem pad_dmask (x : FVec Ideal S8x16x4 .f32) (h : Fin 8) (a : Fin 16) (b : Fin 128) :
    pad S8x16x128 ![0, 0, 0] ![0, 0, 124] ![0, 0, 0] x (sitofp (F := Ideal) .f32 (constantI S_ 32 0#32)) pads_S8x16x4_S8x16x128_000_000_01240 h_S_ (ix3 h a b)
      = if hb : b.val < 4 then x (ix3 h a ⟨b.val, hb⟩) else 0 := by
  pointwise []
  rw [pad_zero]

/-- The keys' decay filled up with zeros. -/
theorem pad_kdec (x : FVec Ideal S4x8 .f32) (b : Fin 128) (h : Fin 8) :
    pad S128x8 ![0, 0] ![124, 0] ![0, 0] x (sitofp (F := Ideal) .f32 (constantI S_ 32 0#32)) pads_S4x8_S128x8_01240_000 h_S_ (ix2 b h)
      = if hb : b.val < 4 then x (ix2 ⟨b.val, hb⟩ h) else 0 := by
  pointwise []
  rw [pad_zero]

theorem V_v3 (c : Dev nD) (h : Fin 8) (a : Fin 16) (b : Fin 128) :
    (V m c main_v3 : Vec Ideal S8x16x128 .f32) (ix3 h a b) = if hb : b.val < 4 then (args m c).dmask h a ⟨b.val, hb⟩ else 0 := by
  have e' : (V m c main_v3 : Vec Ideal S8x16x128 .f32) = pad S8x16x128 ![0, 0, 0] ![0, 0, 124] ![0, 0, 0]
      (m ((c : Thread nD τ).loc main_arg3) : Vec Ideal S8x16x4 .f32) (sitofp (F := Ideal) .f32 (constantI S_ 32 0#32)) pads_S8x16x4_S8x16x128_000_000_01240 h_S_ := by
    unfold V hostOps0 hostOps0_1 hostOps0_2 hostOps0_3 hostOps0_4
    simp only [List.flatten_cons, List.flatten_nil, List.cons_append, List.nil_append, List.append_nil, StableHlo.TRef.unary, StableHlo.TRef.binary, StableHlo.TRef.toBuf, StableHlo.TRef.ofBuf, cast_eq]
    after_results
  rw [e']
  exact pad_dmask _ h a b

theorem V_v6 (c : Dev nD) (a : Fin 16) (h : Fin 8) (d : Fin 128) :
    (V m c main_v6 : Vec Ideal S16x1024 .f32) (ix2 a (col1 h d)) = (args m c).qdec a h := by
  have e' : (V m c main_v6 : Vec Ideal S16x1024 .f32) = shapeCast S16x1024 (broadcastInDim S16x8x128 ![0, 1] bcast_S16x8_S16x8x128_0_1
      (m ((c : Thread nD τ).loc main_arg4) : Vec Ideal S16x8 .f32)) shapeCasts_S16x8x128_S16x1024 := by
    unfold V hostOps0 hostOps0_1 hostOps0_2 hostOps0_3 hostOps0_4
    simp only [List.flatten_cons, List.flatten_nil, List.cons_append, List.nil_append, List.append_nil, StableHlo.TRef.unary, StableHlo.TRef.binary, StableHlo.TRef.toBuf, StableHlo.TRef.ofBuf, cast_eq]
    after_results
    rfl
  rw [e']
  pointwise []
  exact congrArg ((args m c).qdec a) (Fin.ext (by show (128 * h.val + d.val) / 128 = h.val; omega))

/-- The keys' decay spread over a head's columns. -/
theorem wide_kdec (x : FVec Ideal S128x8 .f32) (b : Fin 128) (h : Fin 8) (d : Fin 128) :
    shapeCast S128x1024 (broadcastInDim S128x8x128 ![0, 1] bcast_S128x8_S128x8x128_0_1 x) shapeCasts_S128x8x128_S128x1024 (ix2 b (col1 h d)) = x (ix2 b h) := by
  pointwise []
  exact congrArg (fun y => x (ix2 b y)) (Fin.ext (by show (128 * h.val + d.val) / 128 = h.val; omega))

theorem V_v8 (c : Dev nD) (b : Fin 128) (h : Fin 8) (d : Fin 128) :
    (V m c main_v8 : Vec Ideal S128x1024 .f32) (ix2 b (col1 h d)) = if hb : b.val < 4 then (args m c).kdec ⟨b.val, hb⟩ h else 0 := by
  have e' : (V m c main_v8 : Vec Ideal S128x1024 .f32) = shapeCast S128x1024 (broadcastInDim S128x8x128 ![0, 1] bcast_S128x8_S128x8x128_0_1
      (pad S128x8 ![0, 0] ![124, 0] ![0, 0] (m ((c : Thread nD τ).loc main_arg5) : Vec Ideal S4x8 .f32)
        (sitofp (F := Ideal) .f32 (constantI S_ 32 0#32)) pads_S4x8_S128x8_01240_000 h_S_)) shapeCasts_S128x8x128_S128x1024 := by
    unfold V hostOps0 hostOps0_1 hostOps0_2 hostOps0_3 hostOps0_4
    simp only [List.flatten_cons, List.flatten_nil, List.cons_append, List.nil_append, List.append_nil, StableHlo.TRef.unary, StableHlo.TRef.binary, StableHlo.TRef.toBuf, StableHlo.TRef.ofBuf, cast_eq]
    after_results
    rfl
  rw [e']
  rw [wide_kdec]
  exact pad_kdec _ b h

theorem V_v9 (c : Dev nD) (e : Fin 2048) :
    (V m c main_v9 : Vec Ideal S1x2048 .f32) (ix2 0 e) = (args m c).gain e := by
  have e' : (V m c main_v9 : Vec Ideal S1x2048 .f32) = shapeCast S1x2048 (m ((c : Thread nD τ).loc main_arg7) : Vec Ideal S2048 .f32) shapeCasts_S2048_S1x2048 := by
    unfold V hostOps0 hostOps0_1 hostOps0_2 hostOps0_3 hostOps0_4
    simp only [List.flatten_cons, List.flatten_nil, List.cons_append, List.nil_append, List.append_nil, StableHlo.TRef.unary, StableHlo.TRef.binary, StableHlo.TRef.toBuf, StableHlo.TRef.ofBuf, cast_eq]
    after_results
    rfl
  rw [e']
  pointwise []
  rfl

/-! The blocks of the windows. -/

theorem iblk0_at (c : Dev nD) (t : Fin cfg0.N) (a : Fin 16) (k : Fin 1024) (k' : Fin 6144) (hk : k'.val = 0 + k.val) :
    (iblk m c 0 t : Vec Ideal S16x1024 .f32) (ix2 a k) = (V m c main_arg0 : Vec Ideal S512x6144 .f32) (ix2 (row (bat t) a) k') := by
  unfold iblk
  rw [View.read_apply]
  refine congrArg (V m c main_arg0 : Vec Ideal S512x6144 .f32) (funext fun x => Fin.ext ?_)
  match x with
  | ⟨0, _⟩ => show (win0_0.rect t).off 0 + 1 * _ = _; rw [(offs t).1.1]; show 16 * t.val + 1 * a.val = 16 * t.val + a.val; omega
  | ⟨1, _⟩ => show (win0_0.rect t).off 1 + 1 * _ = _; rw [(offs t).1.2]; show 0 + 1 * k.val = k'.val; omega

theorem iblk1_at (c : Dev nD) (t : Fin cfg0.N) (a : Fin 16) (k : Fin 1024) (k' : Fin 6144) (hk : k'.val = 1024 + k.val) :
    (iblk m c 1 t : Vec Ideal S16x1024 .f32) (ix2 a k) = (V m c main_arg0 : Vec Ideal S512x6144 .f32) (ix2 (row (bat t) a) k') := by
  unfold iblk
  rw [View.read_apply]
  refine congrArg (V m c main_arg0 : Vec Ideal S512x6144 .f32) (funext fun x => Fin.ext ?_)
  match x with
  | ⟨0, _⟩ => show (win0_1.rect t).off 0 + 1 * _ = _; rw [(offs t).2.1.1]; show 16 * t.val + 1 * a.val = 16 * t.val + a.val; omega
  | ⟨1, _⟩ => show (win0_1.rect t).off 1 + 1 * _ = _; rw [(offs t).2.1.2]; show 1024 + 1 * k.val = k'.val; omega

theorem iblk2_at (c : Dev nD) (t : Fin cfg0.N) (a : Fin 16) (k : Fin 2048) (k' : Fin 6144) (hk : k'.val = 2048 + k.val) :
    (iblk m c 2 t : Vec Ideal S16x2048 .f32) (ix2 a k) = (V m c main_arg0 : Vec Ideal S512x6144 .f32) (ix2 (row (bat t) a) k') := by
  unfold iblk
  rw [View.read_apply]
  refine congrArg (V m c main_arg0 : Vec Ideal S512x6144 .f32) (funext fun x => Fin.ext ?_)
  match x with
  | ⟨0, _⟩ => show (win0_2.rect t).off 0 + 1 * _ = _; rw [(offs t).2.2.1.1]; show 16 * t.val + 1 * a.val = 16 * t.val + a.val; omega
  | ⟨1, _⟩ => show (win0_2.rect t).off 1 + 1 * _ = _; rw [(offs t).2.2.1.2]; show 2048 + 1 * k.val = k'.val; omega

theorem iblk3_at (c : Dev nD) (t : Fin cfg0.N) (a : Fin 16) (k : Fin 2048) (k' : Fin 6144) (hk : k'.val = 4096 + k.val) :
    (iblk m c 3 t : Vec Ideal S16x2048 .f32) (ix2 a k) = (V m c main_arg0 : Vec Ideal S512x6144 .f32) (ix2 (row (bat t) a) k') := by
  unfold iblk
  rw [View.read_apply]
  refine congrArg (V m c main_arg0 : Vec Ideal S512x6144 .f32) (funext fun x => Fin.ext ?_)
  match x with
  | ⟨0, _⟩ => show (win0_3.rect t).off 0 + 1 * _ = _; rw [(offs t).2.2.2.1.1]; show 16 * t.val + 1 * a.val = 16 * t.val + a.val; omega
  | ⟨1, _⟩ => show (win0_3.rect t).off 1 + 1 * _ = _; rw [(offs t).2.2.2.1.2]; show 4096 + 1 * k.val = k'.val; omega

theorem iblk4_at (c : Dev nD) (t : Fin cfg0.N) (a : Fin 16) (k : Fin 128) :
    (iblk m c 4 t : Vec Ideal S16x128 .f32) (ix2 a k) = (V m c main_v0 : Vec Ideal S16x128 .f32) (ix2 a k) := by
  unfold iblk
  rw [View.read_apply]
  refine congrArg (V m c main_v0 : Vec Ideal S16x128 .f32) (funext fun x => Fin.ext ?_)
  match x with
  | ⟨0, _⟩ => show (win0_4.rect t).off 0 + 1 * _ = _; rw [(offs' t).1 0]; show 0 + 1 * a.val = a.val; omega
  | ⟨1, _⟩ => show (win0_4.rect t).off 1 + 1 * _ = _; rw [(offs' t).1 1]; show 0 + 1 * k.val = k.val; omega

theorem iblk5_at (c : Dev nD) (t : Fin cfg0.N) (a : Fin 16) (k : Fin 128) :
    (iblk m c 5 t : Vec Ideal S16x128 .f32) (ix2 a k) = (V m c main_v2 : Vec Ideal S16x128 .f32) (ix2 a k) := by
  unfold iblk
  rw [View.read_apply]
  refine congrArg (V m c main_v2 : Vec Ideal S16x128 .f32) (funext fun x => Fin.ext ?_)
  match x with
  | ⟨0, _⟩ => show (win0_5.rect t).off 0 + 1 * _ = _; rw [(offs' t).2.1 0]; show 0 + 1 * a.val = a.val; omega
  | ⟨1, _⟩ => show (win0_5.rect t).off 1 + 1 * _ = _; rw [(offs' t).2.1 1]; show 0 + 1 * k.val = k.val; omega

theorem iblk6_at (c : Dev nD) (t : Fin cfg0.N) (h : Fin 8) (a : Fin 16) (b : Fin 128) :
    (iblk m c 6 t : Vec Ideal S8x16x128 .f32) (ix3 h a b) = (V m c main_v3 : Vec Ideal S8x16x128 .f32) (ix3 h a b) := by
  unfold iblk
  rw [View.read_apply]
  refine congrArg (V m c main_v3 : Vec Ideal S8x16x128 .f32) (funext fun x => Fin.ext ?_)
  match x with
  | ⟨0, _⟩ => show (win0_6.rect t).off 0 + 1 * _ = _; rw [(offs' t).2.2.1 0]; show 0 + 1 * h.val = h.val; omega
  | ⟨1, _⟩ => show (win0_6.rect t).off 1 + 1 * _ = _; rw [(offs' t).2.2.1 1]; show 0 + 1 * a.val = a.val; omega
  | ⟨2, _⟩ => show (win0_6.rect t).off 2 + 1 * _ = _; rw [(offs' t).2.2.1 2]; show 0 + 1 * b.val = b.val; omega

theorem iblk7_at (c : Dev nD) (t : Fin cfg0.N) (a : Fin 16) (k : Fin 1024) :
    (iblk m c 7 t : Vec Ideal S16x1024 .f32) (ix2 a k) = (V m c main_v6 : Vec Ideal S16x1024 .f32) (ix2 a k) := by
  unfold iblk
  rw [View.read_apply]
  refine congrArg (V m c main_v6 : Vec Ideal S16x1024 .f32) (funext fun x => Fin.ext ?_)
  match x with
  | ⟨0, _⟩ => show (win0_7.rect t).off 0 + 1 * _ = _; rw [(offs' t).2.2.2.1 0]; show 0 + 1 * a.val = a.val; omega
  | ⟨1, _⟩ => show (win0_7.rect t).off 1 + 1 * _ = _; rw [(offs' t).2.2.2.1 1]; show 0 + 1 * k.val = k.val; omega

theorem iblk8_at (c : Dev nD) (t : Fin cfg0.N) (a : Fin 128) (k : Fin 1024) :
    (iblk m c 8 t : Vec Ideal S128x1024 .f32) (ix2 a k) = (V m c main_v8 : Vec Ideal S128x1024 .f32) (ix2 a k) := by
  unfold iblk
  rw [View.read_apply]
  refine congrArg (V m c main_v8 : Vec Ideal S128x1024 .f32) (funext fun x => Fin.ext ?_)
  match x with
  | ⟨0, _⟩ => show (win0_8.rect t).off 0 + 1 * _ = _; rw [(offs' t).2.2.2.2.1 0]; show 0 + 1 * a.val = a.val; omega
  | ⟨1, _⟩ => show (win0_8.rect t).off 1 + 1 * _ = _; rw [(offs' t).2.2.2.2.1 1]; show 0 + 1 * k.val = k.val; omega

theorem iblk9_at (c : Dev nD) (t : Fin cfg0.N) (a : Fin 1) (k : Fin 2048) :
    (iblk m c 9 t : Vec Ideal S1x2048 .f32) (ix2 a k) = (V m c main_v9 : Vec Ideal S1x2048 .f32) (ix2 a k) := by
  unfold iblk
  rw [View.read_apply]
  refine congrArg (V m c main_v9 : Vec Ideal S1x2048 .f32) (funext fun x => Fin.ext ?_)
  match x with
  | ⟨0, _⟩ => show (win0_9.rect t).off 0 + 1 * _ = _; rw [(offs' t).2.2.2.2.2 0]; show 0 + 1 * a.val = a.val; omega
  | ⟨1, _⟩ => show (win0_9.rect t).off 1 + 1 * _ = _; rw [(offs' t).2.2.2.2.2 1]; show 0 + 1 * k.val = k.val; omega

theorem iblk10_at (c : Dev nD) (t : Fin cfg0.N) (z : Fin 1) (h : Fin 8) (d : Fin 128) (e : Fin 256) :
    (iblk m c 10 t : Vec Ideal S1x8x128x256 .f32) (ix4 z h d e) = (V m c main_arg6 : Vec Ideal S32x8x128x256 .f32) (ix4 (bat t) h d e) := by
  unfold iblk
  rw [View.read_apply]
  refine congrArg (V m c main_arg6 : Vec Ideal S32x8x128x256 .f32) (funext fun x => Fin.ext ?_)
  match x with
  | ⟨0, _⟩ => show (win0_10.rect t).off 0 + 1 * _ = _; rw [(offs'' t).1.1]; show t.val + 1 * z.val = t.val; omega
  | ⟨1, _⟩ => show (win0_10.rect t).off 1 + 1 * _ = _; rw [(offs'' t).1.2.1]; show 0 + 1 * h.val = h.val; omega
  | ⟨2, _⟩ => show (win0_10.rect t).off 2 + 1 * _ = _; rw [(offs'' t).1.2.2.1]; show 0 + 1 * d.val = d.val; omega
  | ⟨3, _⟩ => show (win0_10.rect t).off 3 + 1 * _ = _; rw [(offs'' t).1.2.2.2]; show 0 + 1 * e.val = e.val; omega

/-- Point `t`'s windows hold batch `t`. -/
theorem fed (c : Dev nD) (t : Fin cfg0.N) :
    Fed (args m c) (bat t) (iblk m c 0 t) (iblk m c 1 t) (iblk m c 2 t) (iblk m c 3 t) (iblk m c 4 t) (iblk m c 5 t) (iblk m c 6 t)
      (iblk m c 7 t) (iblk m c 8 t) (iblk m c 9 t) where
  q a h d := (iblk0_at m c t a (col1 h d) (colQK 0 h d) (by show 1024 * 0 + (128 * h.val + d.val) = 0 + (128 * h.val + d.val); omega)).trans (by rw [V_main_arg0]; rfl)
  k a h d := (iblk1_at m c t a (col1 h d) (colQK 1 h d) (by show 1024 * 1 + (128 * h.val + d.val) = 1024 + (128 * h.val + d.val); omega)).trans (by rw [V_main_arg0]; rfl)
  v a h e := (iblk2_at m c t a (col2 h e) (colVG 0 h e) (by show 2048 + 2048 * 0 + (256 * h.val + e.val) = 2048 + (256 * h.val + e.val); omega)).trans (by rw [V_main_arg0]; rfl)
  g a h e := (iblk3_at m c t a (col2 h e) (colVG 1 h e) (by show 2048 + 2048 * 1 + (256 * h.val + e.val) = 4096 + (256 * h.val + e.val); omega)).trans (by rw [V_main_arg0]; rfl)
  cos a d := (iblk4_at m c t a d).trans (V_v0 m c _ d)
  sin a d := (iblk5_at m c t a d).trans (V_v2 m c _ d)
  dmask h a b := (iblk6_at m c t h a b).trans (V_v3 m c h a b)
  qdec a h d := (iblk7_at m c t a (col1 h d)).trans (V_v6 m c a h d)
  kdec a h d := (iblk8_at m c t a (col1 h d)).trans (V_v8 m c a h d)
  gain e := (iblk9_at m c t 0 e).trans (V_v9 m c e)

/-- The point's initial store is the state handed in. -/
theorem entry (c : Dev nD) (t : Fin cfg0.N) : k0_pay3 (F := Ideal) (iblk m c 10 t) = entryBlock (args m c) (bat t) := by
  funext j
  obtain ⟨h, d, e, rfl⟩ : ∃ (h : Fin 8) (d : Fin 128) (e : Fin 256), j = ix3 h d e := ⟨j 0, j 1, j 2, eq_ix3 j⟩
  pointwise [k0_pay3]
  exact (iblk10_at m c t 0 h d e).trans (by rw [V_main_arg6]; rfl)

theorem outs_fst (c : Dev nD) (t : Fin cfg0.N) : (outsAt0 m c t).1 = outBlock (args m c) (bat t) := by
  unfold outsAt0
  dsimp only
  rw [out11_eq]
  exact canon_out (fed m c t) (entry m c t)

theorem outs_snd (c : Dev nD) (t : Fin cfg0.N) (z : Fin 1) (h : Fin 8) (d : Fin 128) (e : Fin 256) :
    ((outsAt0 m c t).2 : Vec Ideal S1x8x128x256 .f32) (ix4 z h d e) = (args m c).state (bat t) h d e := by
  unfold outsAt0
  dsimp only
  rw [out12_eq, show View.canon (scratch (F := Ideal) (iblk m c 1 t) (iblk m c 2 t) (iblk m c 4 t) (iblk m c 5 t) (iblk m c 8 t) (k0_pay3 (iblk m c 10 t)))
      = stateBlock (args m c) (bat t) from canon_state (fed m c t) (entry m c t) _]
  pointwise []
  rfl

/-- The output array: row `a` of batch `n`. -/
theorem final11 (c : Dev nD) (n : Fin 32) (a : Fin 16) (h : Fin 8) (e : Fin 256) :
    ((dats m 0 c).arrAt 11 cfg0.N : Vec Ideal S512x2048 .bf16) (ix2 (row n a) (col2 h e)) = (args m c).out n h a e := by
  obtain ⟨t, rfl⟩ : ∃ t : Fin cfg0.N, n = bat t := ⟨⟨n.val, lt_of_lt_of_eq n.isLt N_0.symm⟩, rfl⟩
  have hb := congrFun (blocks11 m c t (flushes t).1) (ix2 a (col2 h e))
  rw [View.read_apply, flushed11, outs_fst] at hb
  refine Eq.trans (congrArg ((dats m 0 c).arrAt 11 cfg0.N : Vec Ideal S512x2048 .bf16) (funext fun x => Fin.ext ?_)) (hb.trans ?_)
  · match x with
    | ⟨0, _⟩ => refine Eq.symm ?_; show (win0_11.rect t).off 0 + 1 * _ = _; rw [(offs t).2.2.2.2.1]; show 16 * t.val + 1 * a.val = 16 * t.val + a.val; omega
    | ⟨1, _⟩ => refine Eq.symm ?_; show (win0_11.rect t).off 1 + 1 * _ = _; rw [(offs t).2.2.2.2.2]; show 0 + 1 * (256 * h.val + e.val) = 256 * h.val + e.val; omega
  · exact (outBlock_at (args m c) (bat t) h _ a e rfl rfl).symm

/-- The state array: batch `n`'s state. -/
theorem final12 (c : Dev nD) (n : Fin 32) (h : Fin 8) (d : Fin 128) (e : Fin 256) :
    ((dats m 0 c).arrAt 12 cfg0.N : Vec Ideal S32x8x128x256 .f32) (ix4 n h d e) = (args m c).state n h d e := by
  obtain ⟨t, rfl⟩ : ∃ t : Fin cfg0.N, n = bat t := ⟨⟨n.val, lt_of_lt_of_eq n.isLt N_0.symm⟩, rfl⟩
  have hb := congrFun (blocks12 m c t (flushes t).2) (ix4 (0 : Fin 1) h d e)
  rw [View.read_apply, flushed12] at hb
  refine Eq.trans (congrArg ((dats m 0 c).arrAt 12 cfg0.N : Vec Ideal S32x8x128x256 .f32) (funext fun x => Fin.ext ?_)) (hb.trans ?_)
  · match x with
    | ⟨0, _⟩ => refine Eq.symm ?_; show (win0_12.rect t).off 0 + 1 * _ = _; rw [(offs'' t).2.1]; show t.val + 1 * 0 = t.val; omega
    | ⟨1, _⟩ => refine Eq.symm ?_; show (win0_12.rect t).off 1 + 1 * _ = _; rw [(offs'' t).2.2.1]; show 0 + 1 * h.val = h.val; omega
    | ⟨2, _⟩ => refine Eq.symm ?_; show (win0_12.rect t).off 2 + 1 * _ = _; rw [(offs'' t).2.2.2.1]; show 0 + 1 * d.val = d.val; omega
    | ⟨3, _⟩ => refine Eq.symm ?_; show (win0_12.rect t).off 3 + 1 * _ = _; rw [(offs'' t).2.2.2.2]; show 0 + 1 * e.val = e.val; omega
  · exact outs_snd m c t 0 h d e

end Cert.Kernel24Ideal.RetSValue
end
-- ==== Proof.RetSRef.lean ====
module
public import proofs.«01_k».proof.Defs
public import proofs.«01_k».proof.Proof.RetSModel
public import proofs.«01_k».proof.Proof.Gen.Reference24Ideal.Run
public import Idealize.ShloMosaic.Lib.Pointwise
@[expose] public section
set_option maxRecDepth 16384
noncomputable section
open Idealize.ShloMosaic Idealize.ShloMosaic.TcCoe Idealize.SL.Sem Idealize.ShloMosaic.StableHlo
namespace Cert.Reference24Ideal.RetSValue
open Cert.Reference24Ideal Cert.Reference24Ideal.Gen Cert.Reference24Ideal.Value
open Cert.Ret (rot colQK colVG col1 col2 gate)
open Cert.RetS (Args row key cdecBits)

/-! The sample's reference, read index by index. -/

variable (m : (ℓ : Loc nD τ sig) → Buf (Elt Ideal) ℓ) (ρ : Dev nD → PrngReg)

/-- The arrays the sample's reference is launched with. -/
def args (c : Dev nD) : Args where
  z r k := (m ((c : Thread nD τ).loc main_arg0) : Vec Ideal S512x6144 .f32) (ix2 r k)
  cos r d := (m ((c : Thread nD τ).loc main_arg1) : Vec Ideal S16x64 .f32) (ix2 r d)
  sin r d := (m ((c : Thread nD τ).loc main_arg2) : Vec Ideal S16x64 .f32) (ix2 r d)
  dmask h a b := (m ((c : Thread nD τ).loc main_arg3) : Vec Ideal S8x16x4 .f32) (ix3 h a b)
  qdec a h := (m ((c : Thread nD τ).loc main_arg4) : Vec Ideal S16x8 .f32) (ix2 a h)
  kdec a h := (m ((c : Thread nD τ).loc main_arg5) : Vec Ideal S4x8 .f32) (ix2 a h)
  s0 n h d e := (m ((c : Thread nD τ).loc main_arg6) : Vec Ideal S32x8x128x256 .f32) (ix4 n h d e)
  gain e := (m ((c : Thread nD τ).loc main_arg7) : Vec Ideal S2048 .f32) (ix1 e)

/-! The reference's terms, piece by piece. -/

/-- The rows as batches of sixteen. -/
abbrev batches (z : FVec Ideal S512x6144 .f32) : FVec Ideal S32x16x6144 .f32 := shapeCast S32x16x6144 z shapeCasts_S512x6144_S32x16x6144

/-- The rotation of every batch's queries or keys. -/
def turned (x : FVec Ideal S32x16x8x128 .f32) (cos sin : FVec Ideal S16x64 .f32) : FVec Ideal S32x16x8x128 .f32 :=
  concatenate (α := Ideal .f32) S32x16x8x128 3
    [⟨S32x16x8x64, subf (mulf (extractStridedSlice S32x16x8x64 ![0, 0, 0, 0] x slices_S32x16x8x128_S32x16x8x64_0_0_0_0)
        (broadcastInDim S32x16x8x64 ![0, 1, 2, 3] bcast_S1x16x1x64_S32x16x8x64_0_1_2_3 (broadcastInDim S1x16x1x64 ![1, 3] bcast_S16x64_S1x16x1x64_1_3 cos)))
      (mulf (extractStridedSlice S32x16x8x64 ![0, 0, 0, 64] x slices_S32x16x8x128_S32x16x8x64_0_0_0_64)
        (broadcastInDim S32x16x8x64 ![0, 1, 2, 3] bcast_S1x16x1x64_S32x16x8x64_0_1_2_3 (broadcastInDim S1x16x1x64 ![1, 3] bcast_S16x64_S1x16x1x64_1_3 sin)))⟩,
     ⟨S32x16x8x64, addf (mulf (extractStridedSlice S32x16x8x64 ![0, 0, 0, 0] x slices_S32x16x8x128_S32x16x8x64_0_0_0_0)
        (broadcastInDim S32x16x8x64 ![0, 1, 2, 3] bcast_S1x16x1x64_S32x16x8x64_0_1_2_3 (broadcastInDim S1x16x1x64 ![1, 3] bcast_S16x64_S1x16x1x64_1_3 sin)))
      (mulf (extractStridedSlice S32x16x8x64 ![0, 0, 0, 64] x slices_S32x16x8x128_S32x16x8x64_0_0_0_64)
        (broadcastInDim S32x16x8x64 ![0, 1, 2, 3] bcast_S1x16x1x64_S32x16x8x64_0_1_2_3 (broadcastInDim S1x16x1x64 ![1, 3] bcast_S16x64_S1x16x1x64_1_3 cos)))⟩]
    concatenates_S32x16x8x64_S32x16x8x64_S32x16x8x128_d3

/-- The queries, rotated and scaled. -/
def queries (z : FVec Ideal S512x6144 .f32) (cos sin : FVec Ideal S16x64 .f32) : FVec Ideal S32x16x8x128 .f32 :=
  mulf (turned (shapeCast S32x16x8x128 (extractStridedSlice S32x16x1024 ![0, 0, 0] (batches z) slices_S32x16x6144_S32x16x1024_0_0_0)
      shapeCasts_S32x16x1024_S32x16x8x128) cos sin) (broadcastInDim S32x16x8x128 ![] bcast_S_S32x16x8x128 (constant S_ .f32 0x3DB504F3#32))

/-- The four keys of every batch, rotated. -/
def fourKeys (z : FVec Ideal S512x6144 .f32) (cos sin : FVec Ideal S16x64 .f32) : FVec Ideal S32x4x8x128 .f32 :=
  extractStridedSlice S32x4x8x128 ![0, 0, 0, 0] (turned (shapeCast S32x16x8x128 (extractStridedSlice S32x16x1024 ![0, 0, 1024] (batches z)
      slices_S32x16x6144_S32x16x1024_0_0_1024) shapeCasts_S32x16x1024_S32x16x8x128) cos sin) slices_S32x16x8x128_S32x4x8x128_0_0_0_0

/-- The four values of every batch. -/
def fourValues (z : FVec Ideal S512x6144 .f32) : FVec Ideal S32x4x8x256 .f32 :=
  extractStridedSlice S32x4x8x256 ![0, 0, 0, 0] (shapeCast S32x16x8x256 (extractStridedSlice S32x16x2048 ![0, 0, 2048] (batches z)
      slices_S32x16x6144_S32x16x2048_0_0_2048) shapeCasts_S32x16x2048_S32x16x8x256) slices_S32x16x8x256_S32x4x8x256_0_0_0_0

/-- The update of the batches' states. -/
def nextState (k : FVec Ideal S32x4x8x128 .f32) (v : FVec Ideal S32x4x8x256 .f32) (cd : FVec Ideal S8 .f32) (kd : FVec Ideal S4x8 .f32)
    (s : FVec Ideal S32x8x128x256 .f32) : FVec Ideal S32x8x128x256 .f32 :=
  addf (mulf s (broadcastInDim S32x8x128x256 ![0, 1, 2, 3] bcast_S1x8x1x1_S32x8x128x256_0_1_2_3 (broadcastInDim S1x8x1x1 ![1] bcast_S8_S1x8x1x1_1 cd)))
    (Host.dotGeneral dot_S32x4x8x128_S32x4x8x256_S32x8x128x256_1_1_3_3_02_02 none
      (mulf k (broadcastInDim S32x4x8x128 ![0, 1, 2, 3] bcast_S1x4x8x1_S32x4x8x128_0_1_2_3 (broadcastInDim S1x4x8x1 ![1, 2] bcast_S4x8_S1x4x8x1_1_2 kd))) v)

/-- The batches' outputs before the normalisation. -/
def mixed (q : FVec Ideal S32x16x8x128 .f32) (k : FVec Ideal S32x4x8x128 .f32) (v : FVec Ideal S32x4x8x256 .f32) (D : FVec Ideal S8x16x4 .f32)
    (qd : FVec Ideal S16x8 .f32) (s : FVec Ideal S32x8x128x256 .f32) : FVec Ideal S32x16x8x256 .f32 :=
  addf (transpose S32x16x8x256 [0, 3, 1, 2] (Host.dotGeneral dot_S32x4x8x256_S32x8x16x4_S32x8x256x16_1_3_3_2_02_01 none v
      (mulf (Host.dotGeneral dot_S32x16x8x128_S32x4x8x128_S32x8x16x4_3_3_1_1_02_02 none q k)
        (broadcastInDim S32x8x16x4 ![0, 1, 2, 3] bcast_S1x8x16x4_S32x8x16x4_0_1_2_3 (broadcastInDim S1x8x16x4 ![1, 2, 3] bcast_S8x16x4_S1x8x16x4_1_2_3 D))))
      transposes_S32x8x256x16_S32x16x8x256_0_3_1_2)
    (transpose S32x16x8x256 [0, 3, 1, 2] (Host.dotGeneral dot_S32x8x128x256_S32x16x8x128_S32x8x256x16_2_3_3_1_01_02 none s
      (mulf q (broadcastInDim S32x16x8x128 ![0, 1, 2, 3] bcast_S1x16x8x1_S32x16x8x128_0_1_2_3 (broadcastInDim S1x16x8x1 ![1, 2] bcast_S16x8_S1x16x8x1_1_2 qd))))
      transposes_S32x8x256x16_S32x16x8x256_0_3_1_2)

/-- Every row of every head normalised, times the gain. -/
def scaled (o : FVec Ideal S32x16x8x256 .f32) (gain : FVec Ideal S2048 .f32) : FVec Ideal S32x16x8x256 .f32 :=
  mulf (mulf o (broadcastInDim S32x16x8x256 ![0, 1, 2, 3] bcast_S32x16x8x1_S32x16x8x256_0_1_2_3 (Host.rsqrt (F := Ideal) (addf (Host.divf
      (broadcastInDim S32x16x8x1 ![0, 1, 2] bcast_S32x16x8_S32x16x8x1_0_1_2 (Host.reduceAdd (mulf o o) (constant S_ .f32 0x00000000#32) reducesTo_S32x16x8x256_S32x16x8_d3 h_S_))
      (broadcastInDim S32x16x8x1 ![] bcast_S_S32x16x8x1 (constant S_ .f32 0x43800000#32)))
      (broadcastInDim S32x16x8x1 ![] bcast_S_S32x16x8x1 (constant S_ .f32 0x358637BD#32))))))
    (broadcastInDim S32x16x8x256 ![0, 1, 2, 3] bcast_S1x1x8x256_S32x16x8x256_0_1_2_3 (broadcastInDim S1x1x8x256 ![2, 3] bcast_S8x256_S1x1x8x256_2_3
      (shapeCast S8x256 gain shapeCasts_S2048_S8x256)))

/-- The batches' gates. -/
abbrev gates (z : FVec Ideal S512x6144 .f32) : FVec Ideal S32x16x2048 .f32 :=
  extractStridedSlice S32x16x2048 ![0, 0, 4096] (batches z) slices_S32x16x6144_S32x16x2048_0_0_4096

/-- The factor a gate multiplies by. -/
def opened (g : FVec Ideal S32x16x2048 .f32) : FVec Ideal S32x16x2048 .f32 :=
  mulf g (Host.divf (broadcastInDim S32x16x2048 ![] bcast_S_S32x16x2048 (constant S_ .f32 0x3F800000#32))
    (addf (broadcastInDim S32x16x2048 ![] bcast_S_S32x16x2048 (constant S_ .f32 0x3F800000#32)) (Host.exp (F := Ideal) (Host.negf (F := Ideal) (φ := .f32) g))))

/-- The batches' results, row after row. -/
def flat (y : FVec Ideal S32x16x8x256 .f32) (g : FVec Ideal S32x16x2048 .f32) : FVec Ideal S512x2048 .bf16 :=
  truncf .bf16 (shapeCast S512x2048 (mulf g (shapeCast S32x16x2048 y shapeCasts_S32x16x8x256_S32x16x2048)) shapeCasts_S32x16x2048_S512x2048) bitsLt_bf16_f32

theorem res_eq (c : Dev nD) : res_main_v80 m c
    = flat (scaled (mixed (queries (m ((c.tc : Thread nD τ).loc main_arg0)) (m ((c.tc : Thread nD τ).loc main_arg1)) (m ((c.tc : Thread nD τ).loc main_arg2)))
        (fourKeys (m ((c.tc : Thread nD τ).loc main_arg0)) (m ((c.tc : Thread nD τ).loc main_arg1)) (m ((c.tc : Thread nD τ).loc main_arg2)))
        (fourValues (m ((c.tc : Thread nD τ).loc main_arg0))) (m ((c.tc : Thread nD τ).loc main_arg3)) (m ((c.tc : Thread nD τ).loc main_arg4))
        (m ((c.tc : Thread nD τ).loc main_arg6))) (m ((c.tc : Thread nD τ).loc main_arg7))) (opened (gates (m ((c.tc : Thread nD τ).loc main_arg0)))) := by
  unfold res_main_v80 flat scaled mixed queries fourKeys fourValues opened turned
  rfl

/-! The pieces at an index. -/

theorem row_eq (n : Fin 32) (a : Fin 16) : (⟨n.val * 16 + a.val, by omega⟩ : Fin 512) = row n a :=
  Fin.ext (by show n.val * 16 + a.val = 16 * n.val + a.val; omega)

theorem turned_apply (x : FVec Ideal S32x16x8x128 .f32) (cos sin : FVec Ideal S16x64 .f32) (n : Fin 32) (a : Fin 16) (h : Fin 8) (d : Fin 128) :
    turned x cos sin (ix4 n a h d) = rot (fun d => x (ix4 n a h d)) (fun d => cos (ix2 a d)) (fun d => sin (ix2 a d)) d := by
  pointwise [turned]
  unfold rot
  by_cases hd : d.val < 64
  · rw [dif_pos hd, dif_pos hd]
    have e : (⟨64 + d.val, by omega⟩ : Fin 128) = ⟨d.val + 64, by omega⟩ := Fin.ext (Nat.add_comm _ _)
    rw [e]
  · rw [dif_neg hd, dif_neg hd]
    have e : (⟨64 + (d.val - 64), by omega⟩ : Fin 128) = d := Fin.ext (by show 64 + (d.val - 64) = d.val; omega)
    rw [e]

theorem batches_q (z : FVec Ideal S512x6144 .f32) (n : Fin 32) (a : Fin 16) (h : Fin 8) (d : Fin 128) :
    (shapeCast S32x16x8x128 (extractStridedSlice S32x16x1024 ![0, 0, 0] (batches z) slices_S32x16x6144_S32x16x1024_0_0_0)
      shapeCasts_S32x16x1024_S32x16x8x128 : FVec Ideal S32x16x8x128 .f32) (ix4 n a h d) = z (ix2 (row n a) (colQK 0 h d)) := by
  pointwise []
  rw [row_eq]
  refine congrArg z (congrArg (ix2 (row n a)) (Fin.ext ?_))
  show h.val * 128 + d.val = 1024 * 0 + (128 * h.val + d.val)
  omega

theorem batches_k (z : FVec Ideal S512x6144 .f32) (n : Fin 32) (a : Fin 16) (h : Fin 8) (d : Fin 128) :
    (shapeCast S32x16x8x128 (extractStridedSlice S32x16x1024 ![0, 0, 1024] (batches z) slices_S32x16x6144_S32x16x1024_0_0_1024)
      shapeCasts_S32x16x1024_S32x16x8x128 : FVec Ideal S32x16x8x128 .f32) (ix4 n a h d) = z (ix2 (row n a) (colQK 1 h d)) := by
  pointwise []
  rw [row_eq]
  refine congrArg z (congrArg (ix2 (row n a)) (Fin.ext ?_))
  show 1024 + (h.val * 128 + d.val) = 1024 * 1 + (128 * h.val + d.val)
  omega

theorem queries_apply (z : FVec Ideal S512x6144 .f32) (cos sin : FVec Ideal S16x64 .f32) (n : Fin 32) (a : Fin 16) (h : Fin 8) (d : Fin 128) :
    queries z cos sin (ix4 n a h d) = rot (fun d => z (ix2 (row n a) (colQK 0 h d))) (fun d => cos (ix2 a d)) (fun d => sin (ix2 a d)) d
      * Ideal.ofBits .f32 0x3DB504F3#32 := by
  pointwise [queries]
  rw [turned_apply]
  simp only [batches_q]

theorem fourKeys_apply (z : FVec Ideal S512x6144 .f32) (cos sin : FVec Ideal S16x64 .f32) (n : Fin 32) (b : Fin 4) (h : Fin 8) (d : Fin 128) :
    fourKeys z cos sin (ix4 n b h d) = rot (fun d => z (ix2 (row n (key b)) (colQK 1 h d))) (fun d => cos (ix2 (key b) d)) (fun d => sin (ix2 (key b) d)) d := by
  pointwise [fourKeys]
  refine (turned_apply _ cos sin n (key b) h d).trans ?_
  simp only [batches_k]

theorem fourValues_apply (z : FVec Ideal S512x6144 .f32) (n : Fin 32) (b : Fin 4) (h : Fin 8) (e : Fin 256) :
    fourValues z (ix4 n b h e) = z (ix2 (row n (key b)) (colVG 0 h e)) := by
  pointwise [fourValues]
  refine congrArg z (congrArg₂ ix2 (Fin.ext ?_) (Fin.ext ?_))
  · show n.val * 16 + b.val = 16 * n.val + b.val
    omega
  · show 2048 + (h.val * 256 + e.val) = 2048 + 2048 * 0 + (256 * h.val + e.val)
    omega

theorem nextState_apply (k : FVec Ideal S32x4x8x128 .f32) (v : FVec Ideal S32x4x8x256 .f32) (cd : FVec Ideal S8 .f32) (kd : FVec Ideal S4x8 .f32)
    (s : FVec Ideal S32x8x128x256 .f32) (n : Fin 32) (h : Fin 8) (d : Fin 128) (e : Fin 256) : nextState k v cd kd s (ix4 n h d e)
      = s (ix4 n h d e) * cd (ix1 h) + ∑ b : Fin 4, k (ix4 n b h d) * kd (ix2 b h) * v (ix4 n b h e) := by
  pointwise [nextState]

theorem mixed_apply (q : FVec Ideal S32x16x8x128 .f32) (k : FVec Ideal S32x4x8x128 .f32) (v : FVec Ideal S32x4x8x256 .f32) (D : FVec Ideal S8x16x4 .f32)
    (qd : FVec Ideal S16x8 .f32) (s : FVec Ideal S32x8x128x256 .f32) (n : Fin 32) (a : Fin 16) (h : Fin 8) (e : Fin 256) : mixed q k v D qd s (ix4 n a h e)
      = (∑ b : Fin 4, (∑ d : Fin 128, q (ix4 n a h d) * k (ix4 n b h d)) * D (ix3 h a b) * v (ix4 n b h e))
        + ∑ d : Fin 128, q (ix4 n a h d) * qd (ix2 a h) * s (ix4 n h d e) := by
  pointwise [mixed]
  exact congrArg₂ (· + ·) (Finset.sum_congr rfl fun b _ => mul_comm _ _) (Finset.sum_congr rfl fun d _ => mul_comm _ _)

theorem scaled_apply (o : FVec Ideal S32x16x8x256 .f32) (gain : FVec Ideal S2048 .f32) (n : Fin 32) (a : Fin 16) (h : Fin 8) (e : Fin 256) :
    scaled o gain (ix4 n a h e) = o (ix4 n a h e) * Ideal.rsqrt (Ideal.div (∑ x : Fin 256, o (ix4 n a h x) * o (ix4 n a h x)) (Ideal.ofBits .f32 0x43800000#32)
      + Ideal.ofBits .f32 0x358637BD#32) * gain (ix1 (col2 h e)) := by
  pointwise [scaled]
  have e1 : (⟨h.val * 256 + e.val, by omega⟩ : Fin 2048) = col2 h e := Fin.ext (by show h.val * 256 + e.val = 256 * h.val + e.val; omega)
  rw [e1]

theorem gates_apply (z : FVec Ideal S512x6144 .f32) (n : Fin 32) (a : Fin 16) (h : Fin 8) (e : Fin 256) :
    gates z (ix3 n a (col2 h e)) = z (ix2 (row n a) (colVG 1 h e)) := by
  pointwise [gates]
  rw [row_eq]
  refine congrArg z (congrArg (ix2 (row n a)) (Fin.ext ?_))
  show 4096 + (256 * h.val + e.val) = 2048 + 2048 * 1 + (256 * h.val + e.val)
  omega

theorem opened_apply (g : FVec Ideal S32x16x2048 .f32) (n : Fin 32) (a : Fin 16) (k : Fin 2048) :
    opened g (ix3 n a k) = g (ix3 n a k) * Ideal.div 1 (1 + Ideal.exp (0 - g (ix3 n a k))) := by
  pointwise [opened]
  rw [zero_sub]

theorem flat_apply (y : FVec Ideal S32x16x8x256 .f32) (g : FVec Ideal S32x16x2048 .f32) (n : Fin 32) (a : Fin 16) (h : Fin 8) (e : Fin 256) :
    flat y g (ix2 (row n a) (col2 h e)) = g (ix3 n a (col2 h e)) * y (ix4 n a h e) := by
  pointwise [flat]
  have hv : (col2 h e).val = 256 * h.val + e.val := rfl
  have hr : (row n a).val = 16 * n.val + a.val := rfl
  have e1 : (⟨(col2 h e).val / 256, by omega⟩ : Fin 8) = h := Fin.ext (by show (col2 h e).val / 256 = h.val; omega)
  have e2 : (⟨(col2 h e).val % 256, by omega⟩ : Fin 256) = e := Fin.ext (by show (col2 h e).val % 256 = e.val; omega)
  have e3 : (⟨(row n a).val / 16, by omega⟩ : Fin 32) = n := Fin.ext (by show (row n a).val / 16 = n.val; omega)
  have e4 : (⟨(row n a).val % 16, by omega⟩ : Fin 16) = a := Fin.ext (by show (row n a).val % 16 = a.val; omega)
  rw [e1, e2, e3, e4]

/-! The results. -/

theorem lit0_head (h : Fin 8) : lit0 (S8.rowMajor (ix1 h)) = cdecBits h := by
  revert h
  decide +kernel

theorem out_final (c : Dev nD) (n : Fin 32) (a : Fin 16) (h : Fin 8) (e : Fin 256) :
    (res_main_v80 m c : FVec Ideal S512x2048 .bf16) (ix2 (row n a) (col2 h e)) = (args m c).out n h a e := by
  rw [res_eq]
  refine (flat_apply _ _ n a h e).trans ?_
  rw [opened_apply, scaled_apply, gates_apply]
  simp only [mixed_apply, queries_apply, fourKeys_apply, fourValues_apply]
  rfl

theorem state_final (c : Dev nD) (n : Fin 32) (h : Fin 8) (d : Fin 128) (e : Fin 256) :
    nextState (fourKeys (m ((c.tc : Thread nD τ).loc main_arg0)) (m ((c.tc : Thread nD τ).loc main_arg1)) (m ((c.tc : Thread nD τ).loc main_arg2)))
      (fourValues (m ((c.tc : Thread nD τ).loc main_arg0))) (fun i => Ideal.ofBits .f32 (lit0 (S8.rowMajor i))) (m ((c.tc : Thread nD τ).loc main_arg5))
      (m ((c.tc : Thread nD τ).loc main_arg6)) (ix4 n h d e) = (args m c).state n h d e := by
  rw [nextState_apply]
  simp only [fourKeys_apply, fourValues_apply, lit0_head]
  rfl

end Cert.Reference24Ideal.RetSValue
end
-- ==== Proof.RetS24.lean ====
module
public import proofs.«01_k».proof.Defs
public import proofs.«01_k».proof.Proof.RetSKernel
public import proofs.«01_k».proof.Proof.RetSRef
@[expose] public section
set_option maxRecDepth 16384
noncomputable section
open Idealize.ShloMosaic Idealize.ShloMosaic.TcCoe Idealize.SL.Sem Idealize.ShloMosaic.StableHlo
namespace Cert.Proof.RetSClaims
open Cert.Ret (col2)
open Cert.RetS (row)

theorem frame_reference : Cert.quiescent_Reference24Ideal := fun m ρ _ =>
  (θ_run Cert.Reference24Ideal.defs _ _).mono (fun r h => ⟨fun c => (h c).2.2, Idealize.ShloMosaic.sem_eq_zero_of_no_sems (by decide) r.2⟩)
    (Cert.Reference24Ideal.Value.run m ρ)

theorem algebraic : Cert.algebraic_Kernel24Ideal_Reference24Ideal := by
  intro m ρ m' ρ' _ hag
  refine ⟨fun c => (Cert.Kernel24Ideal.Gen.dats m 0 c).arrAt 11 Cert.Kernel24Ideal.cfg0.N,
    fun c => (Cert.Kernel24Ideal.Gen.dats m 0 c).arrAt 12 Cert.Kernel24Ideal.cfg0.N, Cert.Kernel24Ideal.Value.run_blocks (F := Ideal) m ρ, ?_⟩
  have hargs : ∀ c, Cert.Reference24Ideal.RetSValue.args m' c = Cert.Kernel24Ideal.RetSValue.args m c := fun c => by
    obtain ⟨h0, h1, h2, h3, h4, h5, h6, h7⟩ := hag c
    unfold Cert.Reference24Ideal.RetSValue.args Cert.Kernel24Ideal.RetSValue.args
    rw [h0, h1, h2, h3, h4, h5, h6, h7]
  refine (θ_run Cert.Reference24Ideal.defs _ _).mono (fun _ h c => ⟨(h c).1.trans ?_, (h c).2.1.trans ?_, (h c).2.2⟩)
      (Cert.Reference24Ideal.Value.run m' ρ')
  · refine funext fun x => ?_
    obtain ⟨r, k, rfl⟩ : ∃ (r : Fin 512) (k : Fin 2048), x = ix2 r k := ⟨x 0, x 1, eq_ix2 x⟩
    obtain ⟨n, a, rfl⟩ : ∃ (n : Fin 32) (a : Fin 16), r = row n a :=
      ⟨⟨r.val / 16, by omega⟩, ⟨r.val % 16, by omega⟩, Fin.ext (by show r.val = 16 * (r.val / 16) + r.val % 16; omega)⟩
    obtain ⟨h, e, rfl⟩ : ∃ (h : Fin 8) (e : Fin 256), k = col2 h e :=
      ⟨⟨k.val / 256, by omega⟩, ⟨k.val % 256, by omega⟩, Fin.ext (by show k.val = 256 * (k.val / 256) + k.val % 256; omega)⟩
    refine (Cert.Reference24Ideal.RetSValue.out_final m' c n a h e).trans ?_
    rw [hargs]
    exact (Cert.Kernel24Ideal.RetSValue.final11 m c n a h e).symm
  · refine funext fun x => ?_
    obtain ⟨n, h, d, e, rfl⟩ : ∃ (n : Fin 32) (h : Fin 8) (d : Fin 128) (e : Fin 256), x = ix4 n h d e := ⟨x 0, x 1, x 2, x 3, eq_ix4 x⟩
    refine Eq.trans ?_ ((Cert.Reference24Ideal.RetSValue.state_final m' c n h d e).trans ?_)
    · rfl
    · rw [hargs]
      exact (Cert.Kernel24Ideal.RetSValue.final12 m c n h d e).symm

end Cert.Proof.RetSClaims
end
-- ==== Proof.lean ====
module

public import proofs.«01_k».proof.Defs
public import proofs.«01_k».proof.Proof.Gen.Kernel.Frame
public import proofs.«01_k».proof.Proof.Gen.KernelIdeal.Frame
public import proofs.«01_k».proof.Proof.NormValue
public import proofs.«01_k».proof.Proof.Gen.Kernel2.Frame
public import proofs.«01_k».proof.Proof.Gen.Kernel2Ideal.Frame
public import proofs.«01_k».proof.Proof.RetClaims
public import proofs.«01_k».proof.Proof.Gen.Kernel3.Frame
public import proofs.«01_k».proof.Proof.Gen.Kernel3Ideal.Frame
public import proofs.«01_k».proof.Proof.Mm3
public import proofs.«01_k».proof.Proof.Gen.Kernel4.Frame
public import proofs.«01_k».proof.Proof.Gen.Kernel4Ideal.Frame
public import proofs.«01_k».proof.Proof.Mm4
public import proofs.«01_k».proof.Proof.Gen.Kernel5.Frame
public import proofs.«01_k».proof.Proof.Gen.Kernel5Ideal.Frame
public import proofs.«01_k».proof.Proof.Mm5
public import proofs.«01_k».proof.Proof.Gen.Kernel6.Frame
public import proofs.«01_k».proof.Proof.Gen.Kernel6Ideal.Frame
public import proofs.«01_k».proof.Proof.Mm6
public import proofs.«01_k».proof.Proof.Gen.Kernel7.Frame
public import proofs.«01_k».proof.Proof.Gen.Kernel7Ideal.Frame
public import proofs.«01_k».proof.Proof.Mm7
public import proofs.«01_k».proof.Proof.Gen.Kernel8.Frame
public import proofs.«01_k».proof.Proof.Gen.Kernel8Ideal.Frame
public import proofs.«01_k».proof.Proof.Mm8
public import proofs.«01_k».proof.Proof.Gen.Kernel9.Frame
public import proofs.«01_k».proof.Proof.Gen.Kernel9Ideal.Frame
public import proofs.«01_k».proof.Proof.Kv9
public import proofs.«01_k».proof.Proof.Gen.Kernel10.Frame
public import proofs.«01_k».proof.Proof.Gen.Kernel10Ideal.Frame
public import proofs.«01_k».proof.Proof.Lead10
public import proofs.«01_k».proof.Proof.Gen.Kernel11.Frame
public import proofs.«01_k».proof.Proof.Gen.Kernel11Ideal.Frame
public import proofs.«01_k».proof.Proof.Mid11
public import proofs.«01_k».proof.Proof.Gen.Kernel12.Frame
public import proofs.«01_k».proof.Proof.Gen.Kernel12Ideal.Frame
public import proofs.«01_k».proof.Proof.Forget12
public import proofs.«01_k».proof.Proof.Gen.Kernel13.Frame
public import proofs.«01_k».proof.Proof.Gen.Kernel13Ideal.Frame
public import proofs.«01_k».proof.Proof.Cast13
public import proofs.«01_k».proof.Proof.Gen.Kernel14.Frame
public import proofs.«01_k».proof.Proof.Gen.Kernel14Ideal.Frame
public import proofs.«01_k».proof.Proof.Cast14
public import proofs.«01_k».proof.Proof.Gen.Kernel15.Frame
public import proofs.«01_k».proof.Proof.Gen.Kernel15Ideal.Frame
public import proofs.«01_k».proof.Proof.Mm15
public import proofs.«01_k».proof.Proof.Gen.Kernel16.Frame
public import proofs.«01_k».proof.Proof.Gen.Kernel16Ideal.Frame
public import proofs.«01_k».proof.Proof.Mm16
public import proofs.«01_k».proof.Proof.Gen.Kernel17.Frame
public import proofs.«01_k».proof.Proof.Gen.Kernel17Ideal.Frame
public import proofs.«01_k».proof.Proof.Mm17
public import proofs.«01_k».proof.Proof.Gen.Kernel18.Frame
public import proofs.«01_k».proof.Proof.Gen.Kernel18Ideal.Frame
public import proofs.«01_k».proof.Proof.Mm18
public import proofs.«01_k».proof.Proof.Gen.Kernel19.Frame
public import proofs.«01_k».proof.Proof.Gen.Kernel19Ideal.Frame
public import proofs.«01_k».proof.Proof.Mm19
public import proofs.«01_k».proof.Proof.Gen.Kernel20.Frame
public import proofs.«01_k».proof.Proof.Gen.Kernel20Ideal.Frame
public import proofs.«01_k».proof.Proof.Mm20
public import proofs.«01_k».proof.Proof.Gen.Kernel21.Frame
public import proofs.«01_k».proof.Proof.Gen.Kernel21Ideal.Frame
public import proofs.«01_k».proof.Proof.Last21
public import proofs.«01_k».proof.Proof.Gen.Kernel22.Frame
public import proofs.«01_k».proof.Proof.Gen.Kernel22Ideal.Frame
public import proofs.«01_k».proof.Proof.Mid22
public import proofs.«01_k».proof.Proof.Gen.Kernel23.Frame
public import proofs.«01_k».proof.Proof.Gen.Kernel23Ideal.Frame
public import proofs.«01_k».proof.Proof.Forget23
public import proofs.«01_k».proof.Proof.Gen.Kernel24.Frame
public import proofs.«01_k».proof.Proof.Gen.Kernel24Ideal.Frame
public import proofs.«01_k».proof.Proof.RetS24

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  fun m ρ _ => Cert.Kernel.Gen.frame m ρ, fun m ρ _ => Cert.KernelIdeal.Gen.frame m ρ, NormClaims.frame_reference,
  fun m ρ _ => Cert.Kernel2.Gen.frame m ρ, fun m ρ _ => Cert.Kernel2Ideal.Gen.frame m ρ, RetClaims.frame_reference,
  fun m ρ _ => Cert.Kernel3.Gen.frame m ρ, fun m ρ _ => Cert.Kernel3Ideal.Gen.frame m ρ, MmClaims3.frame_reference,
  fun m ρ _ => Cert.Kernel4.Gen.frame m ρ, fun m ρ _ => Cert.Kernel4Ideal.Gen.frame m ρ, MmClaims4.frame_reference,
  fun m ρ _ => Cert.Kernel5.Gen.frame m ρ, fun m ρ _ => Cert.Kernel5Ideal.Gen.frame m ρ, MmClaims5.frame_reference,
  fun m ρ _ => Cert.Kernel6.Gen.frame m ρ, fun m ρ _ => Cert.Kernel6Ideal.Gen.frame m ρ, MmClaims6.frame_reference,
  fun m ρ _ => Cert.Kernel7.Gen.frame m ρ, fun m ρ _ => Cert.Kernel7Ideal.Gen.frame m ρ, MmClaims7.frame_reference,
  fun m ρ _ => Cert.Kernel8.Gen.frame m ρ, fun m ρ _ => Cert.Kernel8Ideal.Gen.frame m ρ, MmClaims8.frame_reference,
  fun m ρ _ => Cert.Kernel9.Gen.frame m ρ, fun m ρ _ => Cert.Kernel9Ideal.Gen.frame m ρ, KvClaims.frame_reference,
  fun m ρ _ => Cert.Kernel10.Gen.frame m ρ, fun m ρ _ => Cert.Kernel10Ideal.Gen.frame m ρ, LeadClaims.frame_reference,
  fun m ρ _ => Cert.Kernel11.Gen.frame m ρ, fun m ρ _ => Cert.Kernel11Ideal.Gen.frame m ρ, MidClaims.frame_reference,
  fun m ρ _ => Cert.Kernel12.Gen.frame m ρ, fun m ρ _ => Cert.Kernel12Ideal.Gen.frame m ρ, ForgetClaims.frame_reference,
  fun m ρ _ => Cert.Kernel13.Gen.frame m ρ, fun m ρ _ => Cert.Kernel13Ideal.Gen.frame m ρ, CastClaims13.frame_reference,
  fun m ρ _ => Cert.Kernel14.Gen.frame m ρ, fun m ρ _ => Cert.Kernel14Ideal.Gen.frame m ρ, CastClaims14.frame_reference,
  fun m ρ _ => Cert.Kernel15.Gen.frame m ρ, fun m ρ _ => Cert.Kernel15Ideal.Gen.frame m ρ, MmClaims15.frame_reference,
  fun m ρ _ => Cert.Kernel16.Gen.frame m ρ, fun m ρ _ => Cert.Kernel16Ideal.Gen.frame m ρ, MmClaims16.frame_reference,
  fun m ρ _ => Cert.Kernel17.Gen.frame m ρ, fun m ρ _ => Cert.Kernel17Ideal.Gen.frame m ρ, MmClaims17.frame_reference,
  fun m ρ _ => Cert.Kernel18.Gen.frame m ρ, fun m ρ _ => Cert.Kernel18Ideal.Gen.frame m ρ, MmClaims18.frame_reference,
  fun m ρ _ => Cert.Kernel19.Gen.frame m ρ, fun m ρ _ => Cert.Kernel19Ideal.Gen.frame m ρ, MmClaims19.frame_reference,
  fun m ρ _ => Cert.Kernel20.Gen.frame m ρ, fun m ρ _ => Cert.Kernel20Ideal.Gen.frame m ρ, MmClaims20.frame_reference,
  fun m ρ _ => Cert.Kernel21.Gen.frame m ρ, fun m ρ _ => Cert.Kernel21Ideal.Gen.frame m ρ, Last21Claims.frame_reference,
  fun m ρ _ => Cert.Kernel22.Gen.frame m ρ, fun m ρ _ => Cert.Kernel22Ideal.Gen.frame m ρ, Mid22Claims.frame_reference,
  fun m ρ _ => Cert.Kernel23.Gen.frame m ρ, fun m ρ _ => Cert.Kernel23Ideal.Gen.frame m ρ, ForgetClaims23.frame_reference,
  fun m ρ _ => Cert.Kernel24.Gen.frame m ρ, fun m ρ _ => Cert.Kernel24Ideal.Gen.frame m ρ, RetSClaims.frame_reference,
  trivial, NormClaims.algebraic,
  trivial, RetClaims.algebraic,
  trivial, MmClaims3.algebraic,
  trivial, MmClaims4.algebraic,
  trivial, MmClaims5.algebraic,
  trivial, MmClaims6.algebraic,
  trivial, MmClaims7.algebraic,
  trivial, MmClaims8.algebraic,
  trivial, KvClaims.algebraic,
  trivial, LeadClaims.algebraic,
  trivial, MidClaims.algebraic,
  trivial, ForgetClaims.algebraic,
  trivial, CastClaims13.algebraic,
  trivial, CastClaims14.algebraic,
  trivial, MmClaims15.algebraic,
  trivial, MmClaims16.algebraic,
  trivial, MmClaims17.algebraic,
  trivial, MmClaims18.algebraic,
  trivial, MmClaims19.algebraic,
  trivial, MmClaims20.algebraic,
  trivial, Last21Claims.algebraic,
  trivial, Mid22Claims.algebraic,
  trivial, ForgetClaims23.algebraic,
  trivial, RetSClaims.algebraic⟩

end Cert.Proof
